-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S8192x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_ids_in_range_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S16384x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S8192x1024 : Shape := ⟨2, ![8192, 1024]⟩
abbrev S_ : Shape := ⟨0, ![]⟩
abbrev S128 : Shape := ⟨1, ![128]⟩
abbrev S4x32x1 : Shape := ⟨3, ![4, 32, 1]⟩
abbrev S4x32x128 : Shape := ⟨3, ![4, 32, 128]⟩
abbrev S1024x1024 : Shape := ⟨2, ![1024, 1024]⟩
abbrev S128x1024 : Shape := ⟨2, ![128, 1024]⟩
abbrev S4x32x1024 : Shape := ⟨3, ![4, 32, 1024]⟩
abbrev S4x4x32x1024 : Shape := ⟨4, ![4, 4, 32, 1024]⟩
abbrev S3x4x32x1024 : Shape := ⟨4, ![3, 4, 32, 1024]⟩
abbrev S4 : Shape := ⟨1, ![4]⟩
abbrev S4x4 : Shape := ⟨2, ![4, 4]⟩
abbrev S3x4 : Shape := ⟨2, ![3, 4]⟩
abbrev S1 : Shape := ⟨1, ![1]⟩
abbrev S1x1024 : Shape := ⟨2, ![1, 1024]⟩
abbrev S32x1024 : Shape := ⟨2, ![32, 1024]⟩
abbrev S1x32x1024 : Shape := ⟨3, ![1, 32, 1024]⟩
abbrev S1x32x128 : Shape := ⟨3, ![1, 32, 128]⟩
abbrev S32x128 : Shape := ⟨2, ![32, 128]⟩
abbrev S32x1 : Shape := ⟨2, ![32, 1]⟩
abbrev S1x1 : Shape := ⟨2, ![1, 1]⟩
abbrev S1x1x32x1024 : Shape := ⟨4, ![1, 1, 32, 1024]⟩
abbrev S1x4x32x1024 : Shape := ⟨4, ![1, 4, 32, 1024]⟩

abbrev nBuf : Space → Nat
  | .hbm => 50
  | .vmem => 8
  | .smem => 1
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S_, .i32⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S4x32x1, .i1⟩
  | .hbm, ⟨47, _⟩ => ⟨S4x32x128, .i1⟩
  | .hbm, ⟨48, _⟩ => ⟨S4x32x128, .bf16⟩
  | .hbm, ⟨49, _⟩ => ⟨S1024x1024, .bf16⟩
  | .local _ .vmem, ⟨0, _⟩ => ⟨S4x32x128, .bf16⟩
  | .local _ .vmem, ⟨1, _⟩ => ⟨S1024x1024, .bf16⟩
  | .local _ .vmem, ⟨2, _⟩ => ⟨S128x1024, .f32⟩
  | .local _ .vmem, ⟨3, _⟩ => ⟨S4x32x1024, .bf16⟩
  | .local _ .vmem, ⟨4, _⟩ => ⟨S4x32x1024, .bf16⟩
  | .local _ .vmem, ⟨5, _⟩ => ⟨S4x32x1024, .bf16⟩
  | .local _ .vmem, ⟨6, _⟩ => ⟨S4x4x32x1024, .bf16⟩
  | .local _ .vmem, ⟨7, _⟩ => ⟨S3x4x32x1024, .bf16⟩
  | .local _ .smem, ⟨0, _⟩ => ⟨S128, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_5 : Ref sig .tc := ⟨.hbm, 20, rfl⟩
abbrev main_v13 : Ref sig .tc := ⟨.hbm, 21, rfl⟩
abbrev main_v14 : Ref sig .tc := ⟨.hbm, 22, rfl⟩
abbrev main_c_6 : Ref sig .tc := ⟨.hbm, 23, rfl⟩
abbrev main_v15 : Ref sig .tc := ⟨.hbm, 24, rfl⟩
abbrev main_c_7 : Ref sig .tc := ⟨.hbm, 25, rfl⟩
abbrev main_v16 : Ref sig .tc := ⟨.hbm, 26, rfl⟩
abbrev main_c_8 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_9 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_10 : Ref sig .tc := ⟨.hbm, 35, rfl⟩
abbrev main_v23 : Ref sig .tc := ⟨.hbm, 36, rfl⟩
abbrev main_v24 : Ref sig .tc := ⟨.hbm, 37, rfl⟩
abbrev main_c_11 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_12 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_28 : BitVec 32 := 8#32
  let v46 : BitVec 32 := Scalar.muli v2 c8_i32_28
  let v47 : BitVec 32 := Scalar.addi c0_i32_29 v46
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_26 v5
  let c4_i32_30 : BitVec 32 := 4#32
  let v48 : BitVec 32 := Scalar.muli v44 c4_i32_30
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v50 : BitVec 32 := Scalar.muli v8 c1_i32_31
  let v51 : BitVec 32 := Scalar.addi v49 v50
  v51.toNat
def k0_dev2 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_33 : BitVec 32 := 8#32
  let v52 : BitVec 32 := Scalar.muli v24 c8_i32_33
  let v53 : BitVec 32 := Scalar.addi c0_i32_34 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v54 : BitVec 32 := Scalar.muli v5 c4_i32_35
  let v55 : BitVec 32 := Scalar.addi v53 v54
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_36 : BitVec 32 := 1#32
  let v56 : BitVec 32 := Scalar.muli v27 c1_i32_36
  let v57 : BitVec 32 := Scalar.addi v55 v56
  v57.toNat
def k0_dev3 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_38 : BitVec 32 := 8#32
  let v58 : BitVec 32 := Scalar.muli v40 c8_i32_38
  let v59 : BitVec 32 := Scalar.addi c0_i32_39 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v60 : BitVec 32 := Scalar.muli v5 c4_i32_40
  let v61 : BitVec 32 := Scalar.addi v59 v60
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_41 : BitVec 32 := 1#32
  let v62 : BitVec 32 := Scalar.muli v43 c1_i32_41
  let v63 : BitVec 32 := Scalar.addi v61 v62
  v63.toNat
def k0_off1 (v64 : BitVec 32) : Fin 2 → Nat :=
  let c0_i32_45 : BitVec 32 := 0#32
  ![v64.toNat, 0]

def k0_off2 (v69 : BitVec 32) : Fin 2 → Nat :=
  let c0_i32_49 : BitVec 32 := 0#32
  ![v69.toNat, 0]

def k0_off3 (v74 : BitVec 32) : Fin 2 → Nat :=
  let c0_i32_53 : BitVec 32 := 0#32
  ![v74.toNat, 0]

def k0_off4 (v79 : BitVec 32) : Fin 2 → Nat :=
  let c0_i32_56 : BitVec 32 := 0#32
  ![v79.toNat, 0]

def k0_off5 (v84 : BitVec 32) : Fin 2 → Nat :=
  let c0_i32_60 : BitVec 32 := 0#32
  ![v84.toNat, 0]

def k0_off6 (v89 : BitVec 32) : Fin 2 → Nat :=
  let c0_i32_63 : BitVec 32 := 0#32
  ![v89.toNat, 0]

def k0_off7 (v94 : BitVec 32) : Fin 2 → Nat :=
  let c0_i32_66 : BitVec 32 := 0#32
  ![v94.toNat, 0]

def k0_off8 (v99 : BitVec 32) : Fin 2 → Nat :=
  let c0_i32_70 : BitVec 32 := 0#32
  ![v99.toNat, 0]

def k0_off9 (v104 : BitVec 32) : Fin 2 → Nat :=
  let c0_i32_74 : BitVec 32 := 0#32
  ![v104.toNat, 0]

def k0_off10 (v109 : BitVec 32) : Fin 2 → Nat :=
  let c0_i32_77 : BitVec 32 := 0#32
  ![v109.toNat, 0]

def k0_off11 (v114 : BitVec 32) : Fin 2 → Nat :=
  let c0_i32_80 : BitVec 32 := 0#32
  ![v114.toNat, 0]

def k0_off12 (v119 : BitVec 32) : Fin 2 → Nat :=
  let c0_i32_83 : BitVec 32 := 0#32
  ![v119.toNat, 0]

def k0_off13 (v124 : BitVec 32) : Fin 2 → Nat :=
  let c0_i32_86 : BitVec 32 := 0#32
  ![v124.toNat, 0]

def k0_off14 (v129 : BitVec 32) : Fin 2 → Nat :=
  let c0_i32_89 : BitVec 32 := 0#32
  ![v129.toNat, 0]

def k0_off15 (v134 : BitVec 32) : Fin 2 → Nat :=
  let c0_i32_92 : BitVec 32 := 0#32
  ![v134.toNat, 0]

def k0_off16 (v139 : BitVec 32) : Fin 2 → Nat :=
  let c0_i32_95 : BitVec 32 := 0#32
  ![v139.toNat, 0]

def k0_off17 (v144 : BitVec 32) : Fin 2 → Nat :=
  let c0_i32_98 : BitVec 32 := 0#32
  ![v144.toNat, 0]

def k0_off18 (v149 : BitVec 32) : Fin 2 → Nat :=
  let c0_i32_101 : BitVec 32 := 0#32
  ![v149.toNat, 0]

def k0_off19 (v154 : BitVec 32) : Fin 2 → Nat :=
  let c0_i32_104 : BitVec 32 := 0#32
  ![v154.toNat, 0]

def k0_off20 (v159 : BitVec 32) : Fin 2 → Nat :=
  let c0_i32_107 : BitVec 32 := 0#32
  ![v159.toNat, 0]

def k0_off21 (v164 : BitVec 32) : Fin 2 → Nat :=
  let c0_i32_110 : BitVec 32 := 0#32
  ![v164.toNat, 0]

def k0_off22 (v169 : BitVec 32) : Fin 2 → Nat :=
  let c0_i32_113 : BitVec 32 := 0#32
  ![v169.toNat, 0]

def k0_off23 (v174 : BitVec 32) : Fin 2 → Nat :=
  let c0_i32_116 : BitVec 32 := 0#32
  ![v174.toNat, 0]

def k0_off24 (v179 : BitVec 32) : Fin 2 → Nat :=
  let c0_i32_119 : BitVec 32 := 0#32
  ![v179.toNat, 0]

def k0_off25 (v184 : BitVec 32) : Fin 2 → Nat :=
  let c0_i32_122 : BitVec 32 := 0#32
  ![v184.toNat, 0]

def k0_off26 (v189 : BitVec 32) : Fin 2 → Nat :=
  let c0_i32_125 : BitVec 32 := 0#32
  ![v189.toNat, 0]

def k0_off27 (v194 : BitVec 32) : Fin 2 → Nat :=
  let c0_i32_128 : BitVec 32 := 0#32
  ![v194.toNat, 0]

def k0_off28 (v199 : BitVec 32) : Fin 2 → Nat :=
  let c0_i32_131 : BitVec 32 := 0#32
  ![v199.toNat, 0]

def k0_off29 (v204 : BitVec 32) : Fin 2 → Nat :=
  let c0_i32_134 : BitVec 32 := 0#32
  ![v204.toNat, 0]

def k0_off30 (v209 : BitVec 32) : Fin 2 → Nat :=
  let c0_i32_137 : BitVec 32 := 0#32
  ![v209.toNat, 0]

def k0_off31 (v214 : BitVec 32) : Fin 2 → Nat :=
  let c0_i32_140 : BitVec 32 := 0#32
  ![v214.toNat, 0]

def k0_off32 (v219 : BitVec 32) : Fin 2 → Nat :=
  let c0_i32_143 : BitVec 32 := 0#32
  ![v219.toNat, 0]

def k0_off33 (v224 : BitVec 32) : Fin 2 → Nat :=
  let c0_i32_146 : BitVec 32 := 0#32
  ![v224.toNat, 0]

def k0_off34 (v229 : BitVec 32) : Fin 2 → Nat :=
  let c0_i32_149 : BitVec 32 := 0#32
  ![v229.toNat, 0]

def k0_off35 (v234 : BitVec 32) : Fin 2 → Nat :=
  let c0_i32_152 : BitVec 32 := 0#32
  ![v234.toNat, 0]

def k0_off36 (v239 : BitVec 32) : Fin 2 → Nat :=
  let c0_i32_155 : BitVec 32 := 0#32
  ![v239.toNat, 0]

def k0_off37 (v244 : BitVec 32) : Fin 2 → Nat :=
  let c0_i32_158 : BitVec 32 := 0#32
  ![v244.toNat, 0]

def k0_off38 (v249 : BitVec 32) : Fin 2 → Nat :=
  let c0_i32_161 : BitVec 32 := 0#32
  ![v249.toNat, 0]

def k0_off39 (v254 : BitVec 32) : Fin 2 → Nat :=
  let c0_i32_164 : BitVec 32 := 0#32
  ![v254.toNat, 0]

def k0_off40 (v259 : BitVec 32) : Fin 2 → Nat :=
  let c0_i32_167 : BitVec 32 := 0#32
  ![v259.toNat, 0]

def k0_off41 (v264 : BitVec 32) : Fin 2 → Nat :=
  let c0_i32_170 : BitVec 32 := 0#32
  ![v264.toNat, 0]

def k0_off42 (v269 : BitVec 32) : Fin 2 → Nat :=
  let c0_i32_173 : BitVec 32 := 0#32
  ![v269.toNat, 0]

def k0_off43 (v274 : BitVec 32) : Fin 2 → Nat :=
  let c0_i32_176 : BitVec 32 := 0#32
  ![v274.toNat, 0]

def k0_off44 (v279 : BitVec 32) : Fin 2 → Nat :=
  let c0_i32_179 : BitVec 32 := 0#32
  ![v279.toNat, 0]

def k0_off45 (v284 : BitVec 32) : Fin 2 → Nat :=
  let c0_i32_182 : BitVec 32 := 0#32
  ![v284.toNat, 0]

def k0_off46 (v289 : BitVec 32) : Fin 2 → Nat :=
  let c0_i32_185 : BitVec 32 := 0#32
  ![v289.toNat, 0]

def k0_off47 (v294 : BitVec 32) : Fin 2 → Nat :=
  let c0_i32_188 : BitVec 32 := 0#32
  ![v294.toNat, 0]

def k0_off48 (v299 : BitVec 32) : Fin 2 → Nat :=
  let c0_i32_191 : BitVec 32 := 0#32
  ![v299.toNat, 0]

def k0_off49 (v304 : BitVec 32) : Fin 2 → Nat :=
  let c0_i32_194 : BitVec 32 := 0#32
  ![v304.toNat, 0]

def k0_off50 (v309 : BitVec 32) : Fin 2 → Nat :=
  let c0_i32_197 : BitVec 32 := 0#32
  ![v309.toNat, 0]

def k0_off51 (v314 : BitVec 32) : Fin 2 → Nat :=
  let c0_i32_200 : BitVec 32 := 0#32
  ![v314.toNat, 0]

def k0_off52 (v319 : BitVec 32) : Fin 2 → Nat :=
  let c0_i32_203 : BitVec 32 := 0#32
  ![v319.toNat, 0]

def k0_off53 (v324 : BitVec 32) : Fin 2 → Nat :=
  let c0_i32_206 : BitVec 32 := 0#32
  ![v324.toNat, 0]

def k0_off54 (v329 : BitVec 32) : Fin 2 → Nat :=
  let c0_i32_209 : BitVec 32 := 0#32
  ![v329.toNat, 0]

def k0_off55 (v334 : BitVec 32) : Fin 2 → Nat :=
  let c0_i32_212 : BitVec 32 := 0#32
  ![v334.toNat, 0]

def k0_off56 (v339 : BitVec 32) : Fin 2 → Nat :=
  let c0_i32_215 : BitVec 32 := 0#32
  ![v339.toNat, 0]

def k0_off57 (v344 : BitVec 32) : Fin 2 → Nat :=
  let c0_i32_218 : BitVec 32 := 0#32
  ![v344.toNat, 0]

def k0_off58 (v349 : BitVec 32) : Fin 2 → Nat :=
  let c0_i32_221 : BitVec 32 := 0#32
  ![v349.toNat, 0]

def k0_off59 (v354 : BitVec 32) : Fin 2 → Nat :=
  let c0_i32_224 : BitVec 32 := 0#32
  ![v354.toNat, 0]

def k0_off60 (v359 : BitVec 32) : Fin 2 → Nat :=
  let c0_i32_227 : BitVec 32 := 0#32
  ![v359.toNat, 0]

def k0_off61 (v364 : BitVec 32) : Fin 2 → Nat :=
  let c0_i32_230 : BitVec 32 := 0#32
  ![v364.toNat, 0]

def k0_off62 (v369 : BitVec 32) : Fin 2 → Nat :=
  let c0_i32_233 : BitVec 32 := 0#32
  ![v369.toNat, 0]

def k0_off63 (v374 : BitVec 32) : Fin 2 → Nat :=
  let c0_i32_236 : BitVec 32 := 0#32
  ![v374.toNat, 0]

def k0_off64 (v379 : BitVec 32) : Fin 2 → Nat :=
  let c0_i32_239 : BitVec 32 := 0#32
  ![v379.toNat, 0]

def k0_off65 (v384 : BitVec 32) : Fin 2 → Nat :=
  let c0_i32_242 : BitVec 32 := 0#32
  ![v384.toNat, 0]

def k0_off66 (v389 : BitVec 32) : Fin 2 → Nat :=
  let c0_i32_245 : BitVec 32 := 0#32
  ![v389.toNat, 0]

def k0_off67 (v394 : BitVec 32) : Fin 2 → Nat :=
  let c0_i32_248 : BitVec 32 := 0#32
  ![v394.toNat, 0]

def k0_off68 (v399 : BitVec 32) : Fin 2 → Nat :=
  let c0_i32_251 : BitVec 32 := 0#32
  ![v399.toNat, 0]

def k0_off69 (v404 : BitVec 32) : Fin 2 → Nat :=
  let c0_i32_254 : BitVec 32 := 0#32
  ![v404.toNat, 0]

def k0_off70 (v409 : BitVec 32) : Fin 2 → Nat :=
  let c0_i32_257 : BitVec 32 := 0#32
  ![v409.toNat, 0]

def k0_off71 (v414 : BitVec 32) : Fin 2 → Nat :=
  let c0_i32_260 : BitVec 32 := 0#32
  ![v414.toNat, 0]

def k0_off72 (v419 : BitVec 32) : Fin 2 → Nat :=
  let c0_i32_263 : BitVec 32 := 0#32
  ![v419.toNat, 0]

def k0_off73 (v424 : BitVec 32) : Fin 2 → Nat :=
  let c0_i32_266 : BitVec 32 := 0#32
  ![v424.toNat, 0]

def k0_off74 (v429 : BitVec 32) : Fin 2 → Nat :=
  let c0_i32_269 : BitVec 32 := 0#32
  ![v429.toNat, 0]

def k0_off75 (v434 : BitVec 32) : Fin 2 → Nat :=
  let c0_i32_272 : BitVec 32 := 0#32
  ![v434.toNat, 0]

def k0_off76 (v439 : BitVec 32) : Fin 2 → Nat :=
  let c0_i32_275 : BitVec 32 := 0#32
  ![v439.toNat, 0]

def k0_off77 (v444 : BitVec 32) : Fin 2 → Nat :=
  let c0_i32_278 : BitVec 32 := 0#32
  ![v444.toNat, 0]

def k0_off78 (v449 : BitVec 32) : Fin 2 → Nat :=
  let c0_i32_281 : BitVec 32 := 0#32
  ![v449.toNat, 0]

def k0_off79 (v454 : BitVec 32) : Fin 2 → Nat :=
  let c0_i32_284 : BitVec 32 := 0#32
  ![v454.toNat, 0]

def k0_off80 (v459 : BitVec 32) : Fin 2 → Nat :=
  let c0_i32_287 : BitVec 32 := 0#32
  ![v459.toNat, 0]

def k0_off81 (v464 : BitVec 32) : Fin 2 → Nat :=
  let c0_i32_290 : BitVec 32 := 0#32
  ![v464.toNat, 0]

def k0_off82 (v469 : BitVec 32) : Fin 2 → Nat :=
  let c0_i32_293 : BitVec 32 := 0#32
  ![v469.toNat, 0]

def k0_off83 (v474 : BitVec 32) : Fin 2 → Nat :=
  let c0_i32_296 : BitVec 32 := 0#32
  ![v474.toNat, 0]

def k0_off84 (v479 : BitVec 32) : Fin 2 → Nat :=
  let c0_i32_299 : BitVec 32 := 0#32
  ![v479.toNat, 0]

def k0_off85 (v484 : BitVec 32) : Fin 2 → Nat :=
  let c0_i32_302 : BitVec 32 := 0#32
  ![v484.toNat, 0]

def k0_off86 (v489 : BitVec 32) : Fin 2 → Nat :=
  let c0_i32_305 : BitVec 32 := 0#32
  ![v489.toNat, 0]

def k0_off87 (v494 : BitVec 32) : Fin 2 → Nat :=
  let c0_i32_308 : BitVec 32 := 0#32
  ![v494.toNat, 0]

def k0_off88 (v499 : BitVec 32) : Fin 2 → Nat :=
  let c0_i32_311 : BitVec 32 := 0#32
  ![v499.toNat, 0]

def k0_off89 (v504 : BitVec 32) : Fin 2 → Nat :=
  let c0_i32_314 : BitVec 32 := 0#32
  ![v504.toNat, 0]

def k0_off90 (v509 : BitVec 32) : Fin 2 → Nat :=
  let c0_i32_317 : BitVec 32 := 0#32
  ![v509.toNat, 0]

def k0_off91 (v514 : BitVec 32) : Fin 2 → Nat :=
  let c0_i32_320 : BitVec 32 := 0#32
  ![v514.toNat, 0]

def k0_off92 (v519 : BitVec 32) : Fin 2 → Nat :=
  let c0_i32_323 : BitVec 32 := 0#32
  ![v519.toNat, 0]

def k0_off93 (v524 : BitVec 32) : Fin 2 → Nat :=
  let c0_i32_326 : BitVec 32 := 0#32
  ![v524.toNat, 0]

def k0_off94 (v529 : BitVec 32) : Fin 2 → Nat :=
  let c0_i32_329 : BitVec 32 := 0#32
  ![v529.toNat, 0]

def k0_off95 (v534 : BitVec 32) : Fin 2 → Nat :=
  let c0_i32_332 : BitVec 32 := 0#32
  ![v534.toNat, 0]

def k0_off96 (v539 : BitVec 32) : Fin 2 → Nat :=
  let c0_i32_335 : BitVec 32 := 0#32
  ![v539.toNat, 0]

def k0_off97 (v544 : BitVec 32) : Fin 2 → Nat :=
  let c0_i32_338 : BitVec 32 := 0#32
  ![v544.toNat, 0]

def k0_off98 (v549 : BitVec 32) : Fin 2 → Nat :=
  let c0_i32_341 : BitVec 32 := 0#32
  ![v549.toNat, 0]

def k0_off99 (v554 : BitVec 32) : Fin 2 → Nat :=
  let c0_i32_344 : BitVec 32 := 0#32
  ![v554.toNat, 0]

def k0_off100 (v559 : BitVec 32) : Fin 2 → Nat :=
  let c0_i32_347 : BitVec 32 := 0#32
  ![v559.toNat, 0]

def k0_off101 (v564 : BitVec 32) : Fin 2 → Nat :=
  let c0_i32_350 : BitVec 32 := 0#32
  ![v564.toNat, 0]

def k0_off102 (v569 : BitVec 32) : Fin 2 → Nat :=
  let c0_i32_353 : BitVec 32 := 0#32
  ![v569.toNat, 0]

def k0_off103 (v574 : BitVec 32) : Fin 2 → Nat :=
  let c0_i32_356 : BitVec 32 := 0#32
  ![v574.toNat, 0]

def k0_off104 (v579 : BitVec 32) : Fin 2 → Nat :=
  let c0_i32_359 : BitVec 32 := 0#32
  ![v579.toNat, 0]

def k0_off105 (v584 : BitVec 32) : Fin 2 → Nat :=
  let c0_i32_362 : BitVec 32 := 0#32
  ![v584.toNat, 0]

def k0_off106 (v589 : BitVec 32) : Fin 2 → Nat :=
  let c0_i32_365 : BitVec 32 := 0#32
  ![v589.toNat, 0]

def k0_off107 (v594 : BitVec 32) : Fin 2 → Nat :=
  let c0_i32_368 : BitVec 32 := 0#32
  ![v594.toNat, 0]

def k0_off108 (v599 : BitVec 32) : Fin 2 → Nat :=
  let c0_i32_371 : BitVec 32 := 0#32
  ![v599.toNat, 0]

def k0_off109 (v604 : BitVec 32) : Fin 2 → Nat :=
  let c0_i32_374 : BitVec 32 := 0#32
  ![v604.toNat, 0]

def k0_off110 (v609 : BitVec 32) : Fin 2 → Nat :=
  let c0_i32_377 : BitVec 32 := 0#32
  ![v609.toNat, 0]

def k0_off111 (v614 : BitVec 32) : Fin 2 → Nat :=
  let c0_i32_380 : BitVec 32 := 0#32
  ![v614.toNat, 0]

def k0_off112 (v619 : BitVec 32) : Fin 2 → Nat :=
  let c0_i32_383 : BitVec 32 := 0#32
  ![v619.toNat, 0]

def k0_off113 (v624 : BitVec 32) : Fin 2 → Nat :=
  let c0_i32_386 : BitVec 32 := 0#32
  ![v624.toNat, 0]

def k0_off114 (v629 : BitVec 32) : Fin 2 → Nat :=
  let c0_i32_389 : BitVec 32 := 0#32
  ![v629.toNat, 0]

def k0_off115 (v634 : BitVec 32) : Fin 2 → Nat :=
  let c0_i32_392 : BitVec 32 := 0#32
  ![v634.toNat, 0]

def k0_off116 (v639 : BitVec 32) : Fin 2 → Nat :=
  let c0_i32_395 : BitVec 32 := 0#32
  ![v639.toNat, 0]

def k0_off117 (v644 : BitVec 32) : Fin 2 → Nat :=
  let c0_i32_398 : BitVec 32 := 0#32
  ![v644.toNat, 0]

def k0_off118 (v649 : BitVec 32) : Fin 2 → Nat :=
  let c0_i32_401 : BitVec 32 := 0#32
  ![v649.toNat, 0]

def k0_off119 (v654 : BitVec 32) : Fin 2 → Nat :=
  let c0_i32_404 : BitVec 32 := 0#32
  ![v654.toNat, 0]

def k0_off120 (v659 : BitVec 32) : Fin 2 → Nat :=
  let c0_i32_407 : BitVec 32 := 0#32
  ![v659.toNat, 0]

def k0_off121 (v664 : BitVec 32) : Fin 2 → Nat :=
  let c0_i32_410 : BitVec 32 := 0#32
  ![v664.toNat, 0]

def k0_off122 (v669 : BitVec 32) : Fin 2 → Nat :=
  let c0_i32_413 : BitVec 32 := 0#32
  ![v669.toNat, 0]

def k0_off123 (v674 : BitVec 32) : Fin 2 → Nat :=
  let c0_i32_416 : BitVec 32 := 0#32
  ![v674.toNat, 0]

def k0_off124 (v679 : BitVec 32) : Fin 2 → Nat :=
  let c0_i32_419 : BitVec 32 := 0#32
  ![v679.toNat, 0]

def k0_off125 (v684 : BitVec 32) : Fin 2 → Nat :=
  let c0_i32_422 : BitVec 32 := 0#32
  ![v684.toNat, 0]

def k0_off126 (v689 : BitVec 32) : Fin 2 → Nat :=
  let c0_i32_425 : BitVec 32 := 0#32
  ![v689.toNat, 0]

def k0_off127 (v694 : BitVec 32) : Fin 2 → Nat :=
  let c0_i32_428 : BitVec 32 := 0#32
  ![v694.toNat, 0]

def k0_off128 (v699 : BitVec 32) : Fin 2 → Nat :=
  let c0_i32_431 : BitVec 32 := 0#32
  ![v699.toNat, 0]

def k0_chk128 (v699 : BitVec 32) : Prop :=
  (∀ a, (k0_off128 v699) a + S1x1024.size a ≤ S8192x1024.size a)
theorem k0_off128_inb : ∀ (v699 : BitVec 32) (k0_hw128 : k0_chk128 v699), ∀ a, (k0_off128 v699) a + S1x1024.size a ≤ S8192x1024.size a := fun v699 k0_hw128 => k0_hw128

def k0_off129 (v64 : BitVec 32) : Fin 2 → Nat :=
  let c0_i32_436 : BitVec 32 := 0#32
  ![v64.toNat, 0]

def k0_chk1 (v64 : BitVec 32) : Prop :=
  (∀ a, (k0_off1 v64) a + S1x1024.size a ≤ S8192x1024.size a) ∧
  (∀ a, (k0_off129 v64) a + S1x1024.size a ≤ S8192x1024.size a)
theorem k0_off1_inb : ∀ (v64 : BitVec 32) (k0_hw1 : k0_chk1 v64), ∀ a, (k0_off1 v64) a + S1x1024.size a ≤ S8192x1024.size a := fun v64 k0_hw1 => k0_hw1.1
theorem k0_off129_inb : ∀ (v64 : BitVec 32) (k0_hw1 : k0_chk1 v64), ∀ a, (k0_off129 v64) a + S1x1024.size a ≤ S8192x1024.size a := fun v64 k0_hw1 => k0_hw1.2

def k0_off130 (v69 : BitVec 32) : Fin 2 → Nat :=
  let c0_i32_440 : BitVec 32 := 0#32
  ![v69.toNat, 0]

def k0_chk2 (v69 : BitVec 32) : Prop :=
  (∀ a, (k0_off2 v69) a + S1x1024.size a ≤ S8192x1024.size a) ∧
  (∀ a, (k0_off130 v69) a + S1x1024.size a ≤ S8192x1024.size a)
theorem k0_off2_inb : ∀ (v69 : BitVec 32) (k0_hw2 : k0_chk2 v69), ∀ a, (k0_off2 v69) a + S1x1024.size a ≤ S8192x1024.size a := fun v69 k0_hw2 => k0_hw2.1
theorem k0_off130_inb : ∀ (v69 : BitVec 32) (k0_hw2 : k0_chk2 v69), ∀ a, (k0_off130 v69) a + S1x1024.size a ≤ S8192x1024.size a := fun v69 k0_hw2 => k0_hw2.2

def k0_off131 (v74 : BitVec 32) : Fin 2 → Nat :=
  let c0_i32_444 : BitVec 32 := 0#32
  ![v74.toNat, 0]

def k0_chk3 (v74 : BitVec 32) : Prop :=
  (∀ a, (k0_off3 v74) a + S1x1024.size a ≤ S8192x1024.size a) ∧
  (∀ a, (k0_off131 v74) a + S1x1024.size a ≤ S8192x1024.size a)
theorem k0_off3_inb : ∀ (v74 : BitVec 32) (k0_hw3 : k0_chk3 v74), ∀ a, (k0_off3 v74) a + S1x1024.size a ≤ S8192x1024.size a := fun v74 k0_hw3 => k0_hw3.1
theorem k0_off131_inb : ∀ (v74 : BitVec 32) (k0_hw3 : k0_chk3 v74), ∀ a, (k0_off131 v74) a + S1x1024.size a ≤ S8192x1024.size a := fun v74 k0_hw3 => k0_hw3.2

def k0_off132 (v79 : BitVec 32) : Fin 2 → Nat :=
  let c0_i32_448 : BitVec 32 := 0#32
  ![v79.toNat, 0]

def k0_chk4 (v79 : BitVec 32) : Prop :=
  (∀ a, (k0_off4 v79) a + S1x1024.size a ≤ S8192x1024.size a) ∧
  (∀ a, (k0_off132 v79) a + S1x1024.size a ≤ S8192x1024.size a)
theorem k0_off4_inb : ∀ (v79 : BitVec 32) (k0_hw4 : k0_chk4 v79), ∀ a, (k0_off4 v79) a + S1x1024.size a ≤ S8192x1024.size a := fun v79 k0_hw4 => k0_hw4.1
theorem k0_off132_inb : ∀ (v79 : BitVec 32) (k0_hw4 : k0_chk4 v79), ∀ a, (k0_off132 v79) a + S1x1024.size a ≤ S8192x1024.size a := fun v79 k0_hw4 => k0_hw4.2

def k0_off133 (v84 : BitVec 32) : Fin 2 → Nat :=
  let c0_i32_452 : BitVec 32 := 0#32
  ![v84.toNat, 0]

def k0_chk5 (v84 : BitVec 32) : Prop :=
  (∀ a, (k0_off5 v84) a + S1x1024.size a ≤ S8192x1024.size a) ∧
  (∀ a, (k0_off133 v84) a + S1x1024.size a ≤ S8192x1024.size a)
theorem k0_off5_inb : ∀ (v84 : BitVec 32) (k0_hw5 : k0_chk5 v84), ∀ a, (k0_off5 v84) a + S1x1024.size a ≤ S8192x1024.size a := fun v84 k0_hw5 => k0_hw5.1
theorem k0_off133_inb : ∀ (v84 : BitVec 32) (k0_hw5 : k0_chk5 v84), ∀ a, (k0_off133 v84) a + S1x1024.size a ≤ S8192x1024.size a := fun v84 k0_hw5 => k0_hw5.2

def k0_off134 (v89 : BitVec 32) : Fin 2 → Nat :=
  let c0_i32_456 : BitVec 32 := 0#32
  ![v89.toNat, 0]

def k0_chk6 (v89 : BitVec 32) : Prop :=
  (∀ a, (k0_off6 v89) a + S1x1024.size a ≤ S8192x1024.size a) ∧
  (∀ a, (k0_off134 v89) a + S1x1024.size a ≤ S8192x1024.size a)
theorem k0_off6_inb : ∀ (v89 : BitVec 32) (k0_hw6 : k0_chk6 v89), ∀ a, (k0_off6 v89) a + S1x1024.size a ≤ S8192x1024.size a := fun v89 k0_hw6 => k0_hw6.1
theorem k0_off134_inb : ∀ (v89 : BitVec 32) (k0_hw6 : k0_chk6 v89), ∀ a, (k0_off134 v89) a + S1x1024.size a ≤ S8192x1024.size a := fun v89 k0_hw6 => k0_hw6.2

def k0_off135 (v94 : BitVec 32) : Fin 2 → Nat :=
  let c0_i32_460 : BitVec 32 := 0#32
  ![v94.toNat, 0]

def k0_chk7 (v94 : BitVec 32) : Prop :=
  (∀ a, (k0_off7 v94) a + S1x1024.size a ≤ S8192x1024.size a) ∧
  (∀ a, (k0_off135 v94) a + S1x1024.size a ≤ S8192x1024.size a)
theorem k0_off7_inb : ∀ (v94 : BitVec 32) (k0_hw7 : k0_chk7 v94), ∀ a, (k0_off7 v94) a + S1x1024.size a ≤ S8192x1024.size a := fun v94 k0_hw7 => k0_hw7.1
theorem k0_off135_inb : ∀ (v94 : BitVec 32) (k0_hw7 : k0_chk7 v94), ∀ a, (k0_off135 v94) a + S1x1024.size a ≤ S8192x1024.size a := fun v94 k0_hw7 => k0_hw7.2

def k0_off136 (v99 : BitVec 32) : Fin 2 → Nat :=
  let c0_i32_464 : BitVec 32 := 0#32
  ![v99.toNat, 0]

def k0_chk8 (v99 : BitVec 32) : Prop :=
  (∀ a, (k0_off8 v99) a + S1x1024.size a ≤ S8192x1024.size a) ∧
  (∀ a, (k0_off136 v99) a + S1x1024.size a ≤ S8192x1024.size a)
theorem k0_off8_inb : ∀ (v99 : BitVec 32) (k0_hw8 : k0_chk8 v99), ∀ a, (k0_off8 v99) a + S1x1024.size a ≤ S8192x1024.size a := fun v99 k0_hw8 => k0_hw8.1
theorem k0_off136_inb : ∀ (v99 : BitVec 32) (k0_hw8 : k0_chk8 v99), ∀ a, (k0_off136 v99) a + S1x1024.size a ≤ S8192x1024.size a := fun v99 k0_hw8 => k0_hw8.2

def k0_off137 (v104 : BitVec 32) : Fin 2 → Nat :=
  let c0_i32_468 : BitVec 32 := 0#32
  ![v104.toNat, 0]

def k0_chk9 (v104 : BitVec 32) : Prop :=
  (∀ a, (k0_off9 v104) a + S1x1024.size a ≤ S8192x1024.size a) ∧
  (∀ a, (k0_off137 v104) a + S1x1024.size a ≤ S8192x1024.size a)
theorem k0_off9_inb : ∀ (v104 : BitVec 32) (k0_hw9 : k0_chk9 v104), ∀ a, (k0_off9 v104) a + S1x1024.size a ≤ S8192x1024.size a := fun v104 k0_hw9 => k0_hw9.1
theorem k0_off137_inb : ∀ (v104 : BitVec 32) (k0_hw9 : k0_chk9 v104), ∀ a, (k0_off137 v104) a + S1x1024.size a ≤ S8192x1024.size a := fun v104 k0_hw9 => k0_hw9.2

def k0_off138 (v109 : BitVec 32) : Fin 2 → Nat :=
  let c0_i32_472 : BitVec 32 := 0#32
  ![v109.toNat, 0]

def k0_chk10 (v109 : BitVec 32) : Prop :=
  (∀ a, (k0_off10 v109) a + S1x1024.size a ≤ S8192x1024.size a) ∧
  (∀ a, (k0_off138 v109) a + S1x1024.size a ≤ S8192x1024.size a)
theorem k0_off10_inb : ∀ (v109 : BitVec 32) (k0_hw10 : k0_chk10 v109), ∀ a, (k0_off10 v109) a + S1x1024.size a ≤ S8192x1024.size a := fun v109 k0_hw10 => k0_hw10.1
theorem k0_off138_inb : ∀ (v109 : BitVec 32) (k0_hw10 : k0_chk10 v109), ∀ a, (k0_off138 v109) a + S1x1024.size a ≤ S8192x1024.size a := fun v109 k0_hw10 => k0_hw10.2

def k0_off139 (v114 : BitVec 32) : Fin 2 → Nat :=
  let c0_i32_476 : BitVec 32 := 0#32
  ![v114.toNat, 0]

def k0_chk11 (v114 : BitVec 32) : Prop :=
  (∀ a, (k0_off11 v114) a + S1x1024.size a ≤ S8192x1024.size a) ∧
  (∀ a, (k0_off139 v114) a + S1x1024.size a ≤ S8192x1024.size a)
theorem k0_off11_inb : ∀ (v114 : BitVec 32) (k0_hw11 : k0_chk11 v114), ∀ a, (k0_off11 v114) a + S1x1024.size a ≤ S8192x1024.size a := fun v114 k0_hw11 => k0_hw11.1
theorem k0_off139_inb : ∀ (v114 : BitVec 32) (k0_hw11 : k0_chk11 v114), ∀ a, (k0_off139 v114) a + S1x1024.size a ≤ S8192x1024.size a := fun v114 k0_hw11 => k0_hw11.2

def k0_off140 (v119 : BitVec 32) : Fin 2 → Nat :=
  let c0_i32_480 : BitVec 32 := 0#32
  ![v119.toNat, 0]

def k0_chk12 (v119 : BitVec 32) : Prop :=
  (∀ a, (k0_off12 v119) a + S1x1024.size a ≤ S8192x1024.size a) ∧
  (∀ a, (k0_off140 v119) a + S1x1024.size a ≤ S8192x1024.size a)
theorem k0_off12_inb : ∀ (v119 : BitVec 32) (k0_hw12 : k0_chk12 v119), ∀ a, (k0_off12 v119) a + S1x1024.size a ≤ S8192x1024.size a := fun v119 k0_hw12 => k0_hw12.1
theorem k0_off140_inb : ∀ (v119 : BitVec 32) (k0_hw12 : k0_chk12 v119), ∀ a, (k0_off140 v119) a + S1x1024.size a ≤ S8192x1024.size a := fun v119 k0_hw12 => k0_hw12.2

def k0_off141 (v124 : BitVec 32) : Fin 2 → Nat :=
  let c0_i32_484 : BitVec 32 := 0#32
  ![v124.toNat, 0]

def k0_chk13 (v124 : BitVec 32) : Prop :=
  (∀ a, (k0_off13 v124) a + S1x1024.size a ≤ S8192x1024.size a) ∧
  (∀ a, (k0_off141 v124) a + S1x1024.size a ≤ S8192x1024.size a)
theorem k0_off13_inb : ∀ (v124 : BitVec 32) (k0_hw13 : k0_chk13 v124), ∀ a, (k0_off13 v124) a + S1x1024.size a ≤ S8192x1024.size a := fun v124 k0_hw13 => k0_hw13.1
theorem k0_off141_inb : ∀ (v124 : BitVec 32) (k0_hw13 : k0_chk13 v124), ∀ a, (k0_off141 v124) a + S1x1024.size a ≤ S8192x1024.size a := fun v124 k0_hw13 => k0_hw13.2

def k0_off142 (v129 : BitVec 32) : Fin 2 → Nat :=
  let c0_i32_488 : BitVec 32 := 0#32
  ![v129.toNat, 0]

def k0_chk14 (v129 : BitVec 32) : Prop :=
  (∀ a, (k0_off14 v129) a + S1x1024.size a ≤ S8192x1024.size a) ∧
  (∀ a, (k0_off142 v129) a + S1x1024.size a ≤ S8192x1024.size a)
theorem k0_off14_inb : ∀ (v129 : BitVec 32) (k0_hw14 : k0_chk14 v129), ∀ a, (k0_off14 v129) a + S1x1024.size a ≤ S8192x1024.size a := fun v129 k0_hw14 => k0_hw14.1
theorem k0_off142_inb : ∀ (v129 : BitVec 32) (k0_hw14 : k0_chk14 v129), ∀ a, (k0_off142 v129) a + S1x1024.size a ≤ S8192x1024.size a := fun v129 k0_hw14 => k0_hw14.2

def k0_off143 (v134 : BitVec 32) : Fin 2 → Nat :=
  let c0_i32_492 : BitVec 32 := 0#32
  ![v134.toNat, 0]

def k0_chk15 (v134 : BitVec 32) : Prop :=
  (∀ a, (k0_off15 v134) a + S1x1024.size a ≤ S8192x1024.size a) ∧
  (∀ a, (k0_off143 v134) a + S1x1024.size a ≤ S8192x1024.size a)
theorem k0_off15_inb : ∀ (v134 : BitVec 32) (k0_hw15 : k0_chk15 v134), ∀ a, (k0_off15 v134) a + S1x1024.size a ≤ S8192x1024.size a := fun v134 k0_hw15 => k0_hw15.1
theorem k0_off143_inb : ∀ (v134 : BitVec 32) (k0_hw15 : k0_chk15 v134), ∀ a, (k0_off143 v134) a + S1x1024.size a ≤ S8192x1024.size a := fun v134 k0_hw15 => k0_hw15.2

def k0_off144 (v139 : BitVec 32) : Fin 2 → Nat :=
  let c0_i32_496 : BitVec 32 := 0#32
  ![v139.toNat, 0]

def k0_chk16 (v139 : BitVec 32) : Prop :=
  (∀ a, (k0_off16 v139) a + S1x1024.size a ≤ S8192x1024.size a) ∧
  (∀ a, (k0_off144 v139) a + S1x1024.size a ≤ S8192x1024.size a)
theorem k0_off16_inb : ∀ (v139 : BitVec 32) (k0_hw16 : k0_chk16 v139), ∀ a, (k0_off16 v139) a + S1x1024.size a ≤ S8192x1024.size a := fun v139 k0_hw16 => k0_hw16.1
theorem k0_off144_inb : ∀ (v139 : BitVec 32) (k0_hw16 : k0_chk16 v139), ∀ a, (k0_off144 v139) a + S1x1024.size a ≤ S8192x1024.size a := fun v139 k0_hw16 => k0_hw16.2

def k0_off145 (v144 : BitVec 32) : Fin 2 → Nat :=
  let c0_i32_500 : BitVec 32 := 0#32
  ![v144.toNat, 0]

def k0_chk17 (v144 : BitVec 32) : Prop :=
  (∀ a, (k0_off17 v144) a + S1x1024.size a ≤ S8192x1024.size a) ∧
  (∀ a, (k0_off145 v144) a + S1x1024.size a ≤ S8192x1024.size a)
theorem k0_off17_inb : ∀ (v144 : BitVec 32) (k0_hw17 : k0_chk17 v144), ∀ a, (k0_off17 v144) a + S1x1024.size a ≤ S8192x1024.size a := fun v144 k0_hw17 => k0_hw17.1
theorem k0_off145_inb : ∀ (v144 : BitVec 32) (k0_hw17 : k0_chk17 v144), ∀ a, (k0_off145 v144) a + S1x1024.size a ≤ S8192x1024.size a := fun v144 k0_hw17 => k0_hw17.2

def k0_off146 (v149 : BitVec 32) : Fin 2 → Nat :=
  let c0_i32_504 : BitVec 32 := 0#32
  ![v149.toNat, 0]

def k0_chk18 (v149 : BitVec 32) : Prop :=
  (∀ a, (k0_off18 v149) a + S1x1024.size a ≤ S8192x1024.size a) ∧
  (∀ a, (k0_off146 v149) a + S1x1024.size a ≤ S8192x1024.size a)
theorem k0_off18_inb : ∀ (v149 : BitVec 32) (k0_hw18 : k0_chk18 v149), ∀ a, (k0_off18 v149) a + S1x1024.size a ≤ S8192x1024.size a := fun v149 k0_hw18 => k0_hw18.1
theorem k0_off146_inb : ∀ (v149 : BitVec 32) (k0_hw18 : k0_chk18 v149), ∀ a, (k0_off146 v149) a + S1x1024.size a ≤ S8192x1024.size a := fun v149 k0_hw18 => k0_hw18.2

def k0_off147 (v154 : BitVec 32) : Fin 2 → Nat :=
  let c0_i32_508 : BitVec 32 := 0#32
  ![v154.toNat, 0]

def k0_chk19 (v154 : BitVec 32) : Prop :=
  (∀ a, (k0_off19 v154) a + S1x1024.size a ≤ S8192x1024.size a) ∧
  (∀ a, (k0_off147 v154) a + S1x1024.size a ≤ S8192x1024.size a)
theorem k0_off19_inb : ∀ (v154 : BitVec 32) (k0_hw19 : k0_chk19 v154), ∀ a, (k0_off19 v154) a + S1x1024.size a ≤ S8192x1024.size a := fun v154 k0_hw19 => k0_hw19.1
theorem k0_off147_inb : ∀ (v154 : BitVec 32) (k0_hw19 : k0_chk19 v154), ∀ a, (k0_off147 v154) a + S1x1024.size a ≤ S8192x1024.size a := fun v154 k0_hw19 => k0_hw19.2

def k0_off148 (v159 : BitVec 32) : Fin 2 → Nat :=
  let c0_i32_512 : BitVec 32 := 0#32
  ![v159.toNat, 0]

def k0_chk20 (v159 : BitVec 32) : Prop :=
  (∀ a, (k0_off20 v159) a + S1x1024.size a ≤ S8192x1024.size a) ∧
  (∀ a, (k0_off148 v159) a + S1x1024.size a ≤ S8192x1024.size a)
theorem k0_off20_inb : ∀ (v159 : BitVec 32) (k0_hw20 : k0_chk20 v159), ∀ a, (k0_off20 v159) a + S1x1024.size a ≤ S8192x1024.size a := fun v159 k0_hw20 => k0_hw20.1
theorem k0_off148_inb : ∀ (v159 : BitVec 32) (k0_hw20 : k0_chk20 v159), ∀ a, (k0_off148 v159) a + S1x1024.size a ≤ S8192x1024.size a := fun v159 k0_hw20 => k0_hw20.2

def k0_off149 (v164 : BitVec 32) : Fin 2 → Nat :=
  let c0_i32_516 : BitVec 32 := 0#32
  ![v164.toNat, 0]

def k0_chk21 (v164 : BitVec 32) : Prop :=
  (∀ a, (k0_off21 v164) a + S1x1024.size a ≤ S8192x1024.size a) ∧
  (∀ a, (k0_off149 v164) a + S1x1024.size a ≤ S8192x1024.size a)
theorem k0_off21_inb : ∀ (v164 : BitVec 32) (k0_hw21 : k0_chk21 v164), ∀ a, (k0_off21 v164) a + S1x1024.size a ≤ S8192x1024.size a := fun v164 k0_hw21 => k0_hw21.1
theorem k0_off149_inb : ∀ (v164 : BitVec 32) (k0_hw21 : k0_chk21 v164), ∀ a, (k0_off149 v164) a + S1x1024.size a ≤ S8192x1024.size a := fun v164 k0_hw21 => k0_hw21.2

def k0_off150 (v169 : BitVec 32) : Fin 2 → Nat :=
  let c0_i32_520 : BitVec 32 := 0#32
  ![v169.toNat, 0]

def k0_chk22 (v169 : BitVec 32) : Prop :=
  (∀ a, (k0_off22 v169) a + S1x1024.size a ≤ S8192x1024.size a) ∧
  (∀ a, (k0_off150 v169) a + S1x1024.size a ≤ S8192x1024.size a)
theorem k0_off22_inb : ∀ (v169 : BitVec 32) (k0_hw22 : k0_chk22 v169), ∀ a, (k0_off22 v169) a + S1x1024.size a ≤ S8192x1024.size a := fun v169 k0_hw22 => k0_hw22.1
theorem k0_off150_inb : ∀ (v169 : BitVec 32) (k0_hw22 : k0_chk22 v169), ∀ a, (k0_off150 v169) a + S1x1024.size a ≤ S8192x1024.size a := fun v169 k0_hw22 => k0_hw22.2

def k0_off151 (v174 : BitVec 32) : Fin 2 → Nat :=
  let c0_i32_524 : BitVec 32 := 0#32
  ![v174.toNat, 0]

def k0_chk23 (v174 : BitVec 32) : Prop :=
  (∀ a, (k0_off23 v174) a + S1x1024.size a ≤ S8192x1024.size a) ∧
  (∀ a, (k0_off151 v174) a + S1x1024.size a ≤ S8192x1024.size a)
theorem k0_off23_inb : ∀ (v174 : BitVec 32) (k0_hw23 : k0_chk23 v174), ∀ a, (k0_off23 v174) a + S1x1024.size a ≤ S8192x1024.size a := fun v174 k0_hw23 => k0_hw23.1
theorem k0_off151_inb : ∀ (v174 : BitVec 32) (k0_hw23 : k0_chk23 v174), ∀ a, (k0_off151 v174) a + S1x1024.size a ≤ S8192x1024.size a := fun v174 k0_hw23 => k0_hw23.2

def k0_off152 (v179 : BitVec 32) : Fin 2 → Nat :=
  let c0_i32_528 : BitVec 32 := 0#32
  ![v179.toNat, 0]

def k0_chk24 (v179 : BitVec 32) : Prop :=
  (∀ a, (k0_off24 v179) a + S1x1024.size a ≤ S8192x1024.size a) ∧
  (∀ a, (k0_off152 v179) a + S1x1024.size a ≤ S8192x1024.size a)
theorem k0_off24_inb : ∀ (v179 : BitVec 32) (k0_hw24 : k0_chk24 v179), ∀ a, (k0_off24 v179) a + S1x1024.size a ≤ S8192x1024.size a := fun v179 k0_hw24 => k0_hw24.1
theorem k0_off152_inb : ∀ (v179 : BitVec 32) (k0_hw24 : k0_chk24 v179), ∀ a, (k0_off152 v179) a + S1x1024.size a ≤ S8192x1024.size a := fun v179 k0_hw24 => k0_hw24.2

def k0_off153 (v184 : BitVec 32) : Fin 2 → Nat :=
  let c0_i32_532 : BitVec 32 := 0#32
  ![v184.toNat, 0]

def k0_chk25 (v184 : BitVec 32) : Prop :=
  (∀ a, (k0_off25 v184) a + S1x1024.size a ≤ S8192x1024.size a) ∧
  (∀ a, (k0_off153 v184) a + S1x1024.size a ≤ S8192x1024.size a)
theorem k0_off25_inb : ∀ (v184 : BitVec 32) (k0_hw25 : k0_chk25 v184), ∀ a, (k0_off25 v184) a + S1x1024.size a ≤ S8192x1024.size a := fun v184 k0_hw25 => k0_hw25.1
theorem k0_off153_inb : ∀ (v184 : BitVec 32) (k0_hw25 : k0_chk25 v184), ∀ a, (k0_off153 v184) a + S1x1024.size a ≤ S8192x1024.size a := fun v184 k0_hw25 => k0_hw25.2

def k0_off154 (v189 : BitVec 32) : Fin 2 → Nat :=
  let c0_i32_536 : BitVec 32 := 0#32
  ![v189.toNat, 0]

def k0_chk26 (v189 : BitVec 32) : Prop :=
  (∀ a, (k0_off26 v189) a + S1x1024.size a ≤ S8192x1024.size a) ∧
  (∀ a, (k0_off154 v189) a + S1x1024.size a ≤ S8192x1024.size a)
theorem k0_off26_inb : ∀ (v189 : BitVec 32) (k0_hw26 : k0_chk26 v189), ∀ a, (k0_off26 v189) a + S1x1024.size a ≤ S8192x1024.size a := fun v189 k0_hw26 => k0_hw26.1
theorem k0_off154_inb : ∀ (v189 : BitVec 32) (k0_hw26 : k0_chk26 v189), ∀ a, (k0_off154 v189) a + S1x1024.size a ≤ S8192x1024.size a := fun v189 k0_hw26 => k0_hw26.2

def k0_off155 (v194 : BitVec 32) : Fin 2 → Nat :=
  let c0_i32_540 : BitVec 32 := 0#32
  ![v194.toNat, 0]

def k0_chk27 (v194 : BitVec 32) : Prop :=
  (∀ a, (k0_off27 v194) a + S1x1024.size a ≤ S8192x1024.size a) ∧
  (∀ a, (k0_off155 v194) a + S1x1024.size a ≤ S8192x1024.size a)
theorem k0_off27_inb : ∀ (v194 : BitVec 32) (k0_hw27 : k0_chk27 v194), ∀ a, (k0_off27 v194) a + S1x1024.size a ≤ S8192x1024.size a := fun v194 k0_hw27 => k0_hw27.1
theorem k0_off155_inb : ∀ (v194 : BitVec 32) (k0_hw27 : k0_chk27 v194), ∀ a, (k0_off155 v194) a + S1x1024.size a ≤ S8192x1024.size a := fun v194 k0_hw27 => k0_hw27.2

def k0_off156 (v199 : BitVec 32) : Fin 2 → Nat :=
  let c0_i32_544 : BitVec 32 := 0#32
  ![v199.toNat, 0]

def k0_chk28 (v199 : BitVec 32) : Prop :=
  (∀ a, (k0_off28 v199) a + S1x1024.size a ≤ S8192x1024.size a) ∧
  (∀ a, (k0_off156 v199) a + S1x1024.size a ≤ S8192x1024.size a)
theorem k0_off28_inb : ∀ (v199 : BitVec 32) (k0_hw28 : k0_chk28 v199), ∀ a, (k0_off28 v199) a + S1x1024.size a ≤ S8192x1024.size a := fun v199 k0_hw28 => k0_hw28.1
theorem k0_off156_inb : ∀ (v199 : BitVec 32) (k0_hw28 : k0_chk28 v199), ∀ a, (k0_off156 v199) a + S1x1024.size a ≤ S8192x1024.size a := fun v199 k0_hw28 => k0_hw28.2

def k0_off157 (v204 : BitVec 32) : Fin 2 → Nat :=
  let c0_i32_548 : BitVec 32 := 0#32
  ![v204.toNat, 0]

def k0_chk29 (v204 : BitVec 32) : Prop :=
  (∀ a, (k0_off29 v204) a + S1x1024.size a ≤ S8192x1024.size a) ∧
  (∀ a, (k0_off157 v204) a + S1x1024.size a ≤ S8192x1024.size a)
theorem k0_off29_inb : ∀ (v204 : BitVec 32) (k0_hw29 : k0_chk29 v204), ∀ a, (k0_off29 v204) a + S1x1024.size a ≤ S8192x1024.size a := fun v204 k0_hw29 => k0_hw29.1
theorem k0_off157_inb : ∀ (v204 : BitVec 32) (k0_hw29 : k0_chk29 v204), ∀ a, (k0_off157 v204) a + S1x1024.size a ≤ S8192x1024.size a := fun v204 k0_hw29 => k0_hw29.2

def k0_off158 (v209 : BitVec 32) : Fin 2 → Nat :=
  let c0_i32_552 : BitVec 32 := 0#32
  ![v209.toNat, 0]

def k0_chk30 (v209 : BitVec 32) : Prop :=
  (∀ a, (k0_off30 v209) a + S1x1024.size a ≤ S8192x1024.size a) ∧
  (∀ a, (k0_off158 v209) a + S1x1024.size a ≤ S8192x1024.size a)
theorem k0_off30_inb : ∀ (v209 : BitVec 32) (k0_hw30 : k0_chk30 v209), ∀ a, (k0_off30 v209) a + S1x1024.size a ≤ S8192x1024.size a := fun v209 k0_hw30 => k0_hw30.1
theorem k0_off158_inb : ∀ (v209 : BitVec 32) (k0_hw30 : k0_chk30 v209), ∀ a, (k0_off158 v209) a + S1x1024.size a ≤ S8192x1024.size a := fun v209 k0_hw30 => k0_hw30.2

def k0_off159 (v214 : BitVec 32) : Fin 2 → Nat :=
  let c0_i32_556 : BitVec 32 := 0#32
  ![v214.toNat, 0]

def k0_chk31 (v214 : BitVec 32) : Prop :=
  (∀ a, (k0_off31 v214) a + S1x1024.size a ≤ S8192x1024.size a) ∧
  (∀ a, (k0_off159 v214) a + S1x1024.size a ≤ S8192x1024.size a)
theorem k0_off31_inb : ∀ (v214 : BitVec 32) (k0_hw31 : k0_chk31 v214), ∀ a, (k0_off31 v214) a + S1x1024.size a ≤ S8192x1024.size a := fun v214 k0_hw31 => k0_hw31.1
theorem k0_off159_inb : ∀ (v214 : BitVec 32) (k0_hw31 : k0_chk31 v214), ∀ a, (k0_off159 v214) a + S1x1024.size a ≤ S8192x1024.size a := fun v214 k0_hw31 => k0_hw31.2

def k0_off160 (v219 : BitVec 32) : Fin 2 → Nat :=
  let c0_i32_560 : BitVec 32 := 0#32
  ![v219.toNat, 0]

def k0_chk32 (v219 : BitVec 32) : Prop :=
  (∀ a, (k0_off32 v219) a + S1x1024.size a ≤ S8192x1024.size a) ∧
  (∀ a, (k0_off160 v219) a + S1x1024.size a ≤ S8192x1024.size a)
theorem k0_off32_inb : ∀ (v219 : BitVec 32) (k0_hw32 : k0_chk32 v219), ∀ a, (k0_off32 v219) a + S1x1024.size a ≤ S8192x1024.size a := fun v219 k0_hw32 => k0_hw32.1
theorem k0_off160_inb : ∀ (v219 : BitVec 32) (k0_hw32 : k0_chk32 v219), ∀ a, (k0_off160 v219) a + S1x1024.size a ≤ S8192x1024.size a := fun v219 k0_hw32 => k0_hw32.2

def k0_dev4 (d0 : Dev nD) : Nat :=
  let c0_i32_571 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_570 : BitVec 32 := 8#32
  let v837 : BitVec 32 := Scalar.muli v2 c8_i32_570
  let v838 : BitVec 32 := Scalar.addi c0_i32_571 v837
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_26 v5
  let c4_i32_572 : BitVec 32 := 4#32
  let v839 : BitVec 32 := Scalar.muli v44 c4_i32_572
  let v840 : BitVec 32 := Scalar.addi v838 v839
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_573 : BitVec 32 := 1#32
  let v841 : BitVec 32 := Scalar.muli v8 c1_i32_573
  let v842 : BitVec 32 := Scalar.addi v840 v841
  v842.toNat
def k0_off161 (v224 : BitVec 32) : Fin 2 → Nat :=
  let c0_i32_581 : BitVec 32 := 0#32
  ![v224.toNat, 0]

def k0_chk33 (v224 : BitVec 32) : Prop :=
  (∀ a, (k0_off33 v224) a + S1x1024.size a ≤ S8192x1024.size a) ∧
  (∀ a, (k0_off161 v224) a + S1x1024.size a ≤ S8192x1024.size a)
theorem k0_off33_inb : ∀ (v224 : BitVec 32) (k0_hw33 : k0_chk33 v224), ∀ a, (k0_off33 v224) a + S1x1024.size a ≤ S8192x1024.size a := fun v224 k0_hw33 => k0_hw33.1
theorem k0_off161_inb : ∀ (v224 : BitVec 32) (k0_hw33 : k0_chk33 v224), ∀ a, (k0_off161 v224) a + S1x1024.size a ≤ S8192x1024.size a := fun v224 k0_hw33 => k0_hw33.2

def k0_off162 (v229 : BitVec 32) : Fin 2 → Nat :=
  let c0_i32_585 : BitVec 32 := 0#32
  ![v229.toNat, 0]

def k0_chk34 (v229 : BitVec 32) : Prop :=
  (∀ a, (k0_off34 v229) a + S1x1024.size a ≤ S8192x1024.size a) ∧
  (∀ a, (k0_off162 v229) a + S1x1024.size a ≤ S8192x1024.size a)
theorem k0_off34_inb : ∀ (v229 : BitVec 32) (k0_hw34 : k0_chk34 v229), ∀ a, (k0_off34 v229) a + S1x1024.size a ≤ S8192x1024.size a := fun v229 k0_hw34 => k0_hw34.1
theorem k0_off162_inb : ∀ (v229 : BitVec 32) (k0_hw34 : k0_chk34 v229), ∀ a, (k0_off162 v229) a + S1x1024.size a ≤ S8192x1024.size a := fun v229 k0_hw34 => k0_hw34.2

def k0_off163 (v234 : BitVec 32) : Fin 2 → Nat :=
  let c0_i32_589 : BitVec 32 := 0#32
  ![v234.toNat, 0]

def k0_chk35 (v234 : BitVec 32) : Prop :=
  (∀ a, (k0_off35 v234) a + S1x1024.size a ≤ S8192x1024.size a) ∧
  (∀ a, (k0_off163 v234) a + S1x1024.size a ≤ S8192x1024.size a)
theorem k0_off35_inb : ∀ (v234 : BitVec 32) (k0_hw35 : k0_chk35 v234), ∀ a, (k0_off35 v234) a + S1x1024.size a ≤ S8192x1024.size a := fun v234 k0_hw35 => k0_hw35.1
theorem k0_off163_inb : ∀ (v234 : BitVec 32) (k0_hw35 : k0_chk35 v234), ∀ a, (k0_off163 v234) a + S1x1024.size a ≤ S8192x1024.size a := fun v234 k0_hw35 => k0_hw35.2

def k0_off164 (v239 : BitVec 32) : Fin 2 → Nat :=
  let c0_i32_593 : BitVec 32 := 0#32
  ![v239.toNat, 0]

def k0_chk36 (v239 : BitVec 32) : Prop :=
  (∀ a, (k0_off36 v239) a + S1x1024.size a ≤ S8192x1024.size a) ∧
  (∀ a, (k0_off164 v239) a + S1x1024.size a ≤ S8192x1024.size a)
theorem k0_off36_inb : ∀ (v239 : BitVec 32) (k0_hw36 : k0_chk36 v239), ∀ a, (k0_off36 v239) a + S1x1024.size a ≤ S8192x1024.size a := fun v239 k0_hw36 => k0_hw36.1
theorem k0_off164_inb : ∀ (v239 : BitVec 32) (k0_hw36 : k0_chk36 v239), ∀ a, (k0_off164 v239) a + S1x1024.size a ≤ S8192x1024.size a := fun v239 k0_hw36 => k0_hw36.2

def k0_off165 (v244 : BitVec 32) : Fin 2 → Nat :=
  let c0_i32_597 : BitVec 32 := 0#32
  ![v244.toNat, 0]

def k0_chk37 (v244 : BitVec 32) : Prop :=
  (∀ a, (k0_off37 v244) a + S1x1024.size a ≤ S8192x1024.size a) ∧
  (∀ a, (k0_off165 v244) a + S1x1024.size a ≤ S8192x1024.size a)
theorem k0_off37_inb : ∀ (v244 : BitVec 32) (k0_hw37 : k0_chk37 v244), ∀ a, (k0_off37 v244) a + S1x1024.size a ≤ S8192x1024.size a := fun v244 k0_hw37 => k0_hw37.1
theorem k0_off165_inb : ∀ (v244 : BitVec 32) (k0_hw37 : k0_chk37 v244), ∀ a, (k0_off165 v244) a + S1x1024.size a ≤ S8192x1024.size a := fun v244 k0_hw37 => k0_hw37.2

def k0_off166 (v249 : BitVec 32) : Fin 2 → Nat :=
  let c0_i32_601 : BitVec 32 := 0#32
  ![v249.toNat, 0]

def k0_chk38 (v249 : BitVec 32) : Prop :=
  (∀ a, (k0_off38 v249) a + S1x1024.size a ≤ S8192x1024.size a) ∧
  (∀ a, (k0_off166 v249) a + S1x1024.size a ≤ S8192x1024.size a)
theorem k0_off38_inb : ∀ (v249 : BitVec 32) (k0_hw38 : k0_chk38 v249), ∀ a, (k0_off38 v249) a + S1x1024.size a ≤ S8192x1024.size a := fun v249 k0_hw38 => k0_hw38.1
theorem k0_off166_inb : ∀ (v249 : BitVec 32) (k0_hw38 : k0_chk38 v249), ∀ a, (k0_off166 v249) a + S1x1024.size a ≤ S8192x1024.size a := fun v249 k0_hw38 => k0_hw38.2

def k0_off167 (v254 : BitVec 32) : Fin 2 → Nat :=
  let c0_i32_605 : BitVec 32 := 0#32
  ![v254.toNat, 0]

def k0_chk39 (v254 : BitVec 32) : Prop :=
  (∀ a, (k0_off39 v254) a + S1x1024.size a ≤ S8192x1024.size a) ∧
  (∀ a, (k0_off167 v254) a + S1x1024.size a ≤ S8192x1024.size a)
theorem k0_off39_inb : ∀ (v254 : BitVec 32) (k0_hw39 : k0_chk39 v254), ∀ a, (k0_off39 v254) a + S1x1024.size a ≤ S8192x1024.size a := fun v254 k0_hw39 => k0_hw39.1
theorem k0_off167_inb : ∀ (v254 : BitVec 32) (k0_hw39 : k0_chk39 v254), ∀ a, (k0_off167 v254) a + S1x1024.size a ≤ S8192x1024.size a := fun v254 k0_hw39 => k0_hw39.2

def k0_off168 (v259 : BitVec 32) : Fin 2 → Nat :=
  let c0_i32_609 : BitVec 32 := 0#32
  ![v259.toNat, 0]

def k0_chk40 (v259 : BitVec 32) : Prop :=
  (∀ a, (k0_off40 v259) a + S1x1024.size a ≤ S8192x1024.size a) ∧
  (∀ a, (k0_off168 v259) a + S1x1024.size a ≤ S8192x1024.size a)
theorem k0_off40_inb : ∀ (v259 : BitVec 32) (k0_hw40 : k0_chk40 v259), ∀ a, (k0_off40 v259) a + S1x1024.size a ≤ S8192x1024.size a := fun v259 k0_hw40 => k0_hw40.1
theorem k0_off168_inb : ∀ (v259 : BitVec 32) (k0_hw40 : k0_chk40 v259), ∀ a, (k0_off168 v259) a + S1x1024.size a ≤ S8192x1024.size a := fun v259 k0_hw40 => k0_hw40.2

def k0_off169 (v264 : BitVec 32) : Fin 2 → Nat :=
  let c0_i32_613 : BitVec 32 := 0#32
  ![v264.toNat, 0]

def k0_chk41 (v264 : BitVec 32) : Prop :=
  (∀ a, (k0_off41 v264) a + S1x1024.size a ≤ S8192x1024.size a) ∧
  (∀ a, (k0_off169 v264) a + S1x1024.size a ≤ S8192x1024.size a)
theorem k0_off41_inb : ∀ (v264 : BitVec 32) (k0_hw41 : k0_chk41 v264), ∀ a, (k0_off41 v264) a + S1x1024.size a ≤ S8192x1024.size a := fun v264 k0_hw41 => k0_hw41.1
theorem k0_off169_inb : ∀ (v264 : BitVec 32) (k0_hw41 : k0_chk41 v264), ∀ a, (k0_off169 v264) a + S1x1024.size a ≤ S8192x1024.size a := fun v264 k0_hw41 => k0_hw41.2

def k0_off170 (v269 : BitVec 32) : Fin 2 → Nat :=
  let c0_i32_617 : BitVec 32 := 0#32
  ![v269.toNat, 0]

def k0_chk42 (v269 : BitVec 32) : Prop :=
  (∀ a, (k0_off42 v269) a + S1x1024.size a ≤ S8192x1024.size a) ∧
  (∀ a, (k0_off170 v269) a + S1x1024.size a ≤ S8192x1024.size a)
theorem k0_off42_inb : ∀ (v269 : BitVec 32) (k0_hw42 : k0_chk42 v269), ∀ a, (k0_off42 v269) a + S1x1024.size a ≤ S8192x1024.size a := fun v269 k0_hw42 => k0_hw42.1
theorem k0_off170_inb : ∀ (v269 : BitVec 32) (k0_hw42 : k0_chk42 v269), ∀ a, (k0_off170 v269) a + S1x1024.size a ≤ S8192x1024.size a := fun v269 k0_hw42 => k0_hw42.2

def k0_off171 (v274 : BitVec 32) : Fin 2 → Nat :=
  let c0_i32_621 : BitVec 32 := 0#32
  ![v274.toNat, 0]

def k0_chk43 (v274 : BitVec 32) : Prop :=
  (∀ a, (k0_off43 v274) a + S1x1024.size a ≤ S8192x1024.size a) ∧
  (∀ a, (k0_off171 v274) a + S1x1024.size a ≤ S8192x1024.size a)
theorem k0_off43_inb : ∀ (v274 : BitVec 32) (k0_hw43 : k0_chk43 v274), ∀ a, (k0_off43 v274) a + S1x1024.size a ≤ S8192x1024.size a := fun v274 k0_hw43 => k0_hw43.1
theorem k0_off171_inb : ∀ (v274 : BitVec 32) (k0_hw43 : k0_chk43 v274), ∀ a, (k0_off171 v274) a + S1x1024.size a ≤ S8192x1024.size a := fun v274 k0_hw43 => k0_hw43.2

def k0_off172 (v279 : BitVec 32) : Fin 2 → Nat :=
  let c0_i32_625 : BitVec 32 := 0#32
  ![v279.toNat, 0]

def k0_chk44 (v279 : BitVec 32) : Prop :=
  (∀ a, (k0_off44 v279) a + S1x1024.size a ≤ S8192x1024.size a) ∧
  (∀ a, (k0_off172 v279) a + S1x1024.size a ≤ S8192x1024.size a)
theorem k0_off44_inb : ∀ (v279 : BitVec 32) (k0_hw44 : k0_chk44 v279), ∀ a, (k0_off44 v279) a + S1x1024.size a ≤ S8192x1024.size a := fun v279 k0_hw44 => k0_hw44.1
theorem k0_off172_inb : ∀ (v279 : BitVec 32) (k0_hw44 : k0_chk44 v279), ∀ a, (k0_off172 v279) a + S1x1024.size a ≤ S8192x1024.size a := fun v279 k0_hw44 => k0_hw44.2

def k0_off173 (v284 : BitVec 32) : Fin 2 → Nat :=
  let c0_i32_629 : BitVec 32 := 0#32
  ![v284.toNat, 0]

def k0_chk45 (v284 : BitVec 32) : Prop :=
  (∀ a, (k0_off45 v284) a + S1x1024.size a ≤ S8192x1024.size a) ∧
  (∀ a, (k0_off173 v284) a + S1x1024.size a ≤ S8192x1024.size a)
theorem k0_off45_inb : ∀ (v284 : BitVec 32) (k0_hw45 : k0_chk45 v284), ∀ a, (k0_off45 v284) a + S1x1024.size a ≤ S8192x1024.size a := fun v284 k0_hw45 => k0_hw45.1
theorem k0_off173_inb : ∀ (v284 : BitVec 32) (k0_hw45 : k0_chk45 v284), ∀ a, (k0_off173 v284) a + S1x1024.size a ≤ S8192x1024.size a := fun v284 k0_hw45 => k0_hw45.2

def k0_off174 (v289 : BitVec 32) : Fin 2 → Nat :=
  let c0_i32_633 : BitVec 32 := 0#32
  ![v289.toNat, 0]

def k0_chk46 (v289 : BitVec 32) : Prop :=
  (∀ a, (k0_off46 v289) a + S1x1024.size a ≤ S8192x1024.size a) ∧
  (∀ a, (k0_off174 v289) a + S1x1024.size a ≤ S8192x1024.size a)
theorem k0_off46_inb : ∀ (v289 : BitVec 32) (k0_hw46 : k0_chk46 v289), ∀ a, (k0_off46 v289) a + S1x1024.size a ≤ S8192x1024.size a := fun v289 k0_hw46 => k0_hw46.1
theorem k0_off174_inb : ∀ (v289 : BitVec 32) (k0_hw46 : k0_chk46 v289), ∀ a, (k0_off174 v289) a + S1x1024.size a ≤ S8192x1024.size a := fun v289 k0_hw46 => k0_hw46.2

def k0_off175 (v294 : BitVec 32) : Fin 2 → Nat :=
  let c0_i32_637 : BitVec 32 := 0#32
  ![v294.toNat, 0]

def k0_chk47 (v294 : BitVec 32) : Prop :=
  (∀ a, (k0_off47 v294) a + S1x1024.size a ≤ S8192x1024.size a) ∧
  (∀ a, (k0_off175 v294) a + S1x1024.size a ≤ S8192x1024.size a)
theorem k0_off47_inb : ∀ (v294 : BitVec 32) (k0_hw47 : k0_chk47 v294), ∀ a, (k0_off47 v294) a + S1x1024.size a ≤ S8192x1024.size a := fun v294 k0_hw47 => k0_hw47.1
theorem k0_off175_inb : ∀ (v294 : BitVec 32) (k0_hw47 : k0_chk47 v294), ∀ a, (k0_off175 v294) a + S1x1024.size a ≤ S8192x1024.size a := fun v294 k0_hw47 => k0_hw47.2

def k0_off176 (v299 : BitVec 32) : Fin 2 → Nat :=
  let c0_i32_641 : BitVec 32 := 0#32
  ![v299.toNat, 0]

def k0_chk48 (v299 : BitVec 32) : Prop :=
  (∀ a, (k0_off48 v299) a + S1x1024.size a ≤ S8192x1024.size a) ∧
  (∀ a, (k0_off176 v299) a + S1x1024.size a ≤ S8192x1024.size a)
theorem k0_off48_inb : ∀ (v299 : BitVec 32) (k0_hw48 : k0_chk48 v299), ∀ a, (k0_off48 v299) a + S1x1024.size a ≤ S8192x1024.size a := fun v299 k0_hw48 => k0_hw48.1
theorem k0_off176_inb : ∀ (v299 : BitVec 32) (k0_hw48 : k0_chk48 v299), ∀ a, (k0_off176 v299) a + S1x1024.size a ≤ S8192x1024.size a := fun v299 k0_hw48 => k0_hw48.2

def k0_off177 (v304 : BitVec 32) : Fin 2 → Nat :=
  let c0_i32_645 : BitVec 32 := 0#32
  ![v304.toNat, 0]

def k0_chk49 (v304 : BitVec 32) : Prop :=
  (∀ a, (k0_off49 v304) a + S1x1024.size a ≤ S8192x1024.size a) ∧
  (∀ a, (k0_off177 v304) a + S1x1024.size a ≤ S8192x1024.size a)
theorem k0_off49_inb : ∀ (v304 : BitVec 32) (k0_hw49 : k0_chk49 v304), ∀ a, (k0_off49 v304) a + S1x1024.size a ≤ S8192x1024.size a := fun v304 k0_hw49 => k0_hw49.1
theorem k0_off177_inb : ∀ (v304 : BitVec 32) (k0_hw49 : k0_chk49 v304), ∀ a, (k0_off177 v304) a + S1x1024.size a ≤ S8192x1024.size a := fun v304 k0_hw49 => k0_hw49.2

def k0_off178 (v309 : BitVec 32) : Fin 2 → Nat :=
  let c0_i32_649 : BitVec 32 := 0#32
  ![v309.toNat, 0]

def k0_chk50 (v309 : BitVec 32) : Prop :=
  (∀ a, (k0_off50 v309) a + S1x1024.size a ≤ S8192x1024.size a) ∧
  (∀ a, (k0_off178 v309) a + S1x1024.size a ≤ S8192x1024.size a)
theorem k0_off50_inb : ∀ (v309 : BitVec 32) (k0_hw50 : k0_chk50 v309), ∀ a, (k0_off50 v309) a + S1x1024.size a ≤ S8192x1024.size a := fun v309 k0_hw50 => k0_hw50.1
theorem k0_off178_inb : ∀ (v309 : BitVec 32) (k0_hw50 : k0_chk50 v309), ∀ a, (k0_off178 v309) a + S1x1024.size a ≤ S8192x1024.size a := fun v309 k0_hw50 => k0_hw50.2

def k0_off179 (v314 : BitVec 32) : Fin 2 → Nat :=
  let c0_i32_653 : BitVec 32 := 0#32
  ![v314.toNat, 0]

def k0_chk51 (v314 : BitVec 32) : Prop :=
  (∀ a, (k0_off51 v314) a + S1x1024.size a ≤ S8192x1024.size a) ∧
  (∀ a, (k0_off179 v314) a + S1x1024.size a ≤ S8192x1024.size a)
theorem k0_off51_inb : ∀ (v314 : BitVec 32) (k0_hw51 : k0_chk51 v314), ∀ a, (k0_off51 v314) a + S1x1024.size a ≤ S8192x1024.size a := fun v314 k0_hw51 => k0_hw51.1
theorem k0_off179_inb : ∀ (v314 : BitVec 32) (k0_hw51 : k0_chk51 v314), ∀ a, (k0_off179 v314) a + S1x1024.size a ≤ S8192x1024.size a := fun v314 k0_hw51 => k0_hw51.2

def k0_off180 (v319 : BitVec 32) : Fin 2 → Nat :=
  let c0_i32_657 : BitVec 32 := 0#32
  ![v319.toNat, 0]

def k0_chk52 (v319 : BitVec 32) : Prop :=
  (∀ a, (k0_off52 v319) a + S1x1024.size a ≤ S8192x1024.size a) ∧
  (∀ a, (k0_off180 v319) a + S1x1024.size a ≤ S8192x1024.size a)
theorem k0_off52_inb : ∀ (v319 : BitVec 32) (k0_hw52 : k0_chk52 v319), ∀ a, (k0_off52 v319) a + S1x1024.size a ≤ S8192x1024.size a := fun v319 k0_hw52 => k0_hw52.1
theorem k0_off180_inb : ∀ (v319 : BitVec 32) (k0_hw52 : k0_chk52 v319), ∀ a, (k0_off180 v319) a + S1x1024.size a ≤ S8192x1024.size a := fun v319 k0_hw52 => k0_hw52.2

def k0_off181 (v324 : BitVec 32) : Fin 2 → Nat :=
  let c0_i32_661 : BitVec 32 := 0#32
  ![v324.toNat, 0]

def k0_chk53 (v324 : BitVec 32) : Prop :=
  (∀ a, (k0_off53 v324) a + S1x1024.size a ≤ S8192x1024.size a) ∧
  (∀ a, (k0_off181 v324) a + S1x1024.size a ≤ S8192x1024.size a)
theorem k0_off53_inb : ∀ (v324 : BitVec 32) (k0_hw53 : k0_chk53 v324), ∀ a, (k0_off53 v324) a + S1x1024.size a ≤ S8192x1024.size a := fun v324 k0_hw53 => k0_hw53.1
theorem k0_off181_inb : ∀ (v324 : BitVec 32) (k0_hw53 : k0_chk53 v324), ∀ a, (k0_off181 v324) a + S1x1024.size a ≤ S8192x1024.size a := fun v324 k0_hw53 => k0_hw53.2

def k0_off182 (v329 : BitVec 32) : Fin 2 → Nat :=
  let c0_i32_665 : BitVec 32 := 0#32
  ![v329.toNat, 0]

def k0_chk54 (v329 : BitVec 32) : Prop :=
  (∀ a, (k0_off54 v329) a + S1x1024.size a ≤ S8192x1024.size a) ∧
  (∀ a, (k0_off182 v329) a + S1x1024.size a ≤ S8192x1024.size a)
theorem k0_off54_inb : ∀ (v329 : BitVec 32) (k0_hw54 : k0_chk54 v329), ∀ a, (k0_off54 v329) a + S1x1024.size a ≤ S8192x1024.size a := fun v329 k0_hw54 => k0_hw54.1
theorem k0_off182_inb : ∀ (v329 : BitVec 32) (k0_hw54 : k0_chk54 v329), ∀ a, (k0_off182 v329) a + S1x1024.size a ≤ S8192x1024.size a := fun v329 k0_hw54 => k0_hw54.2

def k0_off183 (v334 : BitVec 32) : Fin 2 → Nat :=
  let c0_i32_669 : BitVec 32 := 0#32
  ![v334.toNat, 0]

def k0_chk55 (v334 : BitVec 32) : Prop :=
  (∀ a, (k0_off55 v334) a + S1x1024.size a ≤ S8192x1024.size a) ∧
  (∀ a, (k0_off183 v334) a + S1x1024.size a ≤ S8192x1024.size a)
theorem k0_off55_inb : ∀ (v334 : BitVec 32) (k0_hw55 : k0_chk55 v334), ∀ a, (k0_off55 v334) a + S1x1024.size a ≤ S8192x1024.size a := fun v334 k0_hw55 => k0_hw55.1
theorem k0_off183_inb : ∀ (v334 : BitVec 32) (k0_hw55 : k0_chk55 v334), ∀ a, (k0_off183 v334) a + S1x1024.size a ≤ S8192x1024.size a := fun v334 k0_hw55 => k0_hw55.2

def k0_off184 (v339 : BitVec 32) : Fin 2 → Nat :=
  let c0_i32_673 : BitVec 32 := 0#32
  ![v339.toNat, 0]

def k0_chk56 (v339 : BitVec 32) : Prop :=
  (∀ a, (k0_off56 v339) a + S1x1024.size a ≤ S8192x1024.size a) ∧
  (∀ a, (k0_off184 v339) a + S1x1024.size a ≤ S8192x1024.size a)
theorem k0_off56_inb : ∀ (v339 : BitVec 32) (k0_hw56 : k0_chk56 v339), ∀ a, (k0_off56 v339) a + S1x1024.size a ≤ S8192x1024.size a := fun v339 k0_hw56 => k0_hw56.1
theorem k0_off184_inb : ∀ (v339 : BitVec 32) (k0_hw56 : k0_chk56 v339), ∀ a, (k0_off184 v339) a + S1x1024.size a ≤ S8192x1024.size a := fun v339 k0_hw56 => k0_hw56.2

def k0_off185 (v344 : BitVec 32) : Fin 2 → Nat :=
  let c0_i32_677 : BitVec 32 := 0#32
  ![v344.toNat, 0]

def k0_chk57 (v344 : BitVec 32) : Prop :=
  (∀ a, (k0_off57 v344) a + S1x1024.size a ≤ S8192x1024.size a) ∧
  (∀ a, (k0_off185 v344) a + S1x1024.size a ≤ S8192x1024.size a)
theorem k0_off57_inb : ∀ (v344 : BitVec 32) (k0_hw57 : k0_chk57 v344), ∀ a, (k0_off57 v344) a + S1x1024.size a ≤ S8192x1024.size a := fun v344 k0_hw57 => k0_hw57.1
theorem k0_off185_inb : ∀ (v344 : BitVec 32) (k0_hw57 : k0_chk57 v344), ∀ a, (k0_off185 v344) a + S1x1024.size a ≤ S8192x1024.size a := fun v344 k0_hw57 => k0_hw57.2

def k0_off186 (v349 : BitVec 32) : Fin 2 → Nat :=
  let c0_i32_681 : BitVec 32 := 0#32
  ![v349.toNat, 0]

def k0_chk58 (v349 : BitVec 32) : Prop :=
  (∀ a, (k0_off58 v349) a + S1x1024.size a ≤ S8192x1024.size a) ∧
  (∀ a, (k0_off186 v349) a + S1x1024.size a ≤ S8192x1024.size a)
theorem k0_off58_inb : ∀ (v349 : BitVec 32) (k0_hw58 : k0_chk58 v349), ∀ a, (k0_off58 v349) a + S1x1024.size a ≤ S8192x1024.size a := fun v349 k0_hw58 => k0_hw58.1
theorem k0_off186_inb : ∀ (v349 : BitVec 32) (k0_hw58 : k0_chk58 v349), ∀ a, (k0_off186 v349) a + S1x1024.size a ≤ S8192x1024.size a := fun v349 k0_hw58 => k0_hw58.2

def k0_off187 (v354 : BitVec 32) : Fin 2 → Nat :=
  let c0_i32_685 : BitVec 32 := 0#32
  ![v354.toNat, 0]

def k0_chk59 (v354 : BitVec 32) : Prop :=
  (∀ a, (k0_off59 v354) a + S1x1024.size a ≤ S8192x1024.size a) ∧
  (∀ a, (k0_off187 v354) a + S1x1024.size a ≤ S8192x1024.size a)
theorem k0_off59_inb : ∀ (v354 : BitVec 32) (k0_hw59 : k0_chk59 v354), ∀ a, (k0_off59 v354) a + S1x1024.size a ≤ S8192x1024.size a := fun v354 k0_hw59 => k0_hw59.1
theorem k0_off187_inb : ∀ (v354 : BitVec 32) (k0_hw59 : k0_chk59 v354), ∀ a, (k0_off187 v354) a + S1x1024.size a ≤ S8192x1024.size a := fun v354 k0_hw59 => k0_hw59.2

def k0_off188 (v359 : BitVec 32) : Fin 2 → Nat :=
  let c0_i32_689 : BitVec 32 := 0#32
  ![v359.toNat, 0]

def k0_chk60 (v359 : BitVec 32) : Prop :=
  (∀ a, (k0_off60 v359) a + S1x1024.size a ≤ S8192x1024.size a) ∧
  (∀ a, (k0_off188 v359) a + S1x1024.size a ≤ S8192x1024.size a)
theorem k0_off60_inb : ∀ (v359 : BitVec 32) (k0_hw60 : k0_chk60 v359), ∀ a, (k0_off60 v359) a + S1x1024.size a ≤ S8192x1024.size a := fun v359 k0_hw60 => k0_hw60.1
theorem k0_off188_inb : ∀ (v359 : BitVec 32) (k0_hw60 : k0_chk60 v359), ∀ a, (k0_off188 v359) a + S1x1024.size a ≤ S8192x1024.size a := fun v359 k0_hw60 => k0_hw60.2

def k0_off189 (v364 : BitVec 32) : Fin 2 → Nat :=
  let c0_i32_693 : BitVec 32 := 0#32
  ![v364.toNat, 0]

def k0_chk61 (v364 : BitVec 32) : Prop :=
  (∀ a, (k0_off61 v364) a + S1x1024.size a ≤ S8192x1024.size a) ∧
  (∀ a, (k0_off189 v364) a + S1x1024.size a ≤ S8192x1024.size a)
theorem k0_off61_inb : ∀ (v364 : BitVec 32) (k0_hw61 : k0_chk61 v364), ∀ a, (k0_off61 v364) a + S1x1024.size a ≤ S8192x1024.size a := fun v364 k0_hw61 => k0_hw61.1
theorem k0_off189_inb : ∀ (v364 : BitVec 32) (k0_hw61 : k0_chk61 v364), ∀ a, (k0_off189 v364) a + S1x1024.size a ≤ S8192x1024.size a := fun v364 k0_hw61 => k0_hw61.2

def k0_off190 (v369 : BitVec 32) : Fin 2 → Nat :=
  let c0_i32_697 : BitVec 32 := 0#32
  ![v369.toNat, 0]

def k0_chk62 (v369 : BitVec 32) : Prop :=
  (∀ a, (k0_off62 v369) a + S1x1024.size a ≤ S8192x1024.size a) ∧
  (∀ a, (k0_off190 v369) a + S1x1024.size a ≤ S8192x1024.size a)
theorem k0_off62_inb : ∀ (v369 : BitVec 32) (k0_hw62 : k0_chk62 v369), ∀ a, (k0_off62 v369) a + S1x1024.size a ≤ S8192x1024.size a := fun v369 k0_hw62 => k0_hw62.1
theorem k0_off190_inb : ∀ (v369 : BitVec 32) (k0_hw62 : k0_chk62 v369), ∀ a, (k0_off190 v369) a + S1x1024.size a ≤ S8192x1024.size a := fun v369 k0_hw62 => k0_hw62.2

def k0_off191 (v374 : BitVec 32) : Fin 2 → Nat :=
  let c0_i32_701 : BitVec 32 := 0#32
  ![v374.toNat, 0]

def k0_chk63 (v374 : BitVec 32) : Prop :=
  (∀ a, (k0_off63 v374) a + S1x1024.size a ≤ S8192x1024.size a) ∧
  (∀ a, (k0_off191 v374) a + S1x1024.size a ≤ S8192x1024.size a)
theorem k0_off63_inb : ∀ (v374 : BitVec 32) (k0_hw63 : k0_chk63 v374), ∀ a, (k0_off63 v374) a + S1x1024.size a ≤ S8192x1024.size a := fun v374 k0_hw63 => k0_hw63.1
theorem k0_off191_inb : ∀ (v374 : BitVec 32) (k0_hw63 : k0_chk63 v374), ∀ a, (k0_off191 v374) a + S1x1024.size a ≤ S8192x1024.size a := fun v374 k0_hw63 => k0_hw63.2

def k0_off192 (v379 : BitVec 32) : Fin 2 → Nat :=
  let c0_i32_705 : BitVec 32 := 0#32
  ![v379.toNat, 0]

def k0_chk64 (v379 : BitVec 32) : Prop :=
  (∀ a, (k0_off64 v379) a + S1x1024.size a ≤ S8192x1024.size a) ∧
  (∀ a, (k0_off192 v379) a + S1x1024.size a ≤ S8192x1024.size a)
theorem k0_off64_inb : ∀ (v379 : BitVec 32) (k0_hw64 : k0_chk64 v379), ∀ a, (k0_off64 v379) a + S1x1024.size a ≤ S8192x1024.size a := fun v379 k0_hw64 => k0_hw64.1
theorem k0_off192_inb : ∀ (v379 : BitVec 32) (k0_hw64 : k0_chk64 v379), ∀ a, (k0_off192 v379) a + S1x1024.size a ≤ S8192x1024.size a := fun v379 k0_hw64 => k0_hw64.2

def k0_dev5 (d0 : Dev nD) : Nat :=
  let c0_i32_716 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_715 : BitVec 32 := 8#32
  let v984 : BitVec 32 := Scalar.muli v2 c8_i32_715
  let v985 : BitVec 32 := Scalar.addi c0_i32_716 v984
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_26 v5
  let c4_i32_717 : BitVec 32 := 4#32
  let v986 : BitVec 32 := Scalar.muli v44 c4_i32_717
  let v987 : BitVec 32 := Scalar.addi v985 v986
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_718 : BitVec 32 := 1#32
  let v988 : BitVec 32 := Scalar.muli v8 c1_i32_718
  let v989 : BitVec 32 := Scalar.addi v987 v988
  v989.toNat
def k0_off193 (v384 : BitVec 32) : Fin 2 → Nat :=
  let c0_i32_726 : BitVec 32 := 0#32
  ![v384.toNat, 0]

def k0_chk65 (v384 : BitVec 32) : Prop :=
  (∀ a, (k0_off65 v384) a + S1x1024.size a ≤ S8192x1024.size a) ∧
  (∀ a, (k0_off193 v384) a + S1x1024.size a ≤ S8192x1024.size a)
theorem k0_off65_inb : ∀ (v384 : BitVec 32) (k0_hw65 : k0_chk65 v384), ∀ a, (k0_off65 v384) a + S1x1024.size a ≤ S8192x1024.size a := fun v384 k0_hw65 => k0_hw65.1
theorem k0_off193_inb : ∀ (v384 : BitVec 32) (k0_hw65 : k0_chk65 v384), ∀ a, (k0_off193 v384) a + S1x1024.size a ≤ S8192x1024.size a := fun v384 k0_hw65 => k0_hw65.2

def k0_off194 (v389 : BitVec 32) : Fin 2 → Nat :=
  let c0_i32_730 : BitVec 32 := 0#32
  ![v389.toNat, 0]

def k0_chk66 (v389 : BitVec 32) : Prop :=
  (∀ a, (k0_off66 v389) a + S1x1024.size a ≤ S8192x1024.size a) ∧
  (∀ a, (k0_off194 v389) a + S1x1024.size a ≤ S8192x1024.size a)
theorem k0_off66_inb : ∀ (v389 : BitVec 32) (k0_hw66 : k0_chk66 v389), ∀ a, (k0_off66 v389) a + S1x1024.size a ≤ S8192x1024.size a := fun v389 k0_hw66 => k0_hw66.1
theorem k0_off194_inb : ∀ (v389 : BitVec 32) (k0_hw66 : k0_chk66 v389), ∀ a, (k0_off194 v389) a + S1x1024.size a ≤ S8192x1024.size a := fun v389 k0_hw66 => k0_hw66.2

def k0_off195 (v394 : BitVec 32) : Fin 2 → Nat :=
  let c0_i32_734 : BitVec 32 := 0#32
  ![v394.toNat, 0]

def k0_chk67 (v394 : BitVec 32) : Prop :=
  (∀ a, (k0_off67 v394) a + S1x1024.size a ≤ S8192x1024.size a) ∧
  (∀ a, (k0_off195 v394) a + S1x1024.size a ≤ S8192x1024.size a)
theorem k0_off67_inb : ∀ (v394 : BitVec 32) (k0_hw67 : k0_chk67 v394), ∀ a, (k0_off67 v394) a + S1x1024.size a ≤ S8192x1024.size a := fun v394 k0_hw67 => k0_hw67.1
theorem k0_off195_inb : ∀ (v394 : BitVec 32) (k0_hw67 : k0_chk67 v394), ∀ a, (k0_off195 v394) a + S1x1024.size a ≤ S8192x1024.size a := fun v394 k0_hw67 => k0_hw67.2

def k0_off196 (v399 : BitVec 32) : Fin 2 → Nat :=
  let c0_i32_738 : BitVec 32 := 0#32
  ![v399.toNat, 0]

def k0_chk68 (v399 : BitVec 32) : Prop :=
  (∀ a, (k0_off68 v399) a + S1x1024.size a ≤ S8192x1024.size a) ∧
  (∀ a, (k0_off196 v399) a + S1x1024.size a ≤ S8192x1024.size a)
theorem k0_off68_inb : ∀ (v399 : BitVec 32) (k0_hw68 : k0_chk68 v399), ∀ a, (k0_off68 v399) a + S1x1024.size a ≤ S8192x1024.size a := fun v399 k0_hw68 => k0_hw68.1
theorem k0_off196_inb : ∀ (v399 : BitVec 32) (k0_hw68 : k0_chk68 v399), ∀ a, (k0_off196 v399) a + S1x1024.size a ≤ S8192x1024.size a := fun v399 k0_hw68 => k0_hw68.2

def k0_off197 (v404 : BitVec 32) : Fin 2 → Nat :=
  let c0_i32_742 : BitVec 32 := 0#32
  ![v404.toNat, 0]

def k0_chk69 (v404 : BitVec 32) : Prop :=
  (∀ a, (k0_off69 v404) a + S1x1024.size a ≤ S8192x1024.size a) ∧
  (∀ a, (k0_off197 v404) a + S1x1024.size a ≤ S8192x1024.size a)
theorem k0_off69_inb : ∀ (v404 : BitVec 32) (k0_hw69 : k0_chk69 v404), ∀ a, (k0_off69 v404) a + S1x1024.size a ≤ S8192x1024.size a := fun v404 k0_hw69 => k0_hw69.1
theorem k0_off197_inb : ∀ (v404 : BitVec 32) (k0_hw69 : k0_chk69 v404), ∀ a, (k0_off197 v404) a + S1x1024.size a ≤ S8192x1024.size a := fun v404 k0_hw69 => k0_hw69.2

def k0_off198 (v409 : BitVec 32) : Fin 2 → Nat :=
  let c0_i32_746 : BitVec 32 := 0#32
  ![v409.toNat, 0]

def k0_chk70 (v409 : BitVec 32) : Prop :=
  (∀ a, (k0_off70 v409) a + S1x1024.size a ≤ S8192x1024.size a) ∧
  (∀ a, (k0_off198 v409) a + S1x1024.size a ≤ S8192x1024.size a)
theorem k0_off70_inb : ∀ (v409 : BitVec 32) (k0_hw70 : k0_chk70 v409), ∀ a, (k0_off70 v409) a + S1x1024.size a ≤ S8192x1024.size a := fun v409 k0_hw70 => k0_hw70.1
theorem k0_off198_inb : ∀ (v409 : BitVec 32) (k0_hw70 : k0_chk70 v409), ∀ a, (k0_off198 v409) a + S1x1024.size a ≤ S8192x1024.size a := fun v409 k0_hw70 => k0_hw70.2

def k0_off199 (v414 : BitVec 32) : Fin 2 → Nat :=
  let c0_i32_750 : BitVec 32 := 0#32
  ![v414.toNat, 0]

def k0_chk71 (v414 : BitVec 32) : Prop :=
  (∀ a, (k0_off71 v414) a + S1x1024.size a ≤ S8192x1024.size a) ∧
  (∀ a, (k0_off199 v414) a + S1x1024.size a ≤ S8192x1024.size a)
theorem k0_off71_inb : ∀ (v414 : BitVec 32) (k0_hw71 : k0_chk71 v414), ∀ a, (k0_off71 v414) a + S1x1024.size a ≤ S8192x1024.size a := fun v414 k0_hw71 => k0_hw71.1
theorem k0_off199_inb : ∀ (v414 : BitVec 32) (k0_hw71 : k0_chk71 v414), ∀ a, (k0_off199 v414) a + S1x1024.size a ≤ S8192x1024.size a := fun v414 k0_hw71 => k0_hw71.2

def k0_off200 (v419 : BitVec 32) : Fin 2 → Nat :=
  let c0_i32_754 : BitVec 32 := 0#32
  ![v419.toNat, 0]

def k0_chk72 (v419 : BitVec 32) : Prop :=
  (∀ a, (k0_off72 v419) a + S1x1024.size a ≤ S8192x1024.size a) ∧
  (∀ a, (k0_off200 v419) a + S1x1024.size a ≤ S8192x1024.size a)
theorem k0_off72_inb : ∀ (v419 : BitVec 32) (k0_hw72 : k0_chk72 v419), ∀ a, (k0_off72 v419) a + S1x1024.size a ≤ S8192x1024.size a := fun v419 k0_hw72 => k0_hw72.1
theorem k0_off200_inb : ∀ (v419 : BitVec 32) (k0_hw72 : k0_chk72 v419), ∀ a, (k0_off200 v419) a + S1x1024.size a ≤ S8192x1024.size a := fun v419 k0_hw72 => k0_hw72.2

def k0_off201 (v424 : BitVec 32) : Fin 2 → Nat :=
  let c0_i32_758 : BitVec 32 := 0#32
  ![v424.toNat, 0]

def k0_chk73 (v424 : BitVec 32) : Prop :=
  (∀ a, (k0_off73 v424) a + S1x1024.size a ≤ S8192x1024.size a) ∧
  (∀ a, (k0_off201 v424) a + S1x1024.size a ≤ S8192x1024.size a)
theorem k0_off73_inb : ∀ (v424 : BitVec 32) (k0_hw73 : k0_chk73 v424), ∀ a, (k0_off73 v424) a + S1x1024.size a ≤ S8192x1024.size a := fun v424 k0_hw73 => k0_hw73.1
theorem k0_off201_inb : ∀ (v424 : BitVec 32) (k0_hw73 : k0_chk73 v424), ∀ a, (k0_off201 v424) a + S1x1024.size a ≤ S8192x1024.size a := fun v424 k0_hw73 => k0_hw73.2

def k0_off202 (v429 : BitVec 32) : Fin 2 → Nat :=
  let c0_i32_762 : BitVec 32 := 0#32
  ![v429.toNat, 0]

def k0_chk74 (v429 : BitVec 32) : Prop :=
  (∀ a, (k0_off74 v429) a + S1x1024.size a ≤ S8192x1024.size a) ∧
  (∀ a, (k0_off202 v429) a + S1x1024.size a ≤ S8192x1024.size a)
theorem k0_off74_inb : ∀ (v429 : BitVec 32) (k0_hw74 : k0_chk74 v429), ∀ a, (k0_off74 v429) a + S1x1024.size a ≤ S8192x1024.size a := fun v429 k0_hw74 => k0_hw74.1
theorem k0_off202_inb : ∀ (v429 : BitVec 32) (k0_hw74 : k0_chk74 v429), ∀ a, (k0_off202 v429) a + S1x1024.size a ≤ S8192x1024.size a := fun v429 k0_hw74 => k0_hw74.2

def k0_off203 (v434 : BitVec 32) : Fin 2 → Nat :=
  let c0_i32_766 : BitVec 32 := 0#32
  ![v434.toNat, 0]

def k0_chk75 (v434 : BitVec 32) : Prop :=
  (∀ a, (k0_off75 v434) a + S1x1024.size a ≤ S8192x1024.size a) ∧
  (∀ a, (k0_off203 v434) a + S1x1024.size a ≤ S8192x1024.size a)
theorem k0_off75_inb : ∀ (v434 : BitVec 32) (k0_hw75 : k0_chk75 v434), ∀ a, (k0_off75 v434) a + S1x1024.size a ≤ S8192x1024.size a := fun v434 k0_hw75 => k0_hw75.1
theorem k0_off203_inb : ∀ (v434 : BitVec 32) (k0_hw75 : k0_chk75 v434), ∀ a, (k0_off203 v434) a + S1x1024.size a ≤ S8192x1024.size a := fun v434 k0_hw75 => k0_hw75.2

def k0_off204 (v439 : BitVec 32) : Fin 2 → Nat :=
  let c0_i32_770 : BitVec 32 := 0#32
  ![v439.toNat, 0]

def k0_chk76 (v439 : BitVec 32) : Prop :=
  (∀ a, (k0_off76 v439) a + S1x1024.size a ≤ S8192x1024.size a) ∧
  (∀ a, (k0_off204 v439) a + S1x1024.size a ≤ S8192x1024.size a)
theorem k0_off76_inb : ∀ (v439 : BitVec 32) (k0_hw76 : k0_chk76 v439), ∀ a, (k0_off76 v439) a + S1x1024.size a ≤ S8192x1024.size a := fun v439 k0_hw76 => k0_hw76.1
theorem k0_off204_inb : ∀ (v439 : BitVec 32) (k0_hw76 : k0_chk76 v439), ∀ a, (k0_off204 v439) a + S1x1024.size a ≤ S8192x1024.size a := fun v439 k0_hw76 => k0_hw76.2

def k0_off205 (v444 : BitVec 32) : Fin 2 → Nat :=
  let c0_i32_774 : BitVec 32 := 0#32
  ![v444.toNat, 0]

def k0_chk77 (v444 : BitVec 32) : Prop :=
  (∀ a, (k0_off77 v444) a + S1x1024.size a ≤ S8192x1024.size a) ∧
  (∀ a, (k0_off205 v444) a + S1x1024.size a ≤ S8192x1024.size a)
theorem k0_off77_inb : ∀ (v444 : BitVec 32) (k0_hw77 : k0_chk77 v444), ∀ a, (k0_off77 v444) a + S1x1024.size a ≤ S8192x1024.size a := fun v444 k0_hw77 => k0_hw77.1
theorem k0_off205_inb : ∀ (v444 : BitVec 32) (k0_hw77 : k0_chk77 v444), ∀ a, (k0_off205 v444) a + S1x1024.size a ≤ S8192x1024.size a := fun v444 k0_hw77 => k0_hw77.2

def k0_off206 (v449 : BitVec 32) : Fin 2 → Nat :=
  let c0_i32_778 : BitVec 32 := 0#32
  ![v449.toNat, 0]

def k0_chk78 (v449 : BitVec 32) : Prop :=
  (∀ a, (k0_off78 v449) a + S1x1024.size a ≤ S8192x1024.size a) ∧
  (∀ a, (k0_off206 v449) a + S1x1024.size a ≤ S8192x1024.size a)
theorem k0_off78_inb : ∀ (v449 : BitVec 32) (k0_hw78 : k0_chk78 v449), ∀ a, (k0_off78 v449) a + S1x1024.size a ≤ S8192x1024.size a := fun v449 k0_hw78 => k0_hw78.1
theorem k0_off206_inb : ∀ (v449 : BitVec 32) (k0_hw78 : k0_chk78 v449), ∀ a, (k0_off206 v449) a + S1x1024.size a ≤ S8192x1024.size a := fun v449 k0_hw78 => k0_hw78.2

def k0_off207 (v454 : BitVec 32) : Fin 2 → Nat :=
  let c0_i32_782 : BitVec 32 := 0#32
  ![v454.toNat, 0]

def k0_chk79 (v454 : BitVec 32) : Prop :=
  (∀ a, (k0_off79 v454) a + S1x1024.size a ≤ S8192x1024.size a) ∧
  (∀ a, (k0_off207 v454) a + S1x1024.size a ≤ S8192x1024.size a)
theorem k0_off79_inb : ∀ (v454 : BitVec 32) (k0_hw79 : k0_chk79 v454), ∀ a, (k0_off79 v454) a + S1x1024.size a ≤ S8192x1024.size a := fun v454 k0_hw79 => k0_hw79.1
theorem k0_off207_inb : ∀ (v454 : BitVec 32) (k0_hw79 : k0_chk79 v454), ∀ a, (k0_off207 v454) a + S1x1024.size a ≤ S8192x1024.size a := fun v454 k0_hw79 => k0_hw79.2

def k0_off208 (v459 : BitVec 32) : Fin 2 → Nat :=
  let c0_i32_786 : BitVec 32 := 0#32
  ![v459.toNat, 0]

def k0_chk80 (v459 : BitVec 32) : Prop :=
  (∀ a, (k0_off80 v459) a + S1x1024.size a ≤ S8192x1024.size a) ∧
  (∀ a, (k0_off208 v459) a + S1x1024.size a ≤ S8192x1024.size a)
theorem k0_off80_inb : ∀ (v459 : BitVec 32) (k0_hw80 : k0_chk80 v459), ∀ a, (k0_off80 v459) a + S1x1024.size a ≤ S8192x1024.size a := fun v459 k0_hw80 => k0_hw80.1
theorem k0_off208_inb : ∀ (v459 : BitVec 32) (k0_hw80 : k0_chk80 v459), ∀ a, (k0_off208 v459) a + S1x1024.size a ≤ S8192x1024.size a := fun v459 k0_hw80 => k0_hw80.2

def k0_off209 (v464 : BitVec 32) : Fin 2 → Nat :=
  let c0_i32_790 : BitVec 32 := 0#32
  ![v464.toNat, 0]

def k0_chk81 (v464 : BitVec 32) : Prop :=
  (∀ a, (k0_off81 v464) a + S1x1024.size a ≤ S8192x1024.size a) ∧
  (∀ a, (k0_off209 v464) a + S1x1024.size a ≤ S8192x1024.size a)
theorem k0_off81_inb : ∀ (v464 : BitVec 32) (k0_hw81 : k0_chk81 v464), ∀ a, (k0_off81 v464) a + S1x1024.size a ≤ S8192x1024.size a := fun v464 k0_hw81 => k0_hw81.1
theorem k0_off209_inb : ∀ (v464 : BitVec 32) (k0_hw81 : k0_chk81 v464), ∀ a, (k0_off209 v464) a + S1x1024.size a ≤ S8192x1024.size a := fun v464 k0_hw81 => k0_hw81.2

def k0_off210 (v469 : BitVec 32) : Fin 2 → Nat :=
  let c0_i32_794 : BitVec 32 := 0#32
  ![v469.toNat, 0]

def k0_chk82 (v469 : BitVec 32) : Prop :=
  (∀ a, (k0_off82 v469) a + S1x1024.size a ≤ S8192x1024.size a) ∧
  (∀ a, (k0_off210 v469) a + S1x1024.size a ≤ S8192x1024.size a)
theorem k0_off82_inb : ∀ (v469 : BitVec 32) (k0_hw82 : k0_chk82 v469), ∀ a, (k0_off82 v469) a + S1x1024.size a ≤ S8192x1024.size a := fun v469 k0_hw82 => k0_hw82.1
theorem k0_off210_inb : ∀ (v469 : BitVec 32) (k0_hw82 : k0_chk82 v469), ∀ a, (k0_off210 v469) a + S1x1024.size a ≤ S8192x1024.size a := fun v469 k0_hw82 => k0_hw82.2

def k0_off211 (v474 : BitVec 32) : Fin 2 → Nat :=
  let c0_i32_798 : BitVec 32 := 0#32
  ![v474.toNat, 0]

def k0_chk83 (v474 : BitVec 32) : Prop :=
  (∀ a, (k0_off83 v474) a + S1x1024.size a ≤ S8192x1024.size a) ∧
  (∀ a, (k0_off211 v474) a + S1x1024.size a ≤ S8192x1024.size a)
theorem k0_off83_inb : ∀ (v474 : BitVec 32) (k0_hw83 : k0_chk83 v474), ∀ a, (k0_off83 v474) a + S1x1024.size a ≤ S8192x1024.size a := fun v474 k0_hw83 => k0_hw83.1
theorem k0_off211_inb : ∀ (v474 : BitVec 32) (k0_hw83 : k0_chk83 v474), ∀ a, (k0_off211 v474) a + S1x1024.size a ≤ S8192x1024.size a := fun v474 k0_hw83 => k0_hw83.2

def k0_off212 (v479 : BitVec 32) : Fin 2 → Nat :=
  let c0_i32_802 : BitVec 32 := 0#32
  ![v479.toNat, 0]

def k0_chk84 (v479 : BitVec 32) : Prop :=
  (∀ a, (k0_off84 v479) a + S1x1024.size a ≤ S8192x1024.size a) ∧
  (∀ a, (k0_off212 v479) a + S1x1024.size a ≤ S8192x1024.size a)
theorem k0_off84_inb : ∀ (v479 : BitVec 32) (k0_hw84 : k0_chk84 v479), ∀ a, (k0_off84 v479) a + S1x1024.size a ≤ S8192x1024.size a := fun v479 k0_hw84 => k0_hw84.1
theorem k0_off212_inb : ∀ (v479 : BitVec 32) (k0_hw84 : k0_chk84 v479), ∀ a, (k0_off212 v479) a + S1x1024.size a ≤ S8192x1024.size a := fun v479 k0_hw84 => k0_hw84.2

def k0_off213 (v484 : BitVec 32) : Fin 2 → Nat :=
  let c0_i32_806 : BitVec 32 := 0#32
  ![v484.toNat, 0]

def k0_chk85 (v484 : BitVec 32) : Prop :=
  (∀ a, (k0_off85 v484) a + S1x1024.size a ≤ S8192x1024.size a) ∧
  (∀ a, (k0_off213 v484) a + S1x1024.size a ≤ S8192x1024.size a)
theorem k0_off85_inb : ∀ (v484 : BitVec 32) (k0_hw85 : k0_chk85 v484), ∀ a, (k0_off85 v484) a + S1x1024.size a ≤ S8192x1024.size a := fun v484 k0_hw85 => k0_hw85.1
theorem k0_off213_inb : ∀ (v484 : BitVec 32) (k0_hw85 : k0_chk85 v484), ∀ a, (k0_off213 v484) a + S1x1024.size a ≤ S8192x1024.size a := fun v484 k0_hw85 => k0_hw85.2

def k0_off214 (v489 : BitVec 32) : Fin 2 → Nat :=
  let c0_i32_810 : BitVec 32 := 0#32
  ![v489.toNat, 0]

def k0_chk86 (v489 : BitVec 32) : Prop :=
  (∀ a, (k0_off86 v489) a + S1x1024.size a ≤ S8192x1024.size a) ∧
  (∀ a, (k0_off214 v489) a + S1x1024.size a ≤ S8192x1024.size a)
theorem k0_off86_inb : ∀ (v489 : BitVec 32) (k0_hw86 : k0_chk86 v489), ∀ a, (k0_off86 v489) a + S1x1024.size a ≤ S8192x1024.size a := fun v489 k0_hw86 => k0_hw86.1
theorem k0_off214_inb : ∀ (v489 : BitVec 32) (k0_hw86 : k0_chk86 v489), ∀ a, (k0_off214 v489) a + S1x1024.size a ≤ S8192x1024.size a := fun v489 k0_hw86 => k0_hw86.2

def k0_off215 (v494 : BitVec 32) : Fin 2 → Nat :=
  let c0_i32_814 : BitVec 32 := 0#32
  ![v494.toNat, 0]

def k0_chk87 (v494 : BitVec 32) : Prop :=
  (∀ a, (k0_off87 v494) a + S1x1024.size a ≤ S8192x1024.size a) ∧
  (∀ a, (k0_off215 v494) a + S1x1024.size a ≤ S8192x1024.size a)
theorem k0_off87_inb : ∀ (v494 : BitVec 32) (k0_hw87 : k0_chk87 v494), ∀ a, (k0_off87 v494) a + S1x1024.size a ≤ S8192x1024.size a := fun v494 k0_hw87 => k0_hw87.1
theorem k0_off215_inb : ∀ (v494 : BitVec 32) (k0_hw87 : k0_chk87 v494), ∀ a, (k0_off215 v494) a + S1x1024.size a ≤ S8192x1024.size a := fun v494 k0_hw87 => k0_hw87.2

def k0_off216 (v499 : BitVec 32) : Fin 2 → Nat :=
  let c0_i32_818 : BitVec 32 := 0#32
  ![v499.toNat, 0]

def k0_chk88 (v499 : BitVec 32) : Prop :=
  (∀ a, (k0_off88 v499) a + S1x1024.size a ≤ S8192x1024.size a) ∧
  (∀ a, (k0_off216 v499) a + S1x1024.size a ≤ S8192x1024.size a)
theorem k0_off88_inb : ∀ (v499 : BitVec 32) (k0_hw88 : k0_chk88 v499), ∀ a, (k0_off88 v499) a + S1x1024.size a ≤ S8192x1024.size a := fun v499 k0_hw88 => k0_hw88.1
theorem k0_off216_inb : ∀ (v499 : BitVec 32) (k0_hw88 : k0_chk88 v499), ∀ a, (k0_off216 v499) a + S1x1024.size a ≤ S8192x1024.size a := fun v499 k0_hw88 => k0_hw88.2

def k0_off217 (v504 : BitVec 32) : Fin 2 → Nat :=
  let c0_i32_822 : BitVec 32 := 0#32
  ![v504.toNat, 0]

def k0_chk89 (v504 : BitVec 32) : Prop :=
  (∀ a, (k0_off89 v504) a + S1x1024.size a ≤ S8192x1024.size a) ∧
  (∀ a, (k0_off217 v504) a + S1x1024.size a ≤ S8192x1024.size a)
theorem k0_off89_inb : ∀ (v504 : BitVec 32) (k0_hw89 : k0_chk89 v504), ∀ a, (k0_off89 v504) a + S1x1024.size a ≤ S8192x1024.size a := fun v504 k0_hw89 => k0_hw89.1
theorem k0_off217_inb : ∀ (v504 : BitVec 32) (k0_hw89 : k0_chk89 v504), ∀ a, (k0_off217 v504) a + S1x1024.size a ≤ S8192x1024.size a := fun v504 k0_hw89 => k0_hw89.2

def k0_off218 (v509 : BitVec 32) : Fin 2 → Nat :=
  let c0_i32_826 : BitVec 32 := 0#32
  ![v509.toNat, 0]

def k0_chk90 (v509 : BitVec 32) : Prop :=
  (∀ a, (k0_off90 v509) a + S1x1024.size a ≤ S8192x1024.size a) ∧
  (∀ a, (k0_off218 v509) a + S1x1024.size a ≤ S8192x1024.size a)
theorem k0_off90_inb : ∀ (v509 : BitVec 32) (k0_hw90 : k0_chk90 v509), ∀ a, (k0_off90 v509) a + S1x1024.size a ≤ S8192x1024.size a := fun v509 k0_hw90 => k0_hw90.1
theorem k0_off218_inb : ∀ (v509 : BitVec 32) (k0_hw90 : k0_chk90 v509), ∀ a, (k0_off218 v509) a + S1x1024.size a ≤ S8192x1024.size a := fun v509 k0_hw90 => k0_hw90.2

def k0_off219 (v514 : BitVec 32) : Fin 2 → Nat :=
  let c0_i32_830 : BitVec 32 := 0#32
  ![v514.toNat, 0]

def k0_chk91 (v514 : BitVec 32) : Prop :=
  (∀ a, (k0_off91 v514) a + S1x1024.size a ≤ S8192x1024.size a) ∧
  (∀ a, (k0_off219 v514) a + S1x1024.size a ≤ S8192x1024.size a)
theorem k0_off91_inb : ∀ (v514 : BitVec 32) (k0_hw91 : k0_chk91 v514), ∀ a, (k0_off91 v514) a + S1x1024.size a ≤ S8192x1024.size a := fun v514 k0_hw91 => k0_hw91.1
theorem k0_off219_inb : ∀ (v514 : BitVec 32) (k0_hw91 : k0_chk91 v514), ∀ a, (k0_off219 v514) a + S1x1024.size a ≤ S8192x1024.size a := fun v514 k0_hw91 => k0_hw91.2

def k0_off220 (v519 : BitVec 32) : Fin 2 → Nat :=
  let c0_i32_834 : BitVec 32 := 0#32
  ![v519.toNat, 0]

def k0_chk92 (v519 : BitVec 32) : Prop :=
  (∀ a, (k0_off92 v519) a + S1x1024.size a ≤ S8192x1024.size a) ∧
  (∀ a, (k0_off220 v519) a + S1x1024.size a ≤ S8192x1024.size a)
theorem k0_off92_inb : ∀ (v519 : BitVec 32) (k0_hw92 : k0_chk92 v519), ∀ a, (k0_off92 v519) a + S1x1024.size a ≤ S8192x1024.size a := fun v519 k0_hw92 => k0_hw92.1
theorem k0_off220_inb : ∀ (v519 : BitVec 32) (k0_hw92 : k0_chk92 v519), ∀ a, (k0_off220 v519) a + S1x1024.size a ≤ S8192x1024.size a := fun v519 k0_hw92 => k0_hw92.2

def k0_off221 (v524 : BitVec 32) : Fin 2 → Nat :=
  let c0_i32_838 : BitVec 32 := 0#32
  ![v524.toNat, 0]

def k0_chk93 (v524 : BitVec 32) : Prop :=
  (∀ a, (k0_off93 v524) a + S1x1024.size a ≤ S8192x1024.size a) ∧
  (∀ a, (k0_off221 v524) a + S1x1024.size a ≤ S8192x1024.size a)
theorem k0_off93_inb : ∀ (v524 : BitVec 32) (k0_hw93 : k0_chk93 v524), ∀ a, (k0_off93 v524) a + S1x1024.size a ≤ S8192x1024.size a := fun v524 k0_hw93 => k0_hw93.1
theorem k0_off221_inb : ∀ (v524 : BitVec 32) (k0_hw93 : k0_chk93 v524), ∀ a, (k0_off221 v524) a + S1x1024.size a ≤ S8192x1024.size a := fun v524 k0_hw93 => k0_hw93.2

def k0_off222 (v529 : BitVec 32) : Fin 2 → Nat :=
  let c0_i32_842 : BitVec 32 := 0#32
  ![v529.toNat, 0]

def k0_chk94 (v529 : BitVec 32) : Prop :=
  (∀ a, (k0_off94 v529) a + S1x1024.size a ≤ S8192x1024.size a) ∧
  (∀ a, (k0_off222 v529) a + S1x1024.size a ≤ S8192x1024.size a)
theorem k0_off94_inb : ∀ (v529 : BitVec 32) (k0_hw94 : k0_chk94 v529), ∀ a, (k0_off94 v529) a + S1x1024.size a ≤ S8192x1024.size a := fun v529 k0_hw94 => k0_hw94.1
theorem k0_off222_inb : ∀ (v529 : BitVec 32) (k0_hw94 : k0_chk94 v529), ∀ a, (k0_off222 v529) a + S1x1024.size a ≤ S8192x1024.size a := fun v529 k0_hw94 => k0_hw94.2

def k0_off223 (v534 : BitVec 32) : Fin 2 → Nat :=
  let c0_i32_846 : BitVec 32 := 0#32
  ![v534.toNat, 0]

def k0_chk95 (v534 : BitVec 32) : Prop :=
  (∀ a, (k0_off95 v534) a + S1x1024.size a ≤ S8192x1024.size a) ∧
  (∀ a, (k0_off223 v534) a + S1x1024.size a ≤ S8192x1024.size a)
theorem k0_off95_inb : ∀ (v534 : BitVec 32) (k0_hw95 : k0_chk95 v534), ∀ a, (k0_off95 v534) a + S1x1024.size a ≤ S8192x1024.size a := fun v534 k0_hw95 => k0_hw95.1
theorem k0_off223_inb : ∀ (v534 : BitVec 32) (k0_hw95 : k0_chk95 v534), ∀ a, (k0_off223 v534) a + S1x1024.size a ≤ S8192x1024.size a := fun v534 k0_hw95 => k0_hw95.2

def k0_off224 (v539 : BitVec 32) : Fin 2 → Nat :=
  let c0_i32_850 : BitVec 32 := 0#32
  ![v539.toNat, 0]

def k0_chk96 (v539 : BitVec 32) : Prop :=
  (∀ a, (k0_off96 v539) a + S1x1024.size a ≤ S8192x1024.size a) ∧
  (∀ a, (k0_off224 v539) a + S1x1024.size a ≤ S8192x1024.size a)
theorem k0_off96_inb : ∀ (v539 : BitVec 32) (k0_hw96 : k0_chk96 v539), ∀ a, (k0_off96 v539) a + S1x1024.size a ≤ S8192x1024.size a := fun v539 k0_hw96 => k0_hw96.1
theorem k0_off224_inb : ∀ (v539 : BitVec 32) (k0_hw96 : k0_chk96 v539), ∀ a, (k0_off224 v539) a + S1x1024.size a ≤ S8192x1024.size a := fun v539 k0_hw96 => k0_hw96.2

def k0_dev6 (d0 : Dev nD) : Nat :=
  let c0_i32_861 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_860 : BitVec 32 := 8#32
  let v1131 : BitVec 32 := Scalar.muli v2 c8_i32_860
  let v1132 : BitVec 32 := Scalar.addi c0_i32_861 v1131
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_26 v5
  let c4_i32_862 : BitVec 32 := 4#32
  let v1133 : BitVec 32 := Scalar.muli v44 c4_i32_862
  let v1134 : BitVec 32 := Scalar.addi v1132 v1133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_863 : BitVec 32 := 1#32
  let v1135 : BitVec 32 := Scalar.muli v8 c1_i32_863
  let v1136 : BitVec 32 := Scalar.addi v1134 v1135
  v1136.toNat
def k0_off225 (v544 : BitVec 32) : Fin 2 → Nat :=
  let c0_i32_871 : BitVec 32 := 0#32
  ![v544.toNat, 0]

def k0_chk97 (v544 : BitVec 32) : Prop :=
  (∀ a, (k0_off97 v544) a + S1x1024.size a ≤ S8192x1024.size a) ∧
  (∀ a, (k0_off225 v544) a + S1x1024.size a ≤ S8192x1024.size a)
theorem k0_off97_inb : ∀ (v544 : BitVec 32) (k0_hw97 : k0_chk97 v544), ∀ a, (k0_off97 v544) a + S1x1024.size a ≤ S8192x1024.size a := fun v544 k0_hw97 => k0_hw97.1
theorem k0_off225_inb : ∀ (v544 : BitVec 32) (k0_hw97 : k0_chk97 v544), ∀ a, (k0_off225 v544) a + S1x1024.size a ≤ S8192x1024.size a := fun v544 k0_hw97 => k0_hw97.2

def k0_off226 (v549 : BitVec 32) : Fin 2 → Nat :=
  let c0_i32_875 : BitVec 32 := 0#32
  ![v549.toNat, 0]

def k0_chk98 (v549 : BitVec 32) : Prop :=
  (∀ a, (k0_off98 v549) a + S1x1024.size a ≤ S8192x1024.size a) ∧
  (∀ a, (k0_off226 v549) a + S1x1024.size a ≤ S8192x1024.size a)
theorem k0_off98_inb : ∀ (v549 : BitVec 32) (k0_hw98 : k0_chk98 v549), ∀ a, (k0_off98 v549) a + S1x1024.size a ≤ S8192x1024.size a := fun v549 k0_hw98 => k0_hw98.1
theorem k0_off226_inb : ∀ (v549 : BitVec 32) (k0_hw98 : k0_chk98 v549), ∀ a, (k0_off226 v549) a + S1x1024.size a ≤ S8192x1024.size a := fun v549 k0_hw98 => k0_hw98.2

def k0_off227 (v554 : BitVec 32) : Fin 2 → Nat :=
  let c0_i32_879 : BitVec 32 := 0#32
  ![v554.toNat, 0]

def k0_chk99 (v554 : BitVec 32) : Prop :=
  (∀ a, (k0_off99 v554) a + S1x1024.size a ≤ S8192x1024.size a) ∧
  (∀ a, (k0_off227 v554) a + S1x1024.size a ≤ S8192x1024.size a)
theorem k0_off99_inb : ∀ (v554 : BitVec 32) (k0_hw99 : k0_chk99 v554), ∀ a, (k0_off99 v554) a + S1x1024.size a ≤ S8192x1024.size a := fun v554 k0_hw99 => k0_hw99.1
theorem k0_off227_inb : ∀ (v554 : BitVec 32) (k0_hw99 : k0_chk99 v554), ∀ a, (k0_off227 v554) a + S1x1024.size a ≤ S8192x1024.size a := fun v554 k0_hw99 => k0_hw99.2

def k0_off228 (v559 : BitVec 32) : Fin 2 → Nat :=
  let c0_i32_883 : BitVec 32 := 0#32
  ![v559.toNat, 0]

def k0_chk100 (v559 : BitVec 32) : Prop :=
  (∀ a, (k0_off100 v559) a + S1x1024.size a ≤ S8192x1024.size a) ∧
  (∀ a, (k0_off228 v559) a + S1x1024.size a ≤ S8192x1024.size a)
theorem k0_off100_inb : ∀ (v559 : BitVec 32) (k0_hw100 : k0_chk100 v559), ∀ a, (k0_off100 v559) a + S1x1024.size a ≤ S8192x1024.size a := fun v559 k0_hw100 => k0_hw100.1
theorem k0_off228_inb : ∀ (v559 : BitVec 32) (k0_hw100 : k0_chk100 v559), ∀ a, (k0_off228 v559) a + S1x1024.size a ≤ S8192x1024.size a := fun v559 k0_hw100 => k0_hw100.2

def k0_off229 (v564 : BitVec 32) : Fin 2 → Nat :=
  let c0_i32_887 : BitVec 32 := 0#32
  ![v564.toNat, 0]

def k0_chk101 (v564 : BitVec 32) : Prop :=
  (∀ a, (k0_off101 v564) a + S1x1024.size a ≤ S8192x1024.size a) ∧
  (∀ a, (k0_off229 v564) a + S1x1024.size a ≤ S8192x1024.size a)
theorem k0_off101_inb : ∀ (v564 : BitVec 32) (k0_hw101 : k0_chk101 v564), ∀ a, (k0_off101 v564) a + S1x1024.size a ≤ S8192x1024.size a := fun v564 k0_hw101 => k0_hw101.1
theorem k0_off229_inb : ∀ (v564 : BitVec 32) (k0_hw101 : k0_chk101 v564), ∀ a, (k0_off229 v564) a + S1x1024.size a ≤ S8192x1024.size a := fun v564 k0_hw101 => k0_hw101.2

def k0_off230 (v569 : BitVec 32) : Fin 2 → Nat :=
  let c0_i32_891 : BitVec 32 := 0#32
  ![v569.toNat, 0]

def k0_chk102 (v569 : BitVec 32) : Prop :=
  (∀ a, (k0_off102 v569) a + S1x1024.size a ≤ S8192x1024.size a) ∧
  (∀ a, (k0_off230 v569) a + S1x1024.size a ≤ S8192x1024.size a)
theorem k0_off102_inb : ∀ (v569 : BitVec 32) (k0_hw102 : k0_chk102 v569), ∀ a, (k0_off102 v569) a + S1x1024.size a ≤ S8192x1024.size a := fun v569 k0_hw102 => k0_hw102.1
theorem k0_off230_inb : ∀ (v569 : BitVec 32) (k0_hw102 : k0_chk102 v569), ∀ a, (k0_off230 v569) a + S1x1024.size a ≤ S8192x1024.size a := fun v569 k0_hw102 => k0_hw102.2

def k0_off231 (v574 : BitVec 32) : Fin 2 → Nat :=
  let c0_i32_895 : BitVec 32 := 0#32
  ![v574.toNat, 0]

def k0_chk103 (v574 : BitVec 32) : Prop :=
  (∀ a, (k0_off103 v574) a + S1x1024.size a ≤ S8192x1024.size a) ∧
  (∀ a, (k0_off231 v574) a + S1x1024.size a ≤ S8192x1024.size a)
theorem k0_off103_inb : ∀ (v574 : BitVec 32) (k0_hw103 : k0_chk103 v574), ∀ a, (k0_off103 v574) a + S1x1024.size a ≤ S8192x1024.size a := fun v574 k0_hw103 => k0_hw103.1
theorem k0_off231_inb : ∀ (v574 : BitVec 32) (k0_hw103 : k0_chk103 v574), ∀ a, (k0_off231 v574) a + S1x1024.size a ≤ S8192x1024.size a := fun v574 k0_hw103 => k0_hw103.2

def k0_off232 (v579 : BitVec 32) : Fin 2 → Nat :=
  let c0_i32_899 : BitVec 32 := 0#32
  ![v579.toNat, 0]

def k0_chk104 (v579 : BitVec 32) : Prop :=
  (∀ a, (k0_off104 v579) a + S1x1024.size a ≤ S8192x1024.size a) ∧
  (∀ a, (k0_off232 v579) a + S1x1024.size a ≤ S8192x1024.size a)
theorem k0_off104_inb : ∀ (v579 : BitVec 32) (k0_hw104 : k0_chk104 v579), ∀ a, (k0_off104 v579) a + S1x1024.size a ≤ S8192x1024.size a := fun v579 k0_hw104 => k0_hw104.1
theorem k0_off232_inb : ∀ (v579 : BitVec 32) (k0_hw104 : k0_chk104 v579), ∀ a, (k0_off232 v579) a + S1x1024.size a ≤ S8192x1024.size a := fun v579 k0_hw104 => k0_hw104.2

def k0_off233 (v584 : BitVec 32) : Fin 2 → Nat :=
  let c0_i32_903 : BitVec 32 := 0#32
  ![v584.toNat, 0]

def k0_chk105 (v584 : BitVec 32) : Prop :=
  (∀ a, (k0_off105 v584) a + S1x1024.size a ≤ S8192x1024.size a) ∧
  (∀ a, (k0_off233 v584) a + S1x1024.size a ≤ S8192x1024.size a)
theorem k0_off105_inb : ∀ (v584 : BitVec 32) (k0_hw105 : k0_chk105 v584), ∀ a, (k0_off105 v584) a + S1x1024.size a ≤ S8192x1024.size a := fun v584 k0_hw105 => k0_hw105.1
theorem k0_off233_inb : ∀ (v584 : BitVec 32) (k0_hw105 : k0_chk105 v584), ∀ a, (k0_off233 v584) a + S1x1024.size a ≤ S8192x1024.size a := fun v584 k0_hw105 => k0_hw105.2

def k0_off234 (v589 : BitVec 32) : Fin 2 → Nat :=
  let c0_i32_907 : BitVec 32 := 0#32
  ![v589.toNat, 0]

def k0_chk106 (v589 : BitVec 32) : Prop :=
  (∀ a, (k0_off106 v589) a + S1x1024.size a ≤ S8192x1024.size a) ∧
  (∀ a, (k0_off234 v589) a + S1x1024.size a ≤ S8192x1024.size a)
theorem k0_off106_inb : ∀ (v589 : BitVec 32) (k0_hw106 : k0_chk106 v589), ∀ a, (k0_off106 v589) a + S1x1024.size a ≤ S8192x1024.size a := fun v589 k0_hw106 => k0_hw106.1
theorem k0_off234_inb : ∀ (v589 : BitVec 32) (k0_hw106 : k0_chk106 v589), ∀ a, (k0_off234 v589) a + S1x1024.size a ≤ S8192x1024.size a := fun v589 k0_hw106 => k0_hw106.2

def k0_off235 (v594 : BitVec 32) : Fin 2 → Nat :=
  let c0_i32_911 : BitVec 32 := 0#32
  ![v594.toNat, 0]

def k0_chk107 (v594 : BitVec 32) : Prop :=
  (∀ a, (k0_off107 v594) a + S1x1024.size a ≤ S8192x1024.size a) ∧
  (∀ a, (k0_off235 v594) a + S1x1024.size a ≤ S8192x1024.size a)
theorem k0_off107_inb : ∀ (v594 : BitVec 32) (k0_hw107 : k0_chk107 v594), ∀ a, (k0_off107 v594) a + S1x1024.size a ≤ S8192x1024.size a := fun v594 k0_hw107 => k0_hw107.1
theorem k0_off235_inb : ∀ (v594 : BitVec 32) (k0_hw107 : k0_chk107 v594), ∀ a, (k0_off235 v594) a + S1x1024.size a ≤ S8192x1024.size a := fun v594 k0_hw107 => k0_hw107.2

def k0_off236 (v599 : BitVec 32) : Fin 2 → Nat :=
  let c0_i32_915 : BitVec 32 := 0#32
  ![v599.toNat, 0]

def k0_chk108 (v599 : BitVec 32) : Prop :=
  (∀ a, (k0_off108 v599) a + S1x1024.size a ≤ S8192x1024.size a) ∧
  (∀ a, (k0_off236 v599) a + S1x1024.size a ≤ S8192x1024.size a)
theorem k0_off108_inb : ∀ (v599 : BitVec 32) (k0_hw108 : k0_chk108 v599), ∀ a, (k0_off108 v599) a + S1x1024.size a ≤ S8192x1024.size a := fun v599 k0_hw108 => k0_hw108.1
theorem k0_off236_inb : ∀ (v599 : BitVec 32) (k0_hw108 : k0_chk108 v599), ∀ a, (k0_off236 v599) a + S1x1024.size a ≤ S8192x1024.size a := fun v599 k0_hw108 => k0_hw108.2

def k0_off237 (v604 : BitVec 32) : Fin 2 → Nat :=
  let c0_i32_919 : BitVec 32 := 0#32
  ![v604.toNat, 0]

def k0_chk109 (v604 : BitVec 32) : Prop :=
  (∀ a, (k0_off109 v604) a + S1x1024.size a ≤ S8192x1024.size a) ∧
  (∀ a, (k0_off237 v604) a + S1x1024.size a ≤ S8192x1024.size a)
theorem k0_off109_inb : ∀ (v604 : BitVec 32) (k0_hw109 : k0_chk109 v604), ∀ a, (k0_off109 v604) a + S1x1024.size a ≤ S8192x1024.size a := fun v604 k0_hw109 => k0_hw109.1
theorem k0_off237_inb : ∀ (v604 : BitVec 32) (k0_hw109 : k0_chk109 v604), ∀ a, (k0_off237 v604) a + S1x1024.size a ≤ S8192x1024.size a := fun v604 k0_hw109 => k0_hw109.2

def k0_off238 (v609 : BitVec 32) : Fin 2 → Nat :=
  let c0_i32_923 : BitVec 32 := 0#32
  ![v609.toNat, 0]

def k0_chk110 (v609 : BitVec 32) : Prop :=
  (∀ a, (k0_off110 v609) a + S1x1024.size a ≤ S8192x1024.size a) ∧
  (∀ a, (k0_off238 v609) a + S1x1024.size a ≤ S8192x1024.size a)
theorem k0_off110_inb : ∀ (v609 : BitVec 32) (k0_hw110 : k0_chk110 v609), ∀ a, (k0_off110 v609) a + S1x1024.size a ≤ S8192x1024.size a := fun v609 k0_hw110 => k0_hw110.1
theorem k0_off238_inb : ∀ (v609 : BitVec 32) (k0_hw110 : k0_chk110 v609), ∀ a, (k0_off238 v609) a + S1x1024.size a ≤ S8192x1024.size a := fun v609 k0_hw110 => k0_hw110.2

def k0_off239 (v614 : BitVec 32) : Fin 2 → Nat :=
  let c0_i32_927 : BitVec 32 := 0#32
  ![v614.toNat, 0]

def k0_chk111 (v614 : BitVec 32) : Prop :=
  (∀ a, (k0_off111 v614) a + S1x1024.size a ≤ S8192x1024.size a) ∧
  (∀ a, (k0_off239 v614) a + S1x1024.size a ≤ S8192x1024.size a)
theorem k0_off111_inb : ∀ (v614 : BitVec 32) (k0_hw111 : k0_chk111 v614), ∀ a, (k0_off111 v614) a + S1x1024.size a ≤ S8192x1024.size a := fun v614 k0_hw111 => k0_hw111.1
theorem k0_off239_inb : ∀ (v614 : BitVec 32) (k0_hw111 : k0_chk111 v614), ∀ a, (k0_off239 v614) a + S1x1024.size a ≤ S8192x1024.size a := fun v614 k0_hw111 => k0_hw111.2

def k0_off240 (v619 : BitVec 32) : Fin 2 → Nat :=
  let c0_i32_931 : BitVec 32 := 0#32
  ![v619.toNat, 0]

def k0_chk112 (v619 : BitVec 32) : Prop :=
  (∀ a, (k0_off112 v619) a + S1x1024.size a ≤ S8192x1024.size a) ∧
  (∀ a, (k0_off240 v619) a + S1x1024.size a ≤ S8192x1024.size a)
theorem k0_off112_inb : ∀ (v619 : BitVec 32) (k0_hw112 : k0_chk112 v619), ∀ a, (k0_off112 v619) a + S1x1024.size a ≤ S8192x1024.size a := fun v619 k0_hw112 => k0_hw112.1
theorem k0_off240_inb : ∀ (v619 : BitVec 32) (k0_hw112 : k0_chk112 v619), ∀ a, (k0_off240 v619) a + S1x1024.size a ≤ S8192x1024.size a := fun v619 k0_hw112 => k0_hw112.2

def k0_off241 (v624 : BitVec 32) : Fin 2 → Nat :=
  let c0_i32_935 : BitVec 32 := 0#32
  ![v624.toNat, 0]

def k0_chk113 (v624 : BitVec 32) : Prop :=
  (∀ a, (k0_off113 v624) a + S1x1024.size a ≤ S8192x1024.size a) ∧
  (∀ a, (k0_off241 v624) a + S1x1024.size a ≤ S8192x1024.size a)
theorem k0_off113_inb : ∀ (v624 : BitVec 32) (k0_hw113 : k0_chk113 v624), ∀ a, (k0_off113 v624) a + S1x1024.size a ≤ S8192x1024.size a := fun v624 k0_hw113 => k0_hw113.1
theorem k0_off241_inb : ∀ (v624 : BitVec 32) (k0_hw113 : k0_chk113 v624), ∀ a, (k0_off241 v624) a + S1x1024.size a ≤ S8192x1024.size a := fun v624 k0_hw113 => k0_hw113.2

def k0_off242 (v629 : BitVec 32) : Fin 2 → Nat :=
  let c0_i32_939 : BitVec 32 := 0#32
  ![v629.toNat, 0]

def k0_chk114 (v629 : BitVec 32) : Prop :=
  (∀ a, (k0_off114 v629) a + S1x1024.size a ≤ S8192x1024.size a) ∧
  (∀ a, (k0_off242 v629) a + S1x1024.size a ≤ S8192x1024.size a)
theorem k0_off114_inb : ∀ (v629 : BitVec 32) (k0_hw114 : k0_chk114 v629), ∀ a, (k0_off114 v629) a + S1x1024.size a ≤ S8192x1024.size a := fun v629 k0_hw114 => k0_hw114.1
theorem k0_off242_inb : ∀ (v629 : BitVec 32) (k0_hw114 : k0_chk114 v629), ∀ a, (k0_off242 v629) a + S1x1024.size a ≤ S8192x1024.size a := fun v629 k0_hw114 => k0_hw114.2

def k0_off243 (v634 : BitVec 32) : Fin 2 → Nat :=
  let c0_i32_943 : BitVec 32 := 0#32
  ![v634.toNat, 0]

def k0_chk115 (v634 : BitVec 32) : Prop :=
  (∀ a, (k0_off115 v634) a + S1x1024.size a ≤ S8192x1024.size a) ∧
  (∀ a, (k0_off243 v634) a + S1x1024.size a ≤ S8192x1024.size a)
theorem k0_off115_inb : ∀ (v634 : BitVec 32) (k0_hw115 : k0_chk115 v634), ∀ a, (k0_off115 v634) a + S1x1024.size a ≤ S8192x1024.size a := fun v634 k0_hw115 => k0_hw115.1
theorem k0_off243_inb : ∀ (v634 : BitVec 32) (k0_hw115 : k0_chk115 v634), ∀ a, (k0_off243 v634) a + S1x1024.size a ≤ S8192x1024.size a := fun v634 k0_hw115 => k0_hw115.2

def k0_off244 (v639 : BitVec 32) : Fin 2 → Nat :=
  let c0_i32_947 : BitVec 32 := 0#32
  ![v639.toNat, 0]

def k0_chk116 (v639 : BitVec 32) : Prop :=
  (∀ a, (k0_off116 v639) a + S1x1024.size a ≤ S8192x1024.size a) ∧
  (∀ a, (k0_off244 v639) a + S1x1024.size a ≤ S8192x1024.size a)
theorem k0_off116_inb : ∀ (v639 : BitVec 32) (k0_hw116 : k0_chk116 v639), ∀ a, (k0_off116 v639) a + S1x1024.size a ≤ S8192x1024.size a := fun v639 k0_hw116 => k0_hw116.1
theorem k0_off244_inb : ∀ (v639 : BitVec 32) (k0_hw116 : k0_chk116 v639), ∀ a, (k0_off244 v639) a + S1x1024.size a ≤ S8192x1024.size a := fun v639 k0_hw116 => k0_hw116.2

def k0_off245 (v644 : BitVec 32) : Fin 2 → Nat :=
  let c0_i32_951 : BitVec 32 := 0#32
  ![v644.toNat, 0]

def k0_chk117 (v644 : BitVec 32) : Prop :=
  (∀ a, (k0_off117 v644) a + S1x1024.size a ≤ S8192x1024.size a) ∧
  (∀ a, (k0_off245 v644) a + S1x1024.size a ≤ S8192x1024.size a)
theorem k0_off117_inb : ∀ (v644 : BitVec 32) (k0_hw117 : k0_chk117 v644), ∀ a, (k0_off117 v644) a + S1x1024.size a ≤ S8192x1024.size a := fun v644 k0_hw117 => k0_hw117.1
theorem k0_off245_inb : ∀ (v644 : BitVec 32) (k0_hw117 : k0_chk117 v644), ∀ a, (k0_off245 v644) a + S1x1024.size a ≤ S8192x1024.size a := fun v644 k0_hw117 => k0_hw117.2

def k0_off246 (v649 : BitVec 32) : Fin 2 → Nat :=
  let c0_i32_955 : BitVec 32 := 0#32
  ![v649.toNat, 0]

def k0_chk118 (v649 : BitVec 32) : Prop :=
  (∀ a, (k0_off118 v649) a + S1x1024.size a ≤ S8192x1024.size a) ∧
  (∀ a, (k0_off246 v649) a + S1x1024.size a ≤ S8192x1024.size a)
theorem k0_off118_inb : ∀ (v649 : BitVec 32) (k0_hw118 : k0_chk118 v649), ∀ a, (k0_off118 v649) a + S1x1024.size a ≤ S8192x1024.size a := fun v649 k0_hw118 => k0_hw118.1
theorem k0_off246_inb : ∀ (v649 : BitVec 32) (k0_hw118 : k0_chk118 v649), ∀ a, (k0_off246 v649) a + S1x1024.size a ≤ S8192x1024.size a := fun v649 k0_hw118 => k0_hw118.2

def k0_off247 (v654 : BitVec 32) : Fin 2 → Nat :=
  let c0_i32_959 : BitVec 32 := 0#32
  ![v654.toNat, 0]

def k0_chk119 (v654 : BitVec 32) : Prop :=
  (∀ a, (k0_off119 v654) a + S1x1024.size a ≤ S8192x1024.size a) ∧
  (∀ a, (k0_off247 v654) a + S1x1024.size a ≤ S8192x1024.size a)
theorem k0_off119_inb : ∀ (v654 : BitVec 32) (k0_hw119 : k0_chk119 v654), ∀ a, (k0_off119 v654) a + S1x1024.size a ≤ S8192x1024.size a := fun v654 k0_hw119 => k0_hw119.1
theorem k0_off247_inb : ∀ (v654 : BitVec 32) (k0_hw119 : k0_chk119 v654), ∀ a, (k0_off247 v654) a + S1x1024.size a ≤ S8192x1024.size a := fun v654 k0_hw119 => k0_hw119.2

def k0_off248 (v659 : BitVec 32) : Fin 2 → Nat :=
  let c0_i32_963 : BitVec 32 := 0#32
  ![v659.toNat, 0]

def k0_chk120 (v659 : BitVec 32) : Prop :=
  (∀ a, (k0_off120 v659) a + S1x1024.size a ≤ S8192x1024.size a) ∧
  (∀ a, (k0_off248 v659) a + S1x1024.size a ≤ S8192x1024.size a)
theorem k0_off120_inb : ∀ (v659 : BitVec 32) (k0_hw120 : k0_chk120 v659), ∀ a, (k0_off120 v659) a + S1x1024.size a ≤ S8192x1024.size a := fun v659 k0_hw120 => k0_hw120.1
theorem k0_off248_inb : ∀ (v659 : BitVec 32) (k0_hw120 : k0_chk120 v659), ∀ a, (k0_off248 v659) a + S1x1024.size a ≤ S8192x1024.size a := fun v659 k0_hw120 => k0_hw120.2

def k0_off249 (v664 : BitVec 32) : Fin 2 → Nat :=
  let c0_i32_967 : BitVec 32 := 0#32
  ![v664.toNat, 0]

def k0_chk121 (v664 : BitVec 32) : Prop :=
  (∀ a, (k0_off121 v664) a + S1x1024.size a ≤ S8192x1024.size a) ∧
  (∀ a, (k0_off249 v664) a + S1x1024.size a ≤ S8192x1024.size a)
theorem k0_off121_inb : ∀ (v664 : BitVec 32) (k0_hw121 : k0_chk121 v664), ∀ a, (k0_off121 v664) a + S1x1024.size a ≤ S8192x1024.size a := fun v664 k0_hw121 => k0_hw121.1
theorem k0_off249_inb : ∀ (v664 : BitVec 32) (k0_hw121 : k0_chk121 v664), ∀ a, (k0_off249 v664) a + S1x1024.size a ≤ S8192x1024.size a := fun v664 k0_hw121 => k0_hw121.2

def k0_off250 (v669 : BitVec 32) : Fin 2 → Nat :=
  let c0_i32_971 : BitVec 32 := 0#32
  ![v669.toNat, 0]

def k0_chk122 (v669 : BitVec 32) : Prop :=
  (∀ a, (k0_off122 v669) a + S1x1024.size a ≤ S8192x1024.size a) ∧
  (∀ a, (k0_off250 v669) a + S1x1024.size a ≤ S8192x1024.size a)
theorem k0_off122_inb : ∀ (v669 : BitVec 32) (k0_hw122 : k0_chk122 v669), ∀ a, (k0_off122 v669) a + S1x1024.size a ≤ S8192x1024.size a := fun v669 k0_hw122 => k0_hw122.1
theorem k0_off250_inb : ∀ (v669 : BitVec 32) (k0_hw122 : k0_chk122 v669), ∀ a, (k0_off250 v669) a + S1x1024.size a ≤ S8192x1024.size a := fun v669 k0_hw122 => k0_hw122.2

def k0_off251 (v674 : BitVec 32) : Fin 2 → Nat :=
  let c0_i32_975 : BitVec 32 := 0#32
  ![v674.toNat, 0]

def k0_chk123 (v674 : BitVec 32) : Prop :=
  (∀ a, (k0_off123 v674) a + S1x1024.size a ≤ S8192x1024.size a) ∧
  (∀ a, (k0_off251 v674) a + S1x1024.size a ≤ S8192x1024.size a)
theorem k0_off123_inb : ∀ (v674 : BitVec 32) (k0_hw123 : k0_chk123 v674), ∀ a, (k0_off123 v674) a + S1x1024.size a ≤ S8192x1024.size a := fun v674 k0_hw123 => k0_hw123.1
theorem k0_off251_inb : ∀ (v674 : BitVec 32) (k0_hw123 : k0_chk123 v674), ∀ a, (k0_off251 v674) a + S1x1024.size a ≤ S8192x1024.size a := fun v674 k0_hw123 => k0_hw123.2

def k0_off252 (v679 : BitVec 32) : Fin 2 → Nat :=
  let c0_i32_979 : BitVec 32 := 0#32
  ![v679.toNat, 0]

def k0_chk124 (v679 : BitVec 32) : Prop :=
  (∀ a, (k0_off124 v679) a + S1x1024.size a ≤ S8192x1024.size a) ∧
  (∀ a, (k0_off252 v679) a + S1x1024.size a ≤ S8192x1024.size a)
theorem k0_off124_inb : ∀ (v679 : BitVec 32) (k0_hw124 : k0_chk124 v679), ∀ a, (k0_off124 v679) a + S1x1024.size a ≤ S8192x1024.size a := fun v679 k0_hw124 => k0_hw124.1
theorem k0_off252_inb : ∀ (v679 : BitVec 32) (k0_hw124 : k0_chk124 v679), ∀ a, (k0_off252 v679) a + S1x1024.size a ≤ S8192x1024.size a := fun v679 k0_hw124 => k0_hw124.2

def k0_off253 (v684 : BitVec 32) : Fin 2 → Nat :=
  let c0_i32_983 : BitVec 32 := 0#32
  ![v684.toNat, 0]

def k0_chk125 (v684 : BitVec 32) : Prop :=
  (∀ a, (k0_off125 v684) a + S1x1024.size a ≤ S8192x1024.size a) ∧
  (∀ a, (k0_off253 v684) a + S1x1024.size a ≤ S8192x1024.size a)
theorem k0_off125_inb : ∀ (v684 : BitVec 32) (k0_hw125 : k0_chk125 v684), ∀ a, (k0_off125 v684) a + S1x1024.size a ≤ S8192x1024.size a := fun v684 k0_hw125 => k0_hw125.1
theorem k0_off253_inb : ∀ (v684 : BitVec 32) (k0_hw125 : k0_chk125 v684), ∀ a, (k0_off253 v684) a + S1x1024.size a ≤ S8192x1024.size a := fun v684 k0_hw125 => k0_hw125.2

def k0_off254 (v689 : BitVec 32) : Fin 2 → Nat :=
  let c0_i32_987 : BitVec 32 := 0#32
  ![v689.toNat, 0]

def k0_chk126 (v689 : BitVec 32) : Prop :=
  (∀ a, (k0_off126 v689) a + S1x1024.size a ≤ S8192x1024.size a) ∧
  (∀ a, (k0_off254 v689) a + S1x1024.size a ≤ S8192x1024.size a)
theorem k0_off126_inb : ∀ (v689 : BitVec 32) (k0_hw126 : k0_chk126 v689), ∀ a, (k0_off126 v689) a + S1x1024.size a ≤ S8192x1024.size a := fun v689 k0_hw126 => k0_hw126.1
theorem k0_off254_inb : ∀ (v689 : BitVec 32) (k0_hw126 : k0_chk126 v689), ∀ a, (k0_off254 v689) a + S1x1024.size a ≤ S8192x1024.size a := fun v689 k0_hw126 => k0_hw126.2

def k0_off255 (v694 : BitVec 32) : Fin 2 → Nat :=
  let c0_i32_991 : BitVec 32 := 0#32
  ![v694.toNat, 0]

def k0_chk127 (v694 : BitVec 32) : Prop :=
  (∀ a, (k0_off127 v694) a + S1x1024.size a ≤ S8192x1024.size a) ∧
  (∀ a, (k0_off255 v694) a + S1x1024.size a ≤ S8192x1024.size a)
theorem k0_off127_inb : ∀ (v694 : BitVec 32) (k0_hw127 : k0_chk127 v694), ∀ a, (k0_off127 v694) a + S1x1024.size a ≤ S8192x1024.size a := fun v694 k0_hw127 => k0_hw127.1
theorem k0_off255_inb : ∀ (v694 : BitVec 32) (k0_hw127 : k0_chk127 v694), ∀ a, (k0_off255 v694) a + S1x1024.size a ≤ S8192x1024.size a := fun v694 k0_hw127 => k0_hw127.2

def k0_dev7 (d0 : Dev nD) : Nat :=
  let c0_i32_1006 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1005 : BitVec 32 := 8#32
  let v1278 : BitVec 32 := Scalar.muli v2 c8_i32_1005
  let v1279 : BitVec 32 := Scalar.addi c0_i32_1006 v1278
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_26 v5
  let c4_i32_1007 : BitVec 32 := 4#32
  let v1280 : BitVec 32 := Scalar.muli v44 c4_i32_1007
  let v1281 : BitVec 32 := Scalar.addi v1279 v1280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1282 : BitVec 32 := Scalar.muli v8 c1_i32_1008
  let v1283 : BitVec 32 := Scalar.addi v1281 v1282
  v1283.toNat
def k0_dev8 (d0 : Dev nD) : Nat :=
  let c0_i32_1045 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1044 : BitVec 32 := 8#32
  let v1319 : BitVec 32 := Scalar.muli v24 c8_i32_1044
  let v1320 : BitVec 32 := Scalar.addi c0_i32_1045 v1319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1046 : BitVec 32 := 4#32
  let v1321 : BitVec 32 := Scalar.muli v5 c4_i32_1046
  let v1322 : BitVec 32 := Scalar.addi v1320 v1321
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1047 : BitVec 32 := 1#32
  let v1323 : BitVec 32 := Scalar.muli v27 c1_i32_1047
  let v1324 : BitVec 32 := Scalar.addi v1322 v1323
  v1324.toNat
def k0_dev9 (d0 : Dev nD) : Nat :=
  let c0_i32_1060 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1059 : BitVec 32 := 8#32
  let v1333 : BitVec 32 := Scalar.muli v40 c8_i32_1059
  let v1334 : BitVec 32 := Scalar.addi c0_i32_1060 v1333
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1061 : BitVec 32 := 4#32
  let v1335 : BitVec 32 := Scalar.muli v5 c4_i32_1061
  let v1336 : BitVec 32 := Scalar.addi v1334 v1335
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1062 : BitVec 32 := 1#32
  let v1337 : BitVec 32 := Scalar.muli v43 c1_i32_1062
  let v1338 : BitVec 32 := Scalar.addi v1336 v1337
  v1338.toNat
def k0_off256 (d0 : Dev nD) (c0_i32_1078 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_1070 : BitVec 32 := 8#32
  let c0_i32_1071 : BitVec 32 := 0#32
  let v1349 : BitVec 1 := Scalar.cmpi .eq c8_i32_1070 c0_i32_1071
  let c1_i32_1072 : BitVec 32 := 1#32
  let v1350 : BitVec 32 := Scalar.select v1349 c1_i32_1072 c8_i32_1070
  let v1351 : BitVec 32 := Scalar.remsi v11 v1350
  let c0_i32_1074 : BitVec 32 := 0#32
  let v1353 : BitVec 1 := Scalar.cmpi .slt v1351 c0_i32_1074
  let c0_i32_1075 : BitVec 32 := 0#32
  let v1354 : BitVec 1 := Scalar.cmpi .slt v1350 c0_i32_1075
  let v1355 : BitVec 1 := Scalar.xori v1353 v1354
  let c0_i32_1073 : BitVec 32 := 0#32
  let v1352 : BitVec 1 := Scalar.cmpi .ne v1351 c0_i32_1073
  let v1356 : BitVec 1 := Scalar.andi v1355 v1352
  let v1357 : BitVec 32 := Scalar.addi v1351 v1350
  let v1358 : BitVec 32 := Scalar.select v1356 v1357 v1351
  let c4_i32_1076 : BitVec 32 := 4#32
  let v1359 : BitVec 1 := Scalar.cmpi .slt v1358 c4_i32_1076
  let c11_i32_1077 : BitVec 32 := 11#32
  let v1360 : BitVec 32 := Scalar.subi c11_i32_1077 v1358
  let v1361 : BitVec 32 := Scalar.select v1359 v1358 v1360
  let c128_i32 : BitVec 32 := 128#32
  let v1362 : BitVec 32 := Scalar.muli v1361 c128_i32
  let v1363 : BitVec 32 := Scalar.addi v1362 c0_i32_1078
  let v1364 : Index := Scalar.indexCast v1363
  let c0_1079 : Index := 0#32
  ![v1364.toNat, 0]
def k0_dev10 (d0 : Dev nD) : Nat :=
  let c0_i32_1113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1112 : BitVec 32 := 8#32
  let v1393 : BitVec 32 := Scalar.muli v24 c8_i32_1112
  let v1394 : BitVec 32 := Scalar.addi c0_i32_1113 v1393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1114 : BitVec 32 := 4#32
  let v1395 : BitVec 32 := Scalar.muli v5 c4_i32_1114
  let v1396 : BitVec 32 := Scalar.addi v1394 v1395
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1115 : BitVec 32 := 1#32
  let v1397 : BitVec 32 := Scalar.muli v27 c1_i32_1115
  let v1398 : BitVec 32 := Scalar.addi v1396 v1397
  v1398.toNat
def k0_dev11 (d0 : Dev nD) : Nat :=
  let c0_i32_1128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1127 : BitVec 32 := 8#32
  let v1407 : BitVec 32 := Scalar.muli v40 c8_i32_1127
  let v1408 : BitVec 32 := Scalar.addi c0_i32_1128 v1407
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1129 : BitVec 32 := 4#32
  let v1409 : BitVec 32 := Scalar.muli v5 c4_i32_1129
  let v1410 : BitVec 32 := Scalar.addi v1408 v1409
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1130 : BitVec 32 := 1#32
  let v1411 : BitVec 32 := Scalar.muli v43 c1_i32_1130
  let v1412 : BitVec 32 := Scalar.addi v1410 v1411
  v1412.toNat
def k0_dev12 (d0 : Dev nD) : Nat :=
  let c0_i32_1182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1181 : BitVec 32 := 8#32
  let v1467 : BitVec 32 := Scalar.muli v24 c8_i32_1181
  let v1468 : BitVec 32 := Scalar.addi c0_i32_1182 v1467
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1183 : BitVec 32 := 4#32
  let v1469 : BitVec 32 := Scalar.muli v5 c4_i32_1183
  let v1470 : BitVec 32 := Scalar.addi v1468 v1469
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1184 : BitVec 32 := 1#32
  let v1471 : BitVec 32 := Scalar.muli v27 c1_i32_1184
  let v1472 : BitVec 32 := Scalar.addi v1470 v1471
  v1472.toNat
def k0_dev13 (d0 : Dev nD) : Nat :=
  let c0_i32_1197 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1196 : BitVec 32 := 8#32
  let v1481 : BitVec 32 := Scalar.muli v40 c8_i32_1196
  let v1482 : BitVec 32 := Scalar.addi c0_i32_1197 v1481
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1198 : BitVec 32 := 4#32
  let v1483 : BitVec 32 := Scalar.muli v5 c4_i32_1198
  let v1484 : BitVec 32 := Scalar.addi v1482 v1483
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1199 : BitVec 32 := 1#32
  let v1485 : BitVec 32 := Scalar.muli v43 c1_i32_1199
  let v1486 : BitVec 32 := Scalar.addi v1484 v1485
  v1486.toNat
def k0_dev14 (d0 : Dev nD) : Nat :=
  let c0_i32_1251 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1250 : BitVec 32 := 8#32
  let v1541 : BitVec 32 := Scalar.muli v24 c8_i32_1250
  let v1542 : BitVec 32 := Scalar.addi c0_i32_1251 v1541
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1252 : BitVec 32 := 4#32
  let v1543 : BitVec 32 := Scalar.muli v5 c4_i32_1252
  let v1544 : BitVec 32 := Scalar.addi v1542 v1543
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1253 : BitVec 32 := 1#32
  let v1545 : BitVec 32 := Scalar.muli v27 c1_i32_1253
  let v1546 : BitVec 32 := Scalar.addi v1544 v1545
  v1546.toNat
def k0_dev15 (d0 : Dev nD) : Nat :=
  let c0_i32_1266 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1265 : BitVec 32 := 8#32
  let v1555 : BitVec 32 := Scalar.muli v40 c8_i32_1265
  let v1556 : BitVec 32 := Scalar.addi c0_i32_1266 v1555
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1267 : BitVec 32 := 4#32
  let v1557 : BitVec 32 := Scalar.muli v5 c4_i32_1267
  let v1558 : BitVec 32 := Scalar.addi v1556 v1557
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1268 : BitVec 32 := 1#32
  let v1559 : BitVec 32 := Scalar.muli v43 c1_i32_1268
  let v1560 : BitVec 32 := Scalar.addi v1558 v1559
  v1560.toNat
def k0_dev16 (d0 : Dev nD) : Nat :=
  let c0_i32_1311 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1310 : BitVec 32 := 8#32
  let v1600 : BitVec 32 := Scalar.muli v24 c8_i32_1310
  let v1601 : BitVec 32 := Scalar.addi c0_i32_1311 v1600
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1312 : BitVec 32 := 4#32
  let v1602 : BitVec 32 := Scalar.muli v5 c4_i32_1312
  let v1603 : BitVec 32 := Scalar.addi v1601 v1602
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1313 : BitVec 32 := 1#32
  let v1604 : BitVec 32 := Scalar.muli v27 c1_i32_1313
  let v1605 : BitVec 32 := Scalar.addi v1603 v1604
  v1605.toNat
def k0_dev17 (d0 : Dev nD) : Nat :=
  let c0_i32_1345 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1344 : BitVec 32 := 8#32
  let v1628 : BitVec 32 := Scalar.muli v40 c8_i32_1344
  let v1629 : BitVec 32 := Scalar.addi c0_i32_1345 v1628
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1346 : BitVec 32 := 4#32
  let v1630 : BitVec 32 := Scalar.muli v5 c4_i32_1346
  let v1631 : BitVec 32 := Scalar.addi v1629 v1630
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1347 : BitVec 32 := 1#32
  let v1632 : BitVec 32 := Scalar.muli v43 c1_i32_1347
  let v1633 : BitVec 32 := Scalar.addi v1631 v1632
  v1633.toNat
def k0_off257 (d0 : Dev nD) (c0_i32_1359 : BitVec 32) (c0_i32_1370 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v1646 : BitVec 32 := Scalar.subi v11 c0_i32_1359
  let c1_i32_1360 : BitVec 32 := 1#32
  let v1647 : BitVec 32 := Scalar.subi v1646 c1_i32_1360
  let c8_i32_1361 : BitVec 32 := 8#32
  let c0_i32_1362 : BitVec 32 := 0#32
  let v1648 : BitVec 1 := Scalar.cmpi .eq c8_i32_1361 c0_i32_1362
  let c1_i32_1363 : BitVec 32 := 1#32
  let v1649 : BitVec 32 := Scalar.select v1648 c1_i32_1363 c8_i32_1361
  let v1650 : BitVec 32 := Scalar.remsi v1647 v1649
  let c0_i32_1365 : BitVec 32 := 0#32
  let v1652 : BitVec 1 := Scalar.cmpi .slt v1650 c0_i32_1365
  let c0_i32_1366 : BitVec 32 := 0#32
  let v1653 : BitVec 1 := Scalar.cmpi .slt v1649 c0_i32_1366
  let v1654 : BitVec 1 := Scalar.xori v1652 v1653
  let c0_i32_1364 : BitVec 32 := 0#32
  let v1651 : BitVec 1 := Scalar.cmpi .ne v1650 c0_i32_1364
  let v1655 : BitVec 1 := Scalar.andi v1654 v1651
  let v1656 : BitVec 32 := Scalar.addi v1650 v1649
  let v1657 : BitVec 32 := Scalar.select v1655 v1656 v1650
  let c4_i32_1367 : BitVec 32 := 4#32
  let v1658 : BitVec 1 := Scalar.cmpi .slt v1657 c4_i32_1367
  let c11_i32_1368 : BitVec 32 := 11#32
  let v1659 : BitVec 32 := Scalar.subi c11_i32_1368 v1657
  let v1660 : BitVec 32 := Scalar.select v1658 v1657 v1659
  let c128_i32_1369 : BitVec 32 := 128#32
  let v1661 : BitVec 32 := Scalar.muli v1660 c128_i32_1369
  let v1662 : BitVec 32 := Scalar.addi v1661 c0_i32_1370
  let v1663 : Index := Scalar.indexCast v1662
  let c0_1371 : Index := 0#32
  ![v1663.toNat, 0]
def k0_off258 (d0 : Dev nD) (c0_i32_1376 : BitVec 32) (c0_i32_1387 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v1667 : BitVec 32 := Scalar.addi v11 c0_i32_1376
  let c1_i32_1377 : BitVec 32 := 1#32
  let v1668 : BitVec 32 := Scalar.addi v1667 c1_i32_1377
  let c8_i32_1378 : BitVec 32 := 8#32
  let c0_i32_1379 : BitVec 32 := 0#32
  let v1669 : BitVec 1 := Scalar.cmpi .eq c8_i32_1378 c0_i32_1379
  let c1_i32_1380 : BitVec 32 := 1#32
  let v1670 : BitVec 32 := Scalar.select v1669 c1_i32_1380 c8_i32_1378
  let v1671 : BitVec 32 := Scalar.remsi v1668 v1670
  let c0_i32_1382 : BitVec 32 := 0#32
  let v1673 : BitVec 1 := Scalar.cmpi .slt v1671 c0_i32_1382
  let c0_i32_1383 : BitVec 32 := 0#32
  let v1674 : BitVec 1 := Scalar.cmpi .slt v1670 c0_i32_1383
  let v1675 : BitVec 1 := Scalar.xori v1673 v1674
  let c0_i32_1381 : BitVec 32 := 0#32
  let v1672 : BitVec 1 := Scalar.cmpi .ne v1671 c0_i32_1381
  let v1676 : BitVec 1 := Scalar.andi v1675 v1672
  let v1677 : BitVec 32 := Scalar.addi v1671 v1670
  let v1678 : BitVec 32 := Scalar.select v1676 v1677 v1671
  let c4_i32_1384 : BitVec 32 := 4#32
  let v1679 : BitVec 1 := Scalar.cmpi .slt v1678 c4_i32_1384
  let c11_i32_1385 : BitVec 32 := 11#32
  let v1680 : BitVec 32 := Scalar.subi c11_i32_1385 v1678
  let v1681 : BitVec 32 := Scalar.select v1679 v1678 v1680
  let c128_i32_1386 : BitVec 32 := 128#32
  let v1682 : BitVec 32 := Scalar.muli v1681 c128_i32_1386
  let v1683 : BitVec 32 := Scalar.addi v1682 c0_i32_1387
  let v1684 : Index := Scalar.indexCast v1683
  let c0_1388 : Index := 0#32
  ![v1684.toNat, 0]
def k0_dev18 (d0 : Dev nD) : Nat :=
  let c0_i32_1413 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1412 : BitVec 32 := 8#32
  let v1698 : BitVec 32 := Scalar.muli v24 c8_i32_1412
  let v1699 : BitVec 32 := Scalar.addi c0_i32_1413 v1698
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1414 : BitVec 32 := 4#32
  let v1700 : BitVec 32 := Scalar.muli v5 c4_i32_1414
  let v1701 : BitVec 32 := Scalar.addi v1699 v1700
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1415 : BitVec 32 := 1#32
  let v1702 : BitVec 32 := Scalar.muli v27 c1_i32_1415
  let v1703 : BitVec 32 := Scalar.addi v1701 v1702
  v1703.toNat
def k0_dev19 (d0 : Dev nD) : Nat :=
  let c0_i32_1447 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1446 : BitVec 32 := 8#32
  let v1726 : BitVec 32 := Scalar.muli v40 c8_i32_1446
  let v1727 : BitVec 32 := Scalar.addi c0_i32_1447 v1726
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1448 : BitVec 32 := 4#32
  let v1728 : BitVec 32 := Scalar.muli v5 c4_i32_1448
  let v1729 : BitVec 32 := Scalar.addi v1727 v1728
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1449 : BitVec 32 := 1#32
  let v1730 : BitVec 32 := Scalar.muli v43 c1_i32_1449
  let v1731 : BitVec 32 := Scalar.addi v1729 v1730
  v1731.toNat
def k0_dev20 (d0 : Dev nD) : Nat :=
  let c0_i32_1515 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1514 : BitVec 32 := 8#32
  let v1796 : BitVec 32 := Scalar.muli v24 c8_i32_1514
  let v1797 : BitVec 32 := Scalar.addi c0_i32_1515 v1796
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1516 : BitVec 32 := 4#32
  let v1798 : BitVec 32 := Scalar.muli v5 c4_i32_1516
  let v1799 : BitVec 32 := Scalar.addi v1797 v1798
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1517 : BitVec 32 := 1#32
  let v1800 : BitVec 32 := Scalar.muli v27 c1_i32_1517
  let v1801 : BitVec 32 := Scalar.addi v1799 v1800
  v1801.toNat
def k0_dev21 (d0 : Dev nD) : Nat :=
  let c0_i32_1549 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1548 : BitVec 32 := 8#32
  let v1824 : BitVec 32 := Scalar.muli v40 c8_i32_1548
  let v1825 : BitVec 32 := Scalar.addi c0_i32_1549 v1824
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1550 : BitVec 32 := 4#32
  let v1826 : BitVec 32 := Scalar.muli v5 c4_i32_1550
  let v1827 : BitVec 32 := Scalar.addi v1825 v1826
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1551 : BitVec 32 := 1#32
  let v1828 : BitVec 32 := Scalar.muli v43 c1_i32_1551
  let v1829 : BitVec 32 := Scalar.addi v1827 v1828
  v1829.toNat
def k0_dev22 (d0 : Dev nD) : Nat :=
  let c0_i32_1617 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1616 : BitVec 32 := 8#32
  let v1894 : BitVec 32 := Scalar.muli v24 c8_i32_1616
  let v1895 : BitVec 32 := Scalar.addi c0_i32_1617 v1894
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1618 : BitVec 32 := 4#32
  let v1896 : BitVec 32 := Scalar.muli v5 c4_i32_1618
  let v1897 : BitVec 32 := Scalar.addi v1895 v1896
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1619 : BitVec 32 := 1#32
  let v1898 : BitVec 32 := Scalar.muli v27 c1_i32_1619
  let v1899 : BitVec 32 := Scalar.addi v1897 v1898
  v1899.toNat
def k0_dev23 (d0 : Dev nD) : Nat :=
  let c0_i32_1651 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1650 : BitVec 32 := 8#32
  let v1922 : BitVec 32 := Scalar.muli v40 c8_i32_1650
  let v1923 : BitVec 32 := Scalar.addi c0_i32_1651 v1922
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1652 : BitVec 32 := 4#32
  let v1924 : BitVec 32 := Scalar.muli v5 c4_i32_1652
  let v1925 : BitVec 32 := Scalar.addi v1923 v1924
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1653 : BitVec 32 := 1#32
  let v1926 : BitVec 32 := Scalar.muli v43 c1_i32_1653
  let v1927 : BitVec 32 := Scalar.addi v1925 v1926
  v1927.toNat
def k0_dev24 (d0 : Dev nD) : Nat :=
  let c0_i32_1723 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1722 : BitVec 32 := 8#32
  let v1994 : BitVec 32 := Scalar.muli v24 c8_i32_1722
  let v1995 : BitVec 32 := Scalar.addi c0_i32_1723 v1994
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1724 : BitVec 32 := 4#32
  let v1996 : BitVec 32 := Scalar.muli v5 c4_i32_1724
  let v1997 : BitVec 32 := Scalar.addi v1995 v1996
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1725 : BitVec 32 := 1#32
  let v1998 : BitVec 32 := Scalar.muli v27 c1_i32_1725
  let v1999 : BitVec 32 := Scalar.addi v1997 v1998
  v1999.toNat
def k0_dev25 (d0 : Dev nD) : Nat :=
  let c0_i32_1761 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1760 : BitVec 32 := 8#32
  let v2024 : BitVec 32 := Scalar.muli v40 c8_i32_1760
  let v2025 : BitVec 32 := Scalar.addi c0_i32_1761 v2024
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1762 : BitVec 32 := 4#32
  let v2026 : BitVec 32 := Scalar.muli v5 c4_i32_1762
  let v2027 : BitVec 32 := Scalar.addi v2025 v2026
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1763 : BitVec 32 := 1#32
  let v2028 : BitVec 32 := Scalar.muli v43 c1_i32_1763
  let v2029 : BitVec 32 := Scalar.addi v2027 v2028
  v2029.toNat
def k0_dev26 (d0 : Dev nD) : Nat :=
  let c0_i32_1833 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1832 : BitVec 32 := 8#32
  let v2096 : BitVec 32 := Scalar.muli v24 c8_i32_1832
  let v2097 : BitVec 32 := Scalar.addi c0_i32_1833 v2096
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1834 : BitVec 32 := 4#32
  let v2098 : BitVec 32 := Scalar.muli v5 c4_i32_1834
  let v2099 : BitVec 32 := Scalar.addi v2097 v2098
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1835 : BitVec 32 := 1#32
  let v2100 : BitVec 32 := Scalar.muli v27 c1_i32_1835
  let v2101 : BitVec 32 := Scalar.addi v2099 v2100
  v2101.toNat
def k0_dev27 (d0 : Dev nD) : Nat :=
  let c0_i32_1871 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1870 : BitVec 32 := 8#32
  let v2126 : BitVec 32 := Scalar.muli v40 c8_i32_1870
  let v2127 : BitVec 32 := Scalar.addi c0_i32_1871 v2126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1872 : BitVec 32 := 4#32
  let v2128 : BitVec 32 := Scalar.muli v5 c4_i32_1872
  let v2129 : BitVec 32 := Scalar.addi v2127 v2128
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1873 : BitVec 32 := 1#32
  let v2130 : BitVec 32 := Scalar.muli v43 c1_i32_1873
  let v2131 : BitVec 32 := Scalar.addi v2129 v2130
  v2131.toNat
def k0_dev28 (d0 : Dev nD) : Nat :=
  let c0_i32_1943 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_1942 : BitVec 32 := 8#32
  let v2198 : BitVec 32 := Scalar.muli v24 c8_i32_1942
  let v2199 : BitVec 32 := Scalar.addi c0_i32_1943 v2198
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1944 : BitVec 32 := 4#32
  let v2200 : BitVec 32 := Scalar.muli v5 c4_i32_1944
  let v2201 : BitVec 32 := Scalar.addi v2199 v2200
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1945 : BitVec 32 := 1#32
  let v2202 : BitVec 32 := Scalar.muli v27 c1_i32_1945
  let v2203 : BitVec 32 := Scalar.addi v2201 v2202
  v2203.toNat
def k0_dev29 (d0 : Dev nD) : Nat :=
  let c0_i32_1981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_1980 : BitVec 32 := 8#32
  let v2228 : BitVec 32 := Scalar.muli v40 c8_i32_1980
  let v2229 : BitVec 32 := Scalar.addi c0_i32_1981 v2228
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1982 : BitVec 32 := 4#32
  let v2230 : BitVec 32 := Scalar.muli v5 c4_i32_1982
  let v2231 : BitVec 32 := Scalar.addi v2229 v2230
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1983 : BitVec 32 := 1#32
  let v2232 : BitVec 32 := Scalar.muli v43 c1_i32_1983
  let v2233 : BitVec 32 := Scalar.addi v2231 v2232
  v2233.toNat
def k0_dev30 (d0 : Dev nD) : Nat :=
  let c0_i32_2053 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_2052 : BitVec 32 := 8#32
  let v2300 : BitVec 32 := Scalar.muli v24 c8_i32_2052
  let v2301 : BitVec 32 := Scalar.addi c0_i32_2053 v2300
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2054 : BitVec 32 := 4#32
  let v2302 : BitVec 32 := Scalar.muli v5 c4_i32_2054
  let v2303 : BitVec 32 := Scalar.addi v2301 v2302
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_2055 : BitVec 32 := 1#32
  let v2304 : BitVec 32 := Scalar.muli v27 c1_i32_2055
  let v2305 : BitVec 32 := Scalar.addi v2303 v2304
  v2305.toNat
def k0_dev31 (d0 : Dev nD) : Nat :=
  let c0_i32_2091 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .slt v38 c4_i32_21
  let c0_i32_22 : BitVec 32 := 0#32
  let c1_i32_23 : BitVec 32 := 1#32
  let v40 : BitVec 32 := Scalar.select v39 c0_i32_22 c1_i32_23
  let c8_i32_2090 : BitVec 32 := 8#32
  let v2330 : BitVec 32 := Scalar.muli v40 c8_i32_2090
  let v2331 : BitVec 32 := Scalar.addi c0_i32_2091 v2330
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2092 : BitVec 32 := 4#32
  let v2332 : BitVec 32 := Scalar.muli v5 c4_i32_2092
  let v2333 : BitVec 32 := Scalar.addi v2331 v2332
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_2093 : BitVec 32 := 1#32
  let v2334 : BitVec 32 := Scalar.muli v43 c1_i32_2093
  let v2335 : BitVec 32 := Scalar.addi v2333 v2334
  v2335.toNat
def k0_dev32 (d0 : Dev nD) : Nat :=
  let c0_i32_2163 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_2162 : BitVec 32 := 8#32
  let v2402 : BitVec 32 := Scalar.muli v24 c8_i32_2162
  let v2403 : BitVec 32 := Scalar.addi c0_i32_2163 v2402
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2164 : BitVec 32 := 4#32
  let v2404 : BitVec 32 := Scalar.muli v5 c4_i32_2164
  let v2405 : BitVec 32 := Scalar.addi v2403 v2404
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_2165 : BitVec 32 := 1#32
  let v2406 : BitVec 32 := Scalar.muli v27 c1_i32_2165
  let v2407 : BitVec 32 := Scalar.addi v2405 v2406
  v2407.toNat
def k0_dev33 (d0 : Dev nD) : Nat :=
  let c0_i32_2254 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_2253 : BitVec 32 := 8#32
  let v2488 : BitVec 32 := Scalar.muli v24 c8_i32_2253
  let v2489 : BitVec 32 := Scalar.addi c0_i32_2254 v2488
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2255 : BitVec 32 := 4#32
  let v2490 : BitVec 32 := Scalar.muli v5 c4_i32_2255
  let v2491 : BitVec 32 := Scalar.addi v2489 v2490
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_2256 : BitVec 32 := 1#32
  let v2492 : BitVec 32 := Scalar.muli v27 c1_i32_2256
  let v2493 : BitVec 32 := Scalar.addi v2491 v2492
  v2493.toNat
def k0_dev34 (d0 : Dev nD) : Nat :=
  let c0_i32_2345 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_2344 : BitVec 32 := 8#32
  let v2574 : BitVec 32 := Scalar.muli v24 c8_i32_2344
  let v2575 : BitVec 32 := Scalar.addi c0_i32_2345 v2574
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2346 : BitVec 32 := 4#32
  let v2576 : BitVec 32 := Scalar.muli v5 c4_i32_2346
  let v2577 : BitVec 32 := Scalar.addi v2575 v2576
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_2347 : BitVec 32 := 1#32
  let v2578 : BitVec 32 := Scalar.muli v27 c1_i32_2347
  let v2579 : BitVec 32 := Scalar.addi v2577 v2578
  v2579.toNat
def k0_dev35 (d0 : Dev nD) : Nat :=
  let c0_i32_2436 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .slt v22 c4_i32_9
  let c0_i32_10 : BitVec 32 := 0#32
  let c1_i32_11 : BitVec 32 := 1#32
  let v24 : BitVec 32 := Scalar.select v23 c0_i32_10 c1_i32_11
  let c8_i32_2435 : BitVec 32 := 8#32
  let v2660 : BitVec 32 := Scalar.muli v24 c8_i32_2435
  let v2661 : BitVec 32 := Scalar.addi c0_i32_2436 v2660
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2437 : BitVec 32 := 4#32
  let v2662 : BitVec 32 := Scalar.muli v5 c4_i32_2437
  let v2663 : BitVec 32 := Scalar.addi v2661 v2662
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_2438 : BitVec 32 := 1#32
  let v2664 : BitVec 32 := Scalar.muli v27 c1_i32_2438
  let v2665 : BitVec 32 := Scalar.addi v2663 v2664
  v2665.toNat
abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | .hbm, ⟨11, _⟩ => ⟨S1024x1024, .bf16⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Ring.lean ====
/-
  The links of the two rings and of the pair exchange: who sends to whom, through which slot, in which order. Pure
  facts about sixteen devices, no memory yet.
-/
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Pipeline.BigSepL
public import Idealize.ShloMosaic.Lib.Rounds
public import Idealize.ShloMosaic.Lib.Batch
public import Idealize.ShloMosaic.Lib.ShareLeaves
public import Idealize.ShloMosaic.Lib.ValueLayout
public import Idealize.ShloMosaic.Lib.StableHlo
public import Idealize.ShloMosaic.Lib.Tactic

@[expose] public section

noncomputable section

namespace Cert.Emb

open Cert.KernelIdeal Cert.KernelIdeal.Gen
open Idealize.ShloMosaic

/-! ## The three neighbours -/

/-- The device of the same ring position on the other ring: it holds the other half of the table. -/
def ypeer (c : Dev nD) : Dev nD := ⟨k0_dev1 c, k0_dev1_lt c⟩
/-- The next device around the ring. -/
def nxt (c : Dev nD) : Dev nD := ⟨k0_dev2 c, k0_dev2_lt c⟩
/-- The device before. -/
def prv (c : Dev nD) : Dev nD := ⟨k0_dev3 c, k0_dev3_lt c⟩

theorem ypeer_ypeer : ∀ c : Dev nD, ypeer (ypeer c) = c := by decide +kernel
theorem prv_nxt : ∀ c : Dev nD, prv (nxt c) = c := by decide +kernel
theorem nxt_prv : ∀ c : Dev nD, nxt (prv c) = c := by decide +kernel

/-- The three directions a device sends in: across, forward, backward. -/
def peer (c : Dev nD) : Fin 3 → Dev nD
  | 0 => ypeer c
  | 1 => nxt c
  | 2 => prv c
/-- The direction a message sent in `d` arrives from. -/
def opp : Fin 3 → Fin 3
  | 0 => 0
  | 1 => 2
  | 2 => 1

theorem opp_opp : ∀ d, opp (opp d) = d := by decide
theorem peer_opp (c : Dev nD) : ∀ d, peer (peer c d) (opp d) = c
  | 0 => ypeer_ypeer c
  | 1 => prv_nxt c
  | 2 => nxt_prv c
theorem peer_opp' (c : Dev nD) (d : Fin 3) : peer (peer c (opp d)) d = c := by
  have h := peer_opp c (opp d)
  rwa [opp_opp] at h

/-- Sending in direction `d` permutes the devices. -/
def around (d : Fin 3) : Dev nD ≃ Dev nD :=
  ⟨fun c => peer c d, fun c => peer c (opp d), fun c => peer_opp c d, fun c => peer_opp' c d⟩

/-! ## Links and slots -/

/-- The transfers a device starts: chunk `s` of its partial rows across; hop `h` of chunk `s` forward; hop `h` of chunk `s`
    backward. -/
inductive J where
  | y (s : Fin 4)
  | cw (h : Fin 4) (s : Fin 4)
  | ccw (h : Fin 3) (s : Fin 4)
  deriving DecidableEq

/-- The pieces of scratch memory one transfer reads or fills: 32 rows each. -/
inductive Sl where
  | pb (s : Fin 4)
  | yb (s : Fin 4)
  | rd (s : Fin 4)
  | cw (h : Fin 4) (s : Fin 4)
  | ccw (h : Fin 3) (s : Fin 4)
  deriving DecidableEq

def dir : J → Fin 3
  | .y _ => 0
  | .cw _ _ => 1
  | .ccw _ _ => 2

/-- The slot a transfer reads. -/
def src : J → Sl
  | .y s => .pb s
  | .cw 0 s => .rd s
  | .cw ⟨h + 1, hh⟩ s => .cw ⟨h, by omega⟩ s
  | .ccw 0 s => .rd s
  | .ccw ⟨h + 1, hh⟩ s => .ccw ⟨h, by omega⟩ s
/-- The slot a transfer fills, on the device it goes to. -/
def dst : J → Sl
  | .y s => .yb s
  | .cw h s => .cw h s
  | .ccw h s => .ccw h s

/-- How often a slot has been lent before a transfer reads it. -/
def nth : J → ℕ
  | .ccw 0 _ => 1
  | _ => 0

/-- The transfers in the order the kernel starts them. -/
def order : List J :=
  [.y 0, .y 1, .y 2, .y 3, .cw 0 0, .ccw 0 0, .cw 0 1, .ccw 0 1, .cw 0 2, .ccw 0 2, .cw 0 3, .ccw 0 3,
   .cw 1 0, .ccw 1 0, .cw 1 1, .ccw 1 1, .cw 1 2, .ccw 1 2, .cw 1 3, .ccw 1 3,
   .cw 2 0, .ccw 2 0, .cw 2 1, .ccw 2 1, .cw 2 2, .ccw 2 2, .cw 2 3, .ccw 2 3,
   .cw 3 0, .cw 3 1, .cw 3 2, .cw 3 3]
theorem order_nodup : order.Nodup := by decide +kernel
theorem mem_order : ∀ j, j ∈ order := by
  rintro (s | ⟨h, s⟩ | ⟨h, s⟩)
  · revert s; decide +kernel
  · revert h s; decide +kernel
  · revert h s; decide +kernel

instance : Fintype J := ⟨⟨order, order_nodup⟩, mem_order⟩

/-- Every slot. -/
def slots : List Sl :=
  [.pb 0, .pb 1, .pb 2, .pb 3, .rd 0, .rd 1, .rd 2, .rd 3] ++ order.map dst
theorem slots_nodup : slots.Nodup := by decide +kernel
theorem mem_slots : ∀ l, l ∈ slots := by
  rintro (s | s | s | ⟨h, s⟩ | ⟨h, s⟩)
  · revert s; decide +kernel
  · revert s; decide +kernel
  · revert s; decide +kernel
  · revert h s; decide +kernel
  · revert h s; decide +kernel

instance : Fintype Sl := ⟨⟨slots, slots_nodup⟩, mem_slots⟩

theorem dst_inj : ∀ j j', dst j = dst j' → j = j' := by decide +kernel

/-- The order in which the kernel waits for what it receives. -/
def recvOrder : List J := order
/-- The order in which it waits, at the end, for what it sent. -/
def sendOrder : List J :=
  [.y 0, .y 1, .y 2, .y 3,
   .cw 0 0, .cw 0 1, .cw 0 2, .cw 0 3, .cw 1 0, .cw 1 1, .cw 1 2, .cw 1 3,
   .cw 2 0, .cw 2 1, .cw 2 2, .cw 2 3, .cw 3 0, .cw 3 1, .cw 3 2, .cw 3 3,
   .ccw 0 0, .ccw 0 1, .ccw 0 2, .ccw 0 3, .ccw 1 0, .ccw 1 1, .ccw 1 2, .ccw 1 3,
   .ccw 2 0, .ccw 2 1, .ccw 2 2, .ccw 2 3]

/-! ## Semaphores -/

/-- The semaphore a transfer pays on its own device. -/
def sendSem : J → DmaSem sig
  | .y s => ⟨7 + s.val, by have := s.isLt; show _ < 71; omega⟩
  | .cw h s => ⟨15 + (4 * h.val + s.val), by have := s.isLt; have := h.isLt; show _ < 71; omega⟩
  | .ccw h s => ⟨47 + (4 * h.val + s.val), by have := s.isLt; have := h.isLt; show _ < 71; omega⟩
/-- The semaphore it pays where it lands. -/
def recvSem : J → DmaSem sig
  | .y s => ⟨11 + s.val, by have := s.isLt; show _ < 71; omega⟩
  | .cw h s => ⟨31 + (4 * h.val + s.val), by have := s.isLt; have := h.isLt; show _ < 71; omega⟩
  | .ccw h s => ⟨59 + (4 * h.val + s.val), by have := s.isLt; have := h.isLt; show _ < 71; omega⟩
/-- The semaphore the row copies of chunk `s` pay. -/
def rowSem (s : Fin 4) : DmaSem sig := ⟨3 + s.val, by have := s.isLt; show _ < 71; omega⟩

theorem sendSem_inj : ∀ j j', sendSem j = sendSem j' → j = j' := by decide +kernel
theorem recvSem_inj : ∀ j j', recvSem j = recvSem j' → j = j' := by decide +kernel
theorem rowSem_inj : ∀ j j', rowSem j = rowSem j' → j = j' := by decide +kernel
theorem send_ne_recv : ∀ j j', sendSem j ≠ recvSem j' := by decide +kernel
theorem row_ne_send : ∀ s j, rowSem s ≠ sendSem j := by decide +kernel
theorem row_ne_recv : ∀ s j, rowSem s ≠ recvSem j := by decide +kernel

/-- When the receive semaphores are waited for. -/
def when : J → ℕ
  | .y _ => 2
  | .cw h _ => 3 + h.val
  | .ccw h _ => 3 + h.val

/-! ## Rows of the result -/

/-- The device whose chunk a slot of device `c` holds in the end. -/
def whose (c : Dev nD) : Sl → Dev nD
  | .pb _ => c
  | .yb _ => c
  | .rd _ => c
  | .cw h _ => prv^[h.val + 1] c
  | .ccw h _ => nxt^[h.val + 1] c
def chunkOf : Sl → Fin 4
  | .pb s => s
  | .yb s => s
  | .rd s => s
  | .cw _ s => s
  | .ccw _ s => s

/-- Which block of 128 ids device `c` looks up. -/
def blk (c : Dev nD) : ℕ := (c.val / 8) * 4 + c.val % 4
/-- The first result row of the chunk a slot holds. -/
def rowOf (c : Dev nD) (l : Sl) : ℕ := 128 * blk (whose c l) + 32 * (chunkOf l).val

/-- The device on `c`'s ring that looks up block `g`. -/
def owner (c : Dev nD) (g : ℕ) : Dev nD :=
  ⟨(g / 4 % 2) * 8 + (c.val / 4 % 2) * 4 + g % 4, by show _ < 16; omega⟩
theorem owner_blk (c : Dev nD) (l : Sl) : owner c (blk (whose c l)) = whose c l := by revert c l; decide +kernel

/-- The offsets at which the chunk a slot holds is stored into the result. -/
def outOff (c : Dev nD) : Sl → Fin 2 → ℕ
  | .cw h s => k0_off257 c (BitVec.ofNat 32 h.val) (BitVec.ofNat 32 (32 * s.val))
  | .ccw h s => k0_off258 c (BitVec.ofNat 32 h.val) (BitVec.ofNat 32 (32 * s.val))
  | .rd s => k0_off256 c (BitVec.ofNat 32 (32 * s.val))
  | _ => ![0, 0]

/-- The slots that are stored into the result. -/
def Sl.out : Sl → Bool
  | .pb _ => false
  | .yb _ => false
  | _ => true

theorem outOff_eq (c : Dev nD) (l : Sl) (h : l.out = true) : outOff c l = ![rowOf c l, 0] := by revert c l; decide +kernel

/-- Every block of 32 result rows comes from a stored slot. -/
theorem covered (c : Dev nD) (g : Fin 8) (s : Fin 4) : ∃ l : Sl, l.out = true ∧ rowOf c l = 128 * g.val + 32 * s.val := by
  revert c g s; decide +kernel

/-- The transfers around the rings, as opposed to across. -/
def J.ring : J → Bool
  | .y _ => false
  | _ => true
theorem ring_or_y : ∀ j : J, j.ring = true ∨ ∃ s, j = .y s
  | .y s => .inr ⟨s, rfl⟩
  | .cw _ _ => .inl rfl
  | .ccw _ _ => .inl rfl
theorem dst_out : ∀ j : J, j.ring = true → (dst j).out = true := by decide +kernel
theorem src_out : ∀ j : J, j.ring = true → (src j).out = true := by decide +kernel
theorem chunkOf_dst : ∀ j : J, chunkOf (dst j) = chunkOf (src j) := by decide +kernel
/-- A transfer passes a chunk on: what it fills holds the chunk of the device whose chunk it read. -/
theorem whose_dst (c : Dev nD) (j : J) : j.ring = true → whose (peer c (dir j)) (dst j) = whose c (src j) := by
  revert c j; decide +kernel

end Cert.Emb

end
-- ==== Proof.Contents.lean ====
/-
  What the buffers hold: the rows a device looks up, its partial chunks, the merged chunks, and where every slot of scratch
  memory and every row of the result gets its values from.
-/
module

public import proofs.«01_k».proof.Proof.Ring

@[expose] public section

noncomputable section

namespace Cert.Emb

open Cert.KernelIdeal Cert.KernelIdeal.Gen
open Idealize.ShloMosaic Idealize.ShloMosaic.TcCoe
open Idealize.ShloMosaic.ValueIdx

variable {F : FTy → Type} [FloatOps F]

/-! ## Adding unit axes -/

def up3 {α : Type} (f : S32x1024.Idx → α) : S1x32x1024.Idx → α := fun k => f (ix2 (k 1) (k 2))
def up4 {α : Type} (f : S32x1024.Idx → α) : S1x1x32x1024.Idx → α := fun k => f (ix2 (k 2) (k 3))

theorem ix2_cases (k : S32x1024.Idx) : ∃ (a : Fin 32) (b : Fin 1024), k = ix2 a b :=
  ⟨k 0, k 1, by funext x; match x with | ⟨0, _⟩ => rfl | ⟨1, _⟩ => rfl⟩
theorem ix3_cases (k : S1x32x1024.Idx) : ∃ (a : Fin 32) (b : Fin 1024), k = ix3 (0 : Fin 1) a b :=
  ⟨k 1, k 2, by
    funext x
    match x with
    | ⟨0, _⟩ => exact Fin.eq_zero (k 0 : Fin 1)
    | ⟨1, _⟩ => rfl
    | ⟨2, _⟩ => rfl⟩

theorem down_up3 {α : Type} (f : S32x1024.Idx → α) (h : S1x32x1024.ShapeCasts S32x1024) : shapeCast S32x1024 (up3 f) h = f := by
  funext k
  obtain ⟨a, b, rfl⟩ := ix2_cases k
  exact shapeCast_1ab_ab_apply (up3 f) h a b
theorem down_up4 {α : Type} (f : S32x1024.Idx → α) (h : S1x1x32x1024.ShapeCasts S32x1024) : shapeCast S32x1024 (up4 f) h = f := by
  funext k
  obtain ⟨a, b, rfl⟩ := ix2_cases k
  exact congrArg (up4 f) (reshapeEquiv_ix2_11ab h a b)
theorem up3_cast {α : Type} (f : S32x1024.Idx → α) (h : S32x1024.ShapeCasts S1x32x1024) : shapeCast S1x32x1024 f h = up3 f := by
  funext k
  obtain ⟨a, b, rfl⟩ := ix3_cases k
  exact shapeCast_ab_1ab_apply f h 0 a b
theorem up3_down {α : Type} (w : S1x32x1024.Idx → α) (h : S1x32x1024.ShapeCasts S32x1024) : up3 (shapeCast S32x1024 w h) = w := by
  funext k
  obtain ⟨a, b, rfl⟩ := ix3_cases k
  exact shapeCast_1ab_ab_apply w h a b

/-! ## What the kernel is entered with -/

/-- Per device: its half of the table, the rows it looks up, and the flags saying which of them it holds. -/
structure Env (F : FTy → Type) [FloatOps F] where
  tab : Dev nD → Vec F S8192x1024 .f32
  ids : Dev nD → Vec F S128 .i32
  sel : Dev nD → Vec F S4x32x128 .bf16
  ok : ∀ c i, (show BitVec 32 from ids c i).toNat < 8192

variable (E : Env F)

/-- The rows looked up. -/
def gb (c : Dev nD) : Vec F S128x1024 .f32 :=
  fun i => E.tab c (ix2 (⟨(show BitVec 32 from E.ids c (ix1 (i 0))).toNat, E.ok c _⟩ : Fin 8192) (i 1))
/-- Chunk `s` of them. -/
def gbRows (c : Dev nD) (s : Fin 4) : Vec F S32x1024 .f32 :=
  fun k => gb E c (ix2 (⟨32 * s.val + (k 0).val, by have := s.isLt; have : (k 0).val < 32 := (k 0).isLt; omega⟩ : Fin 128) (k 1))
/-- Chunk `s` as it is sent across. -/
def pbc (c : Dev nD) (s : Fin 4) : Vec F S32x1024 .bf16 := shapeCast S32x1024 (k0_pay1 (gbRows E c s)) shapeCasts_S1x32x1024_S32x1024
/-- The flags of chunk `s`. -/
def selRows (c : Dev nD) (s : Fin 4) : Vec F S1x32x128 .bf16 := fun k => E.sel c (ix3 s (k 1) (k 2))
/-- Chunk `s` merged with the pair's. -/
def rdc (c : Dev nD) (s : Fin 4) : Vec F S32x1024 .bf16 :=
  shapeCast S32x1024 (k0_pay9 (selRows E c s) (up3 (pbc E c s)) (up3 (pbc E (ypeer c) s))) shapeCasts_S1x32x1024_S32x1024

/-- What a slot of device `c` holds once it is filled. -/
def chunk (c : Dev nD) : Sl → Vec F S32x1024 .bf16
  | .pb s => pbc E c s
  | .yb s => pbc E (ypeer c) s
  | .rd s => rdc E c s
  | .cw h s => rdc E (whose c (.cw h s)) s
  | .ccw h s => rdc E (whose c (.ccw h s)) s

theorem chunk_out (c : Dev nD) (l : Sl) (hl : l.out = true) : chunk E c l = rdc E (whose c l) (chunkOf l) := by
  cases l <;> first | rfl | exact absurd hl Bool.false_ne_true

/-- A transfer fills its slot with what it read. -/
theorem chunk_dst (c : Dev nD) (j : J) : chunk E (peer c (dir j)) (dst j) = chunk E c (src j) := by
  rcases ring_or_y j with hy | ⟨s, rfl⟩
  · rw [chunk_out _ _ _ (dst_out j hy), chunk_out _ _ _ (src_out j hy), whose_dst c j hy, chunkOf_dst]
  · exact congrArg (pbc E · s) (ypeer_ypeer c)

/-- The result: row block by row block, the merged chunks of the devices of the same ring. -/
def outC (c : Dev nD) : Vec F S1024x1024 .bf16 := fun i =>
  rdc E (owner c ((i 0).val / 128)) (⟨(i 0).val / 32 % 4, Nat.mod_lt _ (by decide)⟩ : Fin 4)
    (ix2 (⟨(i 0).val % 32, Nat.mod_lt _ (by decide)⟩ : Fin 32) (i 1))

theorem outC_chunk (c : Dev nD) (l : Sl) (hl : l.out = true) (i : S1024x1024.Idx) (k : S32x1024.Idx)
    (h0 : (i 0).val = rowOf c l + (k 0).val) (h1 : i 1 = k 1) : outC E c i = chunk E c l k := by
  have hk : (k 0).val < 32 := (k 0).isLt
  have hs := (chunkOf l).isLt
  rw [chunk_out E c l hl]
  unfold outC
  rw [h1]
  unfold rowOf at h0
  have e1 : (i 0).val / 128 = blk (whose c l) := by omega
  have e2 : (⟨(i 0).val / 32 % 4, Nat.mod_lt _ (by decide)⟩ : Fin 4) = chunkOf l := Fin.ext (by show (i 0).val / 32 % 4 = _; omega)
  have e3 : (⟨(i 0).val % 32, Nat.mod_lt _ (by decide)⟩ : Fin 32) = k 0 := Fin.ext (by show (i 0).val % 32 = (k 0).val; omega)
  rw [e1, e2, e3, owner_blk]
  obtain ⟨a, b, rfl⟩ := ix2_cases k
  rfl

/-! ## The slots in memory -/

theorem inb3 (s : Fin 4) : ∀ a, (![s.val, 0, 0] : Fin 3 → ℕ) a + S1x32x1024.size a ≤ S4x32x1024.size a := by revert s; decide
theorem inb4 (h s : Fin 4) : ∀ a, (![h.val, s.val, 0, 0] : Fin 4 → ℕ) a + S1x1x32x1024.size a ≤ S4x4x32x1024.size a := by
  revert h s; decide
theorem inb4' (h : Fin 3) (s : Fin 4) : ∀ a, (![h.val, s.val, 0, 0] : Fin 4 → ℕ) a + S1x1x32x1024.size a ≤ S3x4x32x1024.size a := by
  revert h s; decide

abbrev rect3 (s : Fin 4) : Rect S4x32x1024 := Rect.unit (s := S4x32x1024) ![s.val, 0, 0] S1x32x1024.size (inb3 s)
abbrev rect4 (h s : Fin 4) : Rect S4x4x32x1024 := Rect.unit (s := S4x4x32x1024) ![h.val, s.val, 0, 0] S1x1x32x1024.size (inb4 h s)
abbrev rect4' (h : Fin 3) (s : Fin 4) : Rect S3x4x32x1024 := Rect.unit (s := S3x4x32x1024) ![h.val, s.val, 0, 0] S1x1x32x1024.size (inb4' h s)

/-- A slot, as the transfers name it. -/
def slotM : Sl → Memref sig .tc .vmem S32x1024 .bf16
  | .pb s => ((Memref.whole cc0_scratch1).slice (rect3 s) (fun _ => rfl)).squeeze S32x1024 squeezes_S1x32x1024_S32x1024
  | .yb s => ((Memref.whole cc0_scratch2).slice (rect3 s) (fun _ => rfl)).squeeze S32x1024 squeezes_S1x32x1024_S32x1024
  | .rd s => ((Memref.whole cc0_scratch3).slice (rect3 s) (fun _ => rfl)).squeeze S32x1024 squeezes_S1x32x1024_S32x1024
  | .cw h s => ((Memref.whole cc0_scratch4).slice (rect4 h s) (fun _ => rfl)).squeeze S32x1024 squeezes_S1x1x32x1024_S32x1024
  | .ccw h s => ((Memref.whole cc0_scratch5).slice (rect4' h s) (fun _ => rfl)).squeeze S32x1024 squeezes_S1x1x32x1024_S32x1024

abbrev SlBuf (F : FTy → Type) [FloatOps F] (c : Dev nD) (l : Sl) : Type := Buf (Elt F) ((slotM l).view.loc (c : Thread nD τ))

/-- The whole buffer a slot lies in, holding in every slot what the slot is filled with. -/
def canon (c : Dev nD) : (l : Sl) → SlBuf F c l
  | .pb _ => fun i : S4x32x1024.Idx => chunk E c (.pb (i 0)) (ix2 (i 1) (i 2))
  | .yb _ => fun i : S4x32x1024.Idx => chunk E c (.yb (i 0)) (ix2 (i 1) (i 2))
  | .rd _ => fun i : S4x32x1024.Idx => chunk E c (.rd (i 0)) (ix2 (i 1) (i 2))
  | .cw _ _ => fun i : S4x4x32x1024.Idx => chunk E c (.cw (i 0) (i 1)) (ix2 (i 2) (i 3))
  | .ccw _ _ => fun i : S3x4x32x1024.Idx => chunk E c (.ccw (i 0) (i 1)) (ix2 (i 2) (i 3))

theorem fin_add_zero {n m : ℕ} (s : Fin n) (x : Fin 1) (h : s.val + 1 * x.val < n) : (⟨s.val + 1 * x.val, h⟩ : Fin n) = s :=
  Fin.ext (by show s.val + 1 * x.val = s.val; omega)
theorem emb3 (s : Fin 4) (k : S1x32x1024.Idx) : (rect3 s).emb k = ix3 s (k 1) (k 2) := by
  funext x
  match x with
  | ⟨0, _⟩ => exact Fin.ext (by show s.val + 1 * (k 0).val = s.val; have : (k 0).val < 1 := (k 0).isLt; omega)
  | ⟨1, _⟩ => exact Fin.ext (by show 0 + 1 * (k 1).val = (k 1).val; omega)
  | ⟨2, _⟩ => exact Fin.ext (by show 0 + 1 * (k 2).val = (k 2).val; omega)
theorem emb4 (h s : Fin 4) (k : S1x1x32x1024.Idx) : (rect4 h s).emb k = ix4 h s (k 2) (k 3) := by
  funext x
  match x with
  | ⟨0, _⟩ => exact Fin.ext (by show h.val + 1 * (k 0).val = h.val; have : (k 0).val < 1 := (k 0).isLt; omega)
  | ⟨1, _⟩ => exact Fin.ext (by show s.val + 1 * (k 1).val = s.val; have : (k 1).val < 1 := (k 1).isLt; omega)
  | ⟨2, _⟩ => exact Fin.ext (by show 0 + 1 * (k 2).val = (k 2).val; omega)
  | ⟨3, _⟩ => exact Fin.ext (by show 0 + 1 * (k 3).val = (k 3).val; omega)
theorem emb4' (h : Fin 3) (s : Fin 4) (k : S1x1x32x1024.Idx) : (rect4' h s).emb k = ix4 h s (k 2) (k 3) := by
  funext x
  match x with
  | ⟨0, _⟩ => exact Fin.ext (by show h.val + 1 * (k 0).val = h.val; have : (k 0).val < 1 := (k 0).isLt; omega)
  | ⟨1, _⟩ => exact Fin.ext (by show s.val + 1 * (k 1).val = s.val; have : (k 1).val < 1 := (k 1).isLt; omega)
  | ⟨2, _⟩ => exact Fin.ext (by show 0 + 1 * (k 2).val = (k 2).val; omega)
  | ⟨3, _⟩ => exact Fin.ext (by show 0 + 1 * (k 3).val = (k 3).val; omega)

theorem read_rect3 {α : Type} (s : Fin 4) (g : Fin 4 → S32x1024.Idx → α) :
    (fun k => (fun i : S4x32x1024.Idx => g (i 0) (ix2 (i 1) (i 2))) ((rect3 s).emb k)) = up3 (g s) := by
  funext k; dsimp only; rw [emb3]; rfl
theorem read_rect4 {α : Type} (h s : Fin 4) (g : Fin 4 → Fin 4 → S32x1024.Idx → α) :
    (fun k => (fun i : S4x4x32x1024.Idx => g (i 0) (i 1) (ix2 (i 2) (i 3))) ((rect4 h s).emb k)) = up4 (g h s) := by
  funext k; dsimp only; rw [emb4]; rfl
theorem read_rect4' {α : Type} (h : Fin 3) (s : Fin 4) (g : Fin 3 → Fin 4 → S32x1024.Idx → α) :
    (fun k => (fun i : S3x4x32x1024.Idx => g (i 0) (i 1) (ix2 (i 2) (i 3))) ((rect4' h s).emb k)) = up4 (g h s) := by
  funext k; dsimp only; rw [emb4']; rfl

/-- Read as a transfer reads it, a filled slot is its chunk. -/
theorem read_slot (c : Dev nD) (l : Sl) : (slotM l).view.read (Elt F) (canon E c l) = chunk E c l := by
  cases l with
  | pb s => exact (congrArg (fun w => shapeCast S32x1024 w shapeCasts_S1x32x1024_S32x1024) (read_rect3 s fun s => chunk E c (.pb s))).trans (down_up3 _ _)
  | yb s => exact (congrArg (fun w => shapeCast S32x1024 w shapeCasts_S1x32x1024_S32x1024) (read_rect3 s fun s => chunk E c (.yb s))).trans (down_up3 _ _)
  | rd s => exact (congrArg (fun w => shapeCast S32x1024 w shapeCasts_S1x32x1024_S32x1024) (read_rect3 s fun s => chunk E c (.rd s))).trans (down_up3 _ _)
  | cw h s => exact (congrArg (fun w => shapeCast S32x1024 w shapeCasts_S1x1x32x1024_S32x1024) (read_rect4 h s fun h s => chunk E c (.cw h s))).trans (down_up4 _ _)
  | ccw h s => exact (congrArg (fun w => shapeCast S32x1024 w shapeCasts_S1x1x32x1024_S32x1024) (read_rect4' h s fun h s => chunk E c (.ccw h s))).trans (down_up4 _ _)

/-- Two contents of a slot's buffer that read the same through the slot agree on it. -/
theorem eq_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨x, -, rfl⟩ := Finset.mem_map.mp hi
  have := congrFun h x
  rw [View.read_apply, View.read_apply] at this
  exact eq_of_heq ((cast_heq _ _).symm.trans ((heq_of_eq this).trans (cast_heq _ _)))

/-- What a transfer leaves in the slot it fills is what the slot is to hold. -/
theorem landed (c : Dev nD) (j : J) (fd : SlBuf F (peer c (dir j)) (dst j)) :
    ∀ i ∈ (slotM (dst j)).view.set,
      (slotM (dst j)).view.write (Elt F) fd ((slotM (src j)).view.read (Elt F) (canon E c (src j))) Finset.univ i
        = canon E (peer c (dir j)) (dst j) i := by
  apply eq_of_read
  rw [View.read_write_univ, read_slot, read_slot, chunk_dst]

/-- The elements of a slot are those its rectangle selects. -/
theorem slot_set_pb (s : Fin 4) : (slotM (.pb s)).view.set = ((Memref.whole cc0_scratch1).access (rect3 s)).set := View.set_reshape _ _
theorem slot_set_yb (s : Fin 4) : (slotM (.yb s)).view.set = ((Memref.whole cc0_scratch2).access (rect3 s)).set := View.set_reshape _ _
theorem slot_set_rd (s : Fin 4) : (slotM (.rd s)).view.set = ((Memref.whole cc0_scratch3).access (rect3 s)).set := View.set_reshape _ _
theorem slot_set_cw (h s : Fin 4) : (slotM (.cw h s)).view.set = ((Memref.whole cc0_scratch4).access (rect4 h s)).set := View.set_reshape _ _
theorem slot_set_ccw (h : Fin 3) (s : Fin 4) : (slotM (.ccw h s)).view.set = ((Memref.whole cc0_scratch5).access (rect4' h s)).set := View.set_reshape _ _

theorem load_pb (c : Dev nD) (s : Fin 4) : ((Memref.whole cc0_scratch1).access (rect3 s)).read (Elt F) (canon E c (.pb s)) = up3 (chunk E c (.pb s)) :=
  read_rect3 s fun s => chunk E c (.pb s)
theorem load_yb (c : Dev nD) (s : Fin 4) : ((Memref.whole cc0_scratch2).access (rect3 s)).read (Elt F) (canon E c (.yb s)) = up3 (chunk E c (.yb s)) :=
  read_rect3 s fun s => chunk E c (.yb s)
theorem load_rd (c : Dev nD) (s : Fin 4) : ((Memref.whole cc0_scratch3).access (rect3 s)).read (Elt F) (canon E c (.rd s)) = up3 (chunk E c (.rd s)) :=
  read_rect3 s fun s => chunk E c (.rd s)
theorem load_cw (c : Dev nD) (h s : Fin 4) : ((Memref.whole cc0_scratch4).access (rect4 h s)).read (Elt F) (canon E c (.cw h s)) = up4 (chunk E c (.cw h s)) :=
  read_rect4 h s fun h s => chunk E c (.cw h s)
theorem load_ccw (c : Dev nD) (h : Fin 3) (s : Fin 4) : ((Memref.whole cc0_scratch5).access (rect4' h s)).read (Elt F) (canon E c (.ccw h s)) = up4 (chunk E c (.ccw h s)) :=
  read_rect4' h s fun h s => chunk E c (.ccw h s)

/-- Storing a chunk's values makes the slot what it is to hold. -/
theorem stored_pb (c : Dev nD) (s : Fin 4) (f : Buf (Elt F) ((Memref.whole cc0_scratch1).view.loc (c : Thread nD τ))) (w : Vec F S1x32x1024 .bf16)
    (hw : w = up3 (chunk E c (.pb s))) : ∀ i ∈ ((Memref.whole cc0_scratch1).access (rect3 s)).set,
      ((Memref.whole cc0_scratch1).access (rect3 s)).write (Elt F) f w Finset.univ i = canon E c (.pb s) i := by
  apply eq_of_read
  rw [View.read_write_univ, load_pb, hw]
theorem stored_rd (c : Dev nD) (s : Fin 4) (f : Buf (Elt F) ((Memref.whole cc0_scratch3).view.loc (c : Thread nD τ))) (w : Vec F S1x32x1024 .bf16)
    (hw : w = up3 (chunk E c (.rd s))) : ∀ i ∈ ((Memref.whole cc0_scratch3).access (rect3 s)).set,
      ((Memref.whole cc0_scratch3).access (rect3 s)).write (Elt F) f w Finset.univ i = canon E c (.rd s) i := by
  apply eq_of_read
  rw [View.read_write_univ, load_rd, hw]

/-- The partial chunk, as the kernel computes it. -/
theorem pay1_eq (c : Dev nD) (s : Fin 4) : k0_pay1 (gbRows E c s) = up3 (chunk E c (.pb s)) := (up3_down _ _).symm
/-- The merged chunk, as the kernel computes it. -/
theorem pay9_eq (c : Dev nD) (s : Fin 4) :
    k0_pay9 (selRows E c s) (up3 (chunk E c (.pb s))) (up3 (chunk E c (.yb s))) = up3 (chunk E c (.rd s)) := (up3_down _ _).symm

/-- One credit amount for every slot. -/
abbrev N : ℕ := (slotM (.pb 0)).view.dmaCredit
theorem N_pos : 0 < N := View.dmaCredit_pos _ (by decide)
theorem credit_eq (l : Sl) : (slotM l).view.dmaCredit = N := by cases l <;> rfl

end Cert.Emb

end
-- ==== Proof.Sched.lean ====
/-
  The duties every semaphore's owner waits for, what each of them hands over, and who may wait when.
-/
module

public import proofs.«01_k».proof.Proof.Contents

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.Rounds
open Idealize.ShloMosaic.Transfers

variable {F : FTy → Type} [FloatOps F]

/-! ## Resources -/

abbrev UB : Type := Rounds.URounds (GSem nD τ sig) (Fin 3)
abbrev UU : Type := UR sig nD τ × (UB × Counters)

local notation "𝕄" => MT nD τ sig Unit (Elt F) ℕ UU ℕ

/-- The rounds library of this kernel's own cells. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The counters of the row copies. -/
def EC : UEmb Counters (MT nD τ sig Unit (Elt F) ℕ UU ℕ) :=
  ((UEmb.inr : UEmb Counters (UB × Counters)).trans (UEmb.inr : UEmb (UB × Counters) UU)).trans
    (uEmb (nD := nD) (sig := sig) (Ix := Unit) (Val := Elt F) (Name := ℕ) (U := UU) (Lvl := ℕ))
instance EC_landsIn : (EC : UEmb Counters 𝕄).toEmb.LandsIn (upEmb : UEmb _ 𝕄) := by unfold EC; infer_instance

/-! ## Cells -/

/-- The semaphores with duties. -/
inductive Cell where
  | bar
  | send (j : J)
  | recv (j : J)
  deriving DecidableEq

abbrev barS : Sem sig := (SemArray.scalar (sig.barrier 0 rfl) : Sems sig S_).sem

def semOf : Cell → SemLoc sig
  | .bar => .reg barS
  | .send j => .dma (sendSem j)
  | .recv j => .dma (recvSem j)

def allCells : List Cell := .bar :: (order.map .send ++ order.map .recv)
theorem allCells_nodup : allCells.Nodup := by decide +kernel
theorem mem_allCells : ∀ x, x ∈ allCells
  | .bar => List.mem_cons_self
  | .send j => List.mem_cons_of_mem _ (List.mem_append_left _ (List.mem_map_of_mem (mem_order j)))
  | .recv j => List.mem_cons_of_mem _ (List.mem_append_right _ (List.mem_map_of_mem (mem_order j)))

/-- Which of them a semaphore is. -/
def classify (s : SemLoc sig) : Option Cell := allCells.find? fun x => semOf x = s
theorem classify_all : ∀ x ∈ allCells, classify (semOf x) = some x := by decide +kernel
theorem classify_semOf (x : Cell) : classify (semOf x) = some x := classify_all x (mem_allCells x)
theorem classify_some {s : SemLoc sig} {x : Cell} (h : classify s = some x) : semOf x = s := by
  have := List.find?_some h
  simpa using this
theorem semOf_inj {x y : Cell} (h : semOf x = semOf y) : x = y := by
  have := classify_semOf x
  rw [h, classify_semOf] at this
  exact (Option.some.inj this).symm

abbrev cell (c : Dev nD) (x : Cell) : GSem nD τ sig := ((c : Thread nD τ), semOf x)

/-- What can be kept in an invariant can be kept there as a list. -/
theorem storable_list {I : Type} (Φ : I → sProp 𝕄) (h : ∀ i, BI.Storable (upEmb : UEmb _ 𝕄) (Φ i)) :
    ∀ l : List I, BI.Storable (upEmb : UEmb _ 𝕄) (bigSepL l Φ)
  | [] => BI.Storable.emp _
  | i :: l => by
    have := storable_list Φ h l
    have := h i
    rw [bigSepL_cons']
    infer_instance

/-! ## Slots held -/

/-- How much of a slot is kept once it has been lent `n` times, and how much the next loan takes. -/
def keep : ℕ → PosShare TreeShare
  | 0 => fullShare
  | n + 1 => (keep n).right
def lent (n : ℕ) : PosShare TreeShare := (keep n).left

def slotAt (c : Dev nD) (l : Sl) (q : PosShare TreeShare) (f : SlBuf F c l) : sProp 𝕄 :=
  (slotM l).view.loc (c : Thread nD τ) ↦[(slotM l).view.set]{q} f
/-- A slot of device `c`, not yet filled. -/
def rawSlot (c : Dev nD) (l : Sl) : sProp 𝕄 := iprop(∃ f : SlBuf F c l, slotAt c l fullShare f)

instance (c : Dev nD) (l : Sl) (q : PosShare TreeShare) (f : SlBuf F c l) : BI.Storable (upEmb : UEmb _ 𝕄) (slotAt c l q f) := by
  unfold slotAt; infer_instance
instance (c : Dev nD) (l : Sl) : BI.Storable (upEmb : UEmb _ 𝕄) (rawSlot (F := F) c l) := by
  unfold rawSlot; infer_instance

variable (E : Env F)

/-- A filled slot of device `c`. -/
def slotPt (c : Dev nD) (l : Sl) (q : PosShare TreeShare) : sProp 𝕄 := slotAt c l q (canon E c l)
instance (c : Dev nD) (l : Sl) (q : PosShare TreeShare) : BI.Storable (upEmb : UEmb _ 𝕄) (slotPt E c l q) := by
  unfold slotPt; infer_instance

/-- Lending a filled slot. -/
theorem slot_lend (c : Dev nD) (l : Sl) (n : ℕ) : slotPt E c l (keep n) ⊢ iprop(slotPt E c l (lent n) ∗ slotPt E c l (keep (n + 1))) :=
  (pointsTo_share (PosShare.mem_left_op_right (keep n))).1
theorem slot_back (c : Dev nD) (l : Sl) (n : ℕ) : iprop(slotPt E c l (lent n) ∗ slotPt E c l (keep (n + 1))) ⊢ slotPt E c l (keep n) :=
  (pointsTo_share (PosShare.mem_left_op_right (keep n))).2

/-! ## The schedule -/

/-- The transfers of one direction. -/
def links (d : Fin 3) : List J := order.filter fun j => dir j = d

/-- What a signal from direction `d` hands device `c`: the slots there that `c`'s transfers fill, their receive semaphores open. -/
def barPay (c : Dev nD) (d : Fin 3) : sProp 𝕄 :=
  bigSepL (links d) fun j => iprop(rawSlot (peer c d) (dst j) ∗ reached ER (cell (peer c d) (.recv j)) 0)

instance (c : Dev nD) (d : Fin 3) : BI.Storable (upEmb : UEmb _ 𝕄) (barPay (F := F) c d) := by
  unfold barPay; exact storable_list _ (fun j => inferInstance) _

def pay (c : Dev nD) (d : Fin 3) : Cell → sProp 𝕄
  | .bar => barPay c d
  | .send j => slotPt E c (src j) (lent (nth j))
  | .recv j => slotPt E c (dst j) fullShare

instance (c : Dev nD) (d : Fin 3) (x : Cell) : BI.Storable (upEmb : UEmb _ 𝕄) (pay E c d x) := by
  cases x <;> unfold pay <;> infer_instance

def dutiesOf : Option Cell → Finset (Fin 3)
  | some .bar => Finset.univ
  | some _ => {0}
  | none => ∅
def amountOf : Option Cell → ℕ
  | some .bar => 1
  | _ => N

/-- One round: three signals on every barrier cell, one transfer on every other. -/
def Rd : Rounds.Schedule (GSem nD τ sig) (Fin 3) 𝕄 where
  duties g r := if r = 0 ∧ g.1.2 = .tc then dutiesOf (classify g.2) else ∅
  unitless _ := False
  amount g _ _ := amountOf (classify g.2)
  payload g _ d := (classify g.2).elim iprop(emp) (pay E g.1.1 d)
  amount_pos g _ _ _ := by
    cases classify g.2 with
    | none => exact N_pos
    | some x => cases x with
      | bar => exact Nat.one_pos
      | send j => exact N_pos
      | recv j => exact N_pos

instance Rd_storable (g : GSem nD τ sig) (r : ℕ) (d : Fin 3) : BI.Storable (upEmb : UEmb _ 𝕄) ((Rd E).payload g r d) := by
  show BI.Storable upEmb ((classify g.2).elim iprop(emp) (pay E g.1.1 d))
  cases classify g.2 <;> unfold Option.elim <;> infer_instance

variable (c : Dev nD)

theorem duties_eq (x : Cell) : (Rd E).duties (cell c x) 0 = dutiesOf (some x) := by
  dsimp only [Rd]; rw [if_pos ⟨rfl, rfl⟩, classify_semOf]
theorem duties_later (g : GSem nD τ sig) : ∀ r, 1 ≤ r → (Rd E).duties g r = ∅ :=
  fun r hr => by dsimp only [Rd]; rw [if_neg (fun h => by omega)]
theorem amount_eq (x : Cell) (d : Fin 3) : (Rd E).amount (cell c x) 0 d = amountOf (some x) := by
  dsimp only [Rd]; rw [classify_semOf]
theorem payload_eq (x : Cell) (d : Fin 3) : (Rd E).payload (cell c x) 0 d = pay E c d x := by
  dsimp only [Rd]; rw [classify_semOf]; rfl
theorem expect_bar : (Rd E).expect (cell c .bar) 0 = 3 := by
  unfold Schedule.expect Schedule.amountOf
  rw [duties_eq, Finset.sum_congr rfl fun d _ => amount_eq E c .bar d]
  rfl
theorem expect_send (j : J) : (Rd E).expect (cell c (.send j)) 0 = N := by
  unfold Schedule.expect Schedule.amountOf
  rw [duties_eq, Finset.sum_congr rfl fun d _ => amount_eq E c (.send j) d]
  exact Finset.sum_singleton _ _
theorem expect_recv (j : J) : (Rd E).expect (cell c (.recv j)) 0 = N := by
  unfold Schedule.expect Schedule.amountOf
  rw [duties_eq, Finset.sum_congr rfl fun d _ => amount_eq E c (.recv j) d]
  exact Finset.sum_singleton _ _

theorem rest_bar : bigSep ((Rd E).duties (cell c .bar) 0 \ ∅) (fun d => (Rd E).payload (cell c .bar) 0 d)
    = bigSepL [0, 1, 2] (barPay (F := F) c) := by
  rw [Finset.sdiff_empty, duties_eq, bigSep_congr fun d _ => payload_eq E c .bar d]
  exact bigSep_eq_bigSepL_of_eq [0, 1, 2] (by decide) (by decide) _
theorem rest_send (j : J) : bigSep ((Rd E).duties (cell c (.send j)) 0 \ ∅) (fun d => (Rd E).payload (cell c (.send j)) 0 d)
    = slotPt E c (src j) (lent (nth j)) := by
  rw [Finset.sdiff_empty, duties_eq, bigSep_congr fun d _ => payload_eq E c (.send j) d]
  exact bigSep_singleton
theorem rest_recv (j : J) : bigSep ((Rd E).duties (cell c (.recv j)) 0 \ ∅) (fun d => (Rd E).payload (cell c (.recv j)) 0 d)
    = slotPt E c (dst j) fullShare := by
  rw [Finset.sdiff_empty, duties_eq, bigSep_congr fun d _ => payload_eq E c (.recv j) d]
  exact bigSep_singleton

/-! ## Levels -/

def levelOf : Option Cell → ℕ
  | some .bar => 1
  | some (.recv j) => when j
  | _ => 0

def L (g : GSem nD τ sig) : Finset Unit := if g.1.2 = .tc then {()} else ∅
def lv (g : GSem nD τ sig) (_ : Unit) : ℕ := levelOf (classify g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cell) : lv (cell c x) () = levelOf (some x) := by dsimp only [lv]; rw [classify_semOf]

end Cert.Emb

end
-- ==== Proof.State.lean ====
/-
  What a device holds while it runs, as a list of tokens, and the steps that change the list. Every step of the kernel that
  touches memory or a semaphore takes some tokens and leaves others; that the tokens are there when a step needs them, and
  that no wait can block on a later one, is one decided check of the whole run.
-/
module

public import proofs.«01_k».proof.Proof.Sched

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers

variable {F : FTy → Type} [FloatOps F]

local notation "𝕄" => MT nD τ sig Unit (Elt F) ℕ UU ℕ

/-! ## Tokens and events -/

inductive Tok where
  /-- The right to signal the neighbour in direction `k`. -/
  | sg (k : Fin 3)
  /-- The barrier not yet waited for. -/
  | bar
  /-- The neighbour's slot a transfer fills. -/
  | hav (j : J)
  /-- A transfer not yet started. -/
  | snd (j : J)
  /-- A transfer not yet received. -/
  | rcv (j : J)
  /-- A transfer started and not yet waited for. -/
  | sent (j : J)
  /-- A slot not yet filled. -/
  | raw (l : Sl)
  /-- A filled slot that has been lent `n` times. -/
  | own (l : Sl) (n : ℕ)
  /-- What a transfer read, back. -/
  | back (j : J)
  /-- A semaphore done with. -/
  | closed (x : Cell)
  /-- Rows of the result, before and after they are stored. -/
  | rawOut (l : Sl)
  | outp (l : Sl)
  /-- The row copies of chunk `s`: `k` started, `u` waited for. -/
  | gat (s : Fin 4) (k u : ℕ)
  /-- Chunk `s` looked up. -/
  | rows (s : Fin 4)
  /-- The ids; the flags. -/
  | ids
  | sel
  deriving DecidableEq

inductive Ev where
  | sig (k : Fin 3)
  | barWait
  | ids
  | issue (s : Fin 4) (k : ℕ)
  | rowWait (s : Fin 4) (u : ℕ)
  | rowLast (s : Fin 4)
  | ldRows (s : Fin 4)
  | ldRaw (l : Sl)
  | stPb (s : Fin 4)
  | stRd (s : Fin 4)
  | send (j : J)
  | recv (j : J)
  | ldSel
  | ldOwn (l : Sl) (n : ℕ)
  | ldOut (l : Sl)
  | stOut (l : Sl)
  | sndWait (j : J)
  deriving DecidableEq

/-- The tokens a step takes. -/
def uses : Ev → List Tok
  | .sig k => [.sg k]
  | .barWait => [.bar]
  | .ids => [.ids]
  | .issue s k => [.gat s k 0]
  | .rowWait s u => [.gat s 32 u]
  | .rowLast s => [.gat s 32 31]
  | .ldRows s => [.rows s]
  | .ldRaw l => [.raw l]
  | .stPb s => [.raw (.pb s)]
  | .stRd s => [.raw (.rd s)]
  | .send j => [.snd j, .hav j, .own (src j) (nth j)]
  | .recv j => [.rcv j]
  | .ldSel => [.sel]
  | .ldOwn l n => [.own l n]
  | .ldOut l => [.rawOut l]
  | .stOut l => [.rawOut l]
  | .sndWait j => [.sent j]
/-- The tokens it leaves. -/
def yields : Ev → List Tok
  | .sig _ => []
  | .barWait => .closed .bar :: [0, 1, 2].flatMap fun d => (links d).map .hav
  | .ids => [.ids]
  | .issue s k => [.gat s (k + 1) 0]
  | .rowWait s u => [.gat s 32 (u + 1)]
  | .rowLast s => [.rows s]
  | .ldRows s => [.rows s]
  | .ldRaw l => [.raw l]
  | .stPb s => [.own (.pb s) 0]
  | .stRd s => [.own (.rd s) 0]
  | .send j => [.sent j, .own (src j) (nth j + 1)]
  | .recv j => [.own (dst j) 0, .closed (.recv j)]
  | .ldSel => [.sel]
  | .ldOwn l n => [.own l n]
  | .ldOut l => [.rawOut l]
  | .stOut l => [.outp l]
  | .sndWait j => [.back j, .closed (.send j)]

/-- The level of what a token still owes, if it owes anything. -/
def debt : Tok → Option ℕ
  | .sg _ => some 1
  | .snd j => some (when j)
  | _ => none
/-- The level a step waits at, if it waits. -/
def waits : Ev → Option ℕ
  | .barWait => some 1
  | .rowWait _ _ => some 0
  | .rowLast _ => some 0
  | .recv j => some (when j)
  | .sndWait _ => some 0
  | _ => none
/-- Everything in `l` is owed above level `b`. -/
def above (b : ℕ) (l : List Tok) : Bool := l.all fun t => (debt t).all fun n => b < n

/-! ## The run of the token list -/

/-- A list without one occurrence of `x`. -/
def pull (x : Tok) : List Tok → Option (List Tok)
  | [] => none
  | y :: l => if x = y then some l else (pull x l).map (y :: ·)
/-- A list without those of `u`. -/
def pullAll : List Tok → List Tok → Option (List Tok)
  | [], S => some S
  | x :: u, S => (pull x S).bind (pullAll u)

theorem pull_perm {x : Tok} : ∀ {S R : List Tok}, pull x S = some R → S.Perm (x :: R)
  | [], R, h => by cases h
  | y :: l, R, h => by
    unfold pull at h
    split at h
    · next e => cases h; rw [e]
    · obtain ⟨R', h', rfl⟩ := Option.map_eq_some_iff.mp h
      exact ((pull_perm h').cons y).trans (List.Perm.swap ..)
theorem pullAll_perm : ∀ {u S R : List Tok}, pullAll u S = some R → S.Perm (u ++ R)
  | [], S, R, h => by cases h; exact .refl _
  | x :: u, S, R, h => by
    obtain ⟨T, hT, h⟩ := Option.bind_eq_some_iff.mp h
    exact (pull_perm hT).trans ((pullAll_perm h).cons x)

/-- The rest of the list beside what a step takes, if the step can be taken. -/
def rest (S : List Tok) (e : Ev) : Option (List Tok) :=
  (pullAll (uses e) S).filter fun R => (waits e).all fun b => above b R
def next (S : List Tok) (e : Ev) : Option (List Tok) := (rest S e).map (yields e ++ ·)

def check : List Ev → List Tok → Bool
  | [], _ => true
  | e :: es, S => match next S e with
    | some S' => check es S'
    | none => false

/-! ## The run -/

def init : List Tok :=
  [.sg 0, .sg 1, .sg 2, .bar, .ids, .sel, .gat 0 0 0, .gat 1 0 0, .gat 2 0 0, .gat 3 0 0]
    ++ ([0, 1, 2, 3].map fun s => Tok.raw (.pb s)) ++ ([0, 1, 2, 3].map fun s => Tok.raw (.rd s))
    ++ order.map .snd ++ order.map .rcv ++ (slots.drop 12).map .rawOut ++ ([0, 1, 2, 3].map fun s => Tok.rawOut (.rd s))

/-- Looking the rows up, and sending them across. -/
def evs₁ : List Ev :=
  [.sig 0, .sig 1, .sig 2, .ids]
    ++ ((List.finRange 128).flatMap fun i => [.issue (⟨i.val / 32, by have := i.isLt; omega⟩ : Fin 4) (i.val % 32), .ids]).dropLast
    ++ [.barWait]
    ++ (List.finRange 4).flatMap fun s =>
      ((List.range 31).map fun u => .rowWait s u) ++ [.rowLast s, .ldRows s, .ldRaw (.pb s), .stPb s, .send (.y s)]
/-- Merging them with the pair's, and the first hop around the rings. -/
def evs₂ : List Ev :=
  (List.finRange 4).flatMap fun s =>
    [.recv (.y s), .ldSel, .ldOwn (.pb s) 1, .ldOwn (.yb s) 0, .ldRaw (.rd s), .stRd s, .send (.cw 0 s), .send (.ccw 0 s),
     .ldOwn (.rd s) 2, .ldOut (.rd s), .stOut (.rd s)]
/-- The hops that pass both ways, the one that passes forward only, and the last chunk. -/
def evs₃ : List Ev :=
  ((List.finRange 2).flatMap fun h => (List.finRange 4).flatMap fun s =>
    [.recv (.cw ⟨h, by omega⟩ s), .send (.cw ⟨h + 1, by omega⟩ s), .recv (.ccw ⟨h, by omega⟩ s), .send (.ccw ⟨h + 1, by omega⟩ s),
     .ldOwn (.cw ⟨h, by omega⟩ s) 1, .ldOut (.cw ⟨h, by omega⟩ s), .stOut (.cw ⟨h, by omega⟩ s),
     .ldOwn (.ccw ⟨h, by omega⟩ s) 1, .ldOut (.ccw ⟨h, by omega⟩ s), .stOut (.ccw ⟨h, by omega⟩ s)])
  ++ ((List.finRange 4).flatMap fun s =>
    [.recv (.cw 2 s), .send (.cw 3 s), .recv (.ccw 2 s),
     .ldOwn (.cw 2 s) 1, .ldOut (.cw 2 s), .stOut (.cw 2 s), .ldOwn (.ccw 2 s) 0, .ldOut (.ccw 2 s), .stOut (.ccw 2 s)])
  ++ ((List.finRange 4).flatMap fun s => [.recv (.cw 3 s), .ldOwn (.cw 3 s) 0, .ldOut (.cw 3 s), .stOut (.cw 3 s)])
def evs : List Ev := evs₁ ++ evs₂ ++ evs₃ ++ sendOrder.map .sndWait

theorem evs_check : check evs init = true := by decide +kernel

/-- The token list after `n` steps. -/
def σ : ℕ → List Tok
  | 0 => init
  | n + 1 => match evs[n]? with
    | some e => (next (σ n) e).getD []
    | none => σ n

theorem check_at : ∀ n, check (evs.drop n) (σ n) = true
  | 0 => evs_check
  | n + 1 => by
    have ih := check_at n
    unfold σ
    cases h : evs[n]? with
    | none =>
      have hl : evs.length ≤ n := by simpa using h
      rw [List.drop_eq_nil_of_le (by omega)]; rfl
    | some e =>
      obtain ⟨hn, he⟩ := List.getElem?_eq_some_iff.mp h
      rw [List.drop_eq_getElem_cons hn, he] at ih
      unfold check at ih
      dsimp only
      split at ih
      · next S' hS => rw [hS]; exact ih
      · exact absurd ih Bool.false_ne_true

theorem step_at {n : ℕ} {e : Ev} (he : evs[n]? = some e) :
    ∃ R, (σ n).Perm (uses e ++ R) ∧ σ (n + 1) = yields e ++ R ∧ ∀ b, waits e = some b → above b R = true := by
  have ih := check_at n
  obtain ⟨hn, hg⟩ := List.getElem?_eq_some_iff.mp he
  rw [List.drop_eq_getElem_cons hn, hg] at ih
  unfold check at ih
  split at ih
  · next S' hS =>
    obtain ⟨R, hR, rfl⟩ := Option.map_eq_some_iff.mp hS
    obtain ⟨hp, hf⟩ := Option.filter_eq_some_iff.mp hR
    refine ⟨R, pullAll_perm hp, ?_, fun b hb => by rw [hb] at hf; exact hf⟩
    show (match evs[n]? with | some e => (next (σ n) e).getD [] | none => σ n) = _
    rw [he]; dsimp only; rw [hS]; rfl
  · exact absurd ih Bool.false_ne_true

end Cert.Emb

end
-- ==== Proof.Res.lean ====
/-
  What each token stands for, what a device holds after so many steps, and how one step is taken out of the whole.
-/
module

public import proofs.«01_k».proof.Proof.State

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

abbrev 𝒱₀ : Variants := Variants.none

/-! ## Lists of resources -/

theorem bigSepL_perm' {I : Type} (Φ : I → sProp 𝕄) {l l' : List I} (h : l.Perm l') : bigSepL l Φ = bigSepL l' Φ := by
  induction h with
  | nil => rfl
  | cons x _ ih => rw [bigSepL_cons, bigSepL_cons, ih]
  | swap x y l =>
    rw [bigSepL_cons', bigSepL_cons', bigSepL_cons', bigSepL_cons']
    exact BI.Entails.antisymm (sep_left_comm (PROP := sProp 𝕄)).1 (sep_left_comm (PROP := sProp 𝕄)).1
  | trans _ _ h₁ h₂ => exact h₁.trans h₂
theorem bigSepL_flatMap {I K : Type} (Φ : I → sProp 𝕄) (f : K → List I) : ∀ l : List K,
    bigSepL (l.flatMap f) Φ = bigSepL l fun k => bigSepL (f k) Φ
  | [] => rfl
  | k :: l => by rw [List.flatMap_cons, bigSepL_append, bigSepL_cons', bigSepL_flatMap Φ f l]
theorem bigSepL_map' {I K : Type} (Φ : I → sProp 𝕄) (f : K → I) : ∀ l : List K,
    bigSepL (l.map f) Φ = bigSepL l fun k => Φ (f k)
  | [] => rfl
  | k :: l => by rw [List.map_cons, bigSepL_cons, bigSepL_cons, bigSepL_map' Φ f l]
theorem bigSepL_congr' {I : Type} {Φ Ψ : I → sProp 𝕄} : ∀ {l : List I}, (∀ i ∈ l, Φ i = Ψ i) → bigSepL l Φ = bigSepL l Ψ
  | [], _ => rfl
  | i :: l, h => by
    rw [bigSepL_cons, bigSepL_cons, h i List.mem_cons_self, bigSepL_congr' fun j hj => h j (List.mem_cons_of_mem _ hj)]

/-! ## Rows looked up, rows of the result -/

/-- The number of row `t` of chunk `s`. -/
def row (s : Fin 4) (t : Fin 32) : Fin 128 := ⟨32 * s.val + t.val, by have := s.isLt; have := t.isLt; omega⟩

theorem rowInb (r : Fin 128) : ∀ a, (![r.val, 0] : Fin 2 → ℕ) a + S1x1024.size a ≤ S128x1024.size a := by
  have := r.isLt
  intro a
  match a with
  | ⟨0, _⟩ => show r.val + 1 ≤ 128; omega
  | ⟨1, _⟩ => show 0 + 1024 ≤ 1024; omega
theorem tabInb {v : ℕ} (h : v < 8192) : ∀ a, (![v, 0] : Fin 2 → ℕ) a + S1x1024.size a ≤ S8192x1024.size a := by
  intro a
  match a with
  | ⟨0, _⟩ => show v + 1 ≤ 8192; omega
  | ⟨1, _⟩ => show 0 + 1024 ≤ 1024; omega
theorem outInb (c : Dev nD) (l : Sl) : ∀ a, (![rowOf c l, 0] : Fin 2 → ℕ) a + S32x1024.size a ≤ S1024x1024.size a := by
  have h : blk (whose c l) < 8 := by unfold blk; have : (whose c l).val < 16 := (whose c l).isLt; omega
  have h' := (chunkOf l).isLt
  intro a
  match a with
  | ⟨0, _⟩ => show rowOf c l + 32 ≤ 1024; unfold rowOf; omega
  | ⟨1, _⟩ => show 0 + 1024 ≤ 1024; omega
theorem chunkInb (s : Fin 4) : ∀ a, (![32 * s.val, 0] : Fin 2 → ℕ) a + S32x1024.size a ≤ S128x1024.size a := by revert s; decide

/-- Row `r` of the buffer the rows are looked up into. -/
abbrev rowM (r : Fin 128) : Memref sig .tc .vmem S1x1024 .f32 :=
  (Memref.whole cc0_scratch0).slice (Rect.unit (s := S128x1024) ![r.val, 0] S1x1024.size (rowInb r)) (fun _ => rfl)
/-- Row `v` of the table. -/
abbrev tabM (v : ℕ) (h : v < 8192) : Memref sig .tc .hbm S1x1024 .f32 :=
  (Memref.whole main_arg1).slice (Rect.unit (s := S8192x1024) ![v, 0] S1x1024.size (tabInb h)) (fun _ => rfl)
abbrev chunkRect (s : Fin 4) : Rect S128x1024 := Rect.unit (s := S128x1024) ![32 * s.val, 0] S32x1024.size (chunkInb s)
abbrev outRect (c : Dev nD) (l : Sl) : Rect S1024x1024 := Rect.unit (s := S1024x1024) ![rowOf c l, 0] S32x1024.size (outInb c l)

variable (E : Env F)

/-- The id device `c` looks up in row `r`. -/
abbrev idv (c : Dev nD) (r : Fin 128) : BitVec 32 := E.ids c (ix1 r)

abbrev gbAt (c : Dev nD) (I : Finset S128x1024.Idx) (f : Vec F S128x1024 .f32) : sProp 𝕄 :=
  (Memref.whole cc0_scratch0).view.loc (c : Thread nD τ) ↦[I]{fullShare} f
abbrev outAt (c : Dev nD) (I : Finset S1024x1024.Idx) (f : Vec F S1024x1024 .bf16) : sProp 𝕄 :=
  (Memref.whole cc0_stg2_0).view.loc (c : Thread nD τ) ↦[I]{fullShare} f

/-- The share of the table that goes to row `r`'s copy. -/
abbrev share (r : Fin 128) : PosShare TreeShare := leaf 7 fullShare r
def tabRow (c : Dev nD) (r : Fin 128) : sProp 𝕄 :=
  (tabM (idv E c r).toNat (E.ok c _)).view.loc (c : Thread nD τ) ↦[(tabM (idv E c r).toNat (E.ok c _)).view.set]{share r} E.tab c
def rowRes (c : Dev nD) (s : Fin 4) (t : Fin 32) : sProp 𝕄 :=
  iprop((∃ f, gbAt c (rowM (row s t)).view.set f) ∗ tabRow E c (row s t))
def rowDone (c : Dev nD) (s : Fin 4) (t : Fin 32) : sProp 𝕄 :=
  iprop(gbAt c (rowM (row s t)).view.set (gb E c) ∗ tabRow E c (row s t))
instance (c : Dev nD) (s : Fin 4) (t : Fin 32) : BI.Storable (upEmb : UEmb _ 𝕄) (rowDone E c s t) := by
  unfold rowDone tabRow; infer_instance

/-- What one row copy pays. -/
abbrev NR : ℕ := (rowM 0).view.dmaCredit

/-! ## What a token stands for -/

def res (c : Dev nD) : Tok → sProp 𝕄
  | .sg k => iprop(dutyTok ER (cell (peer c k) .bar) 0 (opp k) ∗ bigSepL (links (opp k)) fun j => rawSlot (F := F) c (dst j))
  | .bar => iprop(atPos ER (cell c .bar) 0 ∅ 0 ∗ cred (tallyAt (cell c .bar) () 3))
  | .hav j => iprop(rawSlot (F := F) (peer c (dir j)) (dst j) ∗ reached ER (cell (peer c (dir j)) (.recv j)) 0)
  | .snd j => iprop(dutyTok ER (cell c (.send j)) 0 0 ∗ dutyTok ER (cell (peer c (dir j)) (.recv j)) 0 0 ∗ atPos ER (cell c (.send j)) 0 ∅ 0)
  | .rcv j => iprop(atPos ER (cell c (.recv j)) 0 ∅ 0 ∗ cred (tallyAt (cell c (.recv j)) () N))
  | .sent j => iprop(atPos ER (cell c (.send j)) 0 ∅ 0 ∗ cred (tallyAt (cell c (.send j)) () N))
  | .raw l => rawSlot (F := F) c l
  | .own l n => slotPt E c l (keep n)
  | .back j => slotPt E c (src j) (lent (nth j))
  | .closed x => semVal (cell c x) 0
  | .rawOut l => iprop(∃ f, outAt c ((Memref.whole cc0_stg2_0).access (outRect c l)).set f)
  | .outp l => outAt c ((Memref.whole cc0_stg2_0).access (outRect c l)).set (outC E c)
  | .gat s k u => iprop(Batch EC (c : Thread nD τ) (.dma (rowSem s)) () NR (rowDone E c s) k (u * NR) ∗ bigSep (pending k) (rowRes E c s))
  | .rows s => iprop(bigSep Finset.univ (rowDone E c s) ∗ semVal ((c : Thread nD τ), .dma (rowSem s)) 0)
  | .ids => (Memref.whole cc0_stg0_0).view.loc (c : Thread nD τ) ↦{fullShare} E.ids c
  | .sel => (Memref.whole cc0_stg1_0).view.loc (c : Thread nD τ) ↦{fullShare} E.sel c

/-- What a token owes. -/
def owe (c : Dev nD) : Tok → CellTallies nD τ sig Unit
  | .sg k => tallyAt (cell (peer c k) .bar) () 1
  | .snd j => tallyAt (cell (peer c (dir j)) (.recv j)) () N
  | _ => 0
def owed (c : Dev nD) (l : List Tok) : CellTallies nD τ sig Unit := (l.map (owe c)).sum

theorem owed_nil (c : Dev nD) : owed c [] = 0 := rfl
theorem owed_cons (c : Dev nD) (t : Tok) (l : List Tok) : owed c (t :: l) = owe c t + owed c l := by
  unfold owed; rw [List.map_cons, List.sum_cons]
theorem owed_append (c : Dev nD) (l l' : List Tok) : owed c (l ++ l') = owed c l + owed c l' := by
  unfold owed; rw [List.map_append, List.sum_append]
theorem owed_perm (c : Dev nD) {l l' : List Tok} (h : l.Perm l') : owed c l = owed c l' := (h.map _).sum_eq

/-- Everything `O` owes is owed above level `b`. -/
def Above (b : ℕ) (O : CellTallies nD τ sig Unit) : Prop := ∀ g u, 0 < O g u → u ∈ L g ∧ b < lv g u

theorem above_tally {b : ℕ} (c : Dev nD) (x : Cell) (k : ℕ) (h : b < levelOf (some x)) : Above b (tallyAt (cell c x) () k) := by
  intro g u hg
  rw [tallyAt_apply] at hg
  split at hg
  · next e =>
    rw [e.1, L_tc, lv_cell]
    exact ⟨Finset.mem_singleton_self _, h⟩
  · exact absurd hg (Nat.lt_irrefl 0)
theorem above_zero {b : ℕ} : Above b 0 := fun _ _ h => absurd h (Nat.lt_irrefl 0)

theorem above_owed {b : ℕ} (c : Dev nD) : ∀ {l : List Tok}, above b l = true → Above b (owed c l)
  | [], _ => above_zero
  | t :: l, h => by
    unfold above at h
    rw [List.all_cons, Bool.and_eq_true] at h
    have ih := above_owed c (l := l) h.2
    have ht : Above b (owe c t) := by
      cases t with
      | sg k => exact above_tally _ _ _ (by have := h.1; simp only [debt, Option.all_some, decide_eq_true_eq] at this; exact this)
      | snd j => exact above_tally _ _ _ (by have := h.1; simp only [debt, Option.all_some, decide_eq_true_eq] at this; exact this)
      | _ => exact above_zero
    rw [owed_cons]
    intro g u hg
    rw [Pi.add_apply, Finsupp.add_apply] at hg
    rcases Nat.add_pos_iff_pos_or_pos.mp hg with hg | hg
    · exact ht g u hg
    · exact ih g u hg

theorem may_wait {b : ℕ} (c : Dev nD) (sm : SemLoc sig) (hb : lv ((c : Thread nD τ), sm) () ≤ b) {O : CellTallies nD τ sig Unit} (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (hO g u hg).1) (fun p hp => by rw [Finset.mem_singleton.mp hp]; exact hb) (fun g u hg => (hO g u hg).2)

/-! ## What a device holds -/

/-- What is known for good: the invariants, what round the cells a device pays are in, the levels. -/
def ctx (K : GSem nD τ sig → ℕ) (c : Dev nD) : sProp 𝕄 :=
  iprop((bigSep Finset.univ fun p : Dev nD × Fin allCells.length =>
      cellInv ER (Rd E) (K (cell p.1 (allCells.get p.2))) (cell p.1 (allCells.get p.2)))
    ∗ (bigSep Finset.univ fun p : Dev nD => reached ER (cell p .bar) 0)
    ∗ (bigSepL order fun j => iprop(reached ER (cell c (.send j)) 0 ∗ reached ER (cell c (.recv j)) 0))
    ∗ (levAts L lv : sProp 𝕄))

theorem persistent_list {I : Type} (Φ : I → sProp 𝕄) (h : ∀ i, BI.Persistent (Φ i)) : ∀ l : List I, BI.Persistent (bigSepL l Φ)
  | [] => (inferInstance : BI.Persistent (iprop(emp) : sProp 𝕄))
  | i :: l => by
    have := persistent_list Φ h l
    have := h i
    rw [bigSepL_cons']
    infer_instance

instance ctx_persistent (K : GSem nD τ sig → ℕ) (c : Dev nD) : BI.Persistent (ctx E K c) := by
  have := persistent_list (F := F) (fun j => iprop(reached ER (cell c (.send j)) 0 ∗ reached ER (cell c (.recv j)) 0)) (fun j => inferInstance) order
  unfold ctx; infer_instance

variable (K : GSem nD τ sig → ℕ) (c : Dev nD)

theorem bigSepL_mem {I : Type} (Φ : I → sProp 𝕄) {i : I} : ∀ {l : List I}, i ∈ l → bigSepL l Φ ⊢ iprop(Φ i ∗ True)
  | j :: l, h => by
    rw [bigSepL_cons']
    rcases List.mem_cons.mp h with rfl | h
    · exact sep_mono_right BI.true_intro
    · iintro ⟨-, H⟩
      iapply (bigSepL_mem Φ h)
      iexact H

theorem ctx_inv (p : Dev nD) (x : Cell) : ctx E K c ⊢ cellInv ER (Rd E) (K (cell p x)) (cell p x) := by
  obtain ⟨i, hi⟩ := List.get_of_mem (mem_allCells x)
  unfold ctx
  iintro ⟨H, -⟩
  ihave H := (show (bigSep Finset.univ fun p : Dev nD × Fin allCells.length =>
      cellInv ER (Rd E) (K (cell p.1 (allCells.get p.2))) (cell p.1 (allCells.get p.2)) : sProp 𝕄)
        ⊢ cellInv ER (Rd E) (K (cell p (allCells.get i))) (cell p (allCells.get i)) from bigSep_elim (Finset.mem_univ (p, i))) $$ H
  rw [hi]
  iexact H
theorem ctx_bar (p : Dev nD) : ctx E K c ⊢ reached ER (cell p .bar) 0 := by
  unfold ctx
  iintro ⟨-, H, -⟩
  iapply (show (bigSep Finset.univ fun p : Dev nD => reached ER (cell p .bar) 0 : sProp 𝕄) ⊢ reached ER (cell p .bar) 0 from
    bigSep_elim (Finset.mem_univ p))
  iexact H
theorem ctx_own (j : J) : ctx E K c ⊢ iprop(reached ER (cell c (.send j)) 0 ∗ reached ER (cell c (.recv j)) 0) := by
  unfold ctx
  iintro ⟨-, -, H, -⟩
  ihave H := (bigSepL_mem _ (mem_order j)) $$ H
  icases H with ⟨H, -⟩
  iexact H
theorem ctx_lev : ctx E K c ⊢ (levAts L lv : sProp 𝕄) := by
  unfold ctx
  iintro ⟨-, -, -, H⟩
  iexact H

def owesR (O : CellTallies nD τ sig Unit) : sProp 𝕄 := iprop(∃ W, owes (c : Thread nD τ) O W)

/-- What device `c` holds when the tokens are `l`. -/
def Have (l : List Tok) : sProp 𝕄 := iprop(ctx E K c ∗ owesR c (owed c l) ∗ bigSepL l (res E c))
/-- What it holds after `n` steps. -/
def St (n : ℕ) : sProp 𝕄 := Have E K c (σ n)

theorem have_perm {l l' : List Tok} (h : l.Perm l') : Have E K c l = Have E K c l' := by
  unfold Have; rw [owed_perm c h, bigSepL_perm' _ h]

/-- One step: a rule for what the step takes and leaves is a rule for everything held. -/
theorem step_by {n : ℕ} {e : Ev} (he : evs[n]? = some e) {P P' : sProp 𝕄}
    (rule : ∀ O, (∀ b, waits e = some b → Above b O) → iprop(ctx E K c ∗ owesR c (owed c (uses e) + O) ∗ bigSepL (uses e) (res E c))
      ⊢ iprop((owesR c (owed c (yields e) + O) -∗ bigSepL (yields e) (res E c) -∗ P') -∗ P))
    (h : St E K c (n + 1) ⊢ P') : St E K c n ⊢ P := by
  obtain ⟨R, hp, hσ, hc⟩ := step_at he
  unfold St at h ⊢
  rw [hσ] at h
  rw [have_perm E K c hp]
  unfold Have at h ⊢
  rw [owed_append, bigSepL_append] at h ⊢
  iintro ⟨#Hc, HO, Hu, HR⟩
  iapply (rule (owed c R) fun b hb => above_owed c (hc b hb)) $$ [HO Hu]
  · isplitr; · iexact Hc
    isplitl [HO] <;> iassumption
  iintro HO Hy
  iapply h
  isplitr; · iexact Hc
  isplitl [HO]; · iexact HO
  isplitl [Hy] <;> iassumption

end Cert.Emb

end
-- ==== Proof.Steps.lean ====
/-
  One lemma per kind of step: signals, transfers, waits, loads, stores.
-/
module

public import proofs.«01_k».proof.Proof.Res

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

/-- Running `p` on device `c` ends in `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {E : Env F} {K : GSem nD τ sig → ℕ} {c : Dev nD} {α : Type}

/-- A step from what it owes and holds before and after. -/
theorem step_of {n : ℕ} {e : Ev} (he : evs[n]? = some e) {O₁ O₂ : CellTallies nD τ sig Unit} {R₁ R₂ P P' : sProp 𝕄}
    (hO₁ : owed c (uses e) = O₁) (hO₂ : owed c (yields e) = O₂)
    (hR₁ : bigSepL (uses e) (res E c) = R₁) (hR₂ : bigSepL (yields e) (res E c) = R₂)
    (rule : ∀ O W, (∀ b, waits e = some b → Above b O) → iprop(ctx E K c ∗ owes (c : Thread nD τ) (O₁ + O) W ∗ R₁)
      ⊢ iprop(((∃ W', owes (c : Thread nD τ) (O₂ + O) W') -∗ R₂ -∗ P') -∗ P))
    (h : St E K c (n + 1) ⊢ P') : St E K c n ⊢ P := by
  refine step_by E K c he (fun O hO => ?_) h
  rw [hO₁, hO₂, hR₁, hR₂]
  unfold owesR
  iintro ⟨Hc, ⟨%W, HO⟩, HR⟩
  iapply (rule O W hO)
  isplitl [Hc]; · iexact Hc
  isplitl [HO] <;> iassumption

theorem one (t : Tok) : bigSepL [t] (res E c) = res E c t := bigSepL_singleton ..
theorem owed_one (t : Tok) : owed c [t] = owe c t := by rw [owed_cons, owed_nil, add_zero]
theorem owed_quiet (c : Dev nD) : ∀ (l : List Tok), (∀ t ∈ l, owe c t = 0) → owed c l = 0
  | [], _ => rfl
  | t :: l, h => by rw [owed_cons, h t (List.mem_cons_self ..), owed_quiet c l fun t ht => h t (List.mem_cons_of_mem _ ht), add_zero]
theorem owed_flatMap (c : Dev nD) {β : Type} (f : β → List Tok) (h : ∀ x, owed c (f x) = 0) : ∀ l : List β, owed c (l.flatMap f) = 0
  | [] => rfl
  | x :: l => by rw [List.flatMap_cons, owed_append, h, owed_flatMap c f h l, add_zero]

/-- A step that owes nothing before or after and works on one token, taken as a rule without tallies. -/
theorem step_plain {n : ℕ} {e : Ev} {t t' : Tok} (he : evs[n]? = some e) {P P' : sProp 𝕄}
    (hu : uses e = [t]) (hy : yields e = [t']) (ht : owe c t = 0) (ht' : owe c t' = 0)
    (rule : iprop(ctx E K c ∗ res E c t) ⊢ iprop((res E c t' -∗ P') -∗ P))
    (h : St E K c (n + 1) ⊢ P') : St E K c n ⊢ P := by
  refine step_of he (O₁ := 0) (O₂ := 0) (by rw [hu, owed_one, ht]) (by rw [hy, owed_one, ht']) (hu ▸ one t) (hy ▸ one t') (fun O W _ => ?_) h
  iintro ⟨Hc, HO, Ht⟩ Hk
  iapply rule $$ [Hc Ht]
  · isplitl [Hc] <;> iassumption
  iintro Ht
  iapply Hk $$ [HO]
  · iexists W; iexact HO
  · iexact Ht

/-! ## Signals and the barrier -/

theorem step_sig {n : ℕ} (k : Fin 3) (he : evs[n]? = some (.sig k)) {dev : Dev nD} (hd : dev = peer c k)
    {q : PUnit → Prog (TpuEff nD τ sig (Elt F) Λ₀ .tc) α} {Q : α → sProp 𝕄} (h : St E K c (n + 1) ⊢ Runs c (q ⟨⟩) Q) :
    St E K c n ⊢ Runs c (semSignalWord dev barS 1#32 >>= q) Q := by
  subst hd
  refine step_of he (O₂ := 0) (owed_one _) rfl (one _) (bigSepL_nil _) (fun O W _ => ?_) h
  show _ ⊢ iprop(_ -∗ Runs c (.op (.semSignal ((peer c k : Dev nD) : Thread nD τ) barS ((1 : ℕ) : ℤ)) q) Q)
  show iprop(_ ∗ owes _ (tallyAt (cell (peer c k) .bar) () 1 + O) W ∗ (dutyTok ER (cell (peer c k) .bar) 0 (opp k)
    ∗ bigSepL (links (opp k)) fun j => rawSlot (F := F) c (dst j))) ⊢ _
  iintro ⟨#Hc, HO, Ht, Hs⟩ Hk
  iapply (Rounds.wp_signal 𝒱₀ ER (Rd E) (c : Thread nD τ) none (dst := ((peer c k : Dev nD) : Thread nD τ)) (sem := barS) (r := 0) (d := opp k)
      (κ := K (cell (peer c k) .bar)) (k' := 1)
      (by rw [show (((peer c k : Dev nD) : Thread nD τ), SemLoc.reg barS) = cell (peer c k) .bar from rfl, duties_eq]; exact Finset.mem_univ _)
      (amount_eq E (peer c k) .bar (opp k)) () (O₀ := tallyAt (cell (peer c k) .bar) () 1 + O) (0 + O)
      (by rw [zero_add, add_comm]; rfl) (W := W)) $$ [HO Ht Hs]
  · isplitr; · iapply (ctx_inv E K c (peer c k) .bar); iexact Hc
    isplitl [HO]; · iexact HO
    isplitl [Ht]; · iexact Ht
    isplitl [Hs]
    · rw [show (((peer c k : Dev nD) : Thread nD τ), SemLoc.reg barS) = cell (peer c k) .bar from rfl, payload_eq]
      unfold pay barPay
      rw [peer_opp]
      iapply (show iprop(ctx E K c ∗ bigSepL (links (opp k)) fun j => rawSlot (F := F) c (dst j))
        ⊢ bigSepL (links (opp k)) fun j => iprop(rawSlot (F := F) c (dst j) ∗ reached ER (cell c (.recv j)) 0) from by
          generalize links (opp k) = l
          induction l with
          | nil => rw [bigSepL_nil, bigSepL_nil]; iintro ⟨-, H⟩; iexact H
          | cons j l ih =>
            rw [bigSepL_cons', bigSepL_cons']
            iintro ⟨#Hc, Hj, Hl⟩
            isplitl [Hj]
            · isplitl [Hj]; · iexact Hj
              ihave Hr := (ctx_own E K c j) $$ Hc
              icases Hr with ⟨-, Hr⟩
              iexact Hr
            · iapply ih
              isplitr; · iexact Hc
              iexact Hl)
      isplitr; · iexact Hc
      iexact Hs
    · iapply (ctx_bar E K c (peer c k)); iexact Hc
  iintro HO
  iapply Hk $$ [HO]
  · iexists W; iexact HO
  · iempintro

theorem close_cell (x : Cell) : iprop(ctx E K c ∗ atPos ER (cell c x) (0 + 1) ∅ 0) ⊢ (|={Set.univ}=> semVal (cell c x) 0 : sProp 𝕄) := by
  iintro ⟨#Hc, Ha⟩
  iapply (Rounds.cell_close ER (Rd E) (g := cell c x) (κ := K (cell c x)) (Set.mem_univ _) id (duties_later E (cell c x)))
  isplitr; · iapply (ctx_inv E K c c x); iexact Hc
  iexact Ha

/-- The tokens the barrier leaves. -/
theorem bar_toks : bigSepL [0, 1, 2] (barPay (F := F) c) = bigSepL ([0, 1, 2].flatMap fun d => (links d).map Tok.hav) (res E c) := by
  rw [bigSepL_flatMap]
  refine bigSepL_congr' fun d _ => ?_
  unfold barPay
  rw [bigSepL_map']
  refine bigSepL_congr' fun j hj => ?_
  have hd : dir j = d := by simpa [links] using (List.mem_filter.mp hj).2
  subst hd
  rfl

set_option maxRecDepth 8000 in
theorem may {b : ℕ} (x : Cell) (hb : levelOf (some x) ≤ b) {O : CellTallies nD τ sig Unit} (hO : Above b O) :
    ctx E K c ⊢ (MayWait (c : Thread nD τ) (semOf x) () O : sProp 𝕄) :=
by
  have hb' : lv ((c : Thread nD τ), semOf x) () ≤ b := le_of_eq_of_le (lv_cell c x) hb
  have h₁ : (levAts L lv : sProp 𝕄) ⊢ MayWait (c : Thread nD τ) (semOf x) () O := may_wait c (semOf x) hb' hO
  have h₂ : (ctx E K c : sProp 𝕄) ⊢ levAts L lv := ctx_lev E K c
  exact h₂.trans h₁

/-- Waiting for all that is due at a cell: what it carries is the waiter's, and the cell is done with. -/
theorem wait_cell (x : Cell) {k b : ℕ} (hk : (Rd E).expect (cell c x) 0 = k) {pay : sProp 𝕄}
    (hp : bigSep ((Rd E).duties (cell c x) 0 \ ∅) (fun d => (Rd E).payload (cell c x) 0 d) = pay)
    (hb : levelOf (some x) ≤ b) {O : CellTallies nD τ sig Unit} {W : Waits sig Unit} (hO : Above b O)
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (semOf x) k P)
    {q : PUnit → Prog (TpuEff nD τ sig (Elt F) Λ₀ .tc) α} {Q : α → sProp 𝕄} :
    iprop(ctx E K c ∗ owes (c : Thread nD τ) O W ∗ atPos ER (cell c x) 0 ∅ 0 ∗ cred (tallyAt (cell c x) () k))
      ⊢ iprop(((∃ W', owes (c : Thread nD τ) O W') -∗ (pay ∗ semVal (cell c x) 0) -∗ Runs c (q ⟨⟩) Q) -∗ Runs c (.op w q) Q) := by
  subst hp
  iintro ⟨#Hc, HO, Ha, Hcr⟩ Hk
  iapply (Rounds.wp_wait_rest_token 𝒱₀ ER (Rd E) (c : Thread nD τ) none (κ := K (cell c x))
      hw (Set.mem_univ _) () (O := O) (W := W) (R := 0) (m := 0) (T := ∅) ((Nat.zero_add k).trans hk.symm)) $$ [HO Ha Hcr]
  · isplitr; · iapply (ctx_inv E K c c x); iexact Hc
    isplitl [Hcr]; · iexact Hcr
    isplitl [HO]; · iexact HO
    isplitr
    · iapply (may x hb hO); iexact Hc
    iexact Ha
  iintro ⟨HO, Ha, -, Hp⟩
  imod (close_cell (E := E) (K := K) (c := c) x) $$ [Ha] with Hv
  · isplitr; · iexact Hc
    iexact Ha
  iapply Hk $$ [HO]
  · iexists _; iexact HO
  isplitl [Hp] <;> iassumption

theorem step_bar {n : ℕ} (he : evs[n]? = some .barWait)
    {q : PUnit → Prog (TpuEff nD τ sig (Elt F) Λ₀ .tc) α} {Q : α → sProp 𝕄} (h : St E K c (n + 1) ⊢ Runs c (q ⟨⟩) Q) :
    St E K c n ⊢ Runs c (semWaitWord barS 3#32 >>= q) Q := by
  refine step_of he (O₁ := 0) (O₂ := 0) (owed_one _) ?_
    (R₁ := iprop(atPos ER (cell c .bar) 0 ∅ 0 ∗ cred (tallyAt (cell c .bar) () 3))) (one _)
    (R₂ := iprop(semVal (cell c .bar) 0 ∗ bigSepL ([0, 1, 2].flatMap fun d => (links d).map Tok.hav) (res E c))) (bigSepL_cons' ..) (fun O W hO => ?_) h
  · show owed c (Tok.closed .bar :: [0, 1, 2].flatMap fun d => (links d).map Tok.hav) = 0
    rw [owed_cons, owed_flatMap c _ fun d => owed_quiet c _ fun t h => by
      obtain ⟨j, -, rfl⟩ := List.mem_map.mp h; rfl]
    exact add_zero _
  show _ ⊢ iprop(_ -∗ Runs c (.op (.semWait barS ((3 : ℕ) : ℤ)) q) Q)
  rw [← bar_toks]
  rw [zero_add]
  iintro ⟨Hc, HO, Ht⟩ Hk
  iapply (wait_cell .bar (expect_bar E c) (rest_bar E c) le_rfl (hO 1 rfl) (wpE_semWait_eq 𝒱₀ (c : Thread nD τ) none Set.univ)) $$ [Hc HO Ht]
  · isplitl [Hc]; · iexact Hc
    isplitl [HO]; · iexact HO
    iexact Ht
  iintro HO ⟨Hp, Hv⟩
  iapply Hk $$ [HO]
  · iexact HO
  isplitl [Hv]; · iexact Hv
  iexact Hp

/-! ## Transfers -/

theorem step_recv {n : ℕ} (j : J) (he : evs[n]? = some (.recv j)) {sem : DmaSem sig} (hs : sem = recvSem j)
    {sp sp' : Space} {s s' : Shape} {e e' : EltTy} {κ' : Kind} {sm : Memref sig .tc sp' s' e'} {dm : Memref sig κ' sp s e}
    {h₁ : sm.view.WordExact} {h₂ : dm.view.WordExact} (hN : dm.view.dmaCredit = N)
    {q : PUnit → Prog (TpuEff nD τ sig (Elt F) Λ₀ .tc) α} {Q : α → sProp 𝕄} (h : St E K c (n + 1) ⊢ Runs c (q ⟨⟩) Q) :
    St E K c n ⊢ Runs c (Prog.lift (.waitDma2 sem sm dm h₁ h₂) >>= q) Q := by
  subst hs
  refine step_of he (O₁ := 0) (O₂ := 0) (owed_one _) ?_
    (R₁ := iprop(atPos ER (cell c (.recv j)) 0 ∅ 0 ∗ cred (tallyAt (cell c (.recv j)) () N))) (one _)
    (R₂ := iprop(slotPt E c (dst j) fullShare ∗ semVal (cell c (.recv j)) 0)) (by
    show bigSepL [_, _] _ = _
    rw [bigSepL_cons', one]; rfl) (fun O W hO => ?_) h
  · show owed c [_, _] = 0
    rw [owed_cons, owed_one]; exact add_zero _
  show _ ⊢ iprop(_ -∗ Runs c (.op (.waitDma2 (recvSem j) sm dm h₁ h₂) q) Q)
  rw [zero_add]
  iintro ⟨Hc, HO, Ht⟩ Hk
  iapply (wait_cell (.recv j) (expect_recv E c j) (rest_recv E c j) le_rfl (hO (when j) rfl)
    (w := .waitDma2 (recvSem j) sm dm h₁ h₂) (hN ▸ wpE_waitDma2_eq 𝒱₀ (c : Thread nD τ) none Set.univ)) $$ [Hc HO Ht]
  · isplitl [Hc]; · iexact Hc
    isplitl [HO]; · iexact HO
    iexact Ht
  iintro HO ⟨Hp, Hv⟩
  iapply Hk $$ [HO]
  · iexact HO
  isplitl [Hp] <;> iassumption

theorem step_sent {n : ℕ} (j : J) (he : evs[n]? = some (.sndWait j)) {sem : DmaSem sig} (hs : sem = sendSem j)
    {sp sp' : Space} {s s' : Shape} {e e' : EltTy} {κ' : Kind} {sm : Memref sig .tc sp' s' e'} {dm : Memref sig κ' sp s e}
    {h₁ : sm.view.WordExact} {h₂ : dm.view.WordExact} (hN : dm.view.dmaCredit = N)
    {q : PUnit → Prog (TpuEff nD τ sig (Elt F) Λ₀ .tc) α} {Q : α → sProp 𝕄} (h : St E K c (n + 1) ⊢ Runs c (q ⟨⟩) Q) :
    St E K c n ⊢ Runs c (Prog.lift (.waitDma2 sem sm dm h₁ h₂) >>= q) Q := by
  subst hs
  refine step_of he (O₁ := 0) (O₂ := 0) (owed_one _) ?_
    (R₁ := iprop(atPos ER (cell c (.send j)) 0 ∅ 0 ∗ cred (tallyAt (cell c (.send j)) () N))) (one _)
    (R₂ := iprop(slotPt E c (src j) (lent (nth j)) ∗ semVal (cell c (.send j)) 0)) (by
    show bigSepL [_, _] _ = _
    rw [bigSepL_cons', one]; rfl) (fun O W hO => ?_) h
  · show owed c [_, _] = 0
    rw [owed_cons, owed_one]; exact add_zero _
  show _ ⊢ iprop(_ -∗ Runs c (.op (.waitDma2 (sendSem j) sm dm h₁ h₂) q) Q)
  rw [zero_add]
  iintro ⟨Hc, HO, Ht⟩ Hk
  iapply (wait_cell (.send j) (expect_send E c j) (rest_send E c j) le_rfl (hO 0 rfl)
    (w := .waitDma2 (sendSem j) sm dm h₁ h₂) (hN ▸ wpE_waitDma2_eq 𝒱₀ (c : Thread nD τ) none Set.univ)) $$ [Hc HO Ht]
  · isplitl [Hc]; · iexact Hc
    isplitl [HO]; · iexact HO
    iexact Ht
  iintro HO ⟨Hp, Hv⟩
  iapply Hk $$ [HO]
  · iexact HO
  isplitl [Hp] <;> iassumption

theorem step_send {n : ℕ} (j : J) (he : evs[n]? = some (.send j)) {dev : Dev nD} (hd : dev = peer c (dir j))
    {ss rs : DmaSem sig} (hs : ss = sendSem j) (hr : rs = recvSem j)
    {h₁ : (slotM (src j)).view.WordExact} {h₂ : (slotM (dst j)).view.WordExact} {hsc : (slotM (dst j)).view.ref.isScScratch = false}
    {h₃ : DmaTarget.Typed .vmem (.dma rs) (.remote (Dev.tc dev) (slotM (dst j)) (.dma ss) hsc)}
    {q : PUnit → Prog (TpuEff nD τ sig (Elt F) Λ₀ .tc) α} {Q : α → sProp 𝕄} (h : St E K c (n + 1) ⊢ Runs c (q ⟨⟩) Q) :
    St E K c n ⊢ Runs c (Prog.lift (.enqueueDma (slotM (src j)) (.remote (Dev.tc dev) (slotM (dst j)) (.dma ss) hsc) (.dma rs) h₁ h₂ h₃) >>= q) Q := by
  subst hd hs hr
  refine step_of he (O₁ := tallyAt (cell (peer c (dir j)) (.recv j)) () N) (O₂ := 0) ?_ ?_
    (R₁ := iprop((dutyTok ER (cell c (.send j)) 0 0 ∗ dutyTok ER (cell (peer c (dir j)) (.recv j)) 0 0 ∗ atPos ER (cell c (.send j)) 0 ∅ 0)
      ∗ (rawSlot (F := F) (peer c (dir j)) (dst j) ∗ reached ER (cell (peer c (dir j)) (.recv j)) 0) ∗ slotPt E c (src j) (keep (nth j)))) ?_
    (R₂ := iprop((atPos ER (cell c (.send j)) 0 ∅ 0 ∗ cred (tallyAt (cell c (.send j)) () N)) ∗ slotPt E c (src j) (keep (nth j + 1)))) ?_ (fun O W hO => ?_) h
  · show owed c [_, _, _] = _
    rw [owed_cons, owed_cons, owed_one]; exact (congrArg _ (add_zero _)).trans (add_zero _)
  · show owed c [_, _] = 0
    rw [owed_cons, owed_one]; exact add_zero _
  · show bigSepL [_, _, _] _ = _
    rw [bigSepL_cons', bigSepL_cons', one]; rfl
  · show bigSepL [_, _] _ = _
    rw [bigSepL_cons', one]; rfl
  show _ ⊢ iprop(_ -∗ Runs c (.op (.enqueueDma (slotM (src j)) (.remote (Dev.tc (peer c (dir j))) (slotM (dst j)) (.dma (sendSem j)) hsc) (.dma (recvSem j)) h₁ h₂ h₃) q) Q)
  unfold rawSlot slotPt slotAt
  iintro ⟨#Hc, HO, ⟨Hds, Hdr, Ha⟩, ⟨⟨%fd, Hd⟩, #Hr⟩, Hs⟩ Hk
  ihave Hs := (show ((slotM (src j)).view.loc (c : Thread nD τ) ↦[(slotM (src j)).view.set]{keep (nth j)} canon E c (src j) : sProp 𝕄) ⊢ _
    from slot_lend E c (src j) (nth j)) $$ Hs
  unfold slotPt slotAt
  icases Hs with ⟨Hs, Hkeep⟩
  iapply (Rounds.wp_send_pointsTo 𝒱₀ ER (Rd E) (c : Thread nD τ) none (c' := Dev.tc (peer c (dir j))) (src := slotM (src j)) (dst := slotM (dst j))
      (sS := .dma (sendSem j)) (sem := .dma (recvSem j)) (q := lent (nth j)) (fs := canon E c (src j)) (fd := fd) (r₁ := 0) (r₂ := 0)
      (d₁ := (0 : Fin 3)) (d₂ := (0 : Fin 3)) (κ₁ := K (cell c (.send j))) (κ₂ := K (cell (peer c (dir j)) (.recv j)))
      (by rw [show ((c : Thread nD τ), SemLoc.dma (sendSem j)) = cell c (.send j) from rfl, duties_eq]; exact Finset.mem_singleton_self _)
      (by rw [show (Dev.tc (peer c (dir j)), SemLoc.dma (recvSem j)) = cell (peer c (dir j)) (.recv j) from rfl, duties_eq]; exact Finset.mem_singleton_self _)
      () () N (credit_eq _) (amount_eq E c (.send j) 0) (amount_eq E (peer c (dir j)) (.recv j) 0)
      (O₀ := tallyAt (cell (peer c (dir j)) (.recv j)) () N + O) (0 + O) (by rw [zero_add, add_comm]; rfl) (W := W)
      (by rw [show ((c : Thread nD τ), SemLoc.dma (sendSem j)) = cell c (.send j) from rfl, payload_eq]; exact .rfl)
      (by
        rw [show (Dev.tc (peer c (dir j)), SemLoc.dma (recvSem j)) = cell (peer c (dir j)) (.recv j) from rfl, payload_eq]
        exact Entails.of_eq (pointsTo_congr (landed E c j fd)))) $$ [HO Hds Hdr Hd Hs]
  · isplitr; · iapply (ctx_inv E K c c (.send j)); iexact Hc
    isplitr; · iapply (ctx_inv E K c (peer c (dir j)) (.recv j)); iexact Hc
    isplitl [Hs]; · iexact Hs
    isplitl [Hd]; · iexact Hd
    isplitl [HO]; · iexact HO
    isplitl [Hds]; · iexact Hds
    isplitr
    · ihave Ho := (ctx_own E K c j) $$ Hc
      icases Ho with ⟨Ho, -⟩
      iexact Ho
    isplitl [Hdr]; · iexact Hdr
    iexact Hr
  iintro ⟨Hcr, HO⟩
  iapply Hk $$ [HO]
  · iexists W; iexact HO
  isplitl [Ha Hcr]
  · isplitl [Ha]; · iexact Ha
    iexact Hcr
  iexact Hkeep

end Cert.Emb

end
-- ==== Proof.Mem.lean ====
module

public import proofs.«01_k».proof.Proof.Steps

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

variable {E : Env F} {K : GSem nD τ sig → ℕ} {c : Dev nD} {α : Type}

/-! ## Scalars -/

theorem step_assume {X : sProp 𝕄} {P : Prop} {d : Decidable P} (hP : P) {q : PLift P → Prog (TpuEff nD τ sig (Elt F) Λ₀ .tc) α} {Q : α → sProp 𝕄}
    (h : X ⊢ Runs c (q ⟨hP⟩) Q) : X ⊢ Runs c (Prog.lift (TpuEff.assume P d) >>= q) Q :=
  h.trans (wp_assume 𝒱₀ (c : Thread nD τ) none Set.univ hP)

theorem id_read (f : Vec F S128 .i32) {i : ℕ} (hi : i < 128) (inb : ∀ a, (![i] : Fin 1 → ℕ) a + S1.size a ≤ S128.size a) (x : S1.Idx) :
    ((Memref.whole cc0_stg0_0).access (Rect.unit (s := S128) ![i] S1.size inb)).read (Elt F) f x = f (ix1 (⟨i, hi⟩ : Fin 128)) := by
  refine congrArg f (funext fun a => ?_)
  obtain ⟨a, ha⟩ := a
  have ha' : a = 0 := by have : a < 1 := ha; omega
  subst ha'
  refine Fin.ext ?_
  have hx : (x ⟨0, ha⟩).val < 1 := (x ⟨0, ha⟩).isLt
  show i + 1 * (x ⟨0, ha⟩).val = i
  omega

theorem step_ids {n i : ℕ} (he : evs[n]? = some .ids) (hi : i < 128) {inb : ∀ a, (![i] : Fin 1 → ℕ) a + S1.size a ≤ S128.size a}
    {h₁ : (Rect.unit (s := S128) ![i] S1.size inb).shape.numel = 1} {hp : (EltTy.i32).packing = 1}
    {q : Elt F .i32 → Prog (TpuEff nD τ sig (Elt F) Λ₀ .tc) α} {Q : α → sProp 𝕄} (h : St E K c (n + 1) ⊢ Runs c (q (idv E c ⟨i, hi⟩)) Q) :
    St E K c n ⊢ Runs c (smemLoad (Memref.whole cc0_stg0_0) (Rect.unit (s := S128) ![i] S1.size inb) h₁ hp >>= q) Q := by
  refine step_plain he (t := .ids) (t' := .ids) rfl rfl rfl rfl ?_ h
  show iprop(_ ∗ ((Memref.whole cc0_stg0_0).view.loc (c : Thread nD τ) ↦{fullShare} E.ids c)) ⊢ iprop((((Memref.whole cc0_stg0_0).view.loc (c : Thread nD τ) ↦{fullShare} E.ids c) -∗ _) -∗ _)
  iintro ⟨-, Hi⟩ Hk
  iapply (wp_smemLoadElt 𝒱₀ (c : Thread nD τ) none Set.univ (m := Memref.whole cc0_stg0_0) (r := Rect.unit (s := S128) ![i] S1.size inb)
    (hw := View.loads_smem_one hp h₁) (x := Shape.Idx.first (h₁.symm ▸ Nat.one_pos)) (k := q) (q := fullShare) (f := E.ids c) (Finset.subset_univ _)) $$ [Hi]
  · iexact Hi
  iintro Hi
  rw [show ((Memref.whole cc0_stg0_0).access (Rect.unit (s := S128) ![i] S1.size inb)).read (Elt F) (E.ids c) _ = _ from id_read (E.ids c) hi inb _]
  iapply Hk
  iexact Hi

/-! ## Looking up rows -/

theorem row_set (r : Fin 128) : (rowM r).view.set = (Rect.unit (s := S128x1024) ![r.val, 0] S1x1024.size (rowInb r)).set :=
  View.set_slice_whole _ _
theorem mem_rows {R o m : ℕ} {inb : ∀ a, (![o, 0] : Fin 2 → ℕ) a + (![m, 1024] : Fin 2 → ℕ) a ≤ (⟨2, ![R, 1024]⟩ : Shape).size a}
    (i : (⟨2, ![R, 1024]⟩ : Shape).Idx) :
    i ∈ (Rect.unit (s := ⟨2, ![R, 1024]⟩) ![o, 0] ![m, 1024] inb).set ↔ o ≤ (i 0).val ∧ (i 0).val < o + m := by
  refine Rect.mem_set_unit.trans ⟨fun h => h 0, fun h => Fin.forall_fin_two.mpr ⟨h, ?_⟩⟩
  have h1 : (i 1).val < 1024 := (i 1).isLt
  exact ⟨Nat.zero_le _, h1.trans_eq (Nat.zero_add _).symm⟩
theorem mem_row (r : Fin 128) (i : S128x1024.Idx) : i ∈ (rowM r).view.set ↔ (i 0).val = r.val := by
  rw [row_set]
  exact (mem_rows i).trans (by omega)
theorem mem_chunk (s : Fin 4) (i : S128x1024.Idx) :
    i ∈ ((Memref.whole cc0_scratch0).access (chunkRect s)).set ↔ 32 * s.val ≤ (i 0).val ∧ (i 0).val < 32 * s.val + 32 := by
  rw [show ((Memref.whole cc0_scratch0).access (chunkRect s)).set = (chunkRect s).set from View.set_slice_whole _ _]
  exact mem_rows i

theorem split_rows (a r : ℕ) : (32 * a ≤ r ∧ r < 32 * a + 32) ↔ ∃ t : Fin 32, r = 32 * a + t.val :=
  ⟨fun h => ⟨⟨r - 32 * a, by omega⟩, by show r = 32 * a + (r - 32 * a); omega⟩, fun ⟨t, h⟩ => by have := t.isLt; omega⟩
theorem chunk_rows (s : Fin 4) : ((Memref.whole cc0_scratch0).access (chunkRect s)).set = Finset.univ.biUnion fun t : Fin 32 => (rowM (row s t)).view.set := by
  ext i
  rw [mem_chunk, Finset.mem_biUnion]
  have hm : ∀ t : Fin 32, i ∈ (rowM (row s t)).view.set ↔ (i 0).val = 32 * s.val + t.val := fun t => mem_row (row s t) i
  simp only [Finset.mem_univ, true_and, hm]
  exact split_rows _ _
theorem rows_disjoint (r r' : Fin 128) (h : r ≠ r') : Disjoint (rowM r).view.set (rowM r').view.set := by
  refine Finset.disjoint_left.mpr fun i hi hi' => h (Fin.ext ?_)
  rw [← (mem_row r i).mp hi, ← (mem_row r' i).mp hi']
theorem row_inj (s : Fin 4) {t t' : Fin 32} (h : t ≠ t') : row s t ≠ row s t' := fun e => h (Fin.ext (by
  have := congrArg Fin.val e
  simp only [row] at this
  omega))

/-- A copied row is the row looked up. -/
theorem row_copied (s : Fin 4) (t : Fin 32) (f : Vec F S128x1024 .f32) : ∀ i ∈ (rowM (row s t)).view.set,
    (rowM (row s t)).view.write (Elt F) f ((tabM (idv E c (row s t)).toNat (E.ok c _)).view.read (Elt F) (E.tab c)) Finset.univ i = gb E c i := by
  intro i hi
  have hr := (mem_row _ i).mp hi
  obtain ⟨x, -, rfl⟩ := Finset.mem_map.mp hi
  refine (View.write_emb_of_mem _ _ (Finset.mem_univ x)).trans ?_
  have h0 : ((rowM (row s t)).view.emb x 0) = row s t := Fin.ext hr
  have h1 : ((rowM (row s t)).view.emb x 1).val = (x 1).val := by show 0 + 1 * (x 1).val = _; omega
  have hx : (x 0).val < 1 := (x 0).isLt
  unfold gb
  refine congrArg (E.tab c) (funext fun a => ?_)
  match a with
  | ⟨0, _⟩ =>
    refine Fin.ext ?_
    show (idv E c (row s t)).toNat + 1 * (x 0).val = (show BitVec 32 from E.ids c (ix1 ((rowM (row s t)).view.emb x 0))).toNat
    rw [h0]
    have : (x 0).val = 0 := by omega
    rw [this]; rfl
  | ⟨1, _⟩ =>
    refine Fin.ext ?_
    show 0 + 1 * (x 1).val = ((rowM (row s t)).view.emb x 1).val
    rw [h1]; omega

theorem step_issue {n : ℕ} (s : Fin 4) (k : Fin 32) (he : evs[n]? = some (.issue s k.val)) {sm : Memref sig .tc .hbm S1x1024 .f32}
    {dm : Memref sig .tc .vmem S1x1024 .f32} (hsm : sm = tabM (idv E c (row s k)).toNat (E.ok c _)) (hdm : dm = rowM (row s k))
    {sem : DmaSem sig} (hs : sem = rowSem s) {h₁ : sm.view.WordExact} {h₂ : dm.view.WordExact}
    {h₃ : DmaTarget.Typed (nD := nD) (τ := τ) (p := .tc) .hbm (.dma sem) (.here dm)}
    {q : PUnit → Prog (TpuEff nD τ sig (Elt F) Λ₀ .tc) α} {Q : α → sProp 𝕄} (h : St E K c (n + 1) ⊢ Runs c (q ⟨⟩) Q) :
    St E K c n ⊢ Runs c (Prog.lift (.enqueueDma sm (.here dm) (.dma sem) h₁ h₂ h₃) >>= q) Q := by
  subst hsm hdm hs
  refine step_plain he (t := .gat s k.val 0) (t' := .gat s (k.val + 1) 0) rfl rfl rfl rfl ?_ h
  show iprop(_ ∗ (Batch EC (c : Thread nD τ) (.dma (rowSem s)) () NR (rowDone E c s) k.val (0 * NR) ∗ bigSep (pending k.val) (rowRes E c s)))
    ⊢ iprop(((Batch EC (c : Thread nD τ) (.dma (rowSem s)) () NR (rowDone E c s) (k.val + 1) (0 * NR) ∗ bigSep (pending (k.val + 1)) (rowRes E c s)) -∗ _) -∗ _)
  rw [show bigSep (pending k.val) (rowRes E c s) = iprop(rowRes E c s k ∗ bigSep (pending (k.val + 1)) (rowRes E c s)) from by
    rw [pending_succ k.isLt, bigSep_insert (not_mem_pending_succ k.isLt)]; rfl]
  unfold rowRes tabRow
  iintro ⟨-, HB, ⟨⟨%f, Hd⟩, Ht⟩, Hp⟩ Hk
  iapply (wp_dmaBatch EC 𝒱₀ (c : Thread nD τ) none (src := tabM (idv E c (row s k)).toNat (E.ok c _)) (dst := rowM (row s k)) (sm := .dma (rowSem s))
    (k := q) (q := share (row s k)) (fs := E.tab c) (Sd := (rowM (row s k)).view.set) (fd := f) (D := rowDone E c s) (j := k.val) (u := 0 * NR)
    () NR rfl subset_rfl k.isLt (by rw [Nat.zero_mul]; exact Nat.zero_le _) (by
      unfold rowDone tabRow
      iintro ⟨Hd, Ht⟩
      isplitl [Hd]
      · iapply (Entails.of_eq (pointsTo_congr (row_copied (E := E) (c := c) s k f)))
        iexact Hd
      · iexact Ht)) $$ [HB Hd Ht]
  · isplitl [Ht]; · iexact Ht
    isplitl [Hd]; · iexact Hd
    iexact HB
  iintro HB
  iapply Hk
  isplitl [HB] <;> iassumption

end Cert.Emb

end
-- ==== Proof.Vecs.lean ====
module

public import proofs.«01_k».proof.Proof.Mem

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

variable {E : Env F} {K : GSem nD τ sig → ℕ} {c : Dev nD} {α : Type}

/-! ## Waiting for the rows -/

theorem room {u N : ℕ} (hN : 0 < N) (hu : u + 1 < 32) : u * N + N < N * 32 := by
  rw [← Nat.succ_mul, Nat.mul_comm N]; exact Nat.mul_lt_mul_of_pos_right hu hN
theorem full (N : ℕ) : 31 * N + N = N * 32 := by omega
theorem lv_row (c : Dev nD) (s : Fin 4) : lv ((c : Thread nD τ), .dma (rowSem s)) () = 0 := by
  unfold lv
  rw [show classify (SemLoc.dma (rowSem s)) = none from by revert s; decide]
  rfl
set_option maxRecDepth 8000 in
theorem may_row (s : Fin 4) {O : CellTallies nD τ sig Unit} (hO : Above 0 O) :
    ctx E K c ⊢ (MayWait (c : Thread nD τ) (.dma (rowSem s)) () O : sProp 𝕄) :=
  (ctx_lev E K c).trans (may_wait c (.dma (rowSem s)) (b := 0) (le_of_eq (lv_row c s)) hO)
theorem NR_pos : 0 < NR := View.dmaCredit_pos _ (by decide)

theorem step_rowWait {n : ℕ} (s : Fin 4) (u : ℕ) (he : evs[n]? = some (.rowWait s u)) (hu : u + 1 < 32) {sem : DmaSem sig} (hs : sem = rowSem s)
    {sp sp' : Space} {s₁ s₂ : Shape} {e e' : EltTy} {κ' : Kind} {sm : Memref sig .tc sp' s₂ e'} {dm : Memref sig κ' sp s₁ e}
    {h₁ : sm.view.WordExact} {h₂ : dm.view.WordExact} (hN : dm.view.dmaCredit = NR)
    {q : PUnit → Prog (TpuEff nD τ sig (Elt F) Λ₀ .tc) α} {Q : α → sProp 𝕄} (h : St E K c (n + 1) ⊢ Runs c (q ⟨⟩) Q) :
    St E K c n ⊢ Runs c (Prog.lift (.waitDma2 sem sm dm h₁ h₂) >>= q) Q := by
  subst hs
  refine step_of he (O₁ := 0) (O₂ := 0) (owed_one _) (owed_one _)
    (R₁ := iprop(Batch EC (c : Thread nD τ) (.dma (rowSem s)) () NR (rowDone E c s) 32 (u * NR) ∗ bigSep (pending 32) (rowRes E c s))) (one _)
    (R₂ := iprop(Batch EC (c : Thread nD τ) (.dma (rowSem s)) () NR (rowDone E c s) 32 ((u + 1) * NR) ∗ bigSep (pending 32) (rowRes E c s))) (one _)
    (fun O W hO => ?_) h
  show _ ⊢ iprop(_ -∗ Runs c (.op (.waitDma2 (rowSem s) sm dm h₁ h₂) q) Q)
  have hO := hO 0 rfl
  rw [zero_add]
  iintro ⟨#Hc, HO, HB, Hp⟩ Hk
  iapply (wp_waitBatchO EC 𝒱₀ (c : Thread nD τ) none (k := q) () hN (D := rowDone E c s) (u := u * NR)
    (room NR_pos hu) (O := O) (W := W)) $$ [HB HO]
  · isplitl [HB]; · iexact HB
    isplitl [HO]; · iexact HO
    iapply (may_row s hO)
    iexact Hc
  iintro ⟨HB, HO⟩
  iapply Hk $$ [HO]
  · iexists _; iexact HO
  isplitl [HB]
  · rw [show (u + 1) * NR = u * NR + NR from Nat.succ_mul u NR]; iexact HB
  · iexact Hp

theorem step_rowLast {n : ℕ} (s : Fin 4) (he : evs[n]? = some (.rowLast s)) {sem : DmaSem sig} (hs : sem = rowSem s)
    {sp sp' : Space} {s₁ s₂ : Shape} {e e' : EltTy} {κ' : Kind} {sm : Memref sig .tc sp' s₂ e'} {dm : Memref sig κ' sp s₁ e}
    {h₁ : sm.view.WordExact} {h₂ : dm.view.WordExact} (hN : dm.view.dmaCredit = NR)
    {q : PUnit → Prog (TpuEff nD τ sig (Elt F) Λ₀ .tc) α} {Q : α → sProp 𝕄} (h : St E K c (n + 1) ⊢ Runs c (q ⟨⟩) Q) :
    St E K c n ⊢ Runs c (Prog.lift (.waitDma2 sem sm dm h₁ h₂) >>= q) Q := by
  subst hs
  refine step_of he (O₁ := 0) (O₂ := 0) (owed_one _) (owed_one _)
    (R₁ := iprop(Batch EC (c : Thread nD τ) (.dma (rowSem s)) () NR (rowDone E c s) 32 (31 * NR) ∗ bigSep (pending 32) (rowRes E c s))) (one _)
    (R₂ := iprop(bigSep Finset.univ (rowDone E c s) ∗ semVal ((c : Thread nD τ), .dma (rowSem s)) 0)) (one _)
    (fun O W hO => ?_) h
  show _ ⊢ iprop(_ -∗ Runs c (.op (.waitDma2 (rowSem s) sm dm h₁ h₂) q) Q)
  have hO := hO 0 rfl
  rw [zero_add]
  iintro ⟨#Hc, HO, HB, -⟩ Hk
  iapply (wp_waitBatchLastO EC 𝒱₀ (c : Thread nD τ) none (k := q) () hN NR_pos (D := rowDone E c s) (u := 31 * NR)
    (full NR) (O := O) (W := W)) $$ [HB HO]
  · isplitl [HB]; · iexact HB
    isplitl [HO]; · iexact HO
    iapply (may_row s hO)
    iexact Hc
  iintro ⟨Hd, Hv, HO⟩
  iapply Hk $$ [HO]
  · iexists _; iexact HO
  isplitl [Hd] <;> iassumption

/-! ## Loads -/

/-- A load from what a token holds. -/
theorem step_load {n : ℕ} {e : Ev} (he : evs[n]? = some e) {t : Tok} (hu : uses e = [t]) (hy : yields e = [t]) (ht : owe c t = 0)
    {cs : CoreSpace} {s : Shape} {el : EltTy} {m : Memref sig .tc cs s el} {r : Rect s} {hl : m.view.LoadsAt r}
    {S : Finset (Idx ((m.access r).loc (c : Thread nD τ)))} {qs : PosShare TreeShare} {f : Buf (Elt F) ((m.access r).loc (c : Thread nD τ))}
    (hR : res E c t = ((m.access r).loc (c : Thread nD τ) ↦[S]{qs} f)) (hS : (m.access r).set ⊆ S) {w : r.shape.Idx → Elt F el}
    (hw : (m.access r).read (Elt F) f = w)
    {q : (r.shape.Idx → Elt F el) → Prog (TpuEff nD τ sig (Elt F) Λ₀ .tc) α} {Q : α → sProp 𝕄} (h : St E K c (n + 1) ⊢ Runs c (q w) Q) :
    St E K c n ⊢ Runs c (Prog.lift (.load m r.toLoadRect hl) >>= q) Q := by
  subst hw
  have key : (((m.access r).loc (c : Thread nD τ) ↦[S]{qs} f : sProp 𝕄))
      ⊢ iprop((((m.access r).loc (c : Thread nD τ) ↦[S]{qs} f) -∗ Runs c (q ((m.access r).read (Elt F) f)) Q) -∗ Runs c (.op (.load m r.toLoadRect hl) q) Q) :=
    wp_load_rect 𝒱₀ (c : Thread nD τ) none Set.univ hS
  have h2 : St E K c n ⊢ Runs c (.op (.load m r.toLoadRect hl) q) Q := by
    refine step_plain he hu hy ht ht ?_ h
    rw [hR]
    iintro ⟨-, Ht⟩ Hk
    iapply key $$ [Ht]
    · iexact Ht
    iintro Ht
    iapply Hk
    iexact Ht
  exact h2

/-- A load from a part of what a token holds. -/
theorem step_load_with {n : ℕ} {e : Ev} (he : evs[n]? = some e) {t : Tok} (hu : uses e = [t]) (hy : yields e = [t]) (ht : owe c t = 0)
    {cs : CoreSpace} {s : Shape} {el : EltTy} {m : Memref sig .tc cs s el} {r : Rect s} {hl : m.view.LoadsAt r}
    {S : Finset (Idx ((m.access r).loc (c : Thread nD τ)))} {qs : PosShare TreeShare} {f : Buf (Elt F) ((m.access r).loc (c : Thread nD τ))}
    {R : sProp 𝕄} (hR : res E c t = iprop(((m.access r).loc (c : Thread nD τ) ↦[S]{qs} f) ∗ R)) (hS : (m.access r).set ⊆ S) {w : r.shape.Idx → Elt F el}
    (hw : (m.access r).read (Elt F) f = w)
    {q : (r.shape.Idx → Elt F el) → Prog (TpuEff nD τ sig (Elt F) Λ₀ .tc) α} {Q : α → sProp 𝕄} (h : St E K c (n + 1) ⊢ Runs c (q w) Q) :
    St E K c n ⊢ Runs c (Prog.lift (.load m r.toLoadRect hl) >>= q) Q := by
  subst hw
  have key : (((m.access r).loc (c : Thread nD τ) ↦[S]{qs} f : sProp 𝕄))
      ⊢ iprop((((m.access r).loc (c : Thread nD τ) ↦[S]{qs} f) -∗ Runs c (q ((m.access r).read (Elt F) f)) Q) -∗ Runs c (.op (.load m r.toLoadRect hl) q) Q) :=
    wp_load_rect 𝒱₀ (c : Thread nD τ) none Set.univ hS
  have h2 : St E K c n ⊢ Runs c (.op (.load m r.toLoadRect hl) q) Q := by
    refine step_plain he hu hy ht ht ?_ h
    rw [hR]
    iintro ⟨-, Ht, HR⟩ Hk
    iapply key $$ [Ht]
    · iexact Ht
    iintro Ht
    iapply Hk
    isplitl [Ht] <;> iassumption
  exact h2

theorem slotPt_pb (s : Fin 4) (q : PosShare TreeShare) : slotPt E c (.pb s) q
    = (((Memref.whole cc0_scratch1).access (rect3 s)).loc (c : Thread nD τ) ↦[((Memref.whole cc0_scratch1).access (rect3 s)).set]{q} canon E c (.pb s)) :=
  congrArg (fun I => (pointsTo ((Memref.whole cc0_scratch1).view.loc (c : Thread nD τ)) I q (canon E c (.pb s)) : sProp 𝕄)) (slot_set_pb s)
theorem slotPt_yb (s : Fin 4) (q : PosShare TreeShare) : slotPt E c (.yb s) q
    = (((Memref.whole cc0_scratch2).access (rect3 s)).loc (c : Thread nD τ) ↦[((Memref.whole cc0_scratch2).access (rect3 s)).set]{q} canon E c (.yb s)) :=
  congrArg (fun I => (pointsTo ((Memref.whole cc0_scratch2).view.loc (c : Thread nD τ)) I q (canon E c (.yb s)) : sProp 𝕄)) (slot_set_yb s)
theorem slotPt_rd (s : Fin 4) (q : PosShare TreeShare) : slotPt E c (.rd s) q
    = (((Memref.whole cc0_scratch3).access (rect3 s)).loc (c : Thread nD τ) ↦[((Memref.whole cc0_scratch3).access (rect3 s)).set]{q} canon E c (.rd s)) :=
  congrArg (fun I => (pointsTo ((Memref.whole cc0_scratch3).view.loc (c : Thread nD τ)) I q (canon E c (.rd s)) : sProp 𝕄)) (slot_set_rd s)
theorem slotPt_cw (h s : Fin 4) (q : PosShare TreeShare) : slotPt E c (.cw h s) q
    = (((Memref.whole cc0_scratch4).access (rect4 h s)).loc (c : Thread nD τ) ↦[((Memref.whole cc0_scratch4).access (rect4 h s)).set]{q} canon E c (.cw h s)) :=
  congrArg (fun I => (pointsTo ((Memref.whole cc0_scratch4).view.loc (c : Thread nD τ)) I q (canon E c (.cw h s)) : sProp 𝕄)) (slot_set_cw h s)
theorem slotPt_ccw (h : Fin 3) (s : Fin 4) (q : PosShare TreeShare) : slotPt E c (.ccw h s) q
    = (((Memref.whole cc0_scratch5).access (rect4' h s)).loc (c : Thread nD τ) ↦[((Memref.whole cc0_scratch5).access (rect4' h s)).set]{q} canon E c (.ccw h s)) :=
  congrArg (fun I => (pointsTo ((Memref.whole cc0_scratch5).view.loc (c : Thread nD τ)) I q (canon E c (.ccw h s)) : sProp 𝕄)) (slot_set_ccw h s)

section
variable {n : ℕ} (m : ℕ)

theorem ld_pb (s : Fin 4) (he : evs[n]? = some (.ldOwn (.pb s) m)) {hl : (Memref.whole cc0_scratch1).view.LoadsAt (rect3 s)}
    {q : Vec F S1x32x1024 .bf16 → Prog (TpuEff nD τ sig (Elt F) Λ₀ .tc) α} {Q : α → sProp 𝕄}
    (h : St E K c (n + 1) ⊢ Runs c (q (up3 (chunk E c (.pb s)))) Q) :
    St E K c n ⊢ Runs c (Prog.lift (.load (Memref.whole cc0_scratch1) (rect3 s).toLoadRect hl) >>= q) Q :=
  step_load he rfl rfl rfl (slotPt_pb s (keep m)) subset_rfl (load_pb E c s) h
theorem ld_yb (s : Fin 4) (he : evs[n]? = some (.ldOwn (.yb s) m)) {hl : (Memref.whole cc0_scratch2).view.LoadsAt (rect3 s)}
    {q : Vec F S1x32x1024 .bf16 → Prog (TpuEff nD τ sig (Elt F) Λ₀ .tc) α} {Q : α → sProp 𝕄}
    (h : St E K c (n + 1) ⊢ Runs c (q (up3 (chunk E c (.yb s)))) Q) :
    St E K c n ⊢ Runs c (Prog.lift (.load (Memref.whole cc0_scratch2) (rect3 s).toLoadRect hl) >>= q) Q :=
  step_load he rfl rfl rfl (slotPt_yb s (keep m)) subset_rfl (load_yb E c s) h
theorem ld_rd (s : Fin 4) (he : evs[n]? = some (.ldOwn (.rd s) m)) {hl : (Memref.whole cc0_scratch3).view.LoadsAt (rect3 s)}
    {q : Vec F S1x32x1024 .bf16 → Prog (TpuEff nD τ sig (Elt F) Λ₀ .tc) α} {Q : α → sProp 𝕄}
    (h : St E K c (n + 1) ⊢ Runs c (q (up3 (chunk E c (.rd s)))) Q) :
    St E K c n ⊢ Runs c (Prog.lift (.load (Memref.whole cc0_scratch3) (rect3 s).toLoadRect hl) >>= q) Q :=
  step_load he rfl rfl rfl (slotPt_rd s (keep m)) subset_rfl (load_rd E c s) h
theorem ld_cw (a s : Fin 4) (he : evs[n]? = some (.ldOwn (.cw a s) m)) {hl : (Memref.whole cc0_scratch4).view.LoadsAt (rect4 a s)}
    {q : Vec F S1x1x32x1024 .bf16 → Prog (TpuEff nD τ sig (Elt F) Λ₀ .tc) α} {Q : α → sProp 𝕄}
    (h : St E K c (n + 1) ⊢ Runs c (q (up4 (chunk E c (.cw a s)))) Q) :
    St E K c n ⊢ Runs c (Prog.lift (.load (Memref.whole cc0_scratch4) (rect4 a s).toLoadRect hl) >>= q) Q :=
  step_load he rfl rfl rfl (slotPt_cw a s (keep m)) subset_rfl (load_cw E c a s) h
theorem ld_ccw (a : Fin 3) (s : Fin 4) (he : evs[n]? = some (.ldOwn (.ccw a s) m)) {hl : (Memref.whole cc0_scratch5).view.LoadsAt (rect4' a s)}
    {q : Vec F S1x1x32x1024 .bf16 → Prog (TpuEff nD τ sig (Elt F) Λ₀ .tc) α} {Q : α → sProp 𝕄}
    (h : St E K c (n + 1) ⊢ Runs c (q (up4 (chunk E c (.ccw a s)))) Q) :
    St E K c n ⊢ Runs c (Prog.lift (.load (Memref.whole cc0_scratch5) (rect4' a s).toLoadRect hl) >>= q) Q :=
  step_load he rfl rfl rfl (slotPt_ccw a s (keep m)) subset_rfl (load_ccw E c a s) h
end

theorem sel_read (s : Fin 4) (inb : ∀ a, (![s.val, 0, 0] : Fin 3 → ℕ) a + S1x32x128.size a ≤ S4x32x128.size a) :
    ((Memref.whole cc0_stg1_0).access (Rect.unit (s := S4x32x128) ![s.val, 0, 0] S1x32x128.size inb)).read (Elt F) (E.sel c) = selRows E c s := by
  funext k
  refine congrArg (E.sel c) (funext fun a => Fin.ext ?_)
  have h0 : (k 0).val < 1 := (k 0).isLt
  match a with
  | ⟨0, _⟩ => show s.val + 1 * (k 0).val = s.val; omega
  | ⟨1, _⟩ => show 0 + 1 * (k 1).val = (k 1).val; omega
  | ⟨2, _⟩ => show 0 + 1 * (k 2).val = (k 2).val; omega

theorem ld_sel {n : ℕ} (s : Fin 4) (he : evs[n]? = some .ldSel) {inb : ∀ a, (![s.val, 0, 0] : Fin 3 → ℕ) a + S1x32x128.size a ≤ S4x32x128.size a}
    {hl : (Memref.whole cc0_stg1_0).view.LoadsAt (Rect.unit (s := S4x32x128) ![s.val, 0, 0] S1x32x128.size inb)}
    {q : Vec F S1x32x128 .bf16 → Prog (TpuEff nD τ sig (Elt F) Λ₀ .tc) α} {Q : α → sProp 𝕄}
    (h : St E K c (n + 1) ⊢ Runs c (q (selRows E c s)) Q) :
    St E K c n ⊢ Runs c (Prog.lift (.load (Memref.whole cc0_stg1_0) (Rect.unit (s := S4x32x128) ![s.val, 0, 0] S1x32x128.size inb).toLoadRect hl) >>= q) Q :=
  step_load (m := Memref.whole cc0_stg1_0) (r := Rect.unit (s := S4x32x128) ![s.val, 0, 0] S1x32x128.size inb)
    (S := Finset.univ) (qs := fullShare) (f := E.sel c) he rfl rfl rfl rfl (Finset.subset_univ _) (sel_read s inb) h

theorem rows_read (s : Fin 4) : ((Memref.whole cc0_scratch0).access (chunkRect s)).read (Elt F) (gb E c) = gbRows E c s := by
  funext k
  refine congrArg (gb E c) (funext fun a => Fin.ext ?_)
  match a with
  | ⟨0, _⟩ => show 32 * s.val + 1 * (k 0).val = 32 * s.val + (k 0).val; omega
  | ⟨1, _⟩ => show 0 + 1 * (k 1).val = (k 1).val; omega

theorem pointsTo_rows (s : Fin 4) (f : Vec F S128x1024 .f32) : gbAt c ((Memref.whole cc0_scratch0).access (chunkRect s)).set f
    = bigSep Finset.univ fun t : Fin 32 => gbAt c (rowM (row s t)).view.set f :=
  (congrArg (fun I => gbAt c I f) (chunk_rows s)).trans
    (pointsTo_biUnion (ℓ := (Memref.whole cc0_scratch0).view.loc (c : Thread nD τ)) Finset.univ (fun t : Fin 32 => (rowM (row s t)).view.set)
      fun t _ t' _ h => rows_disjoint _ _ (row_inj s h))

theorem rows_chunk (s : Fin 4) : bigSep Finset.univ (rowDone E c s)
    = iprop(gbAt c ((Memref.whole cc0_scratch0).access (chunkRect s)).set (gb E c) ∗ bigSep Finset.univ fun t => tabRow E c (row s t)) := by
  rw [pointsTo_rows]
  exact bigSep_sep Finset.univ (fun t : Fin 32 => gbAt c (rowM (row s t)).view.set (gb E c)) fun t => tabRow E c (row s t)

theorem assoc_eq (A B C : sProp 𝕄) : iprop((A ∗ B) ∗ C) = iprop(A ∗ B ∗ C) :=
  BI.Entails.antisymm (sep_assoc (PROP := sProp 𝕄)).1 (sep_assoc (PROP := sProp 𝕄)).2
theorem res_rows (s : Fin 4) : res E c (.rows s)
    = iprop((((Memref.whole cc0_scratch0).access (chunkRect s)).loc (c : Thread nD τ) ↦[((Memref.whole cc0_scratch0).access (chunkRect s)).set]{fullShare} gb E c)
      ∗ ((bigSep Finset.univ fun t => tabRow E c (row s t)) ∗ semVal ((c : Thread nD τ), .dma (rowSem s)) 0)) :=
  (congrArg (fun X : sProp 𝕄 => iprop(X ∗ semVal ((c : Thread nD τ), .dma (rowSem s)) 0)) (rows_chunk (E := E) (c := c) s)).trans
    (assoc_eq (gbAt c ((Memref.whole cc0_scratch0).access (chunkRect s)).set (gb E c)) _ _)

theorem ld_rows {n : ℕ} (s : Fin 4) (he : evs[n]? = some (.ldRows s)) {hl : (Memref.whole cc0_scratch0).view.LoadsAt (chunkRect s)}
    {q : Vec F S32x1024 .f32 → Prog (TpuEff nD τ sig (Elt F) Λ₀ .tc) α} {Q : α → sProp 𝕄}
    (h : St E K c (n + 1) ⊢ Runs c (q (gbRows E c s)) Q) :
    St E K c n ⊢ Runs c (Prog.lift (.load (Memref.whole cc0_scratch0) (chunkRect s).toLoadRect hl) >>= q) Q :=
  step_load_with he rfl rfl rfl (res_rows s) subset_rfl (rows_read s) h

/-! ## Loads whose value is not used -/

/-- A load from a part of memory with anything in it. -/
theorem step_any {n : ℕ} {e : Ev} (he : evs[n]? = some e) {t : Tok} (hu : uses e = [t]) (hy : yields e = [t]) (ht : owe c t = 0)
    {cs : CoreSpace} {s : Shape} {el : EltTy} {m : Memref sig .tc cs s el} {r : Rect s} {hl : m.view.LoadsAt r}
    (hR : res E c t = iprop(∃ f : Buf (Elt F) ((m.access r).loc (c : Thread nD τ)), (m.access r).loc (c : Thread nD τ) ↦[(m.access r).set]{fullShare} f))
    {q : (r.shape.Idx → Elt F el) → Prog (TpuEff nD τ sig (Elt F) Λ₀ .tc) α} {Q : α → sProp 𝕄} (h : ∀ w, St E K c (n + 1) ⊢ Runs c (q w) Q) :
    St E K c n ⊢ Runs c (Prog.lift (.load m r.toLoadRect hl) >>= q) Q := by
  have key : ∀ f, (((m.access r).loc (c : Thread nD τ) ↦[(m.access r).set]{fullShare} f : sProp 𝕄))
      ⊢ iprop((((m.access r).loc (c : Thread nD τ) ↦[(m.access r).set]{fullShare} f) -∗ Runs c (q ((m.access r).read (Elt F) f)) Q)
        -∗ Runs c (.op (.load m r.toLoadRect hl) q) Q) := fun f =>
    wp_load_rect 𝒱₀ (c : Thread nD τ) none Set.univ subset_rfl
  have h2 : St E K c n ⊢ Runs c (.op (.load m r.toLoadRect hl) q) Q := by
    refine step_plain he hu hy ht ht (P' := iprop(∀ w, Runs c (q w) Q)) ?_ (forall_intro h)
    rw [hR]
    iintro ⟨-, ⟨%f, Ht⟩⟩ Hk
    iapply (key f) $$ [Ht]
    · iexact Ht
    iintro Ht
    ihave Hk := Hk $$ [Ht]
    · iexists f; iexact Ht
    iapply Hk
  exact h2

end Cert.Emb

end
-- ==== Proof.Stores.lean ====
module

public import proofs.«01_k».proof.Proof.Vecs

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

variable {E : Env F} {K : GSem nD τ sig → ℕ} {c : Dev nD} {α : Type}

theorem raw_pb (s : Fin 4) : rawSlot (F := F) c (.pb s) = iprop(∃ f : Buf (Elt F) (((Memref.whole cc0_scratch1).access (rect3 s)).loc (c : Thread nD τ)),
    ((Memref.whole cc0_scratch1).access (rect3 s)).loc (c : Thread nD τ) ↦[((Memref.whole cc0_scratch1).access (rect3 s)).set]{fullShare} f) :=
  congrArg (fun I => (iprop(∃ f, pointsTo ((Memref.whole cc0_scratch1).view.loc (c : Thread nD τ)) I fullShare f) : sProp 𝕄)) (slot_set_pb s)
theorem raw_rd (s : Fin 4) : rawSlot (F := F) c (.rd s) = iprop(∃ f : Buf (Elt F) (((Memref.whole cc0_scratch3).access (rect3 s)).loc (c : Thread nD τ)),
    ((Memref.whole cc0_scratch3).access (rect3 s)).loc (c : Thread nD τ) ↦[((Memref.whole cc0_scratch3).access (rect3 s)).set]{fullShare} f) :=
  congrArg (fun I => (iprop(∃ f, pointsTo ((Memref.whole cc0_scratch3).view.loc (c : Thread nD τ)) I fullShare f) : sProp 𝕄)) (slot_set_rd s)

theorem any_pb {n : ℕ} (s : Fin 4) (he : evs[n]? = some (.ldRaw (.pb s))) {hl : (Memref.whole cc0_scratch1).view.LoadsAt (rect3 s)}
    {q : Vec F S1x32x1024 .bf16 → Prog (TpuEff nD τ sig (Elt F) Λ₀ .tc) α} {Q : α → sProp 𝕄} (h : ∀ w, St E K c (n + 1) ⊢ Runs c (q w) Q) :
    St E K c n ⊢ Runs c (Prog.lift (.load (Memref.whole cc0_scratch1) (rect3 s).toLoadRect hl) >>= q) Q :=
  step_any he rfl rfl rfl (raw_pb s) h
theorem any_rd {n : ℕ} (s : Fin 4) (he : evs[n]? = some (.ldRaw (.rd s))) {hl : (Memref.whole cc0_scratch3).view.LoadsAt (rect3 s)}
    {q : Vec F S1x32x1024 .bf16 → Prog (TpuEff nD τ sig (Elt F) Λ₀ .tc) α} {Q : α → sProp 𝕄} (h : ∀ w, St E K c (n + 1) ⊢ Runs c (q w) Q) :
    St E K c n ⊢ Runs c (Prog.lift (.load (Memref.whole cc0_scratch3) (rect3 s).toLoadRect hl) >>= q) Q :=
  step_any he rfl rfl rfl (raw_rd s) h
theorem any_out {n : ℕ} (l : Sl) (he : evs[n]? = some (.ldOut l)) {off : Fin 2 → ℕ} (hoff : off = ![rowOf c l, 0])
    {inb : ∀ a, off a + S32x1024.size a ≤ S1024x1024.size a}
    {hl : (Memref.whole cc0_stg2_0).view.LoadsAt (Rect.unit (s := S1024x1024) off S32x1024.size inb)}
    {q : Vec F S32x1024 .bf16 → Prog (TpuEff nD τ sig (Elt F) Λ₀ .tc) α} {Q : α → sProp 𝕄} (h : ∀ w, St E K c (n + 1) ⊢ Runs c (q w) Q) :
    St E K c n ⊢ Runs c (Prog.lift (.load (Memref.whole cc0_stg2_0) (Rect.unit (s := S1024x1024) off S32x1024.size inb).toLoadRect hl) >>= q) Q := by
  subst hoff
  exact step_any (m := Memref.whole cc0_stg2_0) (r := outRect c l) he rfl rfl rfl rfl h

/-! ## Stores -/

/-- A store into a part of memory with anything in it. -/
theorem step_store {n : ℕ} {e : Ev} (he : evs[n]? = some e) {t t' : Tok} (hu : uses e = [t]) (hy : yields e = [t']) (ht : owe c t = 0) (ht' : owe c t' = 0)
    {cs : CoreSpace} {s : Shape} {el : EltTy} {m : Memref sig .tc cs s el} {r : Rect s} {w : r.shape.Idx → Elt F el}
    {hx : (m.access r).Stores Finset.univ} {hm : (Finset.univ : Finset r.shape.Idx) = Finset.univ ∨ ∀ a, r.stride a = 1}
    {g : Buf (Elt F) ((m.access r).loc (c : Thread nD τ))}
    (hR : res E c t = iprop(∃ f : Buf (Elt F) ((m.access r).loc (c : Thread nD τ)), (m.access r).loc (c : Thread nD τ) ↦[(m.access r).set]{fullShare} f))
    (hR' : res E c t' = ((m.access r).loc (c : Thread nD τ) ↦[(m.access r).set]{fullShare} g))
    (hg : ∀ f : Buf (Elt F) ((m.access r).loc (c : Thread nD τ)), ∀ i ∈ (m.access r).set, (m.access r).write (Elt F) f w Finset.univ i = g i)
    {q : PUnit → Prog (TpuEff nD τ sig (Elt F) Λ₀ .tc) α} {Q : α → sProp 𝕄} (h : St E K c (n + 1) ⊢ Runs c (q ⟨⟩) Q) :
    St E K c n ⊢ Runs c (Prog.lift (.store m r w Finset.univ hx hm) >>= q) Q := by
  have key : ∀ f, (((m.access r).loc (c : Thread nD τ) ↦[(m.access r).set]{fullShare} f : sProp 𝕄))
      ⊢ iprop((((m.access r).loc (c : Thread nD τ) ↦[(m.access r).set]{fullShare} (m.access r).write (Elt F) f w Finset.univ) -∗ Runs c (q ⟨⟩) Q)
        -∗ Runs c (.op (.store m r w Finset.univ hx hm) q) Q) := fun f =>
    wp_store 𝒱₀ (c : Thread nD τ) none Set.univ (View.setOn_univ _).subset
  have h2 : St E K c n ⊢ Runs c (.op (.store m r w Finset.univ hx hm) q) Q := by
    refine step_plain he hu hy ht ht' ?_ h
    rw [hR, hR']
    iintro ⟨-, ⟨%f, Ht⟩⟩ Hk
    iapply (key f) $$ [Ht]
    · iexact Ht
    iintro Ht
    iapply Hk
    iapply (Entails.of_eq (pointsTo_congr (hg f)))
    iexact Ht
  exact h2

theorem st_pb {n : ℕ} (s : Fin 4) (he : evs[n]? = some (.stPb s)) {w : Vec F S1x32x1024 .bf16} (hw : w = up3 (chunk E c (.pb s)))
    {hx : ((Memref.whole cc0_scratch1).access (rect3 s)).Stores Finset.univ} {hm : (Finset.univ : Finset (rect3 s).shape.Idx) = Finset.univ ∨ ∀ a, (rect3 s).stride a = 1}
    {q : PUnit → Prog (TpuEff nD τ sig (Elt F) Λ₀ .tc) α} {Q : α → sProp 𝕄} (h : St E K c (n + 1) ⊢ Runs c (q ⟨⟩) Q) :
    St E K c n ⊢ Runs c (Prog.lift (.store (Memref.whole cc0_scratch1) (rect3 s) w Finset.univ hx hm) >>= q) Q :=
  step_store he rfl rfl rfl rfl (raw_pb s) (slotPt_pb s fullShare) (fun f => stored_pb E c s f w hw) h
theorem st_rd {n : ℕ} (s : Fin 4) (he : evs[n]? = some (.stRd s)) {w : Vec F S1x32x1024 .bf16} (hw : w = up3 (chunk E c (.rd s)))
    {hx : ((Memref.whole cc0_scratch3).access (rect3 s)).Stores Finset.univ} {hm : (Finset.univ : Finset (rect3 s).shape.Idx) = Finset.univ ∨ ∀ a, (rect3 s).stride a = 1}
    {q : PUnit → Prog (TpuEff nD τ sig (Elt F) Λ₀ .tc) α} {Q : α → sProp 𝕄} (h : St E K c (n + 1) ⊢ Runs c (q ⟨⟩) Q) :
    St E K c n ⊢ Runs c (Prog.lift (.store (Memref.whole cc0_scratch3) (rect3 s) w Finset.univ hx hm) >>= q) Q :=
  step_store he rfl rfl rfl rfl (raw_rd s) (slotPt_rd s fullShare) (fun f => stored_rd E c s f w hw) h

theorem stored_out (l : Sl) (hl : l.out = true) (f : Vec F S1024x1024 .bf16) (w : Vec F S32x1024 .bf16) (hw : w = chunk E c l) :
    ∀ i ∈ ((Memref.whole cc0_stg2_0).access (outRect c l)).set,
      ((Memref.whole cc0_stg2_0).access (outRect c l)).write (Elt F) f w Finset.univ i = outC E c i := by
  intro i hi
  obtain ⟨x, -, rfl⟩ := Finset.mem_map.mp hi
  refine (View.write_emb_of_mem _ _ (Finset.mem_univ x)).trans ?_
  subst hw
  refine (outC_chunk E c l hl _ x ?_ (Fin.ext ?_)).symm
  · show rowOf c l + 1 * (x 0).val = _; rw [Nat.one_mul]
  · show 0 + 1 * (x 1).val = _; rw [Nat.one_mul, Nat.zero_add]

theorem st_out {n : ℕ} (l : Sl) (he : evs[n]? = some (.stOut l)) (hl : l.out = true) {off : Fin 2 → ℕ} (hoff : off = ![rowOf c l, 0])
    {inb : ∀ a, off a + S32x1024.size a ≤ S1024x1024.size a} {w : Vec F S32x1024 .bf16} (hw : w = chunk E c l)
    {hx : ((Memref.whole cc0_stg2_0).access (Rect.unit (s := S1024x1024) off S32x1024.size inb)).Stores Finset.univ}
    {hm : (Finset.univ : Finset (Rect.unit (s := S1024x1024) off S32x1024.size inb).shape.Idx) = Finset.univ ∨ ∀ a, (Rect.unit (s := S1024x1024) off S32x1024.size inb).stride a = 1}
    {q : PUnit → Prog (TpuEff nD τ sig (Elt F) Λ₀ .tc) α} {Q : α → sProp 𝕄} (h : St E K c (n + 1) ⊢ Runs c (q ⟨⟩) Q) :
    St E K c n ⊢ Runs c (Prog.lift (.store (Memref.whole cc0_stg2_0) (Rect.unit (s := S1024x1024) off S32x1024.size inb) w Finset.univ hx hm) >>= q) Q := by
  subst hoff
  exact step_store (m := Memref.whole cc0_stg2_0) (r := outRect c l) (g := outC E c) he rfl rfl rfl rfl rfl rfl (fun f => stored_out l hl f w hw) h

end Cert.Emb

end
-- ==== Proof.Calls.lean ====
module

public import proofs.«01_k».proof.Proof.Stores

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

variable {E : Env F} {K : GSem nD τ sig → ℕ} {c : Dev nD} {α : Type}

/-! # A part of the body at the kernel's own buffers -/

/-- A piece of the body, taken at the buffers and semaphores the call hands it. -/
abbrev onArgs {β : Type 1} (f : (arg0 : Memref sig .tc .smem S128 .i32) → arg0.IsWhole →
    (arg1 : Memref sig .tc .vmem S4x32x128 .bf16) → arg1.IsWhole →
    (arg2 : Memref sig .tc .hbm S8192x1024 .f32) → arg2.IsWhole →
    (arg3 : Memref sig .tc .vmem S1024x1024 .bf16) → arg3.IsWhole →
    (arg4 : Memref sig .tc .vmem S128x1024 .f32) → arg4.IsWhole →
    (arg5 : Memref sig .tc .vmem S4x32x1024 .bf16) → arg5.IsWhole →
    (arg6 : Memref sig .tc .vmem S4x32x1024 .bf16) → arg6.IsWhole →
    (arg7 : Memref sig .tc .vmem S4x32x1024 .bf16) → arg7.IsWhole →
    (arg8 : Memref sig .tc .vmem S4x4x32x1024 .bf16) → arg8.IsWhole →
    (arg9 : Memref sig .tc .vmem S3x4x32x1024 .bf16) → arg9.IsWhole →
    DmaSems sig S4 → DmaSems sig S4 → DmaSems sig S4 → DmaSems sig S4x4 → DmaSems sig S4x4 → DmaSems sig S3x4 → DmaSems sig S3x4 → β) : β :=
  f (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12

theorem step_ret {X : sProp 𝕄} {v : α} {Q : α → sProp 𝕄} (h : X ⊢ Q v) : X ⊢ Runs c (pure v) Q := by
  refine h.trans ?_
  show Q v ⊢ |={Set.univ}=> Q v
  iintro H
  imodintro
  iexact H

theorem step_dev {X : sProp 𝕄} {q : Dev nD → Prog (TpuEff nD τ sig (Elt F) Λ₀ .tc) α} {Q : α → sProp 𝕄}
    (h : X ⊢ Runs c (q c) Q) : X ⊢ Runs c (Prog.lift .deviceId >>= q) Q := by
  refine h.trans ?_
  show Runs c (q c) Q ⊢ Runs c (.op .deviceId q) Q
  exact Entails.of_eq (wp_deviceId 𝒱₀ (c : Thread nD τ) none Set.univ (k := q)).symm

theorem step_call {β : Type} {X : sProp 𝕄} {p : Prog (TpuEff nD τ sig (Elt F) Λ₀ .tc) β} {q : β → Prog (TpuEff nD τ sig (Elt F) Λ₀ .tc) α}
    {Q : α → sProp 𝕄} (h : X ⊢ Runs c p (fun v => Runs c (q v) Q)) : X ⊢ Runs c (p >>= q) Q :=
  h.trans (Entails.of_eq (wp_bind _ _ _ p q Q).symm)

end Cert.Emb

end
-- ==== Proof.PartsA.lean ====
module

public import proofs.«01_k».proof.Proof.Calls

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

variable {E : Env F} {K : GSem nD τ sig → ℕ} {c : Dev nD}

/-! # The body's parts: signalling the neighbours and starting the row copies -/

theorem part1  {Q : (Σ' (d0 : Dev nD) (v2 : BitVec 32) (v5 : BitVec 32) (v8 : BitVec 32) (v11 : BitVec 32) (v24 : BitVec 32) (v27 : BitVec 32) (v30 : BitVec 32) (v31 : BitVec 32) (v32 : BitVec 1), BitVec 32) → sProp 𝕄}
    (h : ∀ (w1 : BitVec 32) (w2 : BitVec 32) (w3 : BitVec 32) (w4 : BitVec 32) (w5 : BitVec 32) (w6 : BitVec 32) (w7 : BitVec 32) (w8 : BitVec 32) (w9 : BitVec 1) (w10 : BitVec 32), St E K c 0 ⊢ Q ⟨c, w1, w2, w3, w4, w5, w6, w7, w8, w9, w10⟩) :
    St E K c 0 ⊢ Runs c (onArgs (k0_part1 (F := F))) Q := by
  rw [k0_part1_eq_skeleton]
  unfold onArgs k0_part1_skel
  refine step_dev ?_
  exact step_ret (h _ _ _ _ _ _ _ _ _ _)

theorem part2 {v2 : BitVec 32} {v5 : BitVec 32} {v8 : BitVec 32} {v24 : BitVec 32} {v27 : BitVec 32} {v30 : BitVec 32} {v31 : BitVec 32} {v32 : BitVec 1} {c0_i32_19 : BitVec 32} {Q : (Σ' (v40 : BitVec 32) (v43 : BitVec 32) (v44 : BitVec 32) (v45 : Sems sig S_) (v64 : Elt F .i32), k0_chk1 v64) → sProp 𝕄}
    (h : ∀ (w0 : BitVec 32) (w1 : BitVec 32) (w2 : BitVec 32) (x5 : k0_chk1 ((idv E c 0))), St E K c 4 ⊢ Q ⟨w0, w1, w2, (SemArray.scalar (sig.barrier 0 rfl)), (idv E c 0), x5⟩) :
    St E K c 0 ⊢ Runs c (onArgs (k0_part2 (F := F)) c v2 v5 v8 v24 v27 v30 v31 v32 c0_i32_19) Q := by
  rw [k0_part2_eq_skeleton]
  unfold onArgs k0_part2_skel
  refine step_sig (n := 0) 0 (by decide +kernel) ((by decide : ∀ c : Dev nD, (⟨k0_dev1 c, k0_dev1_lt c⟩ : Dev nD) = peer c 0) c) ?_
  refine step_sig (n := 1) 1 (by decide +kernel) ((by decide : ∀ c : Dev nD, (⟨k0_dev2 c, k0_dev2_lt c⟩ : Dev nD) = peer c 1) c) ?_
  refine step_sig (n := 2) 2 (by decide +kernel) ((by decide : ∀ c : Dev nD, (⟨k0_dev3 c, k0_dev3_lt c⟩ : Dev nD) = peer c 2) c) ?_
  refine step_ids (n := 3) (i := 0) (by decide +kernel) (by decide) ?_
  refine step_assume (And.intro (tabInb (E.ok c _)) (tabInb (E.ok c _))) ?_
  exact step_ret (h _ _ _ _)

theorem part3 (k0_hw1 : k0_chk1 ((idv E c 0))) {Q : (Σ' (v69 : Elt F .i32) (k0_hw2 : k0_chk2 v69) (v74 : Elt F .i32) (k0_hw3 : k0_chk3 v74) (v79 : Elt F .i32) (k0_hw4 : k0_chk4 v79) (v84 : Elt F .i32) (k0_hw5 : k0_chk5 v84) (v89 : Elt F .i32), k0_chk6 v89) → sProp 𝕄}
    (h : ∀ (x1 : k0_chk2 ((idv E c 1))) (x3 : k0_chk3 ((idv E c 2))) (x5 : k0_chk4 ((idv E c 3))) (x7 : k0_chk5 ((idv E c 4))) (x9 : k0_chk6 ((idv E c 5))), St E K c 14 ⊢ Q ⟨(idv E c 1), x1, (idv E c 2), x3, (idv E c 3), x5, (idv E c 4), x7, (idv E c 5), x9⟩) :
    St E K c 4 ⊢ Runs c (onArgs (k0_part3 (F := F)) ((idv E c 0)) k0_hw1) Q := by
  rw [k0_part3_eq_skeleton]
  unfold onArgs k0_part3_skel
  refine step_issue (n := 4) 0 0 (by decide +kernel) (by exact rfl) (by exact rfl) (by exact rfl) ?_
  refine step_ids (n := 5) (i := 1) (by decide +kernel) (by decide) ?_
  refine step_assume (And.intro (tabInb (E.ok c _)) (tabInb (E.ok c _))) ?_
  refine step_issue (n := 6) 0 1 (by decide +kernel) (by exact rfl) (by exact rfl) (by exact rfl) ?_
  refine step_ids (n := 7) (i := 2) (by decide +kernel) (by decide) ?_
  refine step_assume (And.intro (tabInb (E.ok c _)) (tabInb (E.ok c _))) ?_
  refine step_issue (n := 8) 0 2 (by decide +kernel) (by exact rfl) (by exact rfl) (by exact rfl) ?_
  refine step_ids (n := 9) (i := 3) (by decide +kernel) (by decide) ?_
  refine step_assume (And.intro (tabInb (E.ok c _)) (tabInb (E.ok c _))) ?_
  refine step_issue (n := 10) 0 3 (by decide +kernel) (by exact rfl) (by exact rfl) (by exact rfl) ?_
  refine step_ids (n := 11) (i := 4) (by decide +kernel) (by decide) ?_
  refine step_assume (And.intro (tabInb (E.ok c _)) (tabInb (E.ok c _))) ?_
  refine step_issue (n := 12) 0 4 (by decide +kernel) (by exact rfl) (by exact rfl) (by exact rfl) ?_
  refine step_ids (n := 13) (i := 5) (by decide +kernel) (by decide) ?_
  refine step_assume (And.intro (tabInb (E.ok c _)) (tabInb (E.ok c _))) ?_
  exact step_ret (h _ _ _ _ _)

theorem part4 (k0_hw6 : k0_chk6 ((idv E c 5))) {Q : (Σ' (v94 : Elt F .i32) (k0_hw7 : k0_chk7 v94) (v99 : Elt F .i32) (k0_hw8 : k0_chk8 v99) (v104 : Elt F .i32) (k0_hw9 : k0_chk9 v104) (v109 : Elt F .i32) (k0_hw10 : k0_chk10 v109) (v114 : Elt F .i32), k0_chk11 v114) → sProp 𝕄}
    (h : ∀ (x1 : k0_chk7 ((idv E c 6))) (x3 : k0_chk8 ((idv E c 7))) (x5 : k0_chk9 ((idv E c 8))) (x7 : k0_chk10 ((idv E c 9))) (x9 : k0_chk11 ((idv E c 10))), St E K c 24 ⊢ Q ⟨(idv E c 6), x1, (idv E c 7), x3, (idv E c 8), x5, (idv E c 9), x7, (idv E c 10), x9⟩) :
    St E K c 14 ⊢ Runs c (onArgs (k0_part4 (F := F)) ((idv E c 5)) k0_hw6) Q := by
  rw [k0_part4_eq_skeleton]
  unfold onArgs k0_part4_skel
  refine step_issue (n := 14) 0 5 (by decide +kernel) (by exact rfl) (by exact rfl) (by exact rfl) ?_
  refine step_ids (n := 15) (i := 6) (by decide +kernel) (by decide) ?_
  refine step_assume (And.intro (tabInb (E.ok c _)) (tabInb (E.ok c _))) ?_
  refine step_issue (n := 16) 0 6 (by decide +kernel) (by exact rfl) (by exact rfl) (by exact rfl) ?_
  refine step_ids (n := 17) (i := 7) (by decide +kernel) (by decide) ?_
  refine step_assume (And.intro (tabInb (E.ok c _)) (tabInb (E.ok c _))) ?_
  refine step_issue (n := 18) 0 7 (by decide +kernel) (by exact rfl) (by exact rfl) (by exact rfl) ?_
  refine step_ids (n := 19) (i := 8) (by decide +kernel) (by decide) ?_
  refine step_assume (And.intro (tabInb (E.ok c _)) (tabInb (E.ok c _))) ?_
  refine step_issue (n := 20) 0 8 (by decide +kernel) (by exact rfl) (by exact rfl) (by exact rfl) ?_
  refine step_ids (n := 21) (i := 9) (by decide +kernel) (by decide) ?_
  refine step_assume (And.intro (tabInb (E.ok c _)) (tabInb (E.ok c _))) ?_
  refine step_issue (n := 22) 0 9 (by decide +kernel) (by exact rfl) (by exact rfl) (by exact rfl) ?_
  refine step_ids (n := 23) (i := 10) (by decide +kernel) (by decide) ?_
  refine step_assume (And.intro (tabInb (E.ok c _)) (tabInb (E.ok c _))) ?_
  exact step_ret (h _ _ _ _ _)

theorem part5 (k0_hw11 : k0_chk11 ((idv E c 10))) {Q : (Σ' (v119 : Elt F .i32) (k0_hw12 : k0_chk12 v119) (v124 : Elt F .i32) (k0_hw13 : k0_chk13 v124) (v129 : Elt F .i32) (k0_hw14 : k0_chk14 v129) (v134 : Elt F .i32) (k0_hw15 : k0_chk15 v134) (v139 : Elt F .i32), k0_chk16 v139) → sProp 𝕄}
    (h : ∀ (x1 : k0_chk12 ((idv E c 11))) (x3 : k0_chk13 ((idv E c 12))) (x5 : k0_chk14 ((idv E c 13))) (x7 : k0_chk15 ((idv E c 14))) (x9 : k0_chk16 ((idv E c 15))), St E K c 34 ⊢ Q ⟨(idv E c 11), x1, (idv E c 12), x3, (idv E c 13), x5, (idv E c 14), x7, (idv E c 15), x9⟩) :
    St E K c 24 ⊢ Runs c (onArgs (k0_part5 (F := F)) ((idv E c 10)) k0_hw11) Q := by
  rw [k0_part5_eq_skeleton]
  unfold onArgs k0_part5_skel
  refine step_issue (n := 24) 0 10 (by decide +kernel) (by exact rfl) (by exact rfl) (by exact rfl) ?_
  refine step_ids (n := 25) (i := 11) (by decide +kernel) (by decide) ?_
  refine step_assume (And.intro (tabInb (E.ok c _)) (tabInb (E.ok c _))) ?_
  refine step_issue (n := 26) 0 11 (by decide +kernel) (by exact rfl) (by exact rfl) (by exact rfl) ?_
  refine step_ids (n := 27) (i := 12) (by decide +kernel) (by decide) ?_
  refine step_assume (And.intro (tabInb (E.ok c _)) (tabInb (E.ok c _))) ?_
  refine step_issue (n := 28) 0 12 (by decide +kernel) (by exact rfl) (by exact rfl) (by exact rfl) ?_
  refine step_ids (n := 29) (i := 13) (by decide +kernel) (by decide) ?_
  refine step_assume (And.intro (tabInb (E.ok c _)) (tabInb (E.ok c _))) ?_
  refine step_issue (n := 30) 0 13 (by decide +kernel) (by exact rfl) (by exact rfl) (by exact rfl) ?_
  refine step_ids (n := 31) (i := 14) (by decide +kernel) (by decide) ?_
  refine step_assume (And.intro (tabInb (E.ok c _)) (tabInb (E.ok c _))) ?_
  refine step_issue (n := 32) 0 14 (by decide +kernel) (by exact rfl) (by exact rfl) (by exact rfl) ?_
  refine step_ids (n := 33) (i := 15) (by decide +kernel) (by decide) ?_
  refine step_assume (And.intro (tabInb (E.ok c _)) (tabInb (E.ok c _))) ?_
  exact step_ret (h _ _ _ _ _)

theorem part6 (k0_hw16 : k0_chk16 ((idv E c 15))) {Q : (Σ' (v144 : Elt F .i32) (k0_hw17 : k0_chk17 v144) (v149 : Elt F .i32) (k0_hw18 : k0_chk18 v149) (v154 : Elt F .i32) (k0_hw19 : k0_chk19 v154) (v159 : Elt F .i32) (k0_hw20 : k0_chk20 v159) (v164 : Elt F .i32), k0_chk21 v164) → sProp 𝕄}
    (h : ∀ (x1 : k0_chk17 ((idv E c 16))) (x3 : k0_chk18 ((idv E c 17))) (x5 : k0_chk19 ((idv E c 18))) (x7 : k0_chk20 ((idv E c 19))) (x9 : k0_chk21 ((idv E c 20))), St E K c 44 ⊢ Q ⟨(idv E c 16), x1, (idv E c 17), x3, (idv E c 18), x5, (idv E c 19), x7, (idv E c 20), x9⟩) :
    St E K c 34 ⊢ Runs c (onArgs (k0_part6 (F := F)) ((idv E c 15)) k0_hw16) Q := by
  rw [k0_part6_eq_skeleton]
  unfold onArgs k0_part6_skel
  refine step_issue (n := 34) 0 15 (by decide +kernel) (by exact rfl) (by exact rfl) (by exact rfl) ?_
  refine step_ids (n := 35) (i := 16) (by decide +kernel) (by decide) ?_
  refine step_assume (And.intro (tabInb (E.ok c _)) (tabInb (E.ok c _))) ?_
  refine step_issue (n := 36) 0 16 (by decide +kernel) (by exact rfl) (by exact rfl) (by exact rfl) ?_
  refine step_ids (n := 37) (i := 17) (by decide +kernel) (by decide) ?_
  refine step_assume (And.intro (tabInb (E.ok c _)) (tabInb (E.ok c _))) ?_
  refine step_issue (n := 38) 0 17 (by decide +kernel) (by exact rfl) (by exact rfl) (by exact rfl) ?_
  refine step_ids (n := 39) (i := 18) (by decide +kernel) (by decide) ?_
  refine step_assume (And.intro (tabInb (E.ok c _)) (tabInb (E.ok c _))) ?_
  refine step_issue (n := 40) 0 18 (by decide +kernel) (by exact rfl) (by exact rfl) (by exact rfl) ?_
  refine step_ids (n := 41) (i := 19) (by decide +kernel) (by decide) ?_
  refine step_assume (And.intro (tabInb (E.ok c _)) (tabInb (E.ok c _))) ?_
  refine step_issue (n := 42) 0 19 (by decide +kernel) (by exact rfl) (by exact rfl) (by exact rfl) ?_
  refine step_ids (n := 43) (i := 20) (by decide +kernel) (by decide) ?_
  refine step_assume (And.intro (tabInb (E.ok c _)) (tabInb (E.ok c _))) ?_
  exact step_ret (h _ _ _ _ _)

theorem part7 (k0_hw21 : k0_chk21 ((idv E c 20))) {Q : (Σ' (v169 : Elt F .i32) (k0_hw22 : k0_chk22 v169) (v174 : Elt F .i32) (k0_hw23 : k0_chk23 v174) (v179 : Elt F .i32) (k0_hw24 : k0_chk24 v179) (v184 : Elt F .i32) (k0_hw25 : k0_chk25 v184) (v189 : Elt F .i32), k0_chk26 v189) → sProp 𝕄}
    (h : ∀ (x1 : k0_chk22 ((idv E c 21))) (x3 : k0_chk23 ((idv E c 22))) (x5 : k0_chk24 ((idv E c 23))) (x7 : k0_chk25 ((idv E c 24))) (x9 : k0_chk26 ((idv E c 25))), St E K c 54 ⊢ Q ⟨(idv E c 21), x1, (idv E c 22), x3, (idv E c 23), x5, (idv E c 24), x7, (idv E c 25), x9⟩) :
    St E K c 44 ⊢ Runs c (onArgs (k0_part7 (F := F)) ((idv E c 20)) k0_hw21) Q := by
  rw [k0_part7_eq_skeleton]
  unfold onArgs k0_part7_skel
  refine step_issue (n := 44) 0 20 (by decide +kernel) (by exact rfl) (by exact rfl) (by exact rfl) ?_
  refine step_ids (n := 45) (i := 21) (by decide +kernel) (by decide) ?_
  refine step_assume (And.intro (tabInb (E.ok c _)) (tabInb (E.ok c _))) ?_
  refine step_issue (n := 46) 0 21 (by decide +kernel) (by exact rfl) (by exact rfl) (by exact rfl) ?_
  refine step_ids (n := 47) (i := 22) (by decide +kernel) (by decide) ?_
  refine step_assume (And.intro (tabInb (E.ok c _)) (tabInb (E.ok c _))) ?_
  refine step_issue (n := 48) 0 22 (by decide +kernel) (by exact rfl) (by exact rfl) (by exact rfl) ?_
  refine step_ids (n := 49) (i := 23) (by decide +kernel) (by decide) ?_
  refine step_assume (And.intro (tabInb (E.ok c _)) (tabInb (E.ok c _))) ?_
  refine step_issue (n := 50) 0 23 (by decide +kernel) (by exact rfl) (by exact rfl) (by exact rfl) ?_
  refine step_ids (n := 51) (i := 24) (by decide +kernel) (by decide) ?_
  refine step_assume (And.intro (tabInb (E.ok c _)) (tabInb (E.ok c _))) ?_
  refine step_issue (n := 52) 0 24 (by decide +kernel) (by exact rfl) (by exact rfl) (by exact rfl) ?_
  refine step_ids (n := 53) (i := 25) (by decide +kernel) (by decide) ?_
  refine step_assume (And.intro (tabInb (E.ok c _)) (tabInb (E.ok c _))) ?_
  exact step_ret (h _ _ _ _ _)

theorem part8 (k0_hw26 : k0_chk26 ((idv E c 25))) {Q : (Σ' (v194 : Elt F .i32) (k0_hw27 : k0_chk27 v194) (v199 : Elt F .i32) (k0_hw28 : k0_chk28 v199) (v204 : Elt F .i32) (k0_hw29 : k0_chk29 v204) (v209 : Elt F .i32) (k0_hw30 : k0_chk30 v209) (v214 : Elt F .i32), k0_chk31 v214) → sProp 𝕄}
    (h : ∀ (x1 : k0_chk27 ((idv E c 26))) (x3 : k0_chk28 ((idv E c 27))) (x5 : k0_chk29 ((idv E c 28))) (x7 : k0_chk30 ((idv E c 29))) (x9 : k0_chk31 ((idv E c 30))), St E K c 64 ⊢ Q ⟨(idv E c 26), x1, (idv E c 27), x3, (idv E c 28), x5, (idv E c 29), x7, (idv E c 30), x9⟩) :
    St E K c 54 ⊢ Runs c (onArgs (k0_part8 (F := F)) ((idv E c 25)) k0_hw26) Q := by
  rw [k0_part8_eq_skeleton]
  unfold onArgs k0_part8_skel
  refine step_issue (n := 54) 0 25 (by decide +kernel) (by exact rfl) (by exact rfl) (by exact rfl) ?_
  refine step_ids (n := 55) (i := 26) (by decide +kernel) (by decide) ?_
  refine step_assume (And.intro (tabInb (E.ok c _)) (tabInb (E.ok c _))) ?_
  refine step_issue (n := 56) 0 26 (by decide +kernel) (by exact rfl) (by exact rfl) (by exact rfl) ?_
  refine step_ids (n := 57) (i := 27) (by decide +kernel) (by decide) ?_
  refine step_assume (And.intro (tabInb (E.ok c _)) (tabInb (E.ok c _))) ?_
  refine step_issue (n := 58) 0 27 (by decide +kernel) (by exact rfl) (by exact rfl) (by exact rfl) ?_
  refine step_ids (n := 59) (i := 28) (by decide +kernel) (by decide) ?_
  refine step_assume (And.intro (tabInb (E.ok c _)) (tabInb (E.ok c _))) ?_
  refine step_issue (n := 60) 0 28 (by decide +kernel) (by exact rfl) (by exact rfl) (by exact rfl) ?_
  refine step_ids (n := 61) (i := 29) (by decide +kernel) (by decide) ?_
  refine step_assume (And.intro (tabInb (E.ok c _)) (tabInb (E.ok c _))) ?_
  refine step_issue (n := 62) 0 29 (by decide +kernel) (by exact rfl) (by exact rfl) (by exact rfl) ?_
  refine step_ids (n := 63) (i := 30) (by decide +kernel) (by decide) ?_
  refine step_assume (And.intro (tabInb (E.ok c _)) (tabInb (E.ok c _))) ?_
  exact step_ret (h _ _ _ _ _)

theorem part9 (k0_hw31 : k0_chk31 ((idv E c 30))) {Q : (Σ' (v219 : Elt F .i32) (k0_hw32 : k0_chk32 v219) (v224 : Elt F .i32) (k0_hw33 : k0_chk33 v224) (v229 : Elt F .i32) (k0_hw34 : k0_chk34 v229) (v234 : Elt F .i32) (k0_hw35 : k0_chk35 v234) (v239 : Elt F .i32), k0_chk36 v239) → sProp 𝕄}
    (h : ∀ (x1 : k0_chk32 ((idv E c 31))) (x3 : k0_chk33 ((idv E c 32))) (x5 : k0_chk34 ((idv E c 33))) (x7 : k0_chk35 ((idv E c 34))) (x9 : k0_chk36 ((idv E c 35))), St E K c 74 ⊢ Q ⟨(idv E c 31), x1, (idv E c 32), x3, (idv E c 33), x5, (idv E c 34), x7, (idv E c 35), x9⟩) :
    St E K c 64 ⊢ Runs c (onArgs (k0_part9 (F := F)) ((idv E c 30)) k0_hw31) Q := by
  rw [k0_part9_eq_skeleton]
  unfold onArgs k0_part9_skel
  refine step_issue (n := 64) 0 30 (by decide +kernel) (by exact rfl) (by exact rfl) (by exact rfl) ?_
  refine step_ids (n := 65) (i := 31) (by decide +kernel) (by decide) ?_
  refine step_assume (And.intro (tabInb (E.ok c _)) (tabInb (E.ok c _))) ?_
  refine step_issue (n := 66) 0 31 (by decide +kernel) (by exact rfl) (by exact rfl) (by exact rfl) ?_
  refine step_ids (n := 67) (i := 32) (by decide +kernel) (by decide) ?_
  refine step_assume (And.intro (tabInb (E.ok c _)) (tabInb (E.ok c _))) ?_
  refine step_issue (n := 68) 1 0 (by decide +kernel) (by exact rfl) (by exact rfl) (by exact rfl) ?_
  refine step_ids (n := 69) (i := 33) (by decide +kernel) (by decide) ?_
  refine step_assume (And.intro (tabInb (E.ok c _)) (tabInb (E.ok c _))) ?_
  refine step_issue (n := 70) 1 1 (by decide +kernel) (by exact rfl) (by exact rfl) (by exact rfl) ?_
  refine step_ids (n := 71) (i := 34) (by decide +kernel) (by decide) ?_
  refine step_assume (And.intro (tabInb (E.ok c _)) (tabInb (E.ok c _))) ?_
  refine step_issue (n := 72) 1 2 (by decide +kernel) (by exact rfl) (by exact rfl) (by exact rfl) ?_
  refine step_ids (n := 73) (i := 35) (by decide +kernel) (by decide) ?_
  refine step_assume (And.intro (tabInb (E.ok c _)) (tabInb (E.ok c _))) ?_
  exact step_ret (h _ _ _ _ _)

theorem part10 (k0_hw36 : k0_chk36 ((idv E c 35))) {Q : (Σ' (v244 : Elt F .i32) (k0_hw37 : k0_chk37 v244) (v249 : Elt F .i32) (k0_hw38 : k0_chk38 v249) (v254 : Elt F .i32) (k0_hw39 : k0_chk39 v254) (v259 : Elt F .i32) (k0_hw40 : k0_chk40 v259) (v264 : Elt F .i32), k0_chk41 v264) → sProp 𝕄}
    (h : ∀ (x1 : k0_chk37 ((idv E c 36))) (x3 : k0_chk38 ((idv E c 37))) (x5 : k0_chk39 ((idv E c 38))) (x7 : k0_chk40 ((idv E c 39))) (x9 : k0_chk41 ((idv E c 40))), St E K c 84 ⊢ Q ⟨(idv E c 36), x1, (idv E c 37), x3, (idv E c 38), x5, (idv E c 39), x7, (idv E c 40), x9⟩) :
    St E K c 74 ⊢ Runs c (onArgs (k0_part10 (F := F)) ((idv E c 35)) k0_hw36) Q := by
  rw [k0_part10_eq_skeleton]
  unfold onArgs k0_part10_skel
  refine step_issue (n := 74) 1 3 (by decide +kernel) (by exact rfl) (by exact rfl) (by exact rfl) ?_
  refine step_ids (n := 75) (i := 36) (by decide +kernel) (by decide) ?_
  refine step_assume (And.intro (tabInb (E.ok c _)) (tabInb (E.ok c _))) ?_
  refine step_issue (n := 76) 1 4 (by decide +kernel) (by exact rfl) (by exact rfl) (by exact rfl) ?_
  refine step_ids (n := 77) (i := 37) (by decide +kernel) (by decide) ?_
  refine step_assume (And.intro (tabInb (E.ok c _)) (tabInb (E.ok c _))) ?_
  refine step_issue (n := 78) 1 5 (by decide +kernel) (by exact rfl) (by exact rfl) (by exact rfl) ?_
  refine step_ids (n := 79) (i := 38) (by decide +kernel) (by decide) ?_
  refine step_assume (And.intro (tabInb (E.ok c _)) (tabInb (E.ok c _))) ?_
  refine step_issue (n := 80) 1 6 (by decide +kernel) (by exact rfl) (by exact rfl) (by exact rfl) ?_
  refine step_ids (n := 81) (i := 39) (by decide +kernel) (by decide) ?_
  refine step_assume (And.intro (tabInb (E.ok c _)) (tabInb (E.ok c _))) ?_
  refine step_issue (n := 82) 1 7 (by decide +kernel) (by exact rfl) (by exact rfl) (by exact rfl) ?_
  refine step_ids (n := 83) (i := 40) (by decide +kernel) (by decide) ?_
  refine step_assume (And.intro (tabInb (E.ok c _)) (tabInb (E.ok c _))) ?_
  exact step_ret (h _ _ _ _ _)

theorem part11 (k0_hw41 : k0_chk41 ((idv E c 40))) {Q : (Σ' (v269 : Elt F .i32) (k0_hw42 : k0_chk42 v269) (v274 : Elt F .i32) (k0_hw43 : k0_chk43 v274) (v279 : Elt F .i32) (k0_hw44 : k0_chk44 v279) (v284 : Elt F .i32) (k0_hw45 : k0_chk45 v284) (v289 : Elt F .i32), k0_chk46 v289) → sProp 𝕄}
    (h : ∀ (x1 : k0_chk42 ((idv E c 41))) (x3 : k0_chk43 ((idv E c 42))) (x5 : k0_chk44 ((idv E c 43))) (x7 : k0_chk45 ((idv E c 44))) (x9 : k0_chk46 ((idv E c 45))), St E K c 94 ⊢ Q ⟨(idv E c 41), x1, (idv E c 42), x3, (idv E c 43), x5, (idv E c 44), x7, (idv E c 45), x9⟩) :
    St E K c 84 ⊢ Runs c (onArgs (k0_part11 (F := F)) ((idv E c 40)) k0_hw41) Q := by
  rw [k0_part11_eq_skeleton]
  unfold onArgs k0_part11_skel
  refine step_issue (n := 84) 1 8 (by decide +kernel) (by exact rfl) (by exact rfl) (by exact rfl) ?_
  refine step_ids (n := 85) (i := 41) (by decide +kernel) (by decide) ?_
  refine step_assume (And.intro (tabInb (E.ok c _)) (tabInb (E.ok c _))) ?_
  refine step_issue (n := 86) 1 9 (by decide +kernel) (by exact rfl) (by exact rfl) (by exact rfl) ?_
  refine step_ids (n := 87) (i := 42) (by decide +kernel) (by decide) ?_
  refine step_assume (And.intro (tabInb (E.ok c _)) (tabInb (E.ok c _))) ?_
  refine step_issue (n := 88) 1 10 (by decide +kernel) (by exact rfl) (by exact rfl) (by exact rfl) ?_
  refine step_ids (n := 89) (i := 43) (by decide +kernel) (by decide) ?_
  refine step_assume (And.intro (tabInb (E.ok c _)) (tabInb (E.ok c _))) ?_
  refine step_issue (n := 90) 1 11 (by decide +kernel) (by exact rfl) (by exact rfl) (by exact rfl) ?_
  refine step_ids (n := 91) (i := 44) (by decide +kernel) (by decide) ?_
  refine step_assume (And.intro (tabInb (E.ok c _)) (tabInb (E.ok c _))) ?_
  refine step_issue (n := 92) 1 12 (by decide +kernel) (by exact rfl) (by exact rfl) (by exact rfl) ?_
  refine step_ids (n := 93) (i := 45) (by decide +kernel) (by decide) ?_
  refine step_assume (And.intro (tabInb (E.ok c _)) (tabInb (E.ok c _))) ?_
  exact step_ret (h _ _ _ _ _)

theorem part12 (k0_hw46 : k0_chk46 ((idv E c 45))) {Q : (Σ' (v294 : Elt F .i32) (k0_hw47 : k0_chk47 v294) (v299 : Elt F .i32) (k0_hw48 : k0_chk48 v299) (v304 : Elt F .i32) (k0_hw49 : k0_chk49 v304) (v309 : Elt F .i32) (k0_hw50 : k0_chk50 v309) (v314 : Elt F .i32), k0_chk51 v314) → sProp 𝕄}
    (h : ∀ (x1 : k0_chk47 ((idv E c 46))) (x3 : k0_chk48 ((idv E c 47))) (x5 : k0_chk49 ((idv E c 48))) (x7 : k0_chk50 ((idv E c 49))) (x9 : k0_chk51 ((idv E c 50))), St E K c 104 ⊢ Q ⟨(idv E c 46), x1, (idv E c 47), x3, (idv E c 48), x5, (idv E c 49), x7, (idv E c 50), x9⟩) :
    St E K c 94 ⊢ Runs c (onArgs (k0_part12 (F := F)) ((idv E c 45)) k0_hw46) Q := by
  rw [k0_part12_eq_skeleton]
  unfold onArgs k0_part12_skel
  refine step_issue (n := 94) 1 13 (by decide +kernel) (by exact rfl) (by exact rfl) (by exact rfl) ?_
  refine step_ids (n := 95) (i := 46) (by decide +kernel) (by decide) ?_
  refine step_assume (And.intro (tabInb (E.ok c _)) (tabInb (E.ok c _))) ?_
  refine step_issue (n := 96) 1 14 (by decide +kernel) (by exact rfl) (by exact rfl) (by exact rfl) ?_
  refine step_ids (n := 97) (i := 47) (by decide +kernel) (by decide) ?_
  refine step_assume (And.intro (tabInb (E.ok c _)) (tabInb (E.ok c _))) ?_
  refine step_issue (n := 98) 1 15 (by decide +kernel) (by exact rfl) (by exact rfl) (by exact rfl) ?_
  refine step_ids (n := 99) (i := 48) (by decide +kernel) (by decide) ?_
  refine step_assume (And.intro (tabInb (E.ok c _)) (tabInb (E.ok c _))) ?_
  refine step_issue (n := 100) 1 16 (by decide +kernel) (by exact rfl) (by exact rfl) (by exact rfl) ?_
  refine step_ids (n := 101) (i := 49) (by decide +kernel) (by decide) ?_
  refine step_assume (And.intro (tabInb (E.ok c _)) (tabInb (E.ok c _))) ?_
  refine step_issue (n := 102) 1 17 (by decide +kernel) (by exact rfl) (by exact rfl) (by exact rfl) ?_
  refine step_ids (n := 103) (i := 50) (by decide +kernel) (by decide) ?_
  refine step_assume (And.intro (tabInb (E.ok c _)) (tabInb (E.ok c _))) ?_
  exact step_ret (h _ _ _ _ _)

theorem part13 (k0_hw51 : k0_chk51 ((idv E c 50))) {Q : (Σ' (v319 : Elt F .i32) (k0_hw52 : k0_chk52 v319) (v324 : Elt F .i32) (k0_hw53 : k0_chk53 v324) (v329 : Elt F .i32) (k0_hw54 : k0_chk54 v329) (v334 : Elt F .i32) (k0_hw55 : k0_chk55 v334) (v339 : Elt F .i32), k0_chk56 v339) → sProp 𝕄}
    (h : ∀ (x1 : k0_chk52 ((idv E c 51))) (x3 : k0_chk53 ((idv E c 52))) (x5 : k0_chk54 ((idv E c 53))) (x7 : k0_chk55 ((idv E c 54))) (x9 : k0_chk56 ((idv E c 55))), St E K c 114 ⊢ Q ⟨(idv E c 51), x1, (idv E c 52), x3, (idv E c 53), x5, (idv E c 54), x7, (idv E c 55), x9⟩) :
    St E K c 104 ⊢ Runs c (onArgs (k0_part13 (F := F)) ((idv E c 50)) k0_hw51) Q := by
  rw [k0_part13_eq_skeleton]
  unfold onArgs k0_part13_skel
  refine step_issue (n := 104) 1 18 (by decide +kernel) (by exact rfl) (by exact rfl) (by exact rfl) ?_
  refine step_ids (n := 105) (i := 51) (by decide +kernel) (by decide) ?_
  refine step_assume (And.intro (tabInb (E.ok c _)) (tabInb (E.ok c _))) ?_
  refine step_issue (n := 106) 1 19 (by decide +kernel) (by exact rfl) (by exact rfl) (by exact rfl) ?_
  refine step_ids (n := 107) (i := 52) (by decide +kernel) (by decide) ?_
  refine step_assume (And.intro (tabInb (E.ok c _)) (tabInb (E.ok c _))) ?_
  refine step_issue (n := 108) 1 20 (by decide +kernel) (by exact rfl) (by exact rfl) (by exact rfl) ?_
  refine step_ids (n := 109) (i := 53) (by decide +kernel) (by decide) ?_
  refine step_assume (And.intro (tabInb (E.ok c _)) (tabInb (E.ok c _))) ?_
  refine step_issue (n := 110) 1 21 (by decide +kernel) (by exact rfl) (by exact rfl) (by exact rfl) ?_
  refine step_ids (n := 111) (i := 54) (by decide +kernel) (by decide) ?_
  refine step_assume (And.intro (tabInb (E.ok c _)) (tabInb (E.ok c _))) ?_
  refine step_issue (n := 112) 1 22 (by decide +kernel) (by exact rfl) (by exact rfl) (by exact rfl) ?_
  refine step_ids (n := 113) (i := 55) (by decide +kernel) (by decide) ?_
  refine step_assume (And.intro (tabInb (E.ok c _)) (tabInb (E.ok c _))) ?_
  exact step_ret (h _ _ _ _ _)

theorem part14 (k0_hw56 : k0_chk56 ((idv E c 55))) {Q : (Σ' (v344 : Elt F .i32) (k0_hw57 : k0_chk57 v344) (v349 : Elt F .i32) (k0_hw58 : k0_chk58 v349) (v354 : Elt F .i32) (k0_hw59 : k0_chk59 v354) (v359 : Elt F .i32) (k0_hw60 : k0_chk60 v359) (v364 : Elt F .i32), k0_chk61 v364) → sProp 𝕄}
    (h : ∀ (x1 : k0_chk57 ((idv E c 56))) (x3 : k0_chk58 ((idv E c 57))) (x5 : k0_chk59 ((idv E c 58))) (x7 : k0_chk60 ((idv E c 59))) (x9 : k0_chk61 ((idv E c 60))), St E K c 124 ⊢ Q ⟨(idv E c 56), x1, (idv E c 57), x3, (idv E c 58), x5, (idv E c 59), x7, (idv E c 60), x9⟩) :
    St E K c 114 ⊢ Runs c (onArgs (k0_part14 (F := F)) ((idv E c 55)) k0_hw56) Q := by
  rw [k0_part14_eq_skeleton]
  unfold onArgs k0_part14_skel
  refine step_issue (n := 114) 1 23 (by decide +kernel) (by exact rfl) (by exact rfl) (by exact rfl) ?_
  refine step_ids (n := 115) (i := 56) (by decide +kernel) (by decide) ?_
  refine step_assume (And.intro (tabInb (E.ok c _)) (tabInb (E.ok c _))) ?_
  refine step_issue (n := 116) 1 24 (by decide +kernel) (by exact rfl) (by exact rfl) (by exact rfl) ?_
  refine step_ids (n := 117) (i := 57) (by decide +kernel) (by decide) ?_
  refine step_assume (And.intro (tabInb (E.ok c _)) (tabInb (E.ok c _))) ?_
  refine step_issue (n := 118) 1 25 (by decide +kernel) (by exact rfl) (by exact rfl) (by exact rfl) ?_
  refine step_ids (n := 119) (i := 58) (by decide +kernel) (by decide) ?_
  refine step_assume (And.intro (tabInb (E.ok c _)) (tabInb (E.ok c _))) ?_
  refine step_issue (n := 120) 1 26 (by decide +kernel) (by exact rfl) (by exact rfl) (by exact rfl) ?_
  refine step_ids (n := 121) (i := 59) (by decide +kernel) (by decide) ?_
  refine step_assume (And.intro (tabInb (E.ok c _)) (tabInb (E.ok c _))) ?_
  refine step_issue (n := 122) 1 27 (by decide +kernel) (by exact rfl) (by exact rfl) (by exact rfl) ?_
  refine step_ids (n := 123) (i := 60) (by decide +kernel) (by decide) ?_
  refine step_assume (And.intro (tabInb (E.ok c _)) (tabInb (E.ok c _))) ?_
  exact step_ret (h _ _ _ _ _)

theorem part15 (k0_hw61 : k0_chk61 ((idv E c 60))) {Q : (Σ' (v369 : Elt F .i32) (k0_hw62 : k0_chk62 v369) (v374 : Elt F .i32) (k0_hw63 : k0_chk63 v374) (v379 : Elt F .i32) (k0_hw64 : k0_chk64 v379) (v384 : Elt F .i32) (k0_hw65 : k0_chk65 v384) (v389 : Elt F .i32), k0_chk66 v389) → sProp 𝕄}
    (h : ∀ (x1 : k0_chk62 ((idv E c 61))) (x3 : k0_chk63 ((idv E c 62))) (x5 : k0_chk64 ((idv E c 63))) (x7 : k0_chk65 ((idv E c 64))) (x9 : k0_chk66 ((idv E c 65))), St E K c 134 ⊢ Q ⟨(idv E c 61), x1, (idv E c 62), x3, (idv E c 63), x5, (idv E c 64), x7, (idv E c 65), x9⟩) :
    St E K c 124 ⊢ Runs c (onArgs (k0_part15 (F := F)) ((idv E c 60)) k0_hw61) Q := by
  rw [k0_part15_eq_skeleton]
  unfold onArgs k0_part15_skel
  refine step_issue (n := 124) 1 28 (by decide +kernel) (by exact rfl) (by exact rfl) (by exact rfl) ?_
  refine step_ids (n := 125) (i := 61) (by decide +kernel) (by decide) ?_
  refine step_assume (And.intro (tabInb (E.ok c _)) (tabInb (E.ok c _))) ?_
  refine step_issue (n := 126) 1 29 (by decide +kernel) (by exact rfl) (by exact rfl) (by exact rfl) ?_
  refine step_ids (n := 127) (i := 62) (by decide +kernel) (by decide) ?_
  refine step_assume (And.intro (tabInb (E.ok c _)) (tabInb (E.ok c _))) ?_
  refine step_issue (n := 128) 1 30 (by decide +kernel) (by exact rfl) (by exact rfl) (by exact rfl) ?_
  refine step_ids (n := 129) (i := 63) (by decide +kernel) (by decide) ?_
  refine step_assume (And.intro (tabInb (E.ok c _)) (tabInb (E.ok c _))) ?_
  refine step_issue (n := 130) 1 31 (by decide +kernel) (by exact rfl) (by exact rfl) (by exact rfl) ?_
  refine step_ids (n := 131) (i := 64) (by decide +kernel) (by decide) ?_
  refine step_assume (And.intro (tabInb (E.ok c _)) (tabInb (E.ok c _))) ?_
  refine step_issue (n := 132) 2 0 (by decide +kernel) (by exact rfl) (by exact rfl) (by exact rfl) ?_
  refine step_ids (n := 133) (i := 65) (by decide +kernel) (by decide) ?_
  refine step_assume (And.intro (tabInb (E.ok c _)) (tabInb (E.ok c _))) ?_
  exact step_ret (h _ _ _ _ _)

theorem part16 (k0_hw66 : k0_chk66 ((idv E c 65))) {Q : (Σ' (v394 : Elt F .i32) (k0_hw67 : k0_chk67 v394) (v399 : Elt F .i32) (k0_hw68 : k0_chk68 v399) (v404 : Elt F .i32) (k0_hw69 : k0_chk69 v404) (v409 : Elt F .i32) (k0_hw70 : k0_chk70 v409) (v414 : Elt F .i32), k0_chk71 v414) → sProp 𝕄}
    (h : ∀ (x1 : k0_chk67 ((idv E c 66))) (x3 : k0_chk68 ((idv E c 67))) (x5 : k0_chk69 ((idv E c 68))) (x7 : k0_chk70 ((idv E c 69))) (x9 : k0_chk71 ((idv E c 70))), St E K c 144 ⊢ Q ⟨(idv E c 66), x1, (idv E c 67), x3, (idv E c 68), x5, (idv E c 69), x7, (idv E c 70), x9⟩) :
    St E K c 134 ⊢ Runs c (onArgs (k0_part16 (F := F)) ((idv E c 65)) k0_hw66) Q := by
  rw [k0_part16_eq_skeleton]
  unfold onArgs k0_part16_skel
  refine step_issue (n := 134) 2 1 (by decide +kernel) (by exact rfl) (by exact rfl) (by exact rfl) ?_
  refine step_ids (n := 135) (i := 66) (by decide +kernel) (by decide) ?_
  refine step_assume (And.intro (tabInb (E.ok c _)) (tabInb (E.ok c _))) ?_
  refine step_issue (n := 136) 2 2 (by decide +kernel) (by exact rfl) (by exact rfl) (by exact rfl) ?_
  refine step_ids (n := 137) (i := 67) (by decide +kernel) (by decide) ?_
  refine step_assume (And.intro (tabInb (E.ok c _)) (tabInb (E.ok c _))) ?_
  refine step_issue (n := 138) 2 3 (by decide +kernel) (by exact rfl) (by exact rfl) (by exact rfl) ?_
  refine step_ids (n := 139) (i := 68) (by decide +kernel) (by decide) ?_
  refine step_assume (And.intro (tabInb (E.ok c _)) (tabInb (E.ok c _))) ?_
  refine step_issue (n := 140) 2 4 (by decide +kernel) (by exact rfl) (by exact rfl) (by exact rfl) ?_
  refine step_ids (n := 141) (i := 69) (by decide +kernel) (by decide) ?_
  refine step_assume (And.intro (tabInb (E.ok c _)) (tabInb (E.ok c _))) ?_
  refine step_issue (n := 142) 2 5 (by decide +kernel) (by exact rfl) (by exact rfl) (by exact rfl) ?_
  refine step_ids (n := 143) (i := 70) (by decide +kernel) (by decide) ?_
  refine step_assume (And.intro (tabInb (E.ok c _)) (tabInb (E.ok c _))) ?_
  exact step_ret (h _ _ _ _ _)

theorem part17 (k0_hw71 : k0_chk71 ((idv E c 70))) {Q : (Σ' (v419 : Elt F .i32) (k0_hw72 : k0_chk72 v419) (v424 : Elt F .i32) (k0_hw73 : k0_chk73 v424) (v429 : Elt F .i32) (k0_hw74 : k0_chk74 v429) (v434 : Elt F .i32) (k0_hw75 : k0_chk75 v434) (v439 : Elt F .i32), k0_chk76 v439) → sProp 𝕄}
    (h : ∀ (x1 : k0_chk72 ((idv E c 71))) (x3 : k0_chk73 ((idv E c 72))) (x5 : k0_chk74 ((idv E c 73))) (x7 : k0_chk75 ((idv E c 74))) (x9 : k0_chk76 ((idv E c 75))), St E K c 154 ⊢ Q ⟨(idv E c 71), x1, (idv E c 72), x3, (idv E c 73), x5, (idv E c 74), x7, (idv E c 75), x9⟩) :
    St E K c 144 ⊢ Runs c (onArgs (k0_part17 (F := F)) ((idv E c 70)) k0_hw71) Q := by
  rw [k0_part17_eq_skeleton]
  unfold onArgs k0_part17_skel
  refine step_issue (n := 144) 2 6 (by decide +kernel) (by exact rfl) (by exact rfl) (by exact rfl) ?_
  refine step_ids (n := 145) (i := 71) (by decide +kernel) (by decide) ?_
  refine step_assume (And.intro (tabInb (E.ok c _)) (tabInb (E.ok c _))) ?_
  refine step_issue (n := 146) 2 7 (by decide +kernel) (by exact rfl) (by exact rfl) (by exact rfl) ?_
  refine step_ids (n := 147) (i := 72) (by decide +kernel) (by decide) ?_
  refine step_assume (And.intro (tabInb (E.ok c _)) (tabInb (E.ok c _))) ?_
  refine step_issue (n := 148) 2 8 (by decide +kernel) (by exact rfl) (by exact rfl) (by exact rfl) ?_
  refine step_ids (n := 149) (i := 73) (by decide +kernel) (by decide) ?_
  refine step_assume (And.intro (tabInb (E.ok c _)) (tabInb (E.ok c _))) ?_
  refine step_issue (n := 150) 2 9 (by decide +kernel) (by exact rfl) (by exact rfl) (by exact rfl) ?_
  refine step_ids (n := 151) (i := 74) (by decide +kernel) (by decide) ?_
  refine step_assume (And.intro (tabInb (E.ok c _)) (tabInb (E.ok c _))) ?_
  refine step_issue (n := 152) 2 10 (by decide +kernel) (by exact rfl) (by exact rfl) (by exact rfl) ?_
  refine step_ids (n := 153) (i := 75) (by decide +kernel) (by decide) ?_
  refine step_assume (And.intro (tabInb (E.ok c _)) (tabInb (E.ok c _))) ?_
  exact step_ret (h _ _ _ _ _)

theorem part18 (k0_hw76 : k0_chk76 ((idv E c 75))) {Q : (Σ' (v444 : Elt F .i32) (k0_hw77 : k0_chk77 v444) (v449 : Elt F .i32) (k0_hw78 : k0_chk78 v449) (v454 : Elt F .i32) (k0_hw79 : k0_chk79 v454) (v459 : Elt F .i32) (k0_hw80 : k0_chk80 v459) (v464 : Elt F .i32), k0_chk81 v464) → sProp 𝕄}
    (h : ∀ (x1 : k0_chk77 ((idv E c 76))) (x3 : k0_chk78 ((idv E c 77))) (x5 : k0_chk79 ((idv E c 78))) (x7 : k0_chk80 ((idv E c 79))) (x9 : k0_chk81 ((idv E c 80))), St E K c 164 ⊢ Q ⟨(idv E c 76), x1, (idv E c 77), x3, (idv E c 78), x5, (idv E c 79), x7, (idv E c 80), x9⟩) :
    St E K c 154 ⊢ Runs c (onArgs (k0_part18 (F := F)) ((idv E c 75)) k0_hw76) Q := by
  rw [k0_part18_eq_skeleton]
  unfold onArgs k0_part18_skel
  refine step_issue (n := 154) 2 11 (by decide +kernel) (by exact rfl) (by exact rfl) (by exact rfl) ?_
  refine step_ids (n := 155) (i := 76) (by decide +kernel) (by decide) ?_
  refine step_assume (And.intro (tabInb (E.ok c _)) (tabInb (E.ok c _))) ?_
  refine step_issue (n := 156) 2 12 (by decide +kernel) (by exact rfl) (by exact rfl) (by exact rfl) ?_
  refine step_ids (n := 157) (i := 77) (by decide +kernel) (by decide) ?_
  refine step_assume (And.intro (tabInb (E.ok c _)) (tabInb (E.ok c _))) ?_
  refine step_issue (n := 158) 2 13 (by decide +kernel) (by exact rfl) (by exact rfl) (by exact rfl) ?_
  refine step_ids (n := 159) (i := 78) (by decide +kernel) (by decide) ?_
  refine step_assume (And.intro (tabInb (E.ok c _)) (tabInb (E.ok c _))) ?_
  refine step_issue (n := 160) 2 14 (by decide +kernel) (by exact rfl) (by exact rfl) (by exact rfl) ?_
  refine step_ids (n := 161) (i := 79) (by decide +kernel) (by decide) ?_
  refine step_assume (And.intro (tabInb (E.ok c _)) (tabInb (E.ok c _))) ?_
  refine step_issue (n := 162) 2 15 (by decide +kernel) (by exact rfl) (by exact rfl) (by exact rfl) ?_
  refine step_ids (n := 163) (i := 80) (by decide +kernel) (by decide) ?_
  refine step_assume (And.intro (tabInb (E.ok c _)) (tabInb (E.ok c _))) ?_
  exact step_ret (h _ _ _ _ _)

theorem part19 (k0_hw81 : k0_chk81 ((idv E c 80))) {Q : (Σ' (v469 : Elt F .i32) (k0_hw82 : k0_chk82 v469) (v474 : Elt F .i32) (k0_hw83 : k0_chk83 v474) (v479 : Elt F .i32) (k0_hw84 : k0_chk84 v479) (v484 : Elt F .i32) (k0_hw85 : k0_chk85 v484) (v489 : Elt F .i32), k0_chk86 v489) → sProp 𝕄}
    (h : ∀ (x1 : k0_chk82 ((idv E c 81))) (x3 : k0_chk83 ((idv E c 82))) (x5 : k0_chk84 ((idv E c 83))) (x7 : k0_chk85 ((idv E c 84))) (x9 : k0_chk86 ((idv E c 85))), St E K c 174 ⊢ Q ⟨(idv E c 81), x1, (idv E c 82), x3, (idv E c 83), x5, (idv E c 84), x7, (idv E c 85), x9⟩) :
    St E K c 164 ⊢ Runs c (onArgs (k0_part19 (F := F)) ((idv E c 80)) k0_hw81) Q := by
  rw [k0_part19_eq_skeleton]
  unfold onArgs k0_part19_skel
  refine step_issue (n := 164) 2 16 (by decide +kernel) (by exact rfl) (by exact rfl) (by exact rfl) ?_
  refine step_ids (n := 165) (i := 81) (by decide +kernel) (by decide) ?_
  refine step_assume (And.intro (tabInb (E.ok c _)) (tabInb (E.ok c _))) ?_
  refine step_issue (n := 166) 2 17 (by decide +kernel) (by exact rfl) (by exact rfl) (by exact rfl) ?_
  refine step_ids (n := 167) (i := 82) (by decide +kernel) (by decide) ?_
  refine step_assume (And.intro (tabInb (E.ok c _)) (tabInb (E.ok c _))) ?_
  refine step_issue (n := 168) 2 18 (by decide +kernel) (by exact rfl) (by exact rfl) (by exact rfl) ?_
  refine step_ids (n := 169) (i := 83) (by decide +kernel) (by decide) ?_
  refine step_assume (And.intro (tabInb (E.ok c _)) (tabInb (E.ok c _))) ?_
  refine step_issue (n := 170) 2 19 (by decide +kernel) (by exact rfl) (by exact rfl) (by exact rfl) ?_
  refine step_ids (n := 171) (i := 84) (by decide +kernel) (by decide) ?_
  refine step_assume (And.intro (tabInb (E.ok c _)) (tabInb (E.ok c _))) ?_
  refine step_issue (n := 172) 2 20 (by decide +kernel) (by exact rfl) (by exact rfl) (by exact rfl) ?_
  refine step_ids (n := 173) (i := 85) (by decide +kernel) (by decide) ?_
  refine step_assume (And.intro (tabInb (E.ok c _)) (tabInb (E.ok c _))) ?_
  exact step_ret (h _ _ _ _ _)

theorem part20 (k0_hw86 : k0_chk86 ((idv E c 85))) {Q : (Σ' (v494 : Elt F .i32) (k0_hw87 : k0_chk87 v494) (v499 : Elt F .i32) (k0_hw88 : k0_chk88 v499) (v504 : Elt F .i32) (k0_hw89 : k0_chk89 v504) (v509 : Elt F .i32) (k0_hw90 : k0_chk90 v509) (v514 : Elt F .i32), k0_chk91 v514) → sProp 𝕄}
    (h : ∀ (x1 : k0_chk87 ((idv E c 86))) (x3 : k0_chk88 ((idv E c 87))) (x5 : k0_chk89 ((idv E c 88))) (x7 : k0_chk90 ((idv E c 89))) (x9 : k0_chk91 ((idv E c 90))), St E K c 184 ⊢ Q ⟨(idv E c 86), x1, (idv E c 87), x3, (idv E c 88), x5, (idv E c 89), x7, (idv E c 90), x9⟩) :
    St E K c 174 ⊢ Runs c (onArgs (k0_part20 (F := F)) ((idv E c 85)) k0_hw86) Q := by
  rw [k0_part20_eq_skeleton]
  unfold onArgs k0_part20_skel
  refine step_issue (n := 174) 2 21 (by decide +kernel) (by exact rfl) (by exact rfl) (by exact rfl) ?_
  refine step_ids (n := 175) (i := 86) (by decide +kernel) (by decide) ?_
  refine step_assume (And.intro (tabInb (E.ok c _)) (tabInb (E.ok c _))) ?_
  refine step_issue (n := 176) 2 22 (by decide +kernel) (by exact rfl) (by exact rfl) (by exact rfl) ?_
  refine step_ids (n := 177) (i := 87) (by decide +kernel) (by decide) ?_
  refine step_assume (And.intro (tabInb (E.ok c _)) (tabInb (E.ok c _))) ?_
  refine step_issue (n := 178) 2 23 (by decide +kernel) (by exact rfl) (by exact rfl) (by exact rfl) ?_
  refine step_ids (n := 179) (i := 88) (by decide +kernel) (by decide) ?_
  refine step_assume (And.intro (tabInb (E.ok c _)) (tabInb (E.ok c _))) ?_
  refine step_issue (n := 180) 2 24 (by decide +kernel) (by exact rfl) (by exact rfl) (by exact rfl) ?_
  refine step_ids (n := 181) (i := 89) (by decide +kernel) (by decide) ?_
  refine step_assume (And.intro (tabInb (E.ok c _)) (tabInb (E.ok c _))) ?_
  refine step_issue (n := 182) 2 25 (by decide +kernel) (by exact rfl) (by exact rfl) (by exact rfl) ?_
  refine step_ids (n := 183) (i := 90) (by decide +kernel) (by decide) ?_
  refine step_assume (And.intro (tabInb (E.ok c _)) (tabInb (E.ok c _))) ?_
  exact step_ret (h _ _ _ _ _)

theorem part21 (k0_hw91 : k0_chk91 ((idv E c 90))) {Q : (Σ' (v519 : Elt F .i32) (k0_hw92 : k0_chk92 v519) (v524 : Elt F .i32) (k0_hw93 : k0_chk93 v524) (v529 : Elt F .i32) (k0_hw94 : k0_chk94 v529) (v534 : Elt F .i32) (k0_hw95 : k0_chk95 v534) (v539 : Elt F .i32), k0_chk96 v539) → sProp 𝕄}
    (h : ∀ (x1 : k0_chk92 ((idv E c 91))) (x3 : k0_chk93 ((idv E c 92))) (x5 : k0_chk94 ((idv E c 93))) (x7 : k0_chk95 ((idv E c 94))) (x9 : k0_chk96 ((idv E c 95))), St E K c 194 ⊢ Q ⟨(idv E c 91), x1, (idv E c 92), x3, (idv E c 93), x5, (idv E c 94), x7, (idv E c 95), x9⟩) :
    St E K c 184 ⊢ Runs c (onArgs (k0_part21 (F := F)) ((idv E c 90)) k0_hw91) Q := by
  rw [k0_part21_eq_skeleton]
  unfold onArgs k0_part21_skel
  refine step_issue (n := 184) 2 26 (by decide +kernel) (by exact rfl) (by exact rfl) (by exact rfl) ?_
  refine step_ids (n := 185) (i := 91) (by decide +kernel) (by decide) ?_
  refine step_assume (And.intro (tabInb (E.ok c _)) (tabInb (E.ok c _))) ?_
  refine step_issue (n := 186) 2 27 (by decide +kernel) (by exact rfl) (by exact rfl) (by exact rfl) ?_
  refine step_ids (n := 187) (i := 92) (by decide +kernel) (by decide) ?_
  refine step_assume (And.intro (tabInb (E.ok c _)) (tabInb (E.ok c _))) ?_
  refine step_issue (n := 188) 2 28 (by decide +kernel) (by exact rfl) (by exact rfl) (by exact rfl) ?_
  refine step_ids (n := 189) (i := 93) (by decide +kernel) (by decide) ?_
  refine step_assume (And.intro (tabInb (E.ok c _)) (tabInb (E.ok c _))) ?_
  refine step_issue (n := 190) 2 29 (by decide +kernel) (by exact rfl) (by exact rfl) (by exact rfl) ?_
  refine step_ids (n := 191) (i := 94) (by decide +kernel) (by decide) ?_
  refine step_assume (And.intro (tabInb (E.ok c _)) (tabInb (E.ok c _))) ?_
  refine step_issue (n := 192) 2 30 (by decide +kernel) (by exact rfl) (by exact rfl) (by exact rfl) ?_
  refine step_ids (n := 193) (i := 95) (by decide +kernel) (by decide) ?_
  refine step_assume (And.intro (tabInb (E.ok c _)) (tabInb (E.ok c _))) ?_
  exact step_ret (h _ _ _ _ _)

theorem part22 (k0_hw96 : k0_chk96 ((idv E c 95))) {Q : (Σ' (v544 : Elt F .i32) (k0_hw97 : k0_chk97 v544) (v549 : Elt F .i32) (k0_hw98 : k0_chk98 v549) (v554 : Elt F .i32) (k0_hw99 : k0_chk99 v554) (v559 : Elt F .i32) (k0_hw100 : k0_chk100 v559) (v564 : Elt F .i32), k0_chk101 v564) → sProp 𝕄}
    (h : ∀ (x1 : k0_chk97 ((idv E c 96))) (x3 : k0_chk98 ((idv E c 97))) (x5 : k0_chk99 ((idv E c 98))) (x7 : k0_chk100 ((idv E c 99))) (x9 : k0_chk101 ((idv E c 100))), St E K c 204 ⊢ Q ⟨(idv E c 96), x1, (idv E c 97), x3, (idv E c 98), x5, (idv E c 99), x7, (idv E c 100), x9⟩) :
    St E K c 194 ⊢ Runs c (onArgs (k0_part22 (F := F)) ((idv E c 95)) k0_hw96) Q := by
  rw [k0_part22_eq_skeleton]
  unfold onArgs k0_part22_skel
  refine step_issue (n := 194) 2 31 (by decide +kernel) (by exact rfl) (by exact rfl) (by exact rfl) ?_
  refine step_ids (n := 195) (i := 96) (by decide +kernel) (by decide) ?_
  refine step_assume (And.intro (tabInb (E.ok c _)) (tabInb (E.ok c _))) ?_
  refine step_issue (n := 196) 3 0 (by decide +kernel) (by exact rfl) (by exact rfl) (by exact rfl) ?_
  refine step_ids (n := 197) (i := 97) (by decide +kernel) (by decide) ?_
  refine step_assume (And.intro (tabInb (E.ok c _)) (tabInb (E.ok c _))) ?_
  refine step_issue (n := 198) 3 1 (by decide +kernel) (by exact rfl) (by exact rfl) (by exact rfl) ?_
  refine step_ids (n := 199) (i := 98) (by decide +kernel) (by decide) ?_
  refine step_assume (And.intro (tabInb (E.ok c _)) (tabInb (E.ok c _))) ?_
  refine step_issue (n := 200) 3 2 (by decide +kernel) (by exact rfl) (by exact rfl) (by exact rfl) ?_
  refine step_ids (n := 201) (i := 99) (by decide +kernel) (by decide) ?_
  refine step_assume (And.intro (tabInb (E.ok c _)) (tabInb (E.ok c _))) ?_
  refine step_issue (n := 202) 3 3 (by decide +kernel) (by exact rfl) (by exact rfl) (by exact rfl) ?_
  refine step_ids (n := 203) (i := 100) (by decide +kernel) (by decide) ?_
  refine step_assume (And.intro (tabInb (E.ok c _)) (tabInb (E.ok c _))) ?_
  exact step_ret (h _ _ _ _ _)

theorem part23 (k0_hw101 : k0_chk101 ((idv E c 100))) {Q : (Σ' (v569 : Elt F .i32) (k0_hw102 : k0_chk102 v569) (v574 : Elt F .i32) (k0_hw103 : k0_chk103 v574) (v579 : Elt F .i32) (k0_hw104 : k0_chk104 v579) (v584 : Elt F .i32) (k0_hw105 : k0_chk105 v584) (v589 : Elt F .i32), k0_chk106 v589) → sProp 𝕄}
    (h : ∀ (x1 : k0_chk102 ((idv E c 101))) (x3 : k0_chk103 ((idv E c 102))) (x5 : k0_chk104 ((idv E c 103))) (x7 : k0_chk105 ((idv E c 104))) (x9 : k0_chk106 ((idv E c 105))), St E K c 214 ⊢ Q ⟨(idv E c 101), x1, (idv E c 102), x3, (idv E c 103), x5, (idv E c 104), x7, (idv E c 105), x9⟩) :
    St E K c 204 ⊢ Runs c (onArgs (k0_part23 (F := F)) ((idv E c 100)) k0_hw101) Q := by
  rw [k0_part23_eq_skeleton]
  unfold onArgs k0_part23_skel
  refine step_issue (n := 204) 3 4 (by decide +kernel) (by exact rfl) (by exact rfl) (by exact rfl) ?_
  refine step_ids (n := 205) (i := 101) (by decide +kernel) (by decide) ?_
  refine step_assume (And.intro (tabInb (E.ok c _)) (tabInb (E.ok c _))) ?_
  refine step_issue (n := 206) 3 5 (by decide +kernel) (by exact rfl) (by exact rfl) (by exact rfl) ?_
  refine step_ids (n := 207) (i := 102) (by decide +kernel) (by decide) ?_
  refine step_assume (And.intro (tabInb (E.ok c _)) (tabInb (E.ok c _))) ?_
  refine step_issue (n := 208) 3 6 (by decide +kernel) (by exact rfl) (by exact rfl) (by exact rfl) ?_
  refine step_ids (n := 209) (i := 103) (by decide +kernel) (by decide) ?_
  refine step_assume (And.intro (tabInb (E.ok c _)) (tabInb (E.ok c _))) ?_
  refine step_issue (n := 210) 3 7 (by decide +kernel) (by exact rfl) (by exact rfl) (by exact rfl) ?_
  refine step_ids (n := 211) (i := 104) (by decide +kernel) (by decide) ?_
  refine step_assume (And.intro (tabInb (E.ok c _)) (tabInb (E.ok c _))) ?_
  refine step_issue (n := 212) 3 8 (by decide +kernel) (by exact rfl) (by exact rfl) (by exact rfl) ?_
  refine step_ids (n := 213) (i := 105) (by decide +kernel) (by decide) ?_
  refine step_assume (And.intro (tabInb (E.ok c _)) (tabInb (E.ok c _))) ?_
  exact step_ret (h _ _ _ _ _)

theorem part24 (k0_hw106 : k0_chk106 ((idv E c 105))) {Q : (Σ' (v594 : Elt F .i32) (k0_hw107 : k0_chk107 v594) (v599 : Elt F .i32) (k0_hw108 : k0_chk108 v599) (v604 : Elt F .i32) (k0_hw109 : k0_chk109 v604) (v609 : Elt F .i32) (k0_hw110 : k0_chk110 v609) (v614 : Elt F .i32), k0_chk111 v614) → sProp 𝕄}
    (h : ∀ (x1 : k0_chk107 ((idv E c 106))) (x3 : k0_chk108 ((idv E c 107))) (x5 : k0_chk109 ((idv E c 108))) (x7 : k0_chk110 ((idv E c 109))) (x9 : k0_chk111 ((idv E c 110))), St E K c 224 ⊢ Q ⟨(idv E c 106), x1, (idv E c 107), x3, (idv E c 108), x5, (idv E c 109), x7, (idv E c 110), x9⟩) :
    St E K c 214 ⊢ Runs c (onArgs (k0_part24 (F := F)) ((idv E c 105)) k0_hw106) Q := by
  rw [k0_part24_eq_skeleton]
  unfold onArgs k0_part24_skel
  refine step_issue (n := 214) 3 9 (by decide +kernel) (by exact rfl) (by exact rfl) (by exact rfl) ?_
  refine step_ids (n := 215) (i := 106) (by decide +kernel) (by decide) ?_
  refine step_assume (And.intro (tabInb (E.ok c _)) (tabInb (E.ok c _))) ?_
  refine step_issue (n := 216) 3 10 (by decide +kernel) (by exact rfl) (by exact rfl) (by exact rfl) ?_
  refine step_ids (n := 217) (i := 107) (by decide +kernel) (by decide) ?_
  refine step_assume (And.intro (tabInb (E.ok c _)) (tabInb (E.ok c _))) ?_
  refine step_issue (n := 218) 3 11 (by decide +kernel) (by exact rfl) (by exact rfl) (by exact rfl) ?_
  refine step_ids (n := 219) (i := 108) (by decide +kernel) (by decide) ?_
  refine step_assume (And.intro (tabInb (E.ok c _)) (tabInb (E.ok c _))) ?_
  refine step_issue (n := 220) 3 12 (by decide +kernel) (by exact rfl) (by exact rfl) (by exact rfl) ?_
  refine step_ids (n := 221) (i := 109) (by decide +kernel) (by decide) ?_
  refine step_assume (And.intro (tabInb (E.ok c _)) (tabInb (E.ok c _))) ?_
  refine step_issue (n := 222) 3 13 (by decide +kernel) (by exact rfl) (by exact rfl) (by exact rfl) ?_
  refine step_ids (n := 223) (i := 110) (by decide +kernel) (by decide) ?_
  refine step_assume (And.intro (tabInb (E.ok c _)) (tabInb (E.ok c _))) ?_
  exact step_ret (h _ _ _ _ _)

theorem part25 (k0_hw111 : k0_chk111 ((idv E c 110))) {Q : (Σ' (v619 : Elt F .i32) (k0_hw112 : k0_chk112 v619) (v624 : Elt F .i32) (k0_hw113 : k0_chk113 v624) (v629 : Elt F .i32) (k0_hw114 : k0_chk114 v629) (v634 : Elt F .i32) (k0_hw115 : k0_chk115 v634) (v639 : Elt F .i32), k0_chk116 v639) → sProp 𝕄}
    (h : ∀ (x1 : k0_chk112 ((idv E c 111))) (x3 : k0_chk113 ((idv E c 112))) (x5 : k0_chk114 ((idv E c 113))) (x7 : k0_chk115 ((idv E c 114))) (x9 : k0_chk116 ((idv E c 115))), St E K c 234 ⊢ Q ⟨(idv E c 111), x1, (idv E c 112), x3, (idv E c 113), x5, (idv E c 114), x7, (idv E c 115), x9⟩) :
    St E K c 224 ⊢ Runs c (onArgs (k0_part25 (F := F)) ((idv E c 110)) k0_hw111) Q := by
  rw [k0_part25_eq_skeleton]
  unfold onArgs k0_part25_skel
  refine step_issue (n := 224) 3 14 (by decide +kernel) (by exact rfl) (by exact rfl) (by exact rfl) ?_
  refine step_ids (n := 225) (i := 111) (by decide +kernel) (by decide) ?_
  refine step_assume (And.intro (tabInb (E.ok c _)) (tabInb (E.ok c _))) ?_
  refine step_issue (n := 226) 3 15 (by decide +kernel) (by exact rfl) (by exact rfl) (by exact rfl) ?_
  refine step_ids (n := 227) (i := 112) (by decide +kernel) (by decide) ?_
  refine step_assume (And.intro (tabInb (E.ok c _)) (tabInb (E.ok c _))) ?_
  refine step_issue (n := 228) 3 16 (by decide +kernel) (by exact rfl) (by exact rfl) (by exact rfl) ?_
  refine step_ids (n := 229) (i := 113) (by decide +kernel) (by decide) ?_
  refine step_assume (And.intro (tabInb (E.ok c _)) (tabInb (E.ok c _))) ?_
  refine step_issue (n := 230) 3 17 (by decide +kernel) (by exact rfl) (by exact rfl) (by exact rfl) ?_
  refine step_ids (n := 231) (i := 114) (by decide +kernel) (by decide) ?_
  refine step_assume (And.intro (tabInb (E.ok c _)) (tabInb (E.ok c _))) ?_
  refine step_issue (n := 232) 3 18 (by decide +kernel) (by exact rfl) (by exact rfl) (by exact rfl) ?_
  refine step_ids (n := 233) (i := 115) (by decide +kernel) (by decide) ?_
  refine step_assume (And.intro (tabInb (E.ok c _)) (tabInb (E.ok c _))) ?_
  exact step_ret (h _ _ _ _ _)

theorem part26 (k0_hw116 : k0_chk116 ((idv E c 115))) {Q : (Σ' (v644 : Elt F .i32) (k0_hw117 : k0_chk117 v644) (v649 : Elt F .i32) (k0_hw118 : k0_chk118 v649) (v654 : Elt F .i32) (k0_hw119 : k0_chk119 v654) (v659 : Elt F .i32) (k0_hw120 : k0_chk120 v659) (v664 : Elt F .i32), k0_chk121 v664) → sProp 𝕄}
    (h : ∀ (x1 : k0_chk117 ((idv E c 116))) (x3 : k0_chk118 ((idv E c 117))) (x5 : k0_chk119 ((idv E c 118))) (x7 : k0_chk120 ((idv E c 119))) (x9 : k0_chk121 ((idv E c 120))), St E K c 244 ⊢ Q ⟨(idv E c 116), x1, (idv E c 117), x3, (idv E c 118), x5, (idv E c 119), x7, (idv E c 120), x9⟩) :
    St E K c 234 ⊢ Runs c (onArgs (k0_part26 (F := F)) ((idv E c 115)) k0_hw116) Q := by
  rw [k0_part26_eq_skeleton]
  unfold onArgs k0_part26_skel
  refine step_issue (n := 234) 3 19 (by decide +kernel) (by exact rfl) (by exact rfl) (by exact rfl) ?_
  refine step_ids (n := 235) (i := 116) (by decide +kernel) (by decide) ?_
  refine step_assume (And.intro (tabInb (E.ok c _)) (tabInb (E.ok c _))) ?_
  refine step_issue (n := 236) 3 20 (by decide +kernel) (by exact rfl) (by exact rfl) (by exact rfl) ?_
  refine step_ids (n := 237) (i := 117) (by decide +kernel) (by decide) ?_
  refine step_assume (And.intro (tabInb (E.ok c _)) (tabInb (E.ok c _))) ?_
  refine step_issue (n := 238) 3 21 (by decide +kernel) (by exact rfl) (by exact rfl) (by exact rfl) ?_
  refine step_ids (n := 239) (i := 118) (by decide +kernel) (by decide) ?_
  refine step_assume (And.intro (tabInb (E.ok c _)) (tabInb (E.ok c _))) ?_
  refine step_issue (n := 240) 3 22 (by decide +kernel) (by exact rfl) (by exact rfl) (by exact rfl) ?_
  refine step_ids (n := 241) (i := 119) (by decide +kernel) (by decide) ?_
  refine step_assume (And.intro (tabInb (E.ok c _)) (tabInb (E.ok c _))) ?_
  refine step_issue (n := 242) 3 23 (by decide +kernel) (by exact rfl) (by exact rfl) (by exact rfl) ?_
  refine step_ids (n := 243) (i := 120) (by decide +kernel) (by decide) ?_
  refine step_assume (And.intro (tabInb (E.ok c _)) (tabInb (E.ok c _))) ?_
  exact step_ret (h _ _ _ _ _)

theorem part27 (k0_hw121 : k0_chk121 ((idv E c 120))) {Q : (Σ' (v669 : Elt F .i32) (k0_hw122 : k0_chk122 v669) (v674 : Elt F .i32) (k0_hw123 : k0_chk123 v674) (v679 : Elt F .i32) (k0_hw124 : k0_chk124 v679) (v684 : Elt F .i32) (k0_hw125 : k0_chk125 v684) (v689 : Elt F .i32), k0_chk126 v689) → sProp 𝕄}
    (h : ∀ (x1 : k0_chk122 ((idv E c 121))) (x3 : k0_chk123 ((idv E c 122))) (x5 : k0_chk124 ((idv E c 123))) (x7 : k0_chk125 ((idv E c 124))) (x9 : k0_chk126 ((idv E c 125))), St E K c 254 ⊢ Q ⟨(idv E c 121), x1, (idv E c 122), x3, (idv E c 123), x5, (idv E c 124), x7, (idv E c 125), x9⟩) :
    St E K c 244 ⊢ Runs c (onArgs (k0_part27 (F := F)) ((idv E c 120)) k0_hw121) Q := by
  rw [k0_part27_eq_skeleton]
  unfold onArgs k0_part27_skel
  refine step_issue (n := 244) 3 24 (by decide +kernel) (by exact rfl) (by exact rfl) (by exact rfl) ?_
  refine step_ids (n := 245) (i := 121) (by decide +kernel) (by decide) ?_
  refine step_assume (And.intro (tabInb (E.ok c _)) (tabInb (E.ok c _))) ?_
  refine step_issue (n := 246) 3 25 (by decide +kernel) (by exact rfl) (by exact rfl) (by exact rfl) ?_
  refine step_ids (n := 247) (i := 122) (by decide +kernel) (by decide) ?_
  refine step_assume (And.intro (tabInb (E.ok c _)) (tabInb (E.ok c _))) ?_
  refine step_issue (n := 248) 3 26 (by decide +kernel) (by exact rfl) (by exact rfl) (by exact rfl) ?_
  refine step_ids (n := 249) (i := 123) (by decide +kernel) (by decide) ?_
  refine step_assume (And.intro (tabInb (E.ok c _)) (tabInb (E.ok c _))) ?_
  refine step_issue (n := 250) 3 27 (by decide +kernel) (by exact rfl) (by exact rfl) (by exact rfl) ?_
  refine step_ids (n := 251) (i := 124) (by decide +kernel) (by decide) ?_
  refine step_assume (And.intro (tabInb (E.ok c _)) (tabInb (E.ok c _))) ?_
  refine step_issue (n := 252) 3 28 (by decide +kernel) (by exact rfl) (by exact rfl) (by exact rfl) ?_
  refine step_ids (n := 253) (i := 125) (by decide +kernel) (by decide) ?_
  refine step_assume (And.intro (tabInb (E.ok c _)) (tabInb (E.ok c _))) ?_
  exact step_ret (h _ _ _ _ _)

theorem part28 (k0_hw1 : k0_chk1 ((idv E c 0))) (k0_hw2 : k0_chk2 ((idv E c 1))) (k0_hw126 : k0_chk126 ((idv E c 125))) {Q : (Σ' (v694 : Elt F .i32) (k0_hw127 : k0_chk127 v694) (v699 : Elt F .i32), k0_chk128 v699) → sProp 𝕄}
    (h : ∀ (x1 : k0_chk127 ((idv E c 126))) (x3 : k0_chk128 ((idv E c 127))), St E K c 262 ⊢ Q ⟨(idv E c 126), x1, (idv E c 127), x3⟩) :
    St E K c 254 ⊢ Runs c (onArgs (k0_part28 (F := F)) ((SemArray.scalar (sig.barrier 0 rfl))) ((idv E c 0)) k0_hw1 ((idv E c 1)) k0_hw2 ((idv E c 125)) k0_hw126) Q := by
  rw [k0_part28_eq_skeleton]
  unfold onArgs k0_part28_skel
  refine step_issue (n := 254) 3 29 (by decide +kernel) (by exact rfl) (by exact rfl) (by exact rfl) ?_
  refine step_ids (n := 255) (i := 126) (by decide +kernel) (by decide) ?_
  refine step_assume (And.intro (tabInb (E.ok c _)) (tabInb (E.ok c _))) ?_
  refine step_issue (n := 256) 3 30 (by decide +kernel) (by exact rfl) (by exact rfl) (by exact rfl) ?_
  refine step_ids (n := 257) (i := 127) (by decide +kernel) (by decide) ?_
  refine step_assume (tabInb (E.ok c _)) ?_
  refine step_issue (n := 258) 3 31 (by decide +kernel) (by exact rfl) (by exact rfl) (by exact rfl) ?_
  refine step_bar (n := 259) (by decide +kernel) ?_
  refine step_rowWait (n := 260) 0 0 (by decide +kernel) (by decide) (by exact rfl) (by exact rfl) ?_
  refine step_rowWait (n := 261) 0 1 (by decide +kernel) (by decide) (by exact rfl) (by exact rfl) ?_
  exact step_ret (h _ _)

end Cert.Emb

end
-- ==== Proof.PartsB.lean ====
module

public import proofs.«01_k».proof.Proof.Calls

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

variable {E : Env F} {K : GSem nD τ sig → ℕ} {c : Dev nD}

/-! # The body's parts: the rows land, the halves go out and are merged -/

theorem part29 (k0_hw3 : k0_chk3 ((idv E c 2))) (k0_hw4 : k0_chk4 ((idv E c 3))) (k0_hw5 : k0_chk5 ((idv E c 4))) (k0_hw6 : k0_chk6 ((idv E c 5))) (k0_hw7 : k0_chk7 ((idv E c 6))) (k0_hw8 : k0_chk8 ((idv E c 7))) (k0_hw9 : k0_chk9 ((idv E c 8))) {Q : (PUnit) → sProp 𝕄}
    (h : St E K c 269 ⊢ Q ⟨⟩) :
    St E K c 262 ⊢ Runs c (onArgs (k0_part29 (F := F)) ((idv E c 2)) k0_hw3 ((idv E c 3)) k0_hw4 ((idv E c 4)) k0_hw5 ((idv E c 5)) k0_hw6 ((idv E c 6)) k0_hw7 ((idv E c 7)) k0_hw8 ((idv E c 8)) k0_hw9) Q := by
  rw [k0_part29_eq_skeleton]
  unfold onArgs k0_part29_skel
  refine step_rowWait (n := 262) 0 2 (by decide +kernel) (by decide) (by exact rfl) (by exact rfl) ?_
  refine step_rowWait (n := 263) 0 3 (by decide +kernel) (by decide) (by exact rfl) (by exact rfl) ?_
  refine step_rowWait (n := 264) 0 4 (by decide +kernel) (by decide) (by exact rfl) (by exact rfl) ?_
  refine step_rowWait (n := 265) 0 5 (by decide +kernel) (by decide) (by exact rfl) (by exact rfl) ?_
  refine step_rowWait (n := 266) 0 6 (by decide +kernel) (by decide) (by exact rfl) (by exact rfl) ?_
  refine step_rowWait (n := 267) 0 7 (by decide +kernel) (by decide) (by exact rfl) (by exact rfl) ?_
  refine step_rowWait (n := 268) 0 8 (by decide +kernel) (by decide) (by exact rfl) (by exact rfl) ?_
  exact step_ret h

theorem part30 (k0_hw10 : k0_chk10 ((idv E c 9))) (k0_hw11 : k0_chk11 ((idv E c 10))) (k0_hw12 : k0_chk12 ((idv E c 11))) (k0_hw13 : k0_chk13 ((idv E c 12))) (k0_hw14 : k0_chk14 ((idv E c 13))) (k0_hw15 : k0_chk15 ((idv E c 14))) (k0_hw16 : k0_chk16 ((idv E c 15))) {Q : (PUnit) → sProp 𝕄}
    (h : St E K c 276 ⊢ Q ⟨⟩) :
    St E K c 269 ⊢ Runs c (onArgs (k0_part30 (F := F)) ((idv E c 9)) k0_hw10 ((idv E c 10)) k0_hw11 ((idv E c 11)) k0_hw12 ((idv E c 12)) k0_hw13 ((idv E c 13)) k0_hw14 ((idv E c 14)) k0_hw15 ((idv E c 15)) k0_hw16) Q := by
  rw [k0_part30_eq_skeleton]
  unfold onArgs k0_part30_skel
  refine step_rowWait (n := 269) 0 9 (by decide +kernel) (by decide) (by exact rfl) (by exact rfl) ?_
  refine step_rowWait (n := 270) 0 10 (by decide +kernel) (by decide) (by exact rfl) (by exact rfl) ?_
  refine step_rowWait (n := 271) 0 11 (by decide +kernel) (by decide) (by exact rfl) (by exact rfl) ?_
  refine step_rowWait (n := 272) 0 12 (by decide +kernel) (by decide) (by exact rfl) (by exact rfl) ?_
  refine step_rowWait (n := 273) 0 13 (by decide +kernel) (by decide) (by exact rfl) (by exact rfl) ?_
  refine step_rowWait (n := 274) 0 14 (by decide +kernel) (by decide) (by exact rfl) (by exact rfl) ?_
  refine step_rowWait (n := 275) 0 15 (by decide +kernel) (by decide) (by exact rfl) (by exact rfl) ?_
  exact step_ret h

theorem part31 (k0_hw17 : k0_chk17 ((idv E c 16))) (k0_hw18 : k0_chk18 ((idv E c 17))) (k0_hw19 : k0_chk19 ((idv E c 18))) (k0_hw20 : k0_chk20 ((idv E c 19))) (k0_hw21 : k0_chk21 ((idv E c 20))) (k0_hw22 : k0_chk22 ((idv E c 21))) {Q : (PUnit) → sProp 𝕄}
    (h : St E K c 282 ⊢ Q ⟨⟩) :
    St E K c 276 ⊢ Runs c (onArgs (k0_part31 (F := F)) ((idv E c 16)) k0_hw17 ((idv E c 17)) k0_hw18 ((idv E c 18)) k0_hw19 ((idv E c 19)) k0_hw20 ((idv E c 20)) k0_hw21 ((idv E c 21)) k0_hw22) Q := by
  rw [k0_part31_eq_skeleton]
  unfold onArgs k0_part31_skel
  refine step_rowWait (n := 276) 0 16 (by decide +kernel) (by decide) (by exact rfl) (by exact rfl) ?_
  refine step_rowWait (n := 277) 0 17 (by decide +kernel) (by decide) (by exact rfl) (by exact rfl) ?_
  refine step_rowWait (n := 278) 0 18 (by decide +kernel) (by decide) (by exact rfl) (by exact rfl) ?_
  refine step_rowWait (n := 279) 0 19 (by decide +kernel) (by decide) (by exact rfl) (by exact rfl) ?_
  refine step_rowWait (n := 280) 0 20 (by decide +kernel) (by decide) (by exact rfl) (by exact rfl) ?_
  refine step_rowWait (n := 281) 0 21 (by decide +kernel) (by decide) (by exact rfl) (by exact rfl) ?_
  exact step_ret h

theorem part32 (k0_hw23 : k0_chk23 ((idv E c 22))) (k0_hw24 : k0_chk24 ((idv E c 23))) (k0_hw25 : k0_chk25 ((idv E c 24))) (k0_hw26 : k0_chk26 ((idv E c 25))) (k0_hw27 : k0_chk27 ((idv E c 26))) (k0_hw28 : k0_chk28 ((idv E c 27))) (k0_hw29 : k0_chk29 ((idv E c 28))) {Q : (PUnit) → sProp 𝕄}
    (h : St E K c 289 ⊢ Q ⟨⟩) :
    St E K c 282 ⊢ Runs c (onArgs (k0_part32 (F := F)) ((idv E c 22)) k0_hw23 ((idv E c 23)) k0_hw24 ((idv E c 24)) k0_hw25 ((idv E c 25)) k0_hw26 ((idv E c 26)) k0_hw27 ((idv E c 27)) k0_hw28 ((idv E c 28)) k0_hw29) Q := by
  rw [k0_part32_eq_skeleton]
  unfold onArgs k0_part32_skel
  refine step_rowWait (n := 282) 0 22 (by decide +kernel) (by decide) (by exact rfl) (by exact rfl) ?_
  refine step_rowWait (n := 283) 0 23 (by decide +kernel) (by decide) (by exact rfl) (by exact rfl) ?_
  refine step_rowWait (n := 284) 0 24 (by decide +kernel) (by decide) (by exact rfl) (by exact rfl) ?_
  refine step_rowWait (n := 285) 0 25 (by decide +kernel) (by decide) (by exact rfl) (by exact rfl) ?_
  refine step_rowWait (n := 286) 0 26 (by decide +kernel) (by decide) (by exact rfl) (by exact rfl) ?_
  refine step_rowWait (n := 287) 0 27 (by decide +kernel) (by decide) (by exact rfl) (by exact rfl) ?_
  refine step_rowWait (n := 288) 0 28 (by decide +kernel) (by decide) (by exact rfl) (by exact rfl) ?_
  exact step_ret h

theorem part33 {v2 : BitVec 32} {v8 : BitVec 32} {v44 : BitVec 32} (k0_hw30 : k0_chk30 ((idv E c 29))) (k0_hw31 : k0_chk31 ((idv E c 30))) (k0_hw32 : k0_chk32 ((idv E c 31))) {Q : (PUnit) → sProp 𝕄}
    (h : St E K c 295 ⊢ Q ⟨⟩) :
    St E K c 289 ⊢ Runs c (onArgs (k0_part33 (F := F)) v2 v8 v44 ((idv E c 29)) k0_hw30 ((idv E c 30)) k0_hw31 ((idv E c 31)) k0_hw32) Q := by
  rw [k0_part33_eq_skeleton]
  unfold onArgs k0_part33_skel
  refine step_rowWait (n := 289) 0 29 (by decide +kernel) (by decide) (by exact rfl) (by exact rfl) ?_
  refine step_rowWait (n := 290) 0 30 (by decide +kernel) (by decide) (by exact rfl) (by exact rfl) ?_
  refine step_rowLast (n := 291) 0 (by decide +kernel) (by exact rfl) (by exact rfl) ?_
  refine ld_rows (n := 292) 0 (by decide +kernel) ?_
  refine any_pb (n := 293) 0 (by decide +kernel) fun v834 => ?_
  refine st_pb (n := 294) 0 (by decide +kernel) (pay1_eq E c 0) ?_
  exact step_ret h

theorem part34 (k0_hw33 : k0_chk33 ((idv E c 32))) (k0_hw34 : k0_chk34 ((idv E c 33))) (k0_hw35 : k0_chk35 ((idv E c 34))) (k0_hw36 : k0_chk36 ((idv E c 35))) (k0_hw37 : k0_chk37 ((idv E c 36))) (k0_hw38 : k0_chk38 ((idv E c 37))) {Q : (PUnit) → sProp 𝕄}
    (h : St E K c 302 ⊢ Q ⟨⟩) :
    St E K c 295 ⊢ Runs c (onArgs (k0_part34 (F := F)) c ((idv E c 32)) k0_hw33 ((idv E c 33)) k0_hw34 ((idv E c 34)) k0_hw35 ((idv E c 35)) k0_hw36 ((idv E c 36)) k0_hw37 ((idv E c 37)) k0_hw38) Q := by
  rw [k0_part34_eq_skeleton]
  unfold onArgs k0_part34_skel
  refine step_send (n := 295) (.y 0) (by decide +kernel) ((by decide : ∀ c : Dev nD, (⟨k0_dev4 c, k0_dev4_lt c⟩ : Dev nD) = peer c 0) c) (by exact rfl) (by exact rfl) ?_
  refine step_rowWait (n := 296) 1 0 (by decide +kernel) (by decide) (by exact rfl) (by exact rfl) ?_
  refine step_rowWait (n := 297) 1 1 (by decide +kernel) (by decide) (by exact rfl) (by exact rfl) ?_
  refine step_rowWait (n := 298) 1 2 (by decide +kernel) (by decide) (by exact rfl) (by exact rfl) ?_
  refine step_rowWait (n := 299) 1 3 (by decide +kernel) (by decide) (by exact rfl) (by exact rfl) ?_
  refine step_rowWait (n := 300) 1 4 (by decide +kernel) (by decide) (by exact rfl) (by exact rfl) ?_
  refine step_rowWait (n := 301) 1 5 (by decide +kernel) (by decide) (by exact rfl) (by exact rfl) ?_
  exact step_ret h

theorem part35 (k0_hw39 : k0_chk39 ((idv E c 38))) (k0_hw40 : k0_chk40 ((idv E c 39))) (k0_hw41 : k0_chk41 ((idv E c 40))) (k0_hw42 : k0_chk42 ((idv E c 41))) (k0_hw43 : k0_chk43 ((idv E c 42))) (k0_hw44 : k0_chk44 ((idv E c 43))) (k0_hw45 : k0_chk45 ((idv E c 44))) {Q : (PUnit) → sProp 𝕄}
    (h : St E K c 309 ⊢ Q ⟨⟩) :
    St E K c 302 ⊢ Runs c (onArgs (k0_part35 (F := F)) ((idv E c 38)) k0_hw39 ((idv E c 39)) k0_hw40 ((idv E c 40)) k0_hw41 ((idv E c 41)) k0_hw42 ((idv E c 42)) k0_hw43 ((idv E c 43)) k0_hw44 ((idv E c 44)) k0_hw45) Q := by
  rw [k0_part35_eq_skeleton]
  unfold onArgs k0_part35_skel
  refine step_rowWait (n := 302) 1 6 (by decide +kernel) (by decide) (by exact rfl) (by exact rfl) ?_
  refine step_rowWait (n := 303) 1 7 (by decide +kernel) (by decide) (by exact rfl) (by exact rfl) ?_
  refine step_rowWait (n := 304) 1 8 (by decide +kernel) (by decide) (by exact rfl) (by exact rfl) ?_
  refine step_rowWait (n := 305) 1 9 (by decide +kernel) (by decide) (by exact rfl) (by exact rfl) ?_
  refine step_rowWait (n := 306) 1 10 (by decide +kernel) (by decide) (by exact rfl) (by exact rfl) ?_
  refine step_rowWait (n := 307) 1 11 (by decide +kernel) (by decide) (by exact rfl) (by exact rfl) ?_
  refine step_rowWait (n := 308) 1 12 (by decide +kernel) (by decide) (by exact rfl) (by exact rfl) ?_
  exact step_ret h

theorem part36 (k0_hw46 : k0_chk46 ((idv E c 45))) (k0_hw47 : k0_chk47 ((idv E c 46))) (k0_hw48 : k0_chk48 ((idv E c 47))) (k0_hw49 : k0_chk49 ((idv E c 48))) (k0_hw50 : k0_chk50 ((idv E c 49))) (k0_hw51 : k0_chk51 ((idv E c 50))) (k0_hw52 : k0_chk52 ((idv E c 51))) {Q : (PUnit) → sProp 𝕄}
    (h : St E K c 315 ⊢ Q ⟨⟩) :
    St E K c 309 ⊢ Runs c (onArgs (k0_part36 (F := F)) ((idv E c 45)) k0_hw46 ((idv E c 46)) k0_hw47 ((idv E c 47)) k0_hw48 ((idv E c 48)) k0_hw49 ((idv E c 49)) k0_hw50 ((idv E c 50)) k0_hw51 ((idv E c 51)) k0_hw52) Q := by
  rw [k0_part36_eq_skeleton]
  unfold onArgs k0_part36_skel
  refine step_rowWait (n := 309) 1 13 (by decide +kernel) (by decide) (by exact rfl) (by exact rfl) ?_
  refine step_rowWait (n := 310) 1 14 (by decide +kernel) (by decide) (by exact rfl) (by exact rfl) ?_
  refine step_rowWait (n := 311) 1 15 (by decide +kernel) (by decide) (by exact rfl) (by exact rfl) ?_
  refine step_rowWait (n := 312) 1 16 (by decide +kernel) (by decide) (by exact rfl) (by exact rfl) ?_
  refine step_rowWait (n := 313) 1 17 (by decide +kernel) (by decide) (by exact rfl) (by exact rfl) ?_
  refine step_rowWait (n := 314) 1 18 (by decide +kernel) (by decide) (by exact rfl) (by exact rfl) ?_
  exact step_ret h

theorem part37 (k0_hw52 : k0_chk52 ((idv E c 51))) (k0_hw53 : k0_chk53 ((idv E c 52))) (k0_hw54 : k0_chk54 ((idv E c 53))) (k0_hw55 : k0_chk55 ((idv E c 54))) (k0_hw56 : k0_chk56 ((idv E c 55))) (k0_hw57 : k0_chk57 ((idv E c 56))) (k0_hw58 : k0_chk58 ((idv E c 57))) {Q : (PUnit) → sProp 𝕄}
    (h : St E K c 322 ⊢ Q ⟨⟩) :
    St E K c 315 ⊢ Runs c (onArgs (k0_part37 (F := F)) ((idv E c 51)) k0_hw52 ((idv E c 52)) k0_hw53 ((idv E c 53)) k0_hw54 ((idv E c 54)) k0_hw55 ((idv E c 55)) k0_hw56 ((idv E c 56)) k0_hw57 ((idv E c 57)) k0_hw58) Q := by
  rw [k0_part37_eq_skeleton]
  unfold onArgs k0_part37_skel
  refine step_rowWait (n := 315) 1 19 (by decide +kernel) (by decide) (by exact rfl) (by exact rfl) ?_
  refine step_rowWait (n := 316) 1 20 (by decide +kernel) (by decide) (by exact rfl) (by exact rfl) ?_
  refine step_rowWait (n := 317) 1 21 (by decide +kernel) (by decide) (by exact rfl) (by exact rfl) ?_
  refine step_rowWait (n := 318) 1 22 (by decide +kernel) (by decide) (by exact rfl) (by exact rfl) ?_
  refine step_rowWait (n := 319) 1 23 (by decide +kernel) (by decide) (by exact rfl) (by exact rfl) ?_
  refine step_rowWait (n := 320) 1 24 (by decide +kernel) (by decide) (by exact rfl) (by exact rfl) ?_
  refine step_rowWait (n := 321) 1 25 (by decide +kernel) (by decide) (by exact rfl) (by exact rfl) ?_
  exact step_ret h

theorem part38 (k0_hw59 : k0_chk59 ((idv E c 58))) (k0_hw60 : k0_chk60 ((idv E c 59))) (k0_hw61 : k0_chk61 ((idv E c 60))) (k0_hw62 : k0_chk62 ((idv E c 61))) (k0_hw63 : k0_chk63 ((idv E c 62))) (k0_hw64 : k0_chk64 ((idv E c 63))) {Q : (PUnit) → sProp 𝕄}
    (h : St E K c 331 ⊢ Q ⟨⟩) :
    St E K c 322 ⊢ Runs c (onArgs (k0_part38 (F := F)) ((idv E c 58)) k0_hw59 ((idv E c 59)) k0_hw60 ((idv E c 60)) k0_hw61 ((idv E c 61)) k0_hw62 ((idv E c 62)) k0_hw63 ((idv E c 63)) k0_hw64) Q := by
  rw [k0_part38_eq_skeleton]
  unfold onArgs k0_part38_skel
  refine step_rowWait (n := 322) 1 26 (by decide +kernel) (by decide) (by exact rfl) (by exact rfl) ?_
  refine step_rowWait (n := 323) 1 27 (by decide +kernel) (by decide) (by exact rfl) (by exact rfl) ?_
  refine step_rowWait (n := 324) 1 28 (by decide +kernel) (by decide) (by exact rfl) (by exact rfl) ?_
  refine step_rowWait (n := 325) 1 29 (by decide +kernel) (by decide) (by exact rfl) (by exact rfl) ?_
  refine step_rowWait (n := 326) 1 30 (by decide +kernel) (by decide) (by exact rfl) (by exact rfl) ?_
  refine step_rowLast (n := 327) 1 (by decide +kernel) (by exact rfl) (by exact rfl) ?_
  refine ld_rows (n := 328) 1 (by decide +kernel) ?_
  refine any_pb (n := 329) 1 (by decide +kernel) fun v981 => ?_
  refine st_pb (n := 330) 1 (by decide +kernel) (pay1_eq E c 1) ?_
  exact step_ret h

theorem part39 {v2 : BitVec 32} {v8 : BitVec 32} {v44 : BitVec 32} (k0_hw65 : k0_chk65 ((idv E c 64))) (k0_hw66 : k0_chk66 ((idv E c 65))) (k0_hw67 : k0_chk67 ((idv E c 66))) {Q : (PUnit) → sProp 𝕄}
    (h : St E K c 335 ⊢ Q ⟨⟩) :
    St E K c 331 ⊢ Runs c (onArgs (k0_part39 (F := F)) c v2 v8 v44 ((idv E c 64)) k0_hw65 ((idv E c 65)) k0_hw66 ((idv E c 66)) k0_hw67) Q := by
  rw [k0_part39_eq_skeleton]
  unfold onArgs k0_part39_skel
  refine step_send (n := 331) (.y 1) (by decide +kernel) ((by decide : ∀ c : Dev nD, (⟨k0_dev5 c, k0_dev5_lt c⟩ : Dev nD) = peer c 0) c) (by exact rfl) (by exact rfl) ?_
  refine step_rowWait (n := 332) 2 0 (by decide +kernel) (by decide) (by exact rfl) (by exact rfl) ?_
  refine step_rowWait (n := 333) 2 1 (by decide +kernel) (by decide) (by exact rfl) (by exact rfl) ?_
  refine step_rowWait (n := 334) 2 2 (by decide +kernel) (by decide) (by exact rfl) (by exact rfl) ?_
  exact step_ret h

theorem part40 (k0_hw68 : k0_chk68 ((idv E c 67))) (k0_hw69 : k0_chk69 ((idv E c 68))) (k0_hw70 : k0_chk70 ((idv E c 69))) (k0_hw71 : k0_chk71 ((idv E c 70))) (k0_hw72 : k0_chk72 ((idv E c 71))) (k0_hw73 : k0_chk73 ((idv E c 72))) (k0_hw74 : k0_chk74 ((idv E c 73))) {Q : (PUnit) → sProp 𝕄}
    (h : St E K c 342 ⊢ Q ⟨⟩) :
    St E K c 335 ⊢ Runs c (onArgs (k0_part40 (F := F)) ((idv E c 67)) k0_hw68 ((idv E c 68)) k0_hw69 ((idv E c 69)) k0_hw70 ((idv E c 70)) k0_hw71 ((idv E c 71)) k0_hw72 ((idv E c 72)) k0_hw73 ((idv E c 73)) k0_hw74) Q := by
  rw [k0_part40_eq_skeleton]
  unfold onArgs k0_part40_skel
  refine step_rowWait (n := 335) 2 3 (by decide +kernel) (by decide) (by exact rfl) (by exact rfl) ?_
  refine step_rowWait (n := 336) 2 4 (by decide +kernel) (by decide) (by exact rfl) (by exact rfl) ?_
  refine step_rowWait (n := 337) 2 5 (by decide +kernel) (by decide) (by exact rfl) (by exact rfl) ?_
  refine step_rowWait (n := 338) 2 6 (by decide +kernel) (by decide) (by exact rfl) (by exact rfl) ?_
  refine step_rowWait (n := 339) 2 7 (by decide +kernel) (by decide) (by exact rfl) (by exact rfl) ?_
  refine step_rowWait (n := 340) 2 8 (by decide +kernel) (by decide) (by exact rfl) (by exact rfl) ?_
  refine step_rowWait (n := 341) 2 9 (by decide +kernel) (by decide) (by exact rfl) (by exact rfl) ?_
  exact step_ret h

theorem part41 (k0_hw75 : k0_chk75 ((idv E c 74))) (k0_hw76 : k0_chk76 ((idv E c 75))) (k0_hw77 : k0_chk77 ((idv E c 76))) (k0_hw78 : k0_chk78 ((idv E c 77))) (k0_hw79 : k0_chk79 ((idv E c 78))) (k0_hw80 : k0_chk80 ((idv E c 79))) (k0_hw81 : k0_chk81 ((idv E c 80))) {Q : (PUnit) → sProp 𝕄}
    (h : St E K c 349 ⊢ Q ⟨⟩) :
    St E K c 342 ⊢ Runs c (onArgs (k0_part41 (F := F)) ((idv E c 74)) k0_hw75 ((idv E c 75)) k0_hw76 ((idv E c 76)) k0_hw77 ((idv E c 77)) k0_hw78 ((idv E c 78)) k0_hw79 ((idv E c 79)) k0_hw80 ((idv E c 80)) k0_hw81) Q := by
  rw [k0_part41_eq_skeleton]
  unfold onArgs k0_part41_skel
  refine step_rowWait (n := 342) 2 10 (by decide +kernel) (by decide) (by exact rfl) (by exact rfl) ?_
  refine step_rowWait (n := 343) 2 11 (by decide +kernel) (by decide) (by exact rfl) (by exact rfl) ?_
  refine step_rowWait (n := 344) 2 12 (by decide +kernel) (by decide) (by exact rfl) (by exact rfl) ?_
  refine step_rowWait (n := 345) 2 13 (by decide +kernel) (by decide) (by exact rfl) (by exact rfl) ?_
  refine step_rowWait (n := 346) 2 14 (by decide +kernel) (by decide) (by exact rfl) (by exact rfl) ?_
  refine step_rowWait (n := 347) 2 15 (by decide +kernel) (by decide) (by exact rfl) (by exact rfl) ?_
  refine step_rowWait (n := 348) 2 16 (by decide +kernel) (by decide) (by exact rfl) (by exact rfl) ?_
  exact step_ret h

theorem part42 (k0_hw82 : k0_chk82 ((idv E c 81))) (k0_hw83 : k0_chk83 ((idv E c 82))) (k0_hw84 : k0_chk84 ((idv E c 83))) (k0_hw85 : k0_chk85 ((idv E c 84))) (k0_hw86 : k0_chk86 ((idv E c 85))) (k0_hw87 : k0_chk87 ((idv E c 86))) {Q : (PUnit) → sProp 𝕄}
    (h : St E K c 355 ⊢ Q ⟨⟩) :
    St E K c 349 ⊢ Runs c (onArgs (k0_part42 (F := F)) ((idv E c 81)) k0_hw82 ((idv E c 82)) k0_hw83 ((idv E c 83)) k0_hw84 ((idv E c 84)) k0_hw85 ((idv E c 85)) k0_hw86 ((idv E c 86)) k0_hw87) Q := by
  rw [k0_part42_eq_skeleton]
  unfold onArgs k0_part42_skel
  refine step_rowWait (n := 349) 2 17 (by decide +kernel) (by decide) (by exact rfl) (by exact rfl) ?_
  refine step_rowWait (n := 350) 2 18 (by decide +kernel) (by decide) (by exact rfl) (by exact rfl) ?_
  refine step_rowWait (n := 351) 2 19 (by decide +kernel) (by decide) (by exact rfl) (by exact rfl) ?_
  refine step_rowWait (n := 352) 2 20 (by decide +kernel) (by decide) (by exact rfl) (by exact rfl) ?_
  refine step_rowWait (n := 353) 2 21 (by decide +kernel) (by decide) (by exact rfl) (by exact rfl) ?_
  refine step_rowWait (n := 354) 2 22 (by decide +kernel) (by decide) (by exact rfl) (by exact rfl) ?_
  exact step_ret h

theorem part43 (k0_hw88 : k0_chk88 ((idv E c 87))) (k0_hw89 : k0_chk89 ((idv E c 88))) (k0_hw90 : k0_chk90 ((idv E c 89))) (k0_hw91 : k0_chk91 ((idv E c 90))) (k0_hw92 : k0_chk92 ((idv E c 91))) (k0_hw93 : k0_chk93 ((idv E c 92))) (k0_hw94 : k0_chk94 ((idv E c 93))) {Q : (PUnit) → sProp 𝕄}
    (h : St E K c 362 ⊢ Q ⟨⟩) :
    St E K c 355 ⊢ Runs c (onArgs (k0_part43 (F := F)) ((idv E c 87)) k0_hw88 ((idv E c 88)) k0_hw89 ((idv E c 89)) k0_hw90 ((idv E c 90)) k0_hw91 ((idv E c 91)) k0_hw92 ((idv E c 92)) k0_hw93 ((idv E c 93)) k0_hw94) Q := by
  rw [k0_part43_eq_skeleton]
  unfold onArgs k0_part43_skel
  refine step_rowWait (n := 355) 2 23 (by decide +kernel) (by decide) (by exact rfl) (by exact rfl) ?_
  refine step_rowWait (n := 356) 2 24 (by decide +kernel) (by decide) (by exact rfl) (by exact rfl) ?_
  refine step_rowWait (n := 357) 2 25 (by decide +kernel) (by decide) (by exact rfl) (by exact rfl) ?_
  refine step_rowWait (n := 358) 2 26 (by decide +kernel) (by decide) (by exact rfl) (by exact rfl) ?_
  refine step_rowWait (n := 359) 2 27 (by decide +kernel) (by decide) (by exact rfl) (by exact rfl) ?_
  refine step_rowWait (n := 360) 2 28 (by decide +kernel) (by decide) (by exact rfl) (by exact rfl) ?_
  refine step_rowWait (n := 361) 2 29 (by decide +kernel) (by decide) (by exact rfl) (by exact rfl) ?_
  exact step_ret h

theorem part44 {v2 : BitVec 32} {v8 : BitVec 32} {v44 : BitVec 32} (k0_hw95 : k0_chk95 ((idv E c 94))) (k0_hw96 : k0_chk96 ((idv E c 95))) {Q : (PUnit) → sProp 𝕄}
    (h : St E K c 368 ⊢ Q ⟨⟩) :
    St E K c 362 ⊢ Runs c (onArgs (k0_part44 (F := F)) c v2 v8 v44 ((idv E c 94)) k0_hw95 ((idv E c 95)) k0_hw96) Q := by
  rw [k0_part44_eq_skeleton]
  unfold onArgs k0_part44_skel
  refine step_rowWait (n := 362) 2 30 (by decide +kernel) (by decide) (by exact rfl) (by exact rfl) ?_
  refine step_rowLast (n := 363) 2 (by decide +kernel) (by exact rfl) (by exact rfl) ?_
  refine ld_rows (n := 364) 2 (by decide +kernel) ?_
  refine any_pb (n := 365) 2 (by decide +kernel) fun v1128 => ?_
  refine st_pb (n := 366) 2 (by decide +kernel) (pay1_eq E c 2) ?_
  refine step_send (n := 367) (.y 2) (by decide +kernel) ((by decide : ∀ c : Dev nD, (⟨k0_dev6 c, k0_dev6_lt c⟩ : Dev nD) = peer c 0) c) (by exact rfl) (by exact rfl) ?_
  exact step_ret h

theorem part45 (k0_hw97 : k0_chk97 ((idv E c 96))) (k0_hw98 : k0_chk98 ((idv E c 97))) (k0_hw99 : k0_chk99 ((idv E c 98))) (k0_hw100 : k0_chk100 ((idv E c 99))) (k0_hw101 : k0_chk101 ((idv E c 100))) (k0_hw102 : k0_chk102 ((idv E c 101))) (k0_hw103 : k0_chk103 ((idv E c 102))) {Q : (PUnit) → sProp 𝕄}
    (h : St E K c 375 ⊢ Q ⟨⟩) :
    St E K c 368 ⊢ Runs c (onArgs (k0_part45 (F := F)) ((idv E c 96)) k0_hw97 ((idv E c 97)) k0_hw98 ((idv E c 98)) k0_hw99 ((idv E c 99)) k0_hw100 ((idv E c 100)) k0_hw101 ((idv E c 101)) k0_hw102 ((idv E c 102)) k0_hw103) Q := by
  rw [k0_part45_eq_skeleton]
  unfold onArgs k0_part45_skel
  refine step_rowWait (n := 368) 3 0 (by decide +kernel) (by decide) (by exact rfl) (by exact rfl) ?_
  refine step_rowWait (n := 369) 3 1 (by decide +kernel) (by decide) (by exact rfl) (by exact rfl) ?_
  refine step_rowWait (n := 370) 3 2 (by decide +kernel) (by decide) (by exact rfl) (by exact rfl) ?_
  refine step_rowWait (n := 371) 3 3 (by decide +kernel) (by decide) (by exact rfl) (by exact rfl) ?_
  refine step_rowWait (n := 372) 3 4 (by decide +kernel) (by decide) (by exact rfl) (by exact rfl) ?_
  refine step_rowWait (n := 373) 3 5 (by decide +kernel) (by decide) (by exact rfl) (by exact rfl) ?_
  refine step_rowWait (n := 374) 3 6 (by decide +kernel) (by decide) (by exact rfl) (by exact rfl) ?_
  exact step_ret h

theorem part46 (k0_hw104 : k0_chk104 ((idv E c 103))) (k0_hw105 : k0_chk105 ((idv E c 104))) (k0_hw106 : k0_chk106 ((idv E c 105))) (k0_hw107 : k0_chk107 ((idv E c 106))) (k0_hw108 : k0_chk108 ((idv E c 107))) (k0_hw109 : k0_chk109 ((idv E c 108))) (k0_hw110 : k0_chk110 ((idv E c 109))) {Q : (PUnit) → sProp 𝕄}
    (h : St E K c 382 ⊢ Q ⟨⟩) :
    St E K c 375 ⊢ Runs c (onArgs (k0_part46 (F := F)) ((idv E c 103)) k0_hw104 ((idv E c 104)) k0_hw105 ((idv E c 105)) k0_hw106 ((idv E c 106)) k0_hw107 ((idv E c 107)) k0_hw108 ((idv E c 108)) k0_hw109 ((idv E c 109)) k0_hw110) Q := by
  rw [k0_part46_eq_skeleton]
  unfold onArgs k0_part46_skel
  refine step_rowWait (n := 375) 3 7 (by decide +kernel) (by decide) (by exact rfl) (by exact rfl) ?_
  refine step_rowWait (n := 376) 3 8 (by decide +kernel) (by decide) (by exact rfl) (by exact rfl) ?_
  refine step_rowWait (n := 377) 3 9 (by decide +kernel) (by decide) (by exact rfl) (by exact rfl) ?_
  refine step_rowWait (n := 378) 3 10 (by decide +kernel) (by decide) (by exact rfl) (by exact rfl) ?_
  refine step_rowWait (n := 379) 3 11 (by decide +kernel) (by decide) (by exact rfl) (by exact rfl) ?_
  refine step_rowWait (n := 380) 3 12 (by decide +kernel) (by decide) (by exact rfl) (by exact rfl) ?_
  refine step_rowWait (n := 381) 3 13 (by decide +kernel) (by decide) (by exact rfl) (by exact rfl) ?_
  exact step_ret h

theorem part47 (k0_hw111 : k0_chk111 ((idv E c 110))) (k0_hw112 : k0_chk112 ((idv E c 111))) (k0_hw113 : k0_chk113 ((idv E c 112))) (k0_hw114 : k0_chk114 ((idv E c 113))) (k0_hw115 : k0_chk115 ((idv E c 114))) (k0_hw116 : k0_chk116 ((idv E c 115))) {Q : (PUnit) → sProp 𝕄}
    (h : St E K c 388 ⊢ Q ⟨⟩) :
    St E K c 382 ⊢ Runs c (onArgs (k0_part47 (F := F)) ((idv E c 110)) k0_hw111 ((idv E c 111)) k0_hw112 ((idv E c 112)) k0_hw113 ((idv E c 113)) k0_hw114 ((idv E c 114)) k0_hw115 ((idv E c 115)) k0_hw116) Q := by
  rw [k0_part47_eq_skeleton]
  unfold onArgs k0_part47_skel
  refine step_rowWait (n := 382) 3 14 (by decide +kernel) (by decide) (by exact rfl) (by exact rfl) ?_
  refine step_rowWait (n := 383) 3 15 (by decide +kernel) (by decide) (by exact rfl) (by exact rfl) ?_
  refine step_rowWait (n := 384) 3 16 (by decide +kernel) (by decide) (by exact rfl) (by exact rfl) ?_
  refine step_rowWait (n := 385) 3 17 (by decide +kernel) (by decide) (by exact rfl) (by exact rfl) ?_
  refine step_rowWait (n := 386) 3 18 (by decide +kernel) (by decide) (by exact rfl) (by exact rfl) ?_
  refine step_rowWait (n := 387) 3 19 (by decide +kernel) (by decide) (by exact rfl) (by exact rfl) ?_
  exact step_ret h

theorem part48 (k0_hw117 : k0_chk117 ((idv E c 116))) (k0_hw118 : k0_chk118 ((idv E c 117))) (k0_hw119 : k0_chk119 ((idv E c 118))) (k0_hw120 : k0_chk120 ((idv E c 119))) (k0_hw121 : k0_chk121 ((idv E c 120))) (k0_hw122 : k0_chk122 ((idv E c 121))) (k0_hw123 : k0_chk123 ((idv E c 122))) {Q : (PUnit) → sProp 𝕄}
    (h : St E K c 395 ⊢ Q ⟨⟩) :
    St E K c 388 ⊢ Runs c (onArgs (k0_part48 (F := F)) ((idv E c 116)) k0_hw117 ((idv E c 117)) k0_hw118 ((idv E c 118)) k0_hw119 ((idv E c 119)) k0_hw120 ((idv E c 120)) k0_hw121 ((idv E c 121)) k0_hw122 ((idv E c 122)) k0_hw123) Q := by
  rw [k0_part48_eq_skeleton]
  unfold onArgs k0_part48_skel
  refine step_rowWait (n := 388) 3 20 (by decide +kernel) (by decide) (by exact rfl) (by exact rfl) ?_
  refine step_rowWait (n := 389) 3 21 (by decide +kernel) (by decide) (by exact rfl) (by exact rfl) ?_
  refine step_rowWait (n := 390) 3 22 (by decide +kernel) (by decide) (by exact rfl) (by exact rfl) ?_
  refine step_rowWait (n := 391) 3 23 (by decide +kernel) (by decide) (by exact rfl) (by exact rfl) ?_
  refine step_rowWait (n := 392) 3 24 (by decide +kernel) (by decide) (by exact rfl) (by exact rfl) ?_
  refine step_rowWait (n := 393) 3 25 (by decide +kernel) (by decide) (by exact rfl) (by exact rfl) ?_
  refine step_rowWait (n := 394) 3 26 (by decide +kernel) (by decide) (by exact rfl) (by exact rfl) ?_
  exact step_ret h

theorem part49 {v2 : BitVec 32} (k0_hw124 : k0_chk124 ((idv E c 123))) (k0_hw125 : k0_chk125 ((idv E c 124))) (k0_hw126 : k0_chk126 ((idv E c 125))) (k0_hw127 : k0_chk127 ((idv E c 126))) (k0_hw128 : k0_chk128 ((idv E c 127))) {Q : (BitVec 32) → sProp 𝕄}
    (h : ∀ (w0 : BitVec 32), St E K c 403 ⊢ Q (w0)) :
    St E K c 395 ⊢ Runs c (onArgs (k0_part49 (F := F)) v2 ((idv E c 123)) k0_hw124 ((idv E c 124)) k0_hw125 ((idv E c 125)) k0_hw126 ((idv E c 126)) k0_hw127 ((idv E c 127)) k0_hw128) Q := by
  rw [k0_part49_eq_skeleton]
  unfold onArgs k0_part49_skel
  refine step_rowWait (n := 395) 3 27 (by decide +kernel) (by decide) (by exact rfl) (by exact rfl) ?_
  refine step_rowWait (n := 396) 3 28 (by decide +kernel) (by decide) (by exact rfl) (by exact rfl) ?_
  refine step_rowWait (n := 397) 3 29 (by decide +kernel) (by decide) (by exact rfl) (by exact rfl) ?_
  refine step_rowWait (n := 398) 3 30 (by decide +kernel) (by decide) (by exact rfl) (by exact rfl) ?_
  refine step_rowLast (n := 399) 3 (by decide +kernel) (by exact rfl) (by exact rfl) ?_
  refine ld_rows (n := 400) 3 (by decide +kernel) ?_
  refine any_pb (n := 401) 3 (by decide +kernel) fun v1275 => ?_
  refine st_pb (n := 402) 3 (by decide +kernel) (pay1_eq E c 3) ?_
  exact step_ret (h _)

theorem part50 {v2 : BitVec 32} {v8 : BitVec 32} {v44 : BitVec 32} {v1279 : BitVec 32} {Q : (Σ' (v1308 : IVec S32x1 1), FVec F S32x1024 .bf16) → sProp 𝕄}
    (h : St E K c 407 ⊢ Q ⟨k0_pay5 (selRows E c 0), k0_pay6 (up3 (chunk E c (.pb 0)))⟩) :
    St E K c 403 ⊢ Runs c (onArgs (k0_part50 (F := F)) c v2 v8 v44 v1279) Q := by
  rw [k0_part50_eq_skeleton]
  unfold onArgs k0_part50_skel
  refine step_send (n := 403) (.y 3) (by decide +kernel) ((by decide : ∀ c : Dev nD, (⟨k0_dev7 c, k0_dev7_lt c⟩ : Dev nD) = peer c 0) c) (by exact rfl) (by exact rfl) ?_
  refine step_recv (n := 404) (.y 0) (by decide +kernel) (by exact rfl) (by exact rfl) ?_
  refine ld_sel (n := 405) 0 (by decide +kernel) ?_
  refine ld_pb (n := 406) 1 0 (by decide +kernel) ?_
  exact step_ret (h)

theorem part51 {v5 : BitVec 32} {v24 : BitVec 32} {v27 : BitVec 32} {v40 : BitVec 32} {v43 : BitVec 32} {Q : (PUnit) → sProp 𝕄}
    (h : St E K c 411 ⊢ Q ⟨⟩) :
    St E K c 407 ⊢ Runs c (onArgs (k0_part51 (F := F)) c v5 v24 v27 v40 v43 (k0_pay5 (selRows E c 0)) (k0_pay6 (up3 (chunk E c (.pb 0))))) Q := by
  rw [k0_part51_eq_skeleton]
  unfold onArgs k0_part51_skel
  refine ld_yb (n := 407) 0 0 (by decide +kernel) ?_
  refine any_rd (n := 408) 0 (by decide +kernel) fun v1316 => ?_
  refine st_rd (n := 409) 0 (by decide +kernel) (pay9_eq E c 0) ?_
  refine step_send (n := 410) (.cw 0 0) (by decide +kernel) ((by decide : ∀ c : Dev nD, (⟨k0_dev8 c, k0_dev8_lt c⟩ : Dev nD) = peer c 1) c) (by exact rfl) (by exact rfl) ?_
  exact step_ret h

theorem part52 {v2 : BitVec 32} {v8 : BitVec 32} {v11 : BitVec 32} {v44 : BitVec 32} {Q : (Σ' (v1369 : BitVec 32), BitVec 32) → sProp 𝕄}
    (h : ∀ (w0 : BitVec 32) (w1 : BitVec 32), St E K c 415 ⊢ Q ⟨w0, w1⟩) :
    St E K c 411 ⊢ Runs c (onArgs (k0_part52 (F := F)) c v2 v8 v11 v44) Q := by
  rw [k0_part52_eq_skeleton]
  unfold onArgs k0_part52_skel
  refine step_send (n := 411) (.ccw 0 0) (by decide +kernel) ((by decide : ∀ c : Dev nD, (⟨k0_dev9 c, k0_dev9_lt c⟩ : Dev nD) = peer c 2) c) (by exact rfl) (by exact rfl) ?_
  refine ld_rd (n := 412) 2 0 (by decide +kernel) ?_
  refine any_out (n := 413) (.rd 0) (by decide +kernel) (outOff_eq c (.rd 0) rfl) fun v1365 => ?_
  refine st_out (n := 414) (.rd 0) (by decide +kernel) rfl (outOff_eq c (.rd 0) rfl) (down_up3 _ _) ?_
  exact step_ret (h _ _)

theorem part53 {v5 : BitVec 32} {v24 : BitVec 32} {v27 : BitVec 32} {v1369 : BitVec 32} {v1370 : BitVec 32} {Q : (PUnit) → sProp 𝕄}
    (h : St E K c 421 ⊢ Q ⟨⟩) :
    St E K c 415 ⊢ Runs c (onArgs (k0_part53 (F := F)) v5 v24 v27 v1369 v1370) Q := by
  rw [k0_part53_eq_skeleton]
  unfold onArgs k0_part53_skel
  refine step_recv (n := 415) (.y 1) (by decide +kernel) (by exact rfl) (by exact rfl) ?_
  refine ld_sel (n := 416) 1 (by decide +kernel) ?_
  refine ld_pb (n := 417) 1 1 (by decide +kernel) ?_
  refine ld_yb (n := 418) 0 1 (by decide +kernel) ?_
  refine any_rd (n := 419) 1 (by decide +kernel) fun v1390 => ?_
  refine st_rd (n := 420) 1 (by decide +kernel) (pay9_eq E c 1) ?_
  exact step_ret h

theorem part54 {v5 : BitVec 32} {v11 : BitVec 32} {v40 : BitVec 32} {v43 : BitVec 32} {Q : (Σ' (v1422 : FVec F S32x1024 .bf16) (v1424 : BitVec 32) (v1425 : BitVec 32), BitVec 1) → sProp 𝕄}
    (h : ∀ (w1 : BitVec 32) (w2 : BitVec 32) (w3 : BitVec 1), St E K c 424 ⊢ Q ⟨k0_pay10 (up3 (chunk E c (.rd 1))), w1, w2, w3⟩) :
    St E K c 421 ⊢ Runs c (onArgs (k0_part54 (F := F)) c v5 v11 v40 v43) Q := by
  rw [k0_part54_eq_skeleton]
  unfold onArgs k0_part54_skel
  refine step_send (n := 421) (.cw 0 1) (by decide +kernel) ((by decide : ∀ c : Dev nD, (⟨k0_dev10 c, k0_dev10_lt c⟩ : Dev nD) = peer c 1) c) (by exact rfl) (by exact rfl) ?_
  refine step_send (n := 422) (.ccw 0 1) (by decide +kernel) ((by decide : ∀ c : Dev nD, (⟨k0_dev11 c, k0_dev11_lt c⟩ : Dev nD) = peer c 2) c) (by exact rfl) (by exact rfl) ?_
  refine ld_rd (n := 423) 2 1 (by decide +kernel) ?_
  exact step_ret (h _ _ _)

theorem part55 {v2 : BitVec 32} {v8 : BitVec 32} {v44 : BitVec 32} {v1424 : BitVec 32} {v1425 : BitVec 32} {v1430 : BitVec 1} {Q : (Σ' (v1458 : FVec F S32x1024 .bf16) (v1460 : FVec F S32x1024 .bf16), IVec S32x1 1) → sProp 𝕄}
    (h : St E K c 430 ⊢ Q ⟨k0_pay11 (up3 (chunk E c (.pb 2))), k0_pay12 (up3 (chunk E c (.yb 2))), k0_pay13 (selRows E c 2)⟩) :
    St E K c 424 ⊢ Runs c (onArgs (k0_part55 (F := F)) c v2 v8 v44 (k0_pay10 (up3 (chunk E c (.rd 1)))) v1424 v1425 v1430) Q := by
  rw [k0_part55_eq_skeleton]
  unfold onArgs k0_part55_skel
  refine any_out (n := 424) (.rd 1) (by decide +kernel) (outOff_eq c (.rd 1) rfl) fun v1439 => ?_
  refine st_out (n := 425) (.rd 1) (by decide +kernel) rfl (outOff_eq c (.rd 1) rfl) (down_up3 _ _) ?_
  refine step_recv (n := 426) (.y 2) (by decide +kernel) (by exact rfl) (by exact rfl) ?_
  refine ld_sel (n := 427) 2 (by decide +kernel) ?_
  refine ld_pb (n := 428) 1 2 (by decide +kernel) ?_
  refine ld_yb (n := 429) 0 2 (by decide +kernel) ?_
  exact step_ret (h)

theorem part56 {v5 : BitVec 32} {v24 : BitVec 32} {v27 : BitVec 32} {v40 : BitVec 32} {v43 : BitVec 32} {Q : (PUnit) → sProp 𝕄}
    (h : St E K c 433 ⊢ Q ⟨⟩) :
    St E K c 430 ⊢ Runs c (onArgs (k0_part56 (F := F)) c v5 v24 v27 v40 v43 (k0_pay11 (up3 (chunk E c (.pb 2)))) (k0_pay12 (up3 (chunk E c (.yb 2)))) (k0_pay13 (selRows E c 2))) Q := by
  rw [k0_part56_eq_skeleton]
  unfold onArgs k0_part56_skel
  refine any_rd (n := 430) 2 (by decide +kernel) fun v1464 => ?_
  refine st_rd (n := 431) 2 (by decide +kernel) (pay9_eq E c 2) ?_
  refine step_send (n := 432) (.cw 0 2) (by decide +kernel) ((by decide : ∀ c : Dev nD, (⟨k0_dev12 c, k0_dev12_lt c⟩ : Dev nD) = peer c 1) c) (by exact rfl) (by exact rfl) ?_
  exact step_ret h

theorem part57 {v2 : BitVec 32} {v8 : BitVec 32} {v11 : BitVec 32} {v44 : BitVec 32} {Q : (PUnit) → sProp 𝕄}
    (h : St E K c 437 ⊢ Q ⟨⟩) :
    St E K c 433 ⊢ Runs c (onArgs (k0_part57 (F := F)) c v2 v8 v11 v44) Q := by
  rw [k0_part57_eq_skeleton]
  unfold onArgs k0_part57_skel
  refine step_send (n := 433) (.ccw 0 2) (by decide +kernel) ((by decide : ∀ c : Dev nD, (⟨k0_dev13 c, k0_dev13_lt c⟩ : Dev nD) = peer c 2) c) (by exact rfl) (by exact rfl) ?_
  refine ld_rd (n := 434) 2 2 (by decide +kernel) ?_
  refine any_out (n := 435) (.rd 2) (by decide +kernel) (outOff_eq c (.rd 2) rfl) fun v1513 => ?_
  refine st_out (n := 436) (.rd 2) (by decide +kernel) rfl (outOff_eq c (.rd 2) rfl) (down_up3 _ _) ?_
  exact step_ret h

theorem part58 {v5 : BitVec 32} {v24 : BitVec 32} {v27 : BitVec 32} {Q : (PUnit) → sProp 𝕄}
    (h : St E K c 443 ⊢ Q ⟨⟩) :
    St E K c 437 ⊢ Runs c (onArgs (k0_part58 (F := F)) v5 v24 v27) Q := by
  rw [k0_part58_eq_skeleton]
  unfold onArgs k0_part58_skel
  refine step_recv (n := 437) (.y 3) (by decide +kernel) (by exact rfl) (by exact rfl) ?_
  refine ld_sel (n := 438) 3 (by decide +kernel) ?_
  refine ld_pb (n := 439) 1 3 (by decide +kernel) ?_
  refine ld_yb (n := 440) 0 3 (by decide +kernel) ?_
  refine any_rd (n := 441) 3 (by decide +kernel) fun v1538 => ?_
  refine st_rd (n := 442) 3 (by decide +kernel) (pay9_eq E c 3) ?_
  exact step_ret h

theorem part59 {v5 : BitVec 32} {v11 : BitVec 32} {v40 : BitVec 32} {v43 : BitVec 32} {Q : (Σ' (v1570 : FVec F S32x1024 .bf16) (v1580 : BitVec 32), BitVec 1) → sProp 𝕄}
    (h : ∀ (w1 : BitVec 32) (w2 : BitVec 1), St E K c 446 ⊢ Q ⟨k0_pay17 (up3 (chunk E c (.rd 3))), w1, w2⟩) :
    St E K c 443 ⊢ Runs c (onArgs (k0_part59 (F := F)) c v5 v11 v40 v43) Q := by
  rw [k0_part59_eq_skeleton]
  unfold onArgs k0_part59_skel
  refine step_send (n := 443) (.cw 0 3) (by decide +kernel) ((by decide : ∀ c : Dev nD, (⟨k0_dev14 c, k0_dev14_lt c⟩ : Dev nD) = peer c 1) c) (by exact rfl) (by exact rfl) ?_
  refine step_send (n := 444) (.ccw 0 3) (by decide +kernel) ((by decide : ∀ c : Dev nD, (⟨k0_dev15 c, k0_dev15_lt c⟩ : Dev nD) = peer c 2) c) (by exact rfl) (by exact rfl) ?_
  refine ld_rd (n := 445) 2 3 (by decide +kernel) ?_
  exact step_ret (h _ _)

theorem part60 {v5 : BitVec 32} {v24 : BitVec 32} {v27 : BitVec 32} {v1580 : BitVec 32} {v1581 : BitVec 1} {Q : (PUnit) → sProp 𝕄}
    (h : St E K c 449 ⊢ Q ⟨⟩) :
    St E K c 446 ⊢ Runs c (onArgs (k0_part60 (F := F)) c v5 v24 v27 (k0_pay17 (up3 (chunk E c (.rd 3)))) v1580 v1581) Q := by
  rw [k0_part60_eq_skeleton]
  unfold onArgs k0_part60_skel
  refine any_out (n := 446) (.rd 3) (by decide +kernel) (outOff_eq c (.rd 3) rfl) fun v1587 => ?_
  refine st_out (n := 447) (.rd 3) (by decide +kernel) rfl (outOff_eq c (.rd 3) rfl) (down_up3 _ _) ?_
  refine step_recv (n := 448) (.cw 0 0) (by decide +kernel) (by exact rfl) (by exact rfl) ?_
  exact step_ret h

end Cert.Emb

end
-- ==== Proof.PartsC.lean ====
module

public import proofs.«01_k».proof.Proof.Calls

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

variable {E : Env F} {K : GSem nD τ sig → ℕ} {c : Dev nD}

/-! # The body's parts: the rings, first half -/

theorem part61 {v5 : BitVec 32} {v40 : BitVec 32} {v43 : BitVec 32} {Q : (Σ' (v1631 : BitVec 32), BitVec 32) → sProp 𝕄}
    (h : ∀ (w0 : BitVec 32) (w1 : BitVec 32), St E K c 451 ⊢ Q ⟨w0, w1⟩) :
    St E K c 449 ⊢ Runs c (onArgs (k0_part61 (F := F)) c v5 v40 v43) Q := by
  rw [k0_part61_eq_skeleton]
  unfold onArgs k0_part61_skel
  refine step_send (n := 449) (.cw 1 0) (by decide +kernel) ((by decide : ∀ c : Dev nD, (⟨k0_dev16 c, k0_dev16_lt c⟩ : Dev nD) = peer c 1) c) (by exact rfl) (by exact rfl) ?_
  refine step_recv (n := 450) (.ccw 0 0) (by decide +kernel) (by exact rfl) (by exact rfl) ?_
  exact step_ret (h _ _)

theorem part62 {v11 : BitVec 32} {v1631 : BitVec 32} {v1632 : BitVec 32} {Q : (PUnit) → sProp 𝕄}
    (h : St E K c 455 ⊢ Q ⟨⟩) :
    St E K c 451 ⊢ Runs c (onArgs (k0_part62 (F := F)) c v11 v1631 v1632) Q := by
  rw [k0_part62_eq_skeleton]
  unfold onArgs k0_part62_skel
  refine step_send (n := 451) (.ccw 1 0) (by decide +kernel) ((by decide : ∀ c : Dev nD, (⟨k0_dev17 c, k0_dev17_lt c⟩ : Dev nD) = peer c 2) c) (by exact rfl) (by exact rfl) ?_
  refine ld_cw (n := 452) 1 0 0 (by decide +kernel) ?_
  refine any_out (n := 453) (.cw 0 0) (by decide +kernel) (outOff_eq c (.cw 0 0) rfl) fun v1664 => ?_
  refine st_out (n := 454) (.cw 0 0) (by decide +kernel) rfl (outOff_eq c (.cw 0 0) rfl) (down_up4 _ _) ?_
  exact step_ret h

theorem part63 {v5 : BitVec 32} {v11 : BitVec 32} {v24 : BitVec 32} {v27 : BitVec 32} {Q : (PUnit) → sProp 𝕄}
    (h : St E K c 458 ⊢ Q ⟨⟩) :
    St E K c 455 ⊢ Runs c (onArgs (k0_part63 (F := F)) c v5 v11 v24 v27) Q := by
  rw [k0_part63_eq_skeleton]
  unfold onArgs k0_part63_skel
  refine ld_ccw (n := 455) 1 0 0 (by decide +kernel) ?_
  refine any_out (n := 456) (.ccw 0 0) (by decide +kernel) (outOff_eq c (.ccw 0 0) rfl) fun v1685 => ?_
  refine st_out (n := 457) (.ccw 0 0) (by decide +kernel) rfl (outOff_eq c (.ccw 0 0) rfl) (down_up4 _ _) ?_
  exact step_ret h

theorem part64 {v5 : BitVec 32} {v24 : BitVec 32} {v27 : BitVec 32} {v40 : BitVec 32} {v43 : BitVec 32} {Q : (PUnit) → sProp 𝕄}
    (h : St E K c 460 ⊢ Q ⟨⟩) :
    St E K c 458 ⊢ Runs c (onArgs (k0_part64 (F := F)) c v5 v24 v27 v40 v43) Q := by
  rw [k0_part64_eq_skeleton]
  unfold onArgs k0_part64_skel
  refine step_recv (n := 458) (.cw 0 1) (by decide +kernel) (by exact rfl) (by exact rfl) ?_
  refine step_send (n := 459) (.cw 1 1) (by decide +kernel) ((by decide : ∀ c : Dev nD, (⟨k0_dev18 c, k0_dev18_lt c⟩ : Dev nD) = peer c 1) c) (by exact rfl) (by exact rfl) ?_
  exact step_ret h

theorem part65 {v5 : BitVec 32} {v11 : BitVec 32} {v40 : BitVec 32} {v43 : BitVec 32} {Q : (Σ' (v1743 : FVec F S32x1024 .bf16) (v1745 : BitVec 32), BitVec 32) → sProp 𝕄}
    (h : ∀ (w1 : BitVec 32) (w2 : BitVec 32), St E K c 463 ⊢ Q ⟨k0_pay20 (up4 (chunk E c (.cw 0 1))), w1, w2⟩) :
    St E K c 460 ⊢ Runs c (onArgs (k0_part65 (F := F)) c v5 v11 v40 v43) Q := by
  rw [k0_part65_eq_skeleton]
  unfold onArgs k0_part65_skel
  refine step_recv (n := 460) (.ccw 0 1) (by decide +kernel) (by exact rfl) (by exact rfl) ?_
  refine step_send (n := 461) (.ccw 1 1) (by decide +kernel) ((by decide : ∀ c : Dev nD, (⟨k0_dev19 c, k0_dev19_lt c⟩ : Dev nD) = peer c 2) c) (by exact rfl) (by exact rfl) ?_
  refine ld_cw (n := 462) 1 0 1 (by decide +kernel) ?_
  exact step_ret (h _ _)

theorem part66 {v11 : BitVec 32} {v1745 : BitVec 32} {v1747 : BitVec 32} {Q : (FVec F S32x1024 .bf16) → sProp 𝕄}
    (h : St E K c 466 ⊢ Q ((k0_pay21 (up4 (chunk E c (.ccw 0 1)))))) :
    St E K c 463 ⊢ Runs c (onArgs (k0_part66 (F := F)) c v11 (k0_pay20 (up4 (chunk E c (.cw 0 1)))) v1745 v1747) Q := by
  rw [k0_part66_eq_skeleton]
  unfold onArgs k0_part66_skel
  refine any_out (n := 463) (.cw 0 1) (by decide +kernel) (outOff_eq c (.cw 0 1) rfl) fun v1762 => ?_
  refine st_out (n := 464) (.cw 0 1) (by decide +kernel) rfl (outOff_eq c (.cw 0 1) rfl) (down_up4 _ _) ?_
  refine ld_ccw (n := 465) 1 0 1 (by decide +kernel) ?_
  exact step_ret (h)

theorem part67 {v5 : BitVec 32} {v24 : BitVec 32} {v27 : BitVec 32} {Q : (PUnit) → sProp 𝕄}
    (h : St E K c 469 ⊢ Q ⟨⟩) :
    St E K c 466 ⊢ Runs c (onArgs (k0_part67 (F := F)) c v5 v24 v27 ((k0_pay21 (up4 (chunk E c (.ccw 0 1)))))) Q := by
  rw [k0_part67_eq_skeleton]
  unfold onArgs k0_part67_skel
  refine any_out (n := 466) (.ccw 0 1) (by decide +kernel) (outOff_eq c (.ccw 0 1) rfl) fun v1783 => ?_
  refine st_out (n := 467) (.ccw 0 1) (by decide +kernel) rfl (outOff_eq c (.ccw 0 1) rfl) (down_up4 _ _) ?_
  refine step_recv (n := 468) (.cw 0 2) (by decide +kernel) (by exact rfl) (by exact rfl) ?_
  exact step_ret h

theorem part68 {v5 : BitVec 32} {v40 : BitVec 32} {v43 : BitVec 32} {Q : (PUnit) → sProp 𝕄}
    (h : St E K c 471 ⊢ Q ⟨⟩) :
    St E K c 469 ⊢ Runs c (onArgs (k0_part68 (F := F)) c v5 v40 v43) Q := by
  rw [k0_part68_eq_skeleton]
  unfold onArgs k0_part68_skel
  refine step_send (n := 469) (.cw 1 2) (by decide +kernel) ((by decide : ∀ c : Dev nD, (⟨k0_dev20 c, k0_dev20_lt c⟩ : Dev nD) = peer c 1) c) (by exact rfl) (by exact rfl) ?_
  refine step_recv (n := 470) (.ccw 0 2) (by decide +kernel) (by exact rfl) (by exact rfl) ?_
  exact step_ret h

theorem part69 {v11 : BitVec 32} {Q : (Σ' (v1862 : FVec F S32x1024 .bf16), BitVec 32) → sProp 𝕄}
    (h : ∀ (w1 : BitVec 32), St E K c 476 ⊢ Q ⟨k0_pay23 (up4 (chunk E c (.ccw 0 2))), w1⟩) :
    St E K c 471 ⊢ Runs c (onArgs (k0_part69 (F := F)) c v11) Q := by
  rw [k0_part69_eq_skeleton]
  unfold onArgs k0_part69_skel
  refine step_send (n := 471) (.ccw 1 2) (by decide +kernel) ((by decide : ∀ c : Dev nD, (⟨k0_dev21 c, k0_dev21_lt c⟩ : Dev nD) = peer c 2) c) (by exact rfl) (by exact rfl) ?_
  refine ld_cw (n := 472) 1 0 2 (by decide +kernel) ?_
  refine any_out (n := 473) (.cw 0 2) (by decide +kernel) (outOff_eq c (.cw 0 2) rfl) fun v1860 => ?_
  refine st_out (n := 474) (.cw 0 2) (by decide +kernel) rfl (outOff_eq c (.cw 0 2) rfl) (down_up4 _ _) ?_
  refine ld_ccw (n := 475) 1 0 2 (by decide +kernel) ?_
  exact step_ret (h _)

theorem part70 {v5 : BitVec 32} {v24 : BitVec 32} {v27 : BitVec 32} {v1864 : BitVec 32} {Q : (PUnit) → sProp 𝕄}
    (h : St E K c 479 ⊢ Q ⟨⟩) :
    St E K c 476 ⊢ Runs c (onArgs (k0_part70 (F := F)) c v5 v24 v27 (k0_pay23 (up4 (chunk E c (.ccw 0 2)))) v1864) Q := by
  rw [k0_part70_eq_skeleton]
  unfold onArgs k0_part70_skel
  refine any_out (n := 476) (.ccw 0 2) (by decide +kernel) (outOff_eq c (.ccw 0 2) rfl) fun v1881 => ?_
  refine st_out (n := 477) (.ccw 0 2) (by decide +kernel) rfl (outOff_eq c (.ccw 0 2) rfl) (down_up4 _ _) ?_
  refine step_recv (n := 478) (.cw 0 3) (by decide +kernel) (by exact rfl) (by exact rfl) ?_
  exact step_ret h

theorem part71 {v5 : BitVec 32} {v24 : BitVec 32} {v27 : BitVec 32} {v40 : BitVec 32} {v43 : BitVec 32} {Q : (PUnit) → sProp 𝕄}
    (h : St E K c 480 ⊢ Q ⟨⟩) :
    St E K c 479 ⊢ Runs c (onArgs (k0_part71 (F := F)) c v5 v24 v27 v40 v43) Q := by
  rw [k0_part71_eq_skeleton]
  unfold onArgs k0_part71_skel
  refine step_send (n := 479) (.cw 1 3) (by decide +kernel) ((by decide : ∀ c : Dev nD, (⟨k0_dev22 c, k0_dev22_lt c⟩ : Dev nD) = peer c 1) c) (by exact rfl) (by exact rfl) ?_
  exact step_ret h

theorem part72 {v5 : BitVec 32} {v11 : BitVec 32} {v40 : BitVec 32} {v43 : BitVec 32} {Q : (Σ' (v1939 : FVec F S32x1024 .bf16) (v1943 : BitVec 32) (v1944 : BitVec 32) (v1945 : BitVec 1), BitVec 1) → sProp 𝕄}
    (h : ∀ (w1 : BitVec 32) (w2 : BitVec 32) (w3 : BitVec 1) (w4 : BitVec 1), St E K c 483 ⊢ Q ⟨k0_pay24 (up4 (chunk E c (.cw 0 3))), w1, w2, w3, w4⟩) :
    St E K c 480 ⊢ Runs c (onArgs (k0_part72 (F := F)) c v5 v11 v40 v43) Q := by
  rw [k0_part72_eq_skeleton]
  unfold onArgs k0_part72_skel
  refine step_recv (n := 480) (.ccw 0 3) (by decide +kernel) (by exact rfl) (by exact rfl) ?_
  refine step_send (n := 481) (.ccw 1 3) (by decide +kernel) ((by decide : ∀ c : Dev nD, (⟨k0_dev23 c, k0_dev23_lt c⟩ : Dev nD) = peer c 2) c) (by exact rfl) (by exact rfl) ?_
  refine ld_cw (n := 482) 1 0 3 (by decide +kernel) ?_
  exact step_ret (h _ _ _ _)

theorem part73 {v11 : BitVec 32} {v1943 : BitVec 32} {v1944 : BitVec 32} {v1945 : BitVec 1} {v1948 : BitVec 1} {Q : (PUnit) → sProp 𝕄}
    (h : St E K c 488 ⊢ Q ⟨⟩) :
    St E K c 483 ⊢ Runs c (onArgs (k0_part73 (F := F)) c v11 (k0_pay24 (up4 (chunk E c (.cw 0 3)))) v1943 v1944 v1945 v1948) Q := by
  rw [k0_part73_eq_skeleton]
  unfold onArgs k0_part73_skel
  refine any_out (n := 483) (.cw 0 3) (by decide +kernel) (outOff_eq c (.cw 0 3) rfl) fun v1958 => ?_
  refine st_out (n := 484) (.cw 0 3) (by decide +kernel) rfl (outOff_eq c (.cw 0 3) rfl) (down_up4 _ _) ?_
  refine ld_ccw (n := 485) 1 0 3 (by decide +kernel) ?_
  refine any_out (n := 486) (.ccw 0 3) (by decide +kernel) (outOff_eq c (.ccw 0 3) rfl) fun v1979 => ?_
  refine st_out (n := 487) (.ccw 0 3) (by decide +kernel) rfl (outOff_eq c (.ccw 0 3) rfl) (down_up4 _ _) ?_
  exact step_ret h

theorem part74 {v5 : BitVec 32} {v24 : BitVec 32} {v27 : BitVec 32} {Q : (PUnit) → sProp 𝕄}
    (h : St E K c 489 ⊢ Q ⟨⟩) :
    St E K c 488 ⊢ Runs c (onArgs (k0_part74 (F := F)) v5 v24 v27) Q := by
  rw [k0_part74_eq_skeleton]
  unfold onArgs k0_part74_skel
  refine step_recv (n := 488) (.cw 1 0) (by decide +kernel) (by exact rfl) (by exact rfl) ?_
  exact step_ret h

theorem part75 {v5 : BitVec 32} {v40 : BitVec 32} {v43 : BitVec 32} {Q : (PUnit) → sProp 𝕄}
    (h : St E K c 491 ⊢ Q ⟨⟩) :
    St E K c 489 ⊢ Runs c (onArgs (k0_part75 (F := F)) c v5 v40 v43) Q := by
  rw [k0_part75_eq_skeleton]
  unfold onArgs k0_part75_skel
  refine step_send (n := 489) (.cw 2 0) (by decide +kernel) ((by decide : ∀ c : Dev nD, (⟨k0_dev24 c, k0_dev24_lt c⟩ : Dev nD) = peer c 1) c) (by exact rfl) (by exact rfl) ?_
  refine step_recv (n := 490) (.ccw 1 0) (by decide +kernel) (by exact rfl) (by exact rfl) ?_
  exact step_ret h

theorem part76 {v11 : BitVec 32} {Q : (FVec F S32x1024 .bf16) → sProp 𝕄}
    (h : St E K c 496 ⊢ Q ((k0_pay27 (up4 (chunk E c (.ccw 1 0)))))) :
    St E K c 491 ⊢ Runs c (onArgs (k0_part76 (F := F)) c v11) Q := by
  rw [k0_part76_eq_skeleton]
  unfold onArgs k0_part76_skel
  refine step_send (n := 491) (.ccw 2 0) (by decide +kernel) ((by decide : ∀ c : Dev nD, (⟨k0_dev25 c, k0_dev25_lt c⟩ : Dev nD) = peer c 2) c) (by exact rfl) (by exact rfl) ?_
  refine ld_cw (n := 492) 1 1 0 (by decide +kernel) ?_
  refine any_out (n := 493) (.cw 1 0) (by decide +kernel) (outOff_eq c (.cw 1 0) rfl) fun v2060 => ?_
  refine st_out (n := 494) (.cw 1 0) (by decide +kernel) rfl (outOff_eq c (.cw 1 0) rfl) (down_up4 _ _) ?_
  refine ld_ccw (n := 495) 1 1 0 (by decide +kernel) ?_
  exact step_ret (h)

theorem part77 {v5 : BitVec 32} {v11 : BitVec 32} {v24 : BitVec 32} {v27 : BitVec 32} {Q : (PUnit) → sProp 𝕄}
    (h : St E K c 498 ⊢ Q ⟨⟩) :
    St E K c 496 ⊢ Runs c (onArgs (k0_part77 (F := F)) c v5 v11 v24 v27 ((k0_pay27 (up4 (chunk E c (.ccw 1 0)))))) Q := by
  rw [k0_part77_eq_skeleton]
  unfold onArgs k0_part77_skel
  refine any_out (n := 496) (.ccw 1 0) (by decide +kernel) (outOff_eq c (.ccw 1 0) rfl) fun v2081 => ?_
  refine st_out (n := 497) (.ccw 1 0) (by decide +kernel) rfl (outOff_eq c (.ccw 1 0) rfl) (down_up4 _ _) ?_
  exact step_ret h

theorem part78 {v5 : BitVec 32} {v24 : BitVec 32} {v27 : BitVec 32} {v40 : BitVec 32} {v43 : BitVec 32} {Q : (Σ' (v2115 : BitVec 32), BitVec 32) → sProp 𝕄}
    (h : ∀ (w0 : BitVec 32) (w1 : BitVec 32), St E K c 500 ⊢ Q ⟨w0, w1⟩) :
    St E K c 498 ⊢ Runs c (onArgs (k0_part78 (F := F)) c v5 v24 v27 v40 v43) Q := by
  rw [k0_part78_eq_skeleton]
  unfold onArgs k0_part78_skel
  refine step_recv (n := 498) (.cw 1 1) (by decide +kernel) (by exact rfl) (by exact rfl) ?_
  refine step_send (n := 499) (.cw 2 1) (by decide +kernel) ((by decide : ∀ c : Dev nD, (⟨k0_dev26 c, k0_dev26_lt c⟩ : Dev nD) = peer c 1) c) (by exact rfl) (by exact rfl) ?_
  exact step_ret (h _ _)

theorem part79 {v5 : BitVec 32} {v40 : BitVec 32} {v43 : BitVec 32} {v2115 : BitVec 32} {v2116 : BitVec 32} {Q : (Σ' (v2143 : FVec F S32x1024 .bf16), BitVec 32) → sProp 𝕄}
    (h : ∀ (w1 : BitVec 32), St E K c 503 ⊢ Q ⟨k0_pay28 (up4 (chunk E c (.cw 1 1))), w1⟩) :
    St E K c 500 ⊢ Runs c (onArgs (k0_part79 (F := F)) c v5 v40 v43 v2115 v2116) Q := by
  rw [k0_part79_eq_skeleton]
  unfold onArgs k0_part79_skel
  refine step_recv (n := 500) (.ccw 1 1) (by decide +kernel) (by exact rfl) (by exact rfl) ?_
  refine step_send (n := 501) (.ccw 2 1) (by decide +kernel) ((by decide : ∀ c : Dev nD, (⟨k0_dev27 c, k0_dev27_lt c⟩ : Dev nD) = peer c 2) c) (by exact rfl) (by exact rfl) ?_
  refine ld_cw (n := 502) 1 1 1 (by decide +kernel) ?_
  exact step_ret (h _)

theorem part80 {v11 : BitVec 32} {c1_i32_1885 : BitVec 32} {Q : (Σ' (v2164 : FVec F S32x1024 .bf16) (v2176 : BitVec 32), BitVec 1) → sProp 𝕄}
    (h : ∀ (w1 : BitVec 32) (w2 : BitVec 1), St E K c 506 ⊢ Q ⟨k0_pay29 (up4 (chunk E c (.ccw 1 1))), w1, w2⟩) :
    St E K c 503 ⊢ Runs c (onArgs (k0_part80 (F := F)) c v11 (k0_pay28 (up4 (chunk E c (.cw 1 1)))) c1_i32_1885) Q := by
  rw [k0_part80_eq_skeleton]
  unfold onArgs k0_part80_skel
  refine any_out (n := 503) (.cw 1 1) (by decide +kernel) (outOff_eq c (.cw 1 1) rfl) fun v2162 => ?_
  refine st_out (n := 504) (.cw 1 1) (by decide +kernel) rfl (outOff_eq c (.cw 1 1) rfl) (down_up4 _ _) ?_
  refine ld_ccw (n := 505) 1 1 1 (by decide +kernel) ?_
  exact step_ret (h _ _)

theorem part81 {v5 : BitVec 32} {v24 : BitVec 32} {v27 : BitVec 32} {v2176 : BitVec 32} {v2177 : BitVec 1} {Q : (BitVec 32) → sProp 𝕄}
    (h : ∀ (w0 : BitVec 32), St E K c 509 ⊢ Q (w0)) :
    St E K c 506 ⊢ Runs c (onArgs (k0_part81 (F := F)) c v5 v24 v27 (k0_pay29 (up4 (chunk E c (.ccw 1 1)))) v2176 v2177) Q := by
  rw [k0_part81_eq_skeleton]
  unfold onArgs k0_part81_skel
  refine any_out (n := 506) (.ccw 1 1) (by decide +kernel) (outOff_eq c (.ccw 1 1) rfl) fun v2183 => ?_
  refine st_out (n := 507) (.ccw 1 1) (by decide +kernel) rfl (outOff_eq c (.ccw 1 1) rfl) (down_up4 _ _) ?_
  refine step_recv (n := 508) (.cw 1 2) (by decide +kernel) (by exact rfl) (by exact rfl) ?_
  exact step_ret (h _)

theorem part82 {v5 : BitVec 32} {v27 : BitVec 32} {v40 : BitVec 32} {v43 : BitVec 32} {v2201 : BitVec 32} {Q : (PUnit) → sProp 𝕄}
    (h : St E K c 511 ⊢ Q ⟨⟩) :
    St E K c 509 ⊢ Runs c (onArgs (k0_part82 (F := F)) c v5 v27 v40 v43 v2201) Q := by
  rw [k0_part82_eq_skeleton]
  unfold onArgs k0_part82_skel
  refine step_send (n := 509) (.cw 2 2) (by decide +kernel) ((by decide : ∀ c : Dev nD, (⟨k0_dev28 c, k0_dev28_lt c⟩ : Dev nD) = peer c 1) c) (by exact rfl) (by exact rfl) ?_
  refine step_recv (n := 510) (.ccw 1 2) (by decide +kernel) (by exact rfl) (by exact rfl) ?_
  exact step_ret h

theorem part83 {v5 : BitVec 32} {v11 : BitVec 32} {v40 : BitVec 32} {v43 : BitVec 32} {Q : (Σ' (v2245 : FVec F S32x1024 .bf16) (v2257 : BitVec 32) (v2258 : BitVec 1), BitVec 32) → sProp 𝕄}
    (h : ∀ (w1 : BitVec 32) (w2 : BitVec 1) (w3 : BitVec 32), St E K c 513 ⊢ Q ⟨k0_pay30 (up4 (chunk E c (.cw 1 2))), w1, w2, w3⟩) :
    St E K c 511 ⊢ Runs c (onArgs (k0_part83 (F := F)) c v5 v11 v40 v43) Q := by
  rw [k0_part83_eq_skeleton]
  unfold onArgs k0_part83_skel
  refine step_send (n := 511) (.ccw 2 2) (by decide +kernel) ((by decide : ∀ c : Dev nD, (⟨k0_dev29 c, k0_dev29_lt c⟩ : Dev nD) = peer c 2) c) (by exact rfl) (by exact rfl) ?_
  refine ld_cw (n := 512) 1 1 2 (by decide +kernel) ?_
  exact step_ret (h _ _ _)

theorem part84 {v11 : BitVec 32} {v24 : BitVec 32} {v2257 : BitVec 32} {v2258 : BitVec 1} {c11_i32_2004 : BitVec 32} {Q : (Σ' (v2286 : BitVec 32), BitVec 32) → sProp 𝕄}
    (h : ∀ (w0 : BitVec 32) (w1 : BitVec 32), St E K c 518 ⊢ Q ⟨w0, w1⟩) :
    St E K c 513 ⊢ Runs c (onArgs (k0_part84 (F := F)) c v11 v24 (k0_pay30 (up4 (chunk E c (.cw 1 2)))) v2257 v2258 c11_i32_2004) Q := by
  rw [k0_part84_eq_skeleton]
  unfold onArgs k0_part84_skel
  refine any_out (n := 513) (.cw 1 2) (by decide +kernel) (outOff_eq c (.cw 1 2) rfl) fun v2264 => ?_
  refine st_out (n := 514) (.cw 1 2) (by decide +kernel) rfl (outOff_eq c (.cw 1 2) rfl) (down_up4 _ _) ?_
  refine ld_ccw (n := 515) 1 1 2 (by decide +kernel) ?_
  refine any_out (n := 516) (.ccw 1 2) (by decide +kernel) (outOff_eq c (.ccw 1 2) rfl) fun v2285 => ?_
  refine st_out (n := 517) (.ccw 1 2) (by decide +kernel) rfl (outOff_eq c (.ccw 1 2) rfl) (down_up4 _ _) ?_
  exact step_ret (h _ _)

theorem part85 {v5 : BitVec 32} {v24 : BitVec 32} {v27 : BitVec 32} {v2286 : BitVec 32} {c0_i32_2034 : BitVec 32} {Q : (PUnit) → sProp 𝕄}
    (h : St E K c 520 ⊢ Q ⟨⟩) :
    St E K c 518 ⊢ Runs c (onArgs (k0_part85 (F := F)) c v5 v24 v27 v2286 c0_i32_2034) Q := by
  rw [k0_part85_eq_skeleton]
  unfold onArgs k0_part85_skel
  refine step_recv (n := 518) (.cw 1 3) (by decide +kernel) (by exact rfl) (by exact rfl) ?_
  refine step_send (n := 519) (.cw 2 3) (by decide +kernel) ((by decide : ∀ c : Dev nD, (⟨k0_dev30 c, k0_dev30_lt c⟩ : Dev nD) = peer c 1) c) (by exact rfl) (by exact rfl) ?_
  exact step_ret h

theorem part86 {v5 : BitVec 32} {v40 : BitVec 32} {v43 : BitVec 32} {Q : (PUnit) → sProp 𝕄}
    (h : St E K c 521 ⊢ Q ⟨⟩) :
    St E K c 520 ⊢ Runs c (onArgs (k0_part86 (F := F)) v5 v40 v43) Q := by
  rw [k0_part86_eq_skeleton]
  unfold onArgs k0_part86_skel
  refine step_recv (n := 520) (.ccw 1 3) (by decide +kernel) (by exact rfl) (by exact rfl) ?_
  exact step_ret h

theorem part87 {v11 : BitVec 32} {Q : (Σ' (v2368 : FVec F S32x1024 .bf16) (v2370 : BitVec 32) (c8_i32_2124 : BitVec 32), BitVec 32) → sProp 𝕄}
    (h : ∀ (w1 : BitVec 32) (w2 : BitVec 32) (w3 : BitVec 32), St E K c 526 ⊢ Q ⟨k0_pay33 (up4 (chunk E c (.ccw 1 3))), w1, w2, w3⟩) :
    St E K c 521 ⊢ Runs c (onArgs (k0_part87 (F := F)) c v11) Q := by
  rw [k0_part87_eq_skeleton]
  unfold onArgs k0_part87_skel
  refine step_send (n := 521) (.ccw 2 3) (by decide +kernel) ((by decide : ∀ c : Dev nD, (⟨k0_dev31 c, k0_dev31_lt c⟩ : Dev nD) = peer c 2) c) (by exact rfl) (by exact rfl) ?_
  refine ld_cw (n := 522) 1 1 3 (by decide +kernel) ?_
  refine any_out (n := 523) (.cw 1 3) (by decide +kernel) (outOff_eq c (.cw 1 3) rfl) fun v2366 => ?_
  refine st_out (n := 524) (.cw 1 3) (by decide +kernel) rfl (outOff_eq c (.cw 1 3) rfl) (down_up4 _ _) ?_
  refine ld_ccw (n := 525) 1 1 3 (by decide +kernel) ?_
  exact step_ret (h _ _ _)

theorem part88 {v5 : BitVec 32} {v24 : BitVec 32} {v27 : BitVec 32} {v2370 : BitVec 32} {c8_i32_2124 : BitVec 32} {c0_i32_2125 : BitVec 32} {Q : (PUnit) → sProp 𝕄}
    (h : St E K c 528 ⊢ Q ⟨⟩) :
    St E K c 526 ⊢ Runs c (onArgs (k0_part88 (F := F)) c v5 v24 v27 (k0_pay33 (up4 (chunk E c (.ccw 1 3)))) v2370 c8_i32_2124 c0_i32_2125) Q := by
  rw [k0_part88_eq_skeleton]
  unfold onArgs k0_part88_skel
  refine any_out (n := 526) (.ccw 1 3) (by decide +kernel) (outOff_eq c (.ccw 1 3) rfl) fun v2387 => ?_
  refine st_out (n := 527) (.ccw 1 3) (by decide +kernel) rfl (outOff_eq c (.ccw 1 3) rfl) (down_up4 _ _) ?_
  exact step_ret h

theorem part89 {v5 : BitVec 32} {v24 : BitVec 32} {v27 : BitVec 32} {v40 : BitVec 32} {v43 : BitVec 32} {Q : (PUnit) → sProp 𝕄}
    (h : St E K c 530 ⊢ Q ⟨⟩) :
    St E K c 528 ⊢ Runs c (onArgs (k0_part89 (F := F)) c v5 v24 v27 v40 v43) Q := by
  rw [k0_part89_eq_skeleton]
  unfold onArgs k0_part89_skel
  refine step_recv (n := 528) (.cw 2 0) (by decide +kernel) (by exact rfl) (by exact rfl) ?_
  refine step_send (n := 529) (.cw 3 0) (by decide +kernel) ((by decide : ∀ c : Dev nD, (⟨k0_dev32 c, k0_dev32_lt c⟩ : Dev nD) = peer c 1) c) (by exact rfl) (by exact rfl) ?_
  exact step_ret h

end Cert.Emb

end
-- ==== Proof.PartsD.lean ====
module

public import proofs.«01_k».proof.Proof.Calls

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

variable {E : Env F} {K : GSem nD τ sig → ℕ} {c : Dev nD}

/-! # The body's parts: the rings, second half -/

theorem part90 {v11 : BitVec 32} {Q : (Σ' (v2454 : FVec F S32x1024 .bf16), BitVec 32) → sProp 𝕄}
    (h : ∀ (w1 : BitVec 32), St E K c 535 ⊢ Q ⟨k0_pay35 (up4 (chunk E c (.ccw 2 0))), w1⟩) :
    St E K c 530 ⊢ Runs c (onArgs (k0_part90 (F := F)) c v11) Q := by
  rw [k0_part90_eq_skeleton]
  unfold onArgs k0_part90_skel
  refine step_recv (n := 530) (.ccw 2 0) (by decide +kernel) (by exact rfl) (by exact rfl) ?_
  refine ld_cw (n := 531) 1 2 0 (by decide +kernel) ?_
  refine any_out (n := 532) (.cw 2 0) (by decide +kernel) (outOff_eq c (.cw 2 0) rfl) fun v2452 => ?_
  refine st_out (n := 533) (.cw 2 0) (by decide +kernel) rfl (outOff_eq c (.cw 2 0) rfl) (down_up4 _ _) ?_
  refine ld_ccw (n := 534) 0 2 0 (by decide +kernel) ?_
  exact step_ret (h _)

theorem part91 {v5 : BitVec 32} {v24 : BitVec 32} {v27 : BitVec 32} {v2456 : BitVec 32} {Q : (PUnit) → sProp 𝕄}
    (h : St E K c 537 ⊢ Q ⟨⟩) :
    St E K c 535 ⊢ Runs c (onArgs (k0_part91 (F := F)) c v5 v24 v27 (k0_pay35 (up4 (chunk E c (.ccw 2 0)))) v2456) Q := by
  rw [k0_part91_eq_skeleton]
  unfold onArgs k0_part91_skel
  refine any_out (n := 535) (.ccw 2 0) (by decide +kernel) (outOff_eq c (.ccw 2 0) rfl) fun v2473 => ?_
  refine st_out (n := 536) (.ccw 2 0) (by decide +kernel) rfl (outOff_eq c (.ccw 2 0) rfl) (down_up4 _ _) ?_
  exact step_ret h

theorem part92 {v5 : BitVec 32} {v24 : BitVec 32} {v27 : BitVec 32} {v40 : BitVec 32} {v43 : BitVec 32} {Q : (PUnit) → sProp 𝕄}
    (h : St E K c 539 ⊢ Q ⟨⟩) :
    St E K c 537 ⊢ Runs c (onArgs (k0_part92 (F := F)) c v5 v24 v27 v40 v43) Q := by
  rw [k0_part92_eq_skeleton]
  unfold onArgs k0_part92_skel
  refine step_recv (n := 537) (.cw 2 1) (by decide +kernel) (by exact rfl) (by exact rfl) ?_
  refine step_send (n := 538) (.cw 3 1) (by decide +kernel) ((by decide : ∀ c : Dev nD, (⟨k0_dev33 c, k0_dev33_lt c⟩ : Dev nD) = peer c 1) c) (by exact rfl) (by exact rfl) ?_
  exact step_ret h

theorem part93 {v11 : BitVec 32} {Q : (Σ' (v2540 : FVec F S32x1024 .bf16), BitVec 32) → sProp 𝕄}
    (h : ∀ (w1 : BitVec 32), St E K c 544 ⊢ Q ⟨k0_pay37 (up4 (chunk E c (.ccw 2 1))), w1⟩) :
    St E K c 539 ⊢ Runs c (onArgs (k0_part93 (F := F)) c v11) Q := by
  rw [k0_part93_eq_skeleton]
  unfold onArgs k0_part93_skel
  refine step_recv (n := 539) (.ccw 2 1) (by decide +kernel) (by exact rfl) (by exact rfl) ?_
  refine ld_cw (n := 540) 1 2 1 (by decide +kernel) ?_
  refine any_out (n := 541) (.cw 2 1) (by decide +kernel) (outOff_eq c (.cw 2 1) rfl) fun v2538 => ?_
  refine st_out (n := 542) (.cw 2 1) (by decide +kernel) rfl (outOff_eq c (.cw 2 1) rfl) (down_up4 _ _) ?_
  refine ld_ccw (n := 543) 0 2 1 (by decide +kernel) ?_
  exact step_ret (h _)

theorem part94 {v5 : BitVec 32} {v24 : BitVec 32} {v27 : BitVec 32} {v2541 : BitVec 32} {Q : (PUnit) → sProp 𝕄}
    (h : St E K c 546 ⊢ Q ⟨⟩) :
    St E K c 544 ⊢ Runs c (onArgs (k0_part94 (F := F)) c v5 v24 v27 (k0_pay37 (up4 (chunk E c (.ccw 2 1)))) v2541) Q := by
  rw [k0_part94_eq_skeleton]
  unfold onArgs k0_part94_skel
  refine any_out (n := 544) (.ccw 2 1) (by decide +kernel) (outOff_eq c (.ccw 2 1) rfl) fun v2559 => ?_
  refine st_out (n := 545) (.ccw 2 1) (by decide +kernel) rfl (outOff_eq c (.ccw 2 1) rfl) (down_up4 _ _) ?_
  exact step_ret h

theorem part95 {v5 : BitVec 32} {v24 : BitVec 32} {v27 : BitVec 32} {v40 : BitVec 32} {v43 : BitVec 32} {Q : (PUnit) → sProp 𝕄}
    (h : St E K c 548 ⊢ Q ⟨⟩) :
    St E K c 546 ⊢ Runs c (onArgs (k0_part95 (F := F)) c v5 v24 v27 v40 v43) Q := by
  rw [k0_part95_eq_skeleton]
  unfold onArgs k0_part95_skel
  refine step_recv (n := 546) (.cw 2 2) (by decide +kernel) (by exact rfl) (by exact rfl) ?_
  refine step_send (n := 547) (.cw 3 2) (by decide +kernel) ((by decide : ∀ c : Dev nD, (⟨k0_dev34 c, k0_dev34_lt c⟩ : Dev nD) = peer c 1) c) (by exact rfl) (by exact rfl) ?_
  exact step_ret h

theorem part96 {v11 : BitVec 32} {Q : (FVec F S32x1024 .bf16) → sProp 𝕄}
    (h : St E K c 553 ⊢ Q ((k0_pay39 (up4 (chunk E c (.ccw 2 2)))))) :
    St E K c 548 ⊢ Runs c (onArgs (k0_part96 (F := F)) c v11) Q := by
  rw [k0_part96_eq_skeleton]
  unfold onArgs k0_part96_skel
  refine step_recv (n := 548) (.ccw 2 2) (by decide +kernel) (by exact rfl) (by exact rfl) ?_
  refine ld_cw (n := 549) 1 2 2 (by decide +kernel) ?_
  refine any_out (n := 550) (.cw 2 2) (by decide +kernel) (outOff_eq c (.cw 2 2) rfl) fun v2624 => ?_
  refine st_out (n := 551) (.cw 2 2) (by decide +kernel) rfl (outOff_eq c (.cw 2 2) rfl) (down_up4 _ _) ?_
  refine ld_ccw (n := 552) 0 2 2 (by decide +kernel) ?_
  exact step_ret (h)

theorem part97 {v5 : BitVec 32} {v11 : BitVec 32} {v24 : BitVec 32} {v27 : BitVec 32} {Q : (PUnit) → sProp 𝕄}
    (h : St E K c 555 ⊢ Q ⟨⟩) :
    St E K c 553 ⊢ Runs c (onArgs (k0_part97 (F := F)) c v5 v11 v24 v27 ((k0_pay39 (up4 (chunk E c (.ccw 2 2)))))) Q := by
  rw [k0_part97_eq_skeleton]
  unfold onArgs k0_part97_skel
  refine any_out (n := 553) (.ccw 2 2) (by decide +kernel) (outOff_eq c (.ccw 2 2) rfl) fun v2645 => ?_
  refine st_out (n := 554) (.ccw 2 2) (by decide +kernel) rfl (outOff_eq c (.ccw 2 2) rfl) (down_up4 _ _) ?_
  exact step_ret h

theorem part98 {v5 : BitVec 32} {v24 : BitVec 32} {v27 : BitVec 32} {v40 : BitVec 32} {v43 : BitVec 32} {Q : (Σ' (v2679 : BitVec 32), BitVec 32) → sProp 𝕄}
    (h : ∀ (w0 : BitVec 32) (w1 : BitVec 32), St E K c 557 ⊢ Q ⟨w0, w1⟩) :
    St E K c 555 ⊢ Runs c (onArgs (k0_part98 (F := F)) c v5 v24 v27 v40 v43) Q := by
  rw [k0_part98_eq_skeleton]
  unfold onArgs k0_part98_skel
  refine step_recv (n := 555) (.cw 2 3) (by decide +kernel) (by exact rfl) (by exact rfl) ?_
  refine step_send (n := 556) (.cw 3 3) (by decide +kernel) ((by decide : ∀ c : Dev nD, (⟨k0_dev35 c, k0_dev35_lt c⟩ : Dev nD) = peer c 1) c) (by exact rfl) (by exact rfl) ?_
  exact step_ret (h _ _)

theorem part99 {v11 : BitVec 32} {v2679 : BitVec 32} {v2680 : BitVec 32} {Q : (PUnit) → sProp 𝕄}
    (h : St E K c 561 ⊢ Q ⟨⟩) :
    St E K c 557 ⊢ Runs c (onArgs (k0_part99 (F := F)) c v11 v2679 v2680) Q := by
  rw [k0_part99_eq_skeleton]
  unfold onArgs k0_part99_skel
  refine step_recv (n := 557) (.ccw 2 3) (by decide +kernel) (by exact rfl) (by exact rfl) ?_
  refine ld_cw (n := 558) 1 2 3 (by decide +kernel) ?_
  refine any_out (n := 559) (.cw 2 3) (by decide +kernel) (outOff_eq c (.cw 2 3) rfl) fun v2710 => ?_
  refine st_out (n := 560) (.cw 2 3) (by decide +kernel) rfl (outOff_eq c (.cw 2 3) rfl) (down_up4 _ _) ?_
  exact step_ret h

theorem part100 {v5 : BitVec 32} {v11 : BitVec 32} {v24 : BitVec 32} {v27 : BitVec 32} {Q : (PUnit) → sProp 𝕄}
    (h : St E K c 564 ⊢ Q ⟨⟩) :
    St E K c 561 ⊢ Runs c (onArgs (k0_part100 (F := F)) c v5 v11 v24 v27) Q := by
  rw [k0_part100_eq_skeleton]
  unfold onArgs k0_part100_skel
  refine ld_ccw (n := 561) 0 2 3 (by decide +kernel) ?_
  refine any_out (n := 562) (.ccw 2 3) (by decide +kernel) (outOff_eq c (.ccw 2 3) rfl) fun v2731 => ?_
  refine st_out (n := 563) (.ccw 2 3) (by decide +kernel) rfl (outOff_eq c (.ccw 2 3) rfl) (down_up4 _ _) ?_
  exact step_ret h

theorem part101 {v11 : BitVec 32} {v24 : BitVec 32} {Q : (BitVec 32) → sProp 𝕄}
    (h : ∀ (w0 : BitVec 32), St E K c 568 ⊢ Q (w0)) :
    St E K c 564 ⊢ Runs c (onArgs (k0_part101 (F := F)) c v11 v24) Q := by
  rw [k0_part101_eq_skeleton]
  unfold onArgs k0_part101_skel
  refine step_recv (n := 564) (.cw 3 0) (by decide +kernel) (by exact rfl) (by exact rfl) ?_
  refine ld_cw (n := 565) 0 3 0 (by decide +kernel) ?_
  refine any_out (n := 566) (.cw 3 0) (by decide +kernel) (outOff_eq c (.cw 3 0) rfl) fun v2766 => ?_
  refine st_out (n := 567) (.cw 3 0) (by decide +kernel) rfl (outOff_eq c (.cw 3 0) rfl) (down_up4 _ _) ?_
  exact step_ret (h _)

theorem part102 {v5 : BitVec 32} {v11 : BitVec 32} {v27 : BitVec 32} {v2768 : BitVec 32} {Q : (FVec F S32x1024 .bf16) → sProp 𝕄}
    (h : St E K c 571 ⊢ Q ((k0_pay43 (up4 (chunk E c (.cw 3 1)))))) :
    St E K c 568 ⊢ Runs c (onArgs (k0_part102 (F := F)) c v5 v11 v27 v2768) Q := by
  rw [k0_part102_eq_skeleton]
  unfold onArgs k0_part102_skel
  refine step_recv (n := 568) (.cw 3 1) (by decide +kernel) (by exact rfl) (by exact rfl) ?_
  refine ld_cw (n := 569) 0 3 1 (by decide +kernel) ?_
  refine any_out (n := 570) (.cw 3 1) (by decide +kernel) (outOff_eq c (.cw 3 1) rfl) fun v2801 => ?_
  exact step_ret (h)

theorem part103 {v5 : BitVec 32} {v11 : BitVec 32} {v24 : BitVec 32} {v27 : BitVec 32} {Q : (Σ' (v2817 : FVec F S32x1024 .bf16) (v2822 : BitVec 32) (v2827 : BitVec 1), BitVec 32) → sProp 𝕄}
    (h : ∀ (w1 : BitVec 32) (w2 : BitVec 1) (w3 : BitVec 32), St E K c 574 ⊢ Q ⟨k0_pay44 (up4 (chunk E c (.cw 3 2))), w1, w2, w3⟩) :
    St E K c 571 ⊢ Runs c (onArgs (k0_part103 (F := F)) c v5 v11 v24 v27 ((k0_pay43 (up4 (chunk E c (.cw 3 1)))))) Q := by
  rw [k0_part103_eq_skeleton]
  unfold onArgs k0_part103_skel
  refine st_out (n := 571) (.cw 3 1) (by decide +kernel) rfl (outOff_eq c (.cw 3 1) rfl) (down_up4 _ _) ?_
  refine step_recv (n := 572) (.cw 3 2) (by decide +kernel) (by exact rfl) (by exact rfl) ?_
  refine ld_cw (n := 573) 0 3 2 (by decide +kernel) ?_
  exact step_ret (h _ _ _)

theorem part104 {v5 : BitVec 32} {v11 : BitVec 32} {v24 : BitVec 32} {v27 : BitVec 32} {v2822 : BitVec 32} {v2827 : BitVec 1} {v2828 : BitVec 32} {Q : (Σ' (v2852 : FVec F S32x1024 .bf16) (v2854 : BitVec 32) (c8_i32_2632 : BitVec 32), BitVec 32) → sProp 𝕄}
    (h : ∀ (w1 : BitVec 32) (w2 : BitVec 32) (w3 : BitVec 32), St E K c 578 ⊢ Q ⟨k0_pay45 (up4 (chunk E c (.cw 3 3))), w1, w2, w3⟩) :
    St E K c 574 ⊢ Runs c (onArgs (k0_part104 (F := F)) c v5 v11 v24 v27 (k0_pay44 (up4 (chunk E c (.cw 3 2)))) v2822 v2827 v2828) Q := by
  rw [k0_part104_eq_skeleton]
  unfold onArgs k0_part104_skel
  refine any_out (n := 574) (.cw 3 2) (by decide +kernel) (outOff_eq c (.cw 3 2) rfl) fun v2836 => ?_
  refine st_out (n := 575) (.cw 3 2) (by decide +kernel) rfl (outOff_eq c (.cw 3 2) rfl) (down_up4 _ _) ?_
  refine step_recv (n := 576) (.cw 3 3) (by decide +kernel) (by exact rfl) (by exact rfl) ?_
  refine ld_cw (n := 577) 0 3 3 (by decide +kernel) ?_
  exact step_ret (h _ _ _)

theorem part105 {v2854 : BitVec 32} {c8_i32_2632 : BitVec 32} {c0_i32_2633 : BitVec 32} {Q : (PUnit) → sProp 𝕄}
    (h : St E K c 582 ⊢ Q ⟨⟩) :
    St E K c 578 ⊢ Runs c (onArgs (k0_part105 (F := F)) c (k0_pay45 (up4 (chunk E c (.cw 3 3)))) v2854 c8_i32_2632 c0_i32_2633) Q := by
  rw [k0_part105_eq_skeleton]
  unfold onArgs k0_part105_skel
  refine any_out (n := 578) (.cw 3 3) (by decide +kernel) (outOff_eq c (.cw 3 3) rfl) fun v2871 => ?_
  refine st_out (n := 579) (.cw 3 3) (by decide +kernel) rfl (outOff_eq c (.cw 3 3) rfl) (down_up4 _ _) ?_
  refine step_sent (n := 580) (.y 0) (by decide +kernel) (by exact rfl) (by exact rfl) ?_
  refine step_sent (n := 581) (.y 1) (by decide +kernel) (by exact rfl) (by exact rfl) ?_
  exact step_ret h

theorem part106  {Q : (PUnit) → sProp 𝕄}
    (h : St E K c 585 ⊢ Q ⟨⟩) :
    St E K c 582 ⊢ Runs c (onArgs (k0_part106 (F := F))) Q := by
  rw [k0_part106_eq_skeleton]
  unfold onArgs k0_part106_skel
  refine step_sent (n := 582) (.y 2) (by decide +kernel) (by exact rfl) (by exact rfl) ?_
  refine step_sent (n := 583) (.y 3) (by decide +kernel) (by exact rfl) (by exact rfl) ?_
  refine step_sent (n := 584) (.cw 0 0) (by decide +kernel) (by exact rfl) (by exact rfl) ?_
  exact step_ret h

theorem part107  {Q : (PUnit) → sProp 𝕄}
    (h : St E K c 588 ⊢ Q ⟨⟩) :
    St E K c 585 ⊢ Runs c (onArgs (k0_part107 (F := F))) Q := by
  rw [k0_part107_eq_skeleton]
  unfold onArgs k0_part107_skel
  refine step_sent (n := 585) (.cw 0 1) (by decide +kernel) (by exact rfl) (by exact rfl) ?_
  refine step_sent (n := 586) (.cw 0 2) (by decide +kernel) (by exact rfl) (by exact rfl) ?_
  refine step_sent (n := 587) (.cw 0 3) (by decide +kernel) (by exact rfl) (by exact rfl) ?_
  exact step_ret h

theorem part108  {Q : (PUnit) → sProp 𝕄}
    (h : St E K c 590 ⊢ Q ⟨⟩) :
    St E K c 588 ⊢ Runs c (onArgs (k0_part108 (F := F))) Q := by
  rw [k0_part108_eq_skeleton]
  unfold onArgs k0_part108_skel
  refine step_sent (n := 588) (.cw 1 0) (by decide +kernel) (by exact rfl) (by exact rfl) ?_
  refine step_sent (n := 589) (.cw 1 1) (by decide +kernel) (by exact rfl) (by exact rfl) ?_
  exact step_ret h

theorem part109  {Q : (PUnit) → sProp 𝕄}
    (h : St E K c 593 ⊢ Q ⟨⟩) :
    St E K c 590 ⊢ Runs c (onArgs (k0_part109 (F := F))) Q := by
  rw [k0_part109_eq_skeleton]
  unfold onArgs k0_part109_skel
  refine step_sent (n := 590) (.cw 1 2) (by decide +kernel) (by exact rfl) (by exact rfl) ?_
  refine step_sent (n := 591) (.cw 1 3) (by decide +kernel) (by exact rfl) (by exact rfl) ?_
  refine step_sent (n := 592) (.cw 2 0) (by decide +kernel) (by exact rfl) (by exact rfl) ?_
  exact step_ret h

theorem part110  {Q : (PUnit) → sProp 𝕄}
    (h : St E K c 595 ⊢ Q ⟨⟩) :
    St E K c 593 ⊢ Runs c (onArgs (k0_part110 (F := F))) Q := by
  rw [k0_part110_eq_skeleton]
  unfold onArgs k0_part110_skel
  refine step_sent (n := 593) (.cw 2 1) (by decide +kernel) (by exact rfl) (by exact rfl) ?_
  refine step_sent (n := 594) (.cw 2 2) (by decide +kernel) (by exact rfl) (by exact rfl) ?_
  exact step_ret h

theorem part111  {Q : (PUnit) → sProp 𝕄}
    (h : St E K c 598 ⊢ Q ⟨⟩) :
    St E K c 595 ⊢ Runs c (onArgs (k0_part111 (F := F))) Q := by
  rw [k0_part111_eq_skeleton]
  unfold onArgs k0_part111_skel
  refine step_sent (n := 595) (.cw 2 3) (by decide +kernel) (by exact rfl) (by exact rfl) ?_
  refine step_sent (n := 596) (.cw 3 0) (by decide +kernel) (by exact rfl) (by exact rfl) ?_
  refine step_sent (n := 597) (.cw 3 1) (by decide +kernel) (by exact rfl) (by exact rfl) ?_
  exact step_ret h

theorem part112  {Q : (PUnit) → sProp 𝕄}
    (h : St E K c 600 ⊢ Q ⟨⟩) :
    St E K c 598 ⊢ Runs c (onArgs (k0_part112 (F := F))) Q := by
  rw [k0_part112_eq_skeleton]
  unfold onArgs k0_part112_skel
  refine step_sent (n := 598) (.cw 3 2) (by decide +kernel) (by exact rfl) (by exact rfl) ?_
  refine step_sent (n := 599) (.cw 3 3) (by decide +kernel) (by exact rfl) (by exact rfl) ?_
  exact step_ret h

theorem part113  {Q : (PUnit) → sProp 𝕄}
    (h : St E K c 603 ⊢ Q ⟨⟩) :
    St E K c 600 ⊢ Runs c (onArgs (k0_part113 (F := F))) Q := by
  rw [k0_part113_eq_skeleton]
  unfold onArgs k0_part113_skel
  refine step_sent (n := 600) (.ccw 0 0) (by decide +kernel) (by exact rfl) (by exact rfl) ?_
  refine step_sent (n := 601) (.ccw 0 1) (by decide +kernel) (by exact rfl) (by exact rfl) ?_
  refine step_sent (n := 602) (.ccw 0 2) (by decide +kernel) (by exact rfl) (by exact rfl) ?_
  exact step_ret h

theorem part114  {Q : (PUnit) → sProp 𝕄}
    (h : St E K c 606 ⊢ Q ⟨⟩) :
    St E K c 603 ⊢ Runs c (onArgs (k0_part114 (F := F))) Q := by
  rw [k0_part114_eq_skeleton]
  unfold onArgs k0_part114_skel
  refine step_sent (n := 603) (.ccw 0 3) (by decide +kernel) (by exact rfl) (by exact rfl) ?_
  refine step_sent (n := 604) (.ccw 1 0) (by decide +kernel) (by exact rfl) (by exact rfl) ?_
  refine step_sent (n := 605) (.ccw 1 1) (by decide +kernel) (by exact rfl) (by exact rfl) ?_
  exact step_ret h

theorem part115  {Q : (PUnit) → sProp 𝕄}
    (h : St E K c 608 ⊢ Q ⟨⟩) :
    St E K c 606 ⊢ Runs c (onArgs (k0_part115 (F := F))) Q := by
  rw [k0_part115_eq_skeleton]
  unfold onArgs k0_part115_skel
  refine step_sent (n := 606) (.ccw 1 2) (by decide +kernel) (by exact rfl) (by exact rfl) ?_
  refine step_sent (n := 607) (.ccw 1 3) (by decide +kernel) (by exact rfl) (by exact rfl) ?_
  exact step_ret h

theorem part116  {Q : (PUnit) → sProp 𝕄}
    (h : St E K c 611 ⊢ Q ⟨⟩) :
    St E K c 608 ⊢ Runs c (onArgs (k0_part116 (F := F))) Q := by
  rw [k0_part116_eq_skeleton]
  unfold onArgs k0_part116_skel
  refine step_sent (n := 608) (.ccw 2 0) (by decide +kernel) (by exact rfl) (by exact rfl) ?_
  refine step_sent (n := 609) (.ccw 2 1) (by decide +kernel) (by exact rfl) (by exact rfl) ?_
  refine step_sent (n := 610) (.ccw 2 2) (by decide +kernel) (by exact rfl) (by exact rfl) ?_
  exact step_ret h

end Cert.Emb

end
-- ==== Proof.Body.lean ====
module

public import proofs.«01_k».proof.Proof.PartsA
public import proofs.«01_k».proof.Proof.PartsB
public import proofs.«01_k».proof.Proof.PartsC
public import proofs.«01_k».proof.Proof.PartsD

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

variable {E : Env F} {K : GSem nD τ sig → ℕ} {c : Dev nD}

/-! # The body at a device -/

theorem part117  {Q : (Σ' (d0 : Dev nD) (v5 : BitVec 32) (v11 : BitVec 32) (v24 : BitVec 32) (v27 : BitVec 32) (v40 : BitVec 32), BitVec 32) → sProp 𝕄}
    (h : ∀ (v5 : BitVec 32) (v11 : BitVec 32) (v24 : BitVec 32) (v27 : BitVec 32) (v40 : BitVec 32) (v43 : BitVec 32), St E K c 449 ⊢ Q ⟨c, v5, v11, v24, v27, v40, v43⟩) :
    St E K c 0 ⊢ Runs c (onArgs (k0_part117 (F := F))) Q := by
  rw [k0_part117_eq_skeleton]
  unfold onArgs k0_part117_skel
  refine step_call (part1 (fun v2 v5 v8 v11 v24 v27 v30 v31 v32 c0_i32_19 => ?_))
  refine step_call (part2 (fun v40 v43 v44 k0_hw1 => ?_))
  refine step_call (part3 k0_hw1 (fun k0_hw2 k0_hw3 k0_hw4 k0_hw5 k0_hw6 => ?_))
  refine step_call (part4 k0_hw6 (fun k0_hw7 k0_hw8 k0_hw9 k0_hw10 k0_hw11 => ?_))
  refine step_call (part5 k0_hw11 (fun k0_hw12 k0_hw13 k0_hw14 k0_hw15 k0_hw16 => ?_))
  refine step_call (part6 k0_hw16 (fun k0_hw17 k0_hw18 k0_hw19 k0_hw20 k0_hw21 => ?_))
  refine step_call (part7 k0_hw21 (fun k0_hw22 k0_hw23 k0_hw24 k0_hw25 k0_hw26 => ?_))
  refine step_call (part8 k0_hw26 (fun k0_hw27 k0_hw28 k0_hw29 k0_hw30 k0_hw31 => ?_))
  refine step_call (part9 k0_hw31 (fun k0_hw32 k0_hw33 k0_hw34 k0_hw35 k0_hw36 => ?_))
  refine step_call (part10 k0_hw36 (fun k0_hw37 k0_hw38 k0_hw39 k0_hw40 k0_hw41 => ?_))
  refine step_call (part11 k0_hw41 (fun k0_hw42 k0_hw43 k0_hw44 k0_hw45 k0_hw46 => ?_))
  refine step_call (part12 k0_hw46 (fun k0_hw47 k0_hw48 k0_hw49 k0_hw50 k0_hw51 => ?_))
  refine step_call (part13 k0_hw51 (fun k0_hw52 k0_hw53 k0_hw54 k0_hw55 k0_hw56 => ?_))
  refine step_call (part14 k0_hw56 (fun k0_hw57 k0_hw58 k0_hw59 k0_hw60 k0_hw61 => ?_))
  refine step_call (part15 k0_hw61 (fun k0_hw62 k0_hw63 k0_hw64 k0_hw65 k0_hw66 => ?_))
  refine step_call (part16 k0_hw66 (fun k0_hw67 k0_hw68 k0_hw69 k0_hw70 k0_hw71 => ?_))
  refine step_call (part17 k0_hw71 (fun k0_hw72 k0_hw73 k0_hw74 k0_hw75 k0_hw76 => ?_))
  refine step_call (part18 k0_hw76 (fun k0_hw77 k0_hw78 k0_hw79 k0_hw80 k0_hw81 => ?_))
  refine step_call (part19 k0_hw81 (fun k0_hw82 k0_hw83 k0_hw84 k0_hw85 k0_hw86 => ?_))
  refine step_call (part20 k0_hw86 (fun k0_hw87 k0_hw88 k0_hw89 k0_hw90 k0_hw91 => ?_))
  refine step_call (part21 k0_hw91 (fun k0_hw92 k0_hw93 k0_hw94 k0_hw95 k0_hw96 => ?_))
  refine step_call (part22 k0_hw96 (fun k0_hw97 k0_hw98 k0_hw99 k0_hw100 k0_hw101 => ?_))
  refine step_call (part23 k0_hw101 (fun k0_hw102 k0_hw103 k0_hw104 k0_hw105 k0_hw106 => ?_))
  refine step_call (part24 k0_hw106 (fun k0_hw107 k0_hw108 k0_hw109 k0_hw110 k0_hw111 => ?_))
  refine step_call (part25 k0_hw111 (fun k0_hw112 k0_hw113 k0_hw114 k0_hw115 k0_hw116 => ?_))
  refine step_call (part26 k0_hw116 (fun k0_hw117 k0_hw118 k0_hw119 k0_hw120 k0_hw121 => ?_))
  refine step_call (part27 k0_hw121 (fun k0_hw122 k0_hw123 k0_hw124 k0_hw125 k0_hw126 => ?_))
  refine step_call (part28 k0_hw1 k0_hw2 k0_hw126 (fun k0_hw127 k0_hw128 => ?_))
  refine step_call (part29 k0_hw3 k0_hw4 k0_hw5 k0_hw6 k0_hw7 k0_hw8 k0_hw9 (?_))
  refine step_call (part30 k0_hw10 k0_hw11 k0_hw12 k0_hw13 k0_hw14 k0_hw15 k0_hw16 (?_))
  refine step_call (part31 k0_hw17 k0_hw18 k0_hw19 k0_hw20 k0_hw21 k0_hw22 (?_))
  refine step_call (part32 k0_hw23 k0_hw24 k0_hw25 k0_hw26 k0_hw27 k0_hw28 k0_hw29 (?_))
  refine step_call (part33 k0_hw30 k0_hw31 k0_hw32 (?_))
  refine step_call (part34 k0_hw33 k0_hw34 k0_hw35 k0_hw36 k0_hw37 k0_hw38 (?_))
  refine step_call (part35 k0_hw39 k0_hw40 k0_hw41 k0_hw42 k0_hw43 k0_hw44 k0_hw45 (?_))
  refine step_call (part36 k0_hw46 k0_hw47 k0_hw48 k0_hw49 k0_hw50 k0_hw51 k0_hw52 (?_))
  refine step_call (part37 k0_hw52 k0_hw53 k0_hw54 k0_hw55 k0_hw56 k0_hw57 k0_hw58 (?_))
  refine step_call (part38 k0_hw59 k0_hw60 k0_hw61 k0_hw62 k0_hw63 k0_hw64 (?_))
  refine step_call (part39 k0_hw65 k0_hw66 k0_hw67 (?_))
  refine step_call (part40 k0_hw68 k0_hw69 k0_hw70 k0_hw71 k0_hw72 k0_hw73 k0_hw74 (?_))
  refine step_call (part41 k0_hw75 k0_hw76 k0_hw77 k0_hw78 k0_hw79 k0_hw80 k0_hw81 (?_))
  refine step_call (part42 k0_hw82 k0_hw83 k0_hw84 k0_hw85 k0_hw86 k0_hw87 (?_))
  refine step_call (part43 k0_hw88 k0_hw89 k0_hw90 k0_hw91 k0_hw92 k0_hw93 k0_hw94 (?_))
  refine step_call (part44 k0_hw95 k0_hw96 (?_))
  refine step_call (part45 k0_hw97 k0_hw98 k0_hw99 k0_hw100 k0_hw101 k0_hw102 k0_hw103 (?_))
  refine step_call (part46 k0_hw104 k0_hw105 k0_hw106 k0_hw107 k0_hw108 k0_hw109 k0_hw110 (?_))
  refine step_call (part47 k0_hw111 k0_hw112 k0_hw113 k0_hw114 k0_hw115 k0_hw116 (?_))
  refine step_call (part48 k0_hw117 k0_hw118 k0_hw119 k0_hw120 k0_hw121 k0_hw122 k0_hw123 (?_))
  refine step_call (part49 k0_hw124 k0_hw125 k0_hw126 k0_hw127 k0_hw128 (fun v1279 => ?_))
  refine step_call (part50 (?_))
  refine step_call (part51 (?_))
  refine step_call (part52 (fun v1369 v1370 => ?_))
  refine step_call (part53 (?_))
  refine step_call (part54 (fun v1424 v1425 v1430 => ?_))
  refine step_call (part55 (?_))
  refine step_call (part56 (?_))
  refine step_call (part57 (?_))
  refine step_call (part58 (?_))
  refine step_call (part59 (fun v1580 v1581 => ?_))
  refine step_call (part60 (?_))
  exact step_ret (h _ _ _ _ _ _)

theorem part118 {v5 : BitVec 32} {v11 : BitVec 32} {v24 : BitVec 32} {v27 : BitVec 32} {v40 : BitVec 32} {v43 : BitVec 32} {Q : (PUnit) → sProp 𝕄}
    (h : St E K c 611 ⊢ Q ⟨⟩) :
    St E K c 449 ⊢ Runs c (onArgs (k0_part118 (F := F)) c v5 v11 v24 v27 v40 v43) Q := by
  rw [k0_part118_eq_skeleton]
  unfold onArgs k0_part118_skel
  refine step_call (part61 (fun v1631 v1632 => ?_))
  refine step_call (part62 (?_))
  refine step_call (part63 (?_))
  refine step_call (part64 (?_))
  refine step_call (part65 (fun v1745 v1747 => ?_))
  refine step_call (part66 (?_))
  refine step_call (part67 (?_))
  refine step_call (part68 (?_))
  refine step_call (part69 (fun v1864 => ?_))
  refine step_call (part70 (?_))
  refine step_call (part71 (?_))
  refine step_call (part72 (fun v1943 v1944 v1945 v1948 => ?_))
  refine step_call (part73 (?_))
  refine step_call (part74 (?_))
  refine step_call (part75 (?_))
  refine step_call (part76 (?_))
  refine step_call (part77 (?_))
  refine step_call (part78 (fun v2115 v2116 => ?_))
  refine step_call (part79 (fun c1_i32_1885 => ?_))
  refine step_call (part80 (fun v2176 v2177 => ?_))
  refine step_call (part81 (fun v2201 => ?_))
  refine step_call (part82 (?_))
  refine step_call (part83 (fun v2257 v2258 c11_i32_2004 => ?_))
  refine step_call (part84 (fun v2286 c0_i32_2034 => ?_))
  refine step_call (part85 (?_))
  refine step_call (part86 (?_))
  refine step_call (part87 (fun v2370 c8_i32_2124 c0_i32_2125 => ?_))
  refine step_call (part88 (?_))
  refine step_call (part89 (?_))
  refine step_call (part90 (fun v2456 => ?_))
  refine step_call (part91 (?_))
  refine step_call (part92 (?_))
  refine step_call (part93 (fun v2541 => ?_))
  refine step_call (part94 (?_))
  refine step_call (part95 (?_))
  refine step_call (part96 (?_))
  refine step_call (part97 (?_))
  refine step_call (part98 (fun v2679 v2680 => ?_))
  refine step_call (part99 (?_))
  refine step_call (part100 (?_))
  refine step_call (part101 (fun v2768 => ?_))
  refine step_call (part102 (?_))
  refine step_call (part103 (fun v2822 v2827 v2828 => ?_))
  refine step_call (part104 (fun v2854 c8_i32_2632 c0_i32_2633 => ?_))
  refine step_call (part105 (?_))
  refine step_call (part106 (?_))
  refine step_call (part107 (?_))
  refine step_call (part108 (?_))
  refine step_call (part109 (?_))
  refine step_call (part110 (?_))
  refine step_call (part111 (?_))
  refine step_call (part112 (?_))
  refine step_call (part113 (?_))
  refine step_call (part114 (?_))
  refine step_call (part115 (?_))
  refine step_call (part116 (?_))
  exact step_ret h

/-- The whole body at a device: from its first state to its last. -/
theorem body_runs {Q : PUnit → sProp 𝕄} (h : St E K c 612 ⊢ Q ⟨⟩) :
    St E K c 0 ⊢ Runs c (onArgs (cc0_body (F := F))) Q := by
  rw [cc0_body_eq_skeleton]
  unfold onArgs cc0_body_skel
  refine step_call (part117 fun v5 v11 v24 v27 v40 v43 => ?_)
  dsimp only
  refine step_call ?_
  set_option maxRecDepth 20000 in
  refine part118 ?_
  refine step_sent (n := 611) (.ccw 2 3) (by decide +kernel) (by exact rfl) (by exact rfl) ?_
  exact step_ret h

end Cert.Emb

end
-- ==== Proof.Split.lean ====
module

public import proofs.«01_k».proof.Proof.Body

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ
variable {E : Env F} {c : Dev nD}

/-! # Whole buffers and their pieces -/

section Pieces
variable {ℓ : Loc nD τ sig} {T : Type} [DecidableEq T]

/-- The pieces of a buffer that a list names. -/
theorem pieces_at (I : T → Finset (Idx ℓ)) (l : List T) (hl : l.Nodup) (hd : ∀ t t', t ∈ l → t' ∈ l → t ≠ t' → Disjoint (I t) (I t'))
    (hc : ∀ i, ∃ t ∈ l, i ∈ I t) (f : Buf (Elt F) ℓ) (q : PosShare TreeShare) :
    (ℓ ↦{q} f : sProp 𝕄) = bigSepL l fun t => ℓ ↦[I t]{q} f := by
  rw [show (Finset.univ : Finset (Idx ℓ)) = l.toFinset.biUnion I from
    (Finset.eq_univ_of_forall fun i => Finset.mem_biUnion.mpr (by obtain ⟨t, ht, hi⟩ := hc i; exact ⟨t, List.mem_toFinset.mpr ht, hi⟩)).symm,
    pointsTo_biUnion _ _ fun t ht t' ht' => hd t t' (List.mem_toFinset.mp ht) (List.mem_toFinset.mp ht')]
  exact bigSep_eq_bigSepL_of_eq l rfl hl _

/-- A buffer at contents not chosen, as pieces at contents not chosen. -/
theorem pieces (I : T → Finset (Idx ℓ)) (l : List T) (hl : l.Nodup) (hd : ∀ t t', t ∈ l → t' ∈ l → t ≠ t' → Disjoint (I t) (I t'))
    (hc : ∀ i, ∃ t ∈ l, i ∈ I t) (f₀ : Buf (Elt F) ℓ) :
    (iprop(∃ f : Buf (Elt F) ℓ, ℓ ↦{fullShare} f) : sProp 𝕄) = bigSepL l fun t => iprop(∃ f : Buf (Elt F) ℓ, ℓ ↦[I t]{fullShare} f) := by
  refine BI.Entails.antisymm ?_ ?_
  · show (iprop(∃ f : Buf (Elt F) ℓ, ℓ ↦{fullShare} f) : sProp 𝕄) ⊢ bigSepL l fun t => iprop(∃ f : Buf (Elt F) ℓ, ℓ ↦[I t]{fullShare} f)
    iintro ⟨%f, H⟩
    iapply (bigSepL_mono fun t _ => (show (ℓ ↦[I t]{fullShare} f : sProp 𝕄) ⊢ iprop(∃ f : Buf (Elt F) ℓ, ℓ ↦[I t]{fullShare} f) from by
      iintro H; iexists f; iexact H))
    iapply (Entails.of_eq (pieces_at I l hl hd hc f fullShare)) $$ H
  · rw [← bigSep_eq_bigSepL_of_eq l rfl hl]
    haveI : ∀ t : T, Nonempty (Buf (Elt F) ℓ) := fun _ => ⟨f₀⟩
    refine (bigSep_exists_pi l.toFinset fun t (f : Buf (Elt F) ℓ) => (ℓ ↦[I t]{fullShare} f : sProp 𝕄)).trans ?_
    iintro ⟨%fs, H⟩
    ihave H2 := (pointsTo_biUnion_join l.toFinset I fs f₀ fun t ht t' ht' => hd t t' (List.mem_toFinset.mp ht) (List.mem_toFinset.mp ht')) $$ H
    icases H2 with ⟨%g, -, H⟩
    iexists g
    iapply (Entails.of_eq (congrArg (fun I => (ℓ ↦[I]{fullShare} g : sProp 𝕄)) (show l.toFinset.biUnion I = Finset.univ from
      Finset.eq_univ_of_forall fun i => Finset.mem_biUnion.mpr (by obtain ⟨t, ht, hi⟩ := hc i; exact ⟨t, List.mem_toFinset.mpr ht, hi⟩)))) $$ H

end Pieces

theorem mem_rect3 (s : Fin 4) (i : S4x32x1024.Idx) : i ∈ (rect3 s).set ↔ i 0 = s := by
  constructor
  · intro h
    obtain ⟨k, rfl⟩ := LoadRect.exists_idx_of_mem _ h
    exact congrFun (emb3 s k) 0
  · rintro rfl
    refine (congrArg (· ∈ (rect3 (i 0)).set) (show (rect3 (i 0)).idx (ix3 (0 : Fin 1) (i 1) (i 2)) = i from (show (rect3 (i 0)).idx (ix3 (0 : Fin 1) (i 1) (i 2)) = _ from emb3 (i 0) _).trans (funext fun x => ?_))).mp (LoadRect.idx_mem _ _)
    match x with
    | ⟨0, _⟩ => rfl
    | ⟨1, _⟩ => rfl
    | ⟨2, _⟩ => rfl
theorem mem_rect4 (h s : Fin 4) (i : S4x4x32x1024.Idx) : i ∈ (rect4 h s).set ↔ i 0 = h ∧ i 1 = s := by
  constructor
  · intro H
    obtain ⟨k, rfl⟩ := LoadRect.exists_idx_of_mem _ H
    exact ⟨congrFun (emb4 h s k) 0, congrFun (emb4 h s k) 1⟩
  · rintro ⟨rfl, rfl⟩
    refine (congrArg (· ∈ (rect4 (i 0) (i 1)).set) (show (rect4 (i 0) (i 1)).idx (ix4 (0 : Fin 1) (0 : Fin 1) (i 2) (i 3)) = i from (show (rect4 (i 0) (i 1)).idx (ix4 (0 : Fin 1) (0 : Fin 1) (i 2) (i 3)) = _ from emb4 (i 0) (i 1) _).trans (funext fun x => ?_))).mp (LoadRect.idx_mem _ _)
    match x with
    | ⟨0, _⟩ => rfl
    | ⟨1, _⟩ => rfl
    | ⟨2, _⟩ => rfl
    | ⟨3, _⟩ => rfl
theorem mem_rect4' (h : Fin 3) (s : Fin 4) (i : S3x4x32x1024.Idx) : i ∈ (rect4' h s).set ↔ i 0 = h ∧ i 1 = s := by
  constructor
  · intro H
    obtain ⟨k, rfl⟩ := LoadRect.exists_idx_of_mem _ H
    exact ⟨congrFun (emb4' h s k) 0, congrFun (emb4' h s k) 1⟩
  · rintro ⟨rfl, rfl⟩
    refine (congrArg (· ∈ (rect4' (i 0) (i 1)).set) (show (rect4' (i 0) (i 1)).idx (ix4 (0 : Fin 1) (0 : Fin 1) (i 2) (i 3)) = i from (show (rect4' (i 0) (i 1)).idx (ix4 (0 : Fin 1) (0 : Fin 1) (i 2) (i 3)) = _ from emb4' (i 0) (i 1) _).trans (funext fun x => ?_))).mp (LoadRect.idx_mem _ _)
    match x with
    | ⟨0, _⟩ => rfl
    | ⟨1, _⟩ => rfl
    | ⟨2, _⟩ => rfl
    | ⟨3, _⟩ => rfl

theorem mem_pb (s : Fin 4) (i : S4x32x1024.Idx) : i ∈ (slotM (.pb s)).view.set ↔ i 0 = s := by
  rw [slot_set_pb, show ((Memref.whole cc0_scratch1).access (rect3 s)).set = (rect3 s).set from View.set_slice_whole _ _]; exact mem_rect3 s i
theorem mem_yb (s : Fin 4) (i : S4x32x1024.Idx) : i ∈ (slotM (.yb s)).view.set ↔ i 0 = s := by
  rw [slot_set_yb, show ((Memref.whole cc0_scratch2).access (rect3 s)).set = (rect3 s).set from View.set_slice_whole _ _]; exact mem_rect3 s i
theorem mem_rd (s : Fin 4) (i : S4x32x1024.Idx) : i ∈ (slotM (.rd s)).view.set ↔ i 0 = s := by
  rw [slot_set_rd, show ((Memref.whole cc0_scratch3).access (rect3 s)).set = (rect3 s).set from View.set_slice_whole _ _]; exact mem_rect3 s i
theorem mem_cw (h s : Fin 4) (i : S4x4x32x1024.Idx) : i ∈ (slotM (.cw h s)).view.set ↔ i 0 = h ∧ i 1 = s := by
  rw [slot_set_cw, show ((Memref.whole cc0_scratch4).access (rect4 h s)).set = (rect4 h s).set from View.set_slice_whole _ _]; exact mem_rect4 h s i
theorem mem_ccw (h : Fin 3) (s : Fin 4) (i : S3x4x32x1024.Idx) : i ∈ (slotM (.ccw h s)).view.set ↔ i 0 = h ∧ i 1 = s := by
  rw [slot_set_ccw, show ((Memref.whole cc0_scratch5).access (rect4' h s)).set = (rect4' h s).set from View.set_slice_whole _ _]; exact mem_rect4' h s i

/-- Pieces told apart by a reading of the index. -/
theorem told_apart {I T : Type} [DecidableEq I] (S : T → Finset I) (r : I → T) (h : ∀ t i, i ∈ S t ↔ r i = t) (t t' : T) (ne : t ≠ t') :
    Disjoint (S t) (S t') :=
  Finset.disjoint_left.mpr fun i hi hi' => ne (((h t i).mp hi).symm.trans ((h t' i).mp hi'))

abbrev l4 : List (Fin 4) := [0, 1, 2, 3]
theorem mem_l4 (s : Fin 4) : s ∈ l4 := by revert s; decide
abbrev l44 : List (Fin 4 × Fin 4) := [(0, 0), (0, 1), (0, 2), (0, 3), (1, 0), (1, 1), (1, 2), (1, 3), (2, 0), (2, 1), (2, 2), (2, 3), (3, 0), (3, 1), (3, 2), (3, 3)]
theorem mem_l44 (s : Fin 4 × Fin 4) : s ∈ l44 := by revert s; decide
abbrev l34 : List (Fin 3 × Fin 4) := [(0, 0), (0, 1), (0, 2), (0, 3), (1, 0), (1, 1), (1, 2), (1, 3), (2, 0), (2, 1), (2, 2), (2, 3)]
theorem mem_l34 (s : Fin 3 × Fin 4) : s ∈ l34 := by revert s; decide

theorem buf_pb (E : Env F) : (iprop(∃ f : Buf (Elt F) ((c : Thread nD τ).loc cc0_scratch1), ((c : Thread nD τ).loc cc0_scratch1) ↦{fullShare} f) : sProp 𝕄)
    = bigSepL (l4.map Sl.pb) (rawSlot c) := by
  rw [bigSepL_map']
  exact pieces (T := Fin 4) (ℓ := (c : Thread nD τ).loc cc0_scratch1) (fun s => (slotM (.pb s)).view.set) l4 (by decide)
    (fun t t' _ _ ne => told_apart _ (fun i : S4x32x1024.Idx => i 0) mem_pb t t' ne)
    (fun i : S4x32x1024.Idx => ⟨i 0, mem_l4 _, (mem_pb _ i).mpr rfl⟩) (canon E c (.pb 0))
theorem buf_yb (E : Env F) : (iprop(∃ f : Buf (Elt F) ((c : Thread nD τ).loc cc0_scratch2), ((c : Thread nD τ).loc cc0_scratch2) ↦{fullShare} f) : sProp 𝕄)
    = bigSepL (l4.map Sl.yb) (rawSlot c) := by
  rw [bigSepL_map']
  exact pieces (T := Fin 4) (ℓ := (c : Thread nD τ).loc cc0_scratch2) (fun s => (slotM (.yb s)).view.set) l4 (by decide)
    (fun t t' _ _ ne => told_apart _ (fun i : S4x32x1024.Idx => i 0) mem_yb t t' ne)
    (fun i : S4x32x1024.Idx => ⟨i 0, mem_l4 _, (mem_yb _ i).mpr rfl⟩) (canon E c (.yb 0))
theorem buf_rd (E : Env F) : (iprop(∃ f : Buf (Elt F) ((c : Thread nD τ).loc cc0_scratch3), ((c : Thread nD τ).loc cc0_scratch3) ↦{fullShare} f) : sProp 𝕄)
    = bigSepL (l4.map Sl.rd) (rawSlot c) := by
  rw [bigSepL_map']
  exact pieces (T := Fin 4) (ℓ := (c : Thread nD τ).loc cc0_scratch3) (fun s => (slotM (.rd s)).view.set) l4 (by decide)
    (fun t t' _ _ ne => told_apart _ (fun i : S4x32x1024.Idx => i 0) mem_rd t t' ne)
    (fun i : S4x32x1024.Idx => ⟨i 0, mem_l4 _, (mem_rd _ i).mpr rfl⟩) (canon E c (.rd 0))
theorem buf_cw (E : Env F) : (iprop(∃ f : Buf (Elt F) ((c : Thread nD τ).loc cc0_scratch4), ((c : Thread nD τ).loc cc0_scratch4) ↦{fullShare} f) : sProp 𝕄)
    = bigSepL (l44.map fun p => Sl.cw p.1 p.2) (rawSlot c) := by
  rw [bigSepL_map']
  have hm : ∀ (p : Fin 4 × Fin 4) (i : S4x4x32x1024.Idx), i ∈ (slotM (.cw p.1 p.2)).view.set ↔ ((i 0, i 1) : Fin 4 × Fin 4) = p :=
    fun p i => (mem_cw p.1 p.2 i).trans (Prod.ext_iff (x := ((i 0, i 1) : Fin 4 × Fin 4)) (y := p)).symm
  exact pieces (T := Fin 4 × Fin 4) (ℓ := (c : Thread nD τ).loc cc0_scratch4) (fun p => (slotM (.cw p.1 p.2)).view.set) l44 (by decide)
    (fun t t' _ _ ne => told_apart _ (fun i : S4x4x32x1024.Idx => ((i 0, i 1) : Fin 4 × Fin 4)) hm t t' ne)
    (fun i : S4x4x32x1024.Idx => ⟨(i 0, i 1), mem_l44 _, (hm _ i).mpr rfl⟩) (canon E c (.cw 0 0))
theorem buf_ccw (E : Env F) : (iprop(∃ f : Buf (Elt F) ((c : Thread nD τ).loc cc0_scratch5), ((c : Thread nD τ).loc cc0_scratch5) ↦{fullShare} f) : sProp 𝕄)
    = bigSepL (l34.map fun p => Sl.ccw p.1 p.2) (rawSlot c) := by
  rw [bigSepL_map']
  have hm : ∀ (p : Fin 3 × Fin 4) (i : S3x4x32x1024.Idx), i ∈ (slotM (.ccw p.1 p.2)).view.set ↔ ((i 0, i 1) : Fin 3 × Fin 4) = p :=
    fun p i => (mem_ccw p.1 p.2 i).trans (Prod.ext_iff (x := ((i 0, i 1) : Fin 3 × Fin 4)) (y := p)).symm
  exact pieces (T := Fin 3 × Fin 4) (ℓ := (c : Thread nD τ).loc cc0_scratch5) (fun p => (slotM (.ccw p.1 p.2)).view.set) l34 (by decide)
    (fun t t' _ _ ne => told_apart _ (fun i : S3x4x32x1024.Idx => ((i 0, i 1) : Fin 3 × Fin 4)) hm t t' ne)
    (fun i : S3x4x32x1024.Idx => ⟨(i 0, i 1), mem_l34 _, (hm _ i).mpr rfl⟩) (canon E c (.ccw 0 0))

/-- The slots, buffer by buffer. -/
def byBuf : List Sl := l4.map Sl.pb ++ (l4.map Sl.yb ++ (l4.map Sl.rd ++ ((l44.map fun p => Sl.cw p.1 p.2) ++ (l34.map fun p => Sl.ccw p.1 p.2))))

/-- The five buffers of slots are their slots. -/
theorem buf_slots (E : Env F) :
    (iprop((∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)) : sProp 𝕄)
    = bigSepL byBuf (rawSlot c) := by
  unfold byBuf
  rw [buf_pb E, buf_yb E, buf_rd E, buf_cw E, buf_ccw E, bigSepL_append, bigSepL_append, bigSepL_append, bigSepL_append]

/-! ## The rows looked up -/

/-- The rows, chunk by chunk. -/
def rowEquiv : Fin 4 × Fin 32 ≃ Fin 128 where
  toFun p := row p.1 p.2
  invFun r := (⟨r.val / 32, by omega⟩, ⟨r.val % 32, by omega⟩)
  left_inv p := by
    refine Prod.ext (Fin.ext ?_) (Fin.ext ?_)
    · show (32 * p.1.val + p.2.val) / 32 = p.1.val; omega
    · show (32 * p.1.val + p.2.val) % 32 = p.2.val; omega
  right_inv r := Fin.ext (by show 32 * (r.val / 32) + r.val % 32 = r.val; omega)

/-- What is said of each row, chunk by chunk. -/
theorem by_chunk (P : Fin 128 → sProp 𝕄) :
    bigSep Finset.univ P = bigSepL l4 fun s => bigSep Finset.univ fun t => P (row s t) := by
  rw [bigSep_univ_equiv rowEquiv P, bigSep_univ_prod]
  exact bigSep_eq_bigSepL_of_eq l4 (by decide) (by decide) _

theorem buf_rows (E : Env F) : (iprop(∃ f : Buf (Elt F) ((c : Thread nD τ).loc cc0_scratch0), ((c : Thread nD τ).loc cc0_scratch0) ↦{fullShare} f) : sProp 𝕄)
    = bigSepL l4 fun s => bigSep Finset.univ fun t => iprop(∃ f, gbAt c (rowM (row s t)).view.set f) := by
  have hm : ∀ (r : Fin 128) (i : S128x1024.Idx), i ∈ (rowM r).view.set ↔ ((i 0 : Fin 128)) = r :=
    fun r i => (mem_row r i).trans ⟨fun h => Fin.ext h, fun h => congrArg Fin.val h⟩
  rw [← by_chunk fun r => iprop(∃ f, gbAt c (rowM r).view.set f)]
  refine (pieces (T := Fin 128) (ℓ := (c : Thread nD τ).loc cc0_scratch0) (fun r => (rowM r).view.set) (List.finRange 128) (List.nodup_finRange _)
    (fun t t' _ _ ne => told_apart _ (fun i : S128x1024.Idx => (i 0 : Fin 128)) hm t t' ne)
    (fun i : S128x1024.Idx => ⟨i 0, List.mem_finRange _, (hm _ i).mpr rfl⟩) (gb E c)).trans ?_
  exact (bigSep_eq_bigSepL_of_eq (List.finRange 128) (by ext r; simp) (List.nodup_finRange _) _).symm

/-- What is left of the table beside the rows to copy. -/
def tabRest (E : Env F) (c : Dev nD) : sProp 𝕄 :=
  bigSep Finset.univ fun r : Fin 128 =>
    (c : Thread nD τ).loc main_arg1 ↦[Finset.univ \ (tabM (idv E c r).toNat (E.ok c _)).view.set]{share r} E.tab c

/-- The table is the rows to copy, each at its own share, and the rest. -/
theorem table_eq : ((c : Thread nD τ).loc main_arg1 ↦{fullShare} E.tab c : sProp 𝕄)
    = iprop((bigSepL l4 fun s => bigSep Finset.univ fun t => tabRow E c (row s t)) ∗ tabRest E c) := by
  rw [← by_chunk fun r => tabRow E c r]
  refine (pointsTo_leaves (ℓ := (c : Thread nD τ).loc main_arg1) Finset.univ (E.tab c) 7 fullShare).trans ?_
  unfold tabRest
  refine Eq.trans (bigSep_congr fun r _ => ?_) (bigSep_sep Finset.univ (fun r : Fin 128 => tabRow E c r) _)
  have h : ((c : Thread nD τ).loc main_arg1 ↦{share r} E.tab c : sProp 𝕄) ⊣⊢ _ :=
    pointsTo_split_subset (Finset.subset_univ (tabM (idv E c r).toNat (E.ok c _)).view.set)
  exact BI.Entails.antisymm h.1 h.2

/-! ## The rows of the result -/

/-- The slots that go to the result. -/
def outs : List Sl := slots.drop 12 ++ l4.map Sl.rd
theorem outs_nodup : outs.Nodup := by decide +kernel
theorem mem_outs (l : Sl) (h : l.out = true) : l ∈ outs := by revert l; decide +kernel
theorem rowOf_inj (c : Dev nD) (l l' : Sl) (h : l ∈ outs) (h' : l' ∈ outs) (ne : l ≠ l') : rowOf c l ≠ rowOf c l' := by
  revert c l l'; decide +kernel
theorem rowOf_dvd (c : Dev nD) (l : Sl) : rowOf c l = 32 * (4 * blk (whose c l) + (chunkOf l).val) := by unfold rowOf; omega

theorem mem_out (c : Dev nD) (l : Sl) (i : S1024x1024.Idx) :
    i ∈ ((Memref.whole cc0_stg2_0).access (outRect c l)).set ↔ rowOf c l ≤ (i 0).val ∧ (i 0).val < rowOf c l + 32 := by
  rw [show ((Memref.whole cc0_stg2_0).access (outRect c l)).set = (outRect c l).set from View.set_slice_whole _ _]
  exact mem_rows i

theorem out_disjoint (l l' : Sl) (h : l ∈ outs) (h' : l' ∈ outs) (ne : l ≠ l') :
    Disjoint ((Memref.whole cc0_stg2_0).access (outRect c l)).set ((Memref.whole cc0_stg2_0).access (outRect c l')).set := by
  refine Finset.disjoint_left.mpr fun i hi hi' => rowOf_inj c l l' h h' ne ?_
  have h1 := (mem_out c l i).mp hi
  have h2 := (mem_out c l' i).mp hi'
  rw [rowOf_dvd] at h1 h2 ⊢
  rw [rowOf_dvd c l']
  generalize (i 0).val = r at h1 h2
  omega

theorem split_block (r : ℕ) (h : r < 1024) : ∃ (g : Fin 8) (s : Fin 4), 128 * g.val + 32 * s.val ≤ r ∧ r < 128 * g.val + 32 * s.val + 32 :=
  ⟨⟨r / 128, by omega⟩, ⟨r / 32 % 4, by omega⟩, by show 128 * (r / 128) + 32 * (r / 32 % 4) ≤ r; omega,
    by show r < 128 * (r / 128) + 32 * (r / 32 % 4) + 32; omega⟩

theorem out_cover (i : S1024x1024.Idx) : ∃ l ∈ outs, i ∈ ((Memref.whole cc0_stg2_0).access (outRect c l)).set := by
  obtain ⟨g, s, h⟩ := split_block (i 0).val (i 0).isLt
  obtain ⟨l, hl, e⟩ := covered c g s
  exact ⟨l, mem_outs l hl, (mem_out c l i).mpr (by rw [e]; exact h)⟩

theorem buf_out (E : Env F) : (iprop(∃ f : Buf (Elt F) ((c : Thread nD τ).loc cc0_stg2_0), ((c : Thread nD τ).loc cc0_stg2_0) ↦{fullShare} f) : sProp 𝕄)
    = bigSepL outs fun l => iprop(∃ f, outAt c ((Memref.whole cc0_stg2_0).access (outRect c l)).set f) :=
  pieces (T := Sl) (ℓ := (c : Thread nD τ).loc cc0_stg2_0) (fun l => ((Memref.whole cc0_stg2_0).access (outRect c l)).set) outs outs_nodup
    (fun l l' h h' ne => out_disjoint l l' h h' ne) out_cover (outC E c)
theorem full_out : (((c : Thread nD τ).loc cc0_stg2_0) ↦{fullShare} outC E c : sProp 𝕄)
    = bigSepL outs fun l => outAt c ((Memref.whole cc0_stg2_0).access (outRect c l)).set (outC E c) :=
  pieces_at (T := Sl) (ℓ := (c : Thread nD τ).loc cc0_stg2_0) (fun l => ((Memref.whole cc0_stg2_0).access (outRect c l)).set) outs outs_nodup
    (fun l l' h h' ne => out_disjoint l l' h h' ne) out_cover (outC E c) fullShare

end Cert.Emb
end
-- ==== Proof.Enter.lean ====
module

public import proofs.«01_k».proof.Proof.Split

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ
variable {E : Env F} {K : GSem nD τ sig → ℕ} {c : Dev nD}

/-! # What the body starts from, and what it leaves -/

/-- The tokens of the start, grouped. -/
theorem init_eq : init.Perm (([0, 1, 2] : List (Fin 3)).map Tok.sg ++ ([.bar, .ids, .sel] ++ (l4.map (fun s => .gat s 0 0)
    ++ ((l4.map Sl.pb ++ l4.map Sl.rd).map Tok.raw ++ (order.map Tok.snd ++ (order.map Tok.rcv ++ outs.map Tok.rawOut)))))) := by decide +kernel

/-- The slots, by who fills them. -/
theorem byBuf_perm : byBuf.Perm ((l4.map Sl.pb ++ l4.map Sl.rd) ++ ([0, 1, 2] : List (Fin 3)).flatMap fun k => (links (opp k)).map dst) := by
  decide +kernel

/-- The six buffers of the kernel's own. -/
def scratch (c : Dev nD) : sProp 𝕄 := iprop((∃ f : Buf (Elt F) ((c : Thread nD τ).loc cc0_scratch0), ((c : Thread nD τ).loc cc0_scratch0) ↦{fullShare} f)
  ∗ bigSepL byBuf (rawSlot c))

/-- The rights a device starts with. -/
def rights (c : Dev nD) : sProp 𝕄 :=
  iprop((bigSepL ([0, 1, 2] : List (Fin 3)) fun k => dutyTok ER (cell (peer c k) .bar) 0 (opp k))
    ∗ bigSepL order fun j => iprop(dutyTok ER (cell c (.send j)) 0 0 ∗ dutyTok ER (cell (peer c (dir j)) (.recv j)) 0 0))
/-- Where its semaphores stand. -/
def stands (c : Dev nD) : sProp 𝕄 :=
  iprop(atPos ER (cell c .bar) 0 ∅ 0
    ∗ bigSepL order fun j => iprop(atPos ER (cell c (.send j)) 0 ∅ 0 ∗ atPos ER (cell c (.recv j)) 0 ∅ 0))
/-- What it may wait for. -/
def credits (c : Dev nD) : sProp 𝕄 :=
  iprop(cred (tallyAt (cell c .bar) () 3) ∗ bigSepL order fun j => cred (tallyAt (cell c (.recv j)) () N))
/-- The row copies' semaphores, nothing issued. -/
def batches (E : Env F) (c : Dev nD) : sProp 𝕄 :=
  bigSepL l4 fun s => Batch EC (c : Thread nD τ) (.dma (rowSem s)) () NR (rowDone E c s) 0 0

theorem bigSepL_sep' {I : Type} (l : List I) (Φ Ψ : I → sProp 𝕄) :
    bigSepL l (fun i => iprop(Φ i ∗ Ψ i)) = iprop(bigSepL l Φ ∗ bigSepL l Ψ) := by
  induction l with
  | nil => rw [bigSepL_nil, bigSepL_nil, bigSepL_nil]; exact BI.Entails.antisymm (emp_sep (PROP := sProp 𝕄)).2 (emp_sep (PROP := sProp 𝕄)).1
  | cons i l ih =>
    rw [bigSepL_cons', bigSepL_cons', bigSepL_cons', ih]
    refine BI.Entails.antisymm ?_ ?_
    · show (iprop((Φ i ∗ Ψ i) ∗ bigSepL l Φ ∗ bigSepL l Ψ) : sProp 𝕄) ⊢ iprop((Φ i ∗ bigSepL l Φ) ∗ Ψ i ∗ bigSepL l Ψ)
      iintro ⟨⟨A, B⟩, C, D⟩
      isplitl [A C]
      · isplitl [A] <;> iassumption
      · isplitl [B] <;> iassumption
    · show (iprop((Φ i ∗ bigSepL l Φ) ∗ Ψ i ∗ bigSepL l Ψ) : sProp 𝕄) ⊢ iprop((Φ i ∗ Ψ i) ∗ bigSepL l Φ ∗ bigSepL l Ψ)
      iintro ⟨⟨A, C⟩, B, D⟩
      isplitl [A B]
      · isplitl [A] <;> iassumption
      · isplitl [C] <;> iassumption

/-- The row copies, nothing issued. -/
theorem gather_start (c : Dev nD) :
    iprop(batches E c ∗ (bigSepL l4 fun s => bigSep Finset.univ fun t => iprop(∃ f, gbAt (F := F) c (rowM (row s t)).view.set f))
        ∗ (bigSepL l4 fun s => bigSep Finset.univ fun t => tabRow E c (row s t)))
      ⊢ bigSepL (l4.map (fun s => Tok.gat s 0 0)) (res E c) := by
  rw [bigSepL_map', ← bigSepL_sep']
  unfold batches
  rw [← bigSepL_sep']
  refine bigSepL_mono fun s _ => ?_
  show iprop(Batch EC (c : Thread nD τ) (.dma (rowSem s)) () NR (rowDone E c s) 0 0 ∗ (bigSep Finset.univ fun t => iprop(∃ f, gbAt (F := F) c (rowM (row s t)).view.set f))
      ∗ bigSep Finset.univ fun t => tabRow E c (row s t))
    ⊢ iprop(Batch EC (c : Thread nD τ) (.dma (rowSem s)) () NR (rowDone E c s) 0 (0 * NR) ∗ bigSep (pending 0) (rowRes E c s))
  rw [Nat.zero_mul, show bigSep (pending 0) (rowRes E c s) = bigSep Finset.univ (rowRes E c s) from bigSep_pending_zero _]
  iintro ⟨A, B, C⟩
  isplitl [A]; · iexact A
  iapply (show iprop((bigSep Finset.univ fun t => iprop(∃ f, gbAt (F := F) c (rowM (row s t)).view.set f)) ∗ bigSep Finset.univ fun t => tabRow E c (row s t))
      ⊢ bigSep Finset.univ (rowRes E c s) from
    Entails.of_eq (bigSep_sep Finset.univ (fun t => iprop(∃ f, gbAt (F := F) c (rowM (row s t)).view.set f)) fun t => tabRow E c (row s t)).symm)
  isplitl [B] <;> iassumption

theorem slots_start (c : Dev nD) :
    iprop((bigSepL ([0, 1, 2] : List (Fin 3)) fun k => dutyTok ER (cell (peer c k) .bar) 0 (opp k)) ∗ bigSepL byBuf (rawSlot (F := F) c))
      ⊢ iprop(bigSepL (([0, 1, 2] : List (Fin 3)).map Tok.sg) (res E c) ∗ bigSepL ((l4.map Sl.pb ++ l4.map Sl.rd).map Tok.raw) (res E c)) := by
  rw [bigSepL_perm' _ byBuf_perm, bigSepL_append, bigSepL_flatMap, bigSepL_map', bigSepL_map' _ Tok.raw]
  iintro ⟨A, B, C⟩
  isplitl [A C]
  · iapply (show iprop((bigSepL ([0, 1, 2] : List (Fin 3)) fun k => dutyTok ER (cell (peer c k) .bar) 0 (opp k))
        ∗ bigSepL ([0, 1, 2] : List (Fin 3)) fun k => bigSepL ((links (opp k)).map dst) (rawSlot (F := F) c))
        ⊢ bigSepL ([0, 1, 2] : List (Fin 3)) fun k => res E c (.sg k) from by
      rw [← bigSepL_sep']
      refine bigSepL_mono fun k _ => ?_
      rw [bigSepL_map']
      exact .rfl)
    isplitl [A] <;> iassumption
  · iexact B

theorem enter (c : Dev nD) :
    iprop(scratch (F := F) c ∗ ((c : Thread nD τ).loc main_arg1 ↦{fullShare} E.tab c) ∗ ((c : Thread nD τ).loc cc0_stg0_0 ↦{fullShare} E.ids c)
        ∗ ((c : Thread nD τ).loc cc0_stg1_0 ↦{fullShare} E.sel c) ∗ (∃ f : Buf (Elt F) ((c : Thread nD τ).loc cc0_stg2_0), ((c : Thread nD τ).loc cc0_stg2_0) ↦{fullShare} f)
        ∗ rights c ∗ stands c ∗ credits c ∗ batches E c)
      ⊢ iprop(bigSepL init (res E c) ∗ tabRest E c) := by
  rw [bigSepL_perm' _ init_eq, bigSepL_append, bigSepL_append, bigSepL_append, bigSepL_append, bigSepL_append, bigSepL_append]
  unfold scratch
  rw [buf_rows E, table_eq, buf_out E]
  unfold rights stands credits
  iintro ⟨⟨Hgb, Hsl⟩, ⟨Htab, Hrest⟩, Hids, Hsel, Hout, ⟨Hd, Hdd⟩, ⟨Hbar, Hat⟩, ⟨Hcb, Hcr⟩, Hbat⟩
  isplitr [Hrest]
  · ihave H := (slots_start (E := E) c) $$ [Hd Hsl]
    · isplitl [Hd] <;> iassumption
    icases H with ⟨Hsg, Hraw⟩
    isplitl [Hsg]; · iexact Hsg
    isplitl [Hbar Hcb Hids Hsel]
    · iapply (show iprop((atPos ER (cell c .bar) 0 ∅ 0 ∗ cred (tallyAt (cell c .bar) () 3)) ∗ ((c : Thread nD τ).loc cc0_stg0_0 ↦{fullShare} E.ids c)
          ∗ ((c : Thread nD τ).loc cc0_stg1_0 ↦{fullShare} E.sel c)) ⊢ bigSepL [.bar, .ids, .sel] (res E c) from .rfl)
      isplitl [Hbar Hcb]
      · isplitl [Hbar] <;> iassumption
      isplitl [Hids] <;> iassumption
    isplitl [Hbat Hgb Htab]
    · iapply (gather_start (E := E) c)
      isplitl [Hbat]; · iexact Hbat
      isplitl [Hgb] <;> iassumption
    isplitl [Hraw]; · iexact Hraw
    iapply (show (iprop((bigSepL order fun j => iprop(dutyTok ER (cell c (.send j)) 0 0 ∗ dutyTok ER (cell (peer c (dir j)) (.recv j)) 0 0))
        ∗ (bigSepL order fun j => iprop(atPos ER (cell c (.send j)) 0 ∅ 0 ∗ atPos ER (cell c (.recv j)) 0 ∅ 0))
        ∗ (bigSepL order fun j => cred (tallyAt (cell c (.recv j)) () N))
        ∗ (bigSepL outs fun l => iprop(∃ f, outAt (F := F) c ((Memref.whole cc0_stg2_0).access (outRect c l)).set f))) : sProp 𝕄)
        ⊢ iprop(bigSepL (order.map Tok.snd) (res E c) ∗ bigSepL (order.map Tok.rcv) (res E c) ∗ bigSepL (outs.map Tok.rawOut) (res E c)) from by
      rw [bigSepL_map', bigSepL_map', bigSepL_map']
      show _ ⊢ iprop((bigSepL order fun j => iprop(dutyTok ER (cell c (.send j)) 0 0 ∗ dutyTok ER (cell (peer c (dir j)) (.recv j)) 0 0 ∗ atPos ER (cell c (.send j)) 0 ∅ 0))
        ∗ (bigSepL order fun j => iprop(atPos ER (cell c (.recv j)) 0 ∅ 0 ∗ cred (tallyAt (cell c (.recv j)) () N)))
        ∗ (bigSepL outs fun l => iprop(∃ f, outAt (F := F) c ((Memref.whole cc0_stg2_0).access (outRect c l)).set f)))
      simp only [bigSepL_sep']
      iintro ⟨⟨A, B⟩, ⟨C, D⟩, G, H⟩
      isplitl [A B C]
      · isplitl [A]; · iexact A
        isplitl [B] <;> iassumption
      isplitl [D G]
      · isplitl [D] <;> iassumption
      iexact H)
    isplitl [Hdd]; · iexact Hdd
    isplitl [Hat]; · iexact Hat
    isplitl [Hcr] <;> iassumption
  · iexact Hrest

/-! ## The end -/

/-- What is left of a slot at the end: the share kept, and the shares lent and come back. -/
def ends : Sl → List Tok
  | .pb s => [.own (.pb s) 1, .back (.y s)]
  | .yb s => [.own (.yb s) 0]
  | .rd s => [.own (.rd s) 2, .back (.ccw 0 s), .back (.cw 0 s)]
  | .cw 0 s => [.own (.cw 0 s) 1, .back (.cw 1 s)]
  | .cw 1 s => [.own (.cw 1 s) 1, .back (.cw 2 s)]
  | .cw 2 s => [.own (.cw 2 s) 1, .back (.cw 3 s)]
  | .cw 3 s => [.own (.cw 3 s) 0]
  | .ccw 0 s => [.own (.ccw 0 s) 1, .back (.ccw 1 s)]
  | .ccw 1 s => [.own (.ccw 1 s) 1, .back (.ccw 2 s)]
  | .ccw 2 s => [.own (.ccw 2 s) 0]

theorem final_eq : (σ 612).Perm ([.ids, .sel] ++ (l4.map Tok.rows ++ (allCells.map Tok.closed ++ (outs.map Tok.outp ++ byBuf.flatMap ends)))) := by
  decide +kernel

theorem slot_all (c : Dev nD) (l : Sl) : slotPt E c l (keep 0) ⊢ rawSlot c l := by
  show slotAt c l fullShare (canon E c l) ⊢ iprop(∃ f : SlBuf F c l, slotAt c l fullShare f)
  iintro H; iexists (canon E c l); iexact H

theorem slot_once (c : Dev nD) (l : Sl) : iprop(slotPt E c l (keep 1) ∗ slotPt E c l (lent 0)) ⊢ rawSlot c l := by
  refine BI.Entails.trans (Q := slotPt E c l (keep 0)) ?_ (slot_all (E := E) c l)
  show (iprop(slotPt E c l (keep 1) ∗ slotPt E c l (lent 0)) : sProp 𝕄) ⊢ slotPt E c l (keep 0)
  iintro ⟨A, B⟩
  iapply (slot_back E c l 0)
  isplitl [B] <;> iassumption

theorem slot_twice (c : Dev nD) (l : Sl) : iprop(slotPt E c l (keep 2) ∗ slotPt E c l (lent 1) ∗ slotPt E c l (lent 0)) ⊢ rawSlot c l := by
  refine BI.Entails.trans (Q := iprop(slotPt E c l (keep 1) ∗ slotPt E c l (lent 0))) ?_ (slot_once (E := E) c l)
  show (iprop(slotPt E c l (keep 2) ∗ slotPt E c l (lent 1) ∗ slotPt E c l (lent 0)) : sProp 𝕄) ⊢ iprop(slotPt E c l (keep 1) ∗ slotPt E c l (lent 0))
  iintro ⟨A, B, C⟩
  isplitr [C]
  · iapply (slot_back E c l 1)
    isplitl [B] <;> iassumption
  · iexact C

theorem ends_raw (c : Dev nD) : ∀ l, bigSepL (ends l) (res E c) ⊢ rawSlot c l
  | .pb s => slot_once c _
  | .yb s => slot_all c _
  | .rd s => slot_twice c _
  | .cw 0 s => slot_once c _
  | .cw 1 s => slot_once c _
  | .cw 2 s => slot_once c _
  | .cw 3 s => slot_all c _
  | .ccw 0 s => slot_once c _
  | .ccw 1 s => slot_once c _
  | .ccw 2 s => slot_all c _

theorem rows_end (c : Dev nD) : bigSepL (l4.map Tok.rows) (res E c)
    ⊢ iprop((∃ f : Buf (Elt F) ((c : Thread nD τ).loc cc0_scratch0), ((c : Thread nD τ).loc cc0_scratch0) ↦{fullShare} f)
      ∗ (bigSepL l4 fun s => bigSep Finset.univ fun t => tabRow E c (row s t))
      ∗ bigSepL l4 fun s => semVal ((c : Thread nD τ), .dma (rowSem s)) 0) := by
  rw [bigSepL_map', buf_rows E]
  show (bigSepL l4 fun s => iprop(bigSep Finset.univ (rowDone E c s) ∗ semVal ((c : Thread nD τ), .dma (rowSem s)) 0)) ⊢ _
  rw [bigSepL_sep']
  iintro ⟨A, B⟩
  ihave A := (show (bigSepL l4 fun s => bigSep Finset.univ (rowDone E c s)) ⊢
      iprop((bigSepL l4 fun s => bigSep Finset.univ fun t => iprop(∃ f, gbAt (F := F) c (rowM (row s t)).view.set f))
        ∗ (bigSepL l4 fun s => bigSep Finset.univ fun t => tabRow E c (row s t))) from by
    rw [← bigSepL_sep']
    refine bigSepL_mono fun s _ => ?_
    refine BI.Entails.trans ?_ (show (bigSep Finset.univ fun t => iprop((∃ f, gbAt (F := F) c (rowM (row s t)).view.set f) ∗ tabRow E c (row s t))) ⊢ _ from
      Entails.of_eq (bigSep_sep Finset.univ (fun t => iprop(∃ f, gbAt (F := F) c (rowM (row s t)).view.set f)) fun t => tabRow E c (row s t)))
    refine bigSep_mono fun t _ => ?_
    show iprop(gbAt c (rowM (row s t)).view.set (gb E c) ∗ tabRow E c (row s t)) ⊢ iprop((∃ f, gbAt (F := F) c (rowM (row s t)).view.set f) ∗ tabRow E c (row s t))
    iintro ⟨A, B⟩
    isplitl [A]
    · iexists _; iexact A
    · iexact B) $$ A
  icases A with ⟨A, C⟩
  isplitl [A]; · iexact A
  isplitl [C] <;> iassumption

theorem leave (c : Dev nD) :
    iprop(bigSepL (σ 612) (res E c) ∗ tabRest E c)
      ⊢ iprop(scratch (F := F) c ∗ ((c : Thread nD τ).loc main_arg1 ↦{fullShare} E.tab c) ∗ ((c : Thread nD τ).loc cc0_stg0_0 ↦{fullShare} E.ids c)
        ∗ ((c : Thread nD τ).loc cc0_stg1_0 ↦{fullShare} E.sel c) ∗ ((c : Thread nD τ).loc cc0_stg2_0 ↦{fullShare} outC E c)
        ∗ (bigSepL l4 fun s => semVal ((c : Thread nD τ), .dma (rowSem s)) 0) ∗ bigSepL allCells fun x => semVal (cell c x) 0) := by
  rw [bigSepL_perm' _ final_eq, bigSepL_append, bigSepL_append, bigSepL_append, bigSepL_append]
  unfold scratch
  rw [table_eq, full_out]
  iintro ⟨⟨Hst, Hrows, Hcl, Hout, Hsl⟩, Hrest⟩
  ihave Hrows := (rows_end (E := E) c) $$ Hrows
  icases Hrows with ⟨Hgb, Htab, Hsem⟩
  ihave Hst := (show bigSepL ([.ids, .sel] : List Tok) (res E c) ⊢ iprop(((c : Thread nD τ).loc cc0_stg0_0 ↦{fullShare} E.ids c) ∗ ((c : Thread nD τ).loc cc0_stg1_0 ↦{fullShare} E.sel c)) from .rfl) $$ Hst
  icases Hst with ⟨Hids, Hsel⟩
  isplitl [Hgb Hsl]
  · isplitl [Hgb]; · iexact Hgb
    iapply (show bigSepL (byBuf.flatMap ends) (res E c) ⊢ bigSepL byBuf (rawSlot (F := F) c) from by
      rw [bigSepL_flatMap]; exact bigSepL_mono fun l _ => ends_raw c l) $$ Hsl
  isplitl [Htab Hrest]
  · isplitl [Htab] <;> iassumption
  isplitl [Hids]; · iexact Hids
  isplitl [Hsel]; · iexact Hsel
  isplitl [Hout]
  · iapply (Entails.of_eq (bigSepL_map' (res E c) Tok.outp outs)) $$ Hout
  isplitl [Hsem]; · iexact Hsem
  iapply (Entails.of_eq (bigSepL_map' (res E c) Tok.closed allCells)) $$ Hcl

end Cert.Emb
end
-- ==== Proof.Host.lean ====
module

public import Idealize.ShloMosaic.Lib.StableHlo.ReadAt
public import proofs.«01_k».proof.Proof.Sched

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ

variable (m : (ℓ : Loc nD τ sig) → Buf (Elt F) ℓ) (c : Dev nD)

/-! # What the host operations hand the kernel -/

theorem blk_lt (c : Dev nD) : blk c < 8 := by revert c; decide

/-- The ids device `c` looks up, as given. -/
def gid (i : Fin 128) : BitVec 32 :=
  (m ((c : Thread nD τ).loc main_arg0) : Vec F S1024 .i32) (ValueIdx.ix1 ⟨128 * blk c + i.val, by have := blk_lt c; have := i.isLt; omega⟩)
/-- Counted from the first row of the device's half of the table. -/
def rel (i : Fin 128) : BitVec 32 := gid m c i - BitVec.ofNat 32 (8192 * (c.val / 4 % 2))
/-- Whether the half has the row. -/
def hit (w : BitVec 32) : BitVec 1 := IntOp.andi (IntOp.cmpi .sge w 0#32) (IntOp.cmpi .slt w 8192#32)

theorem start_words (c : Dev nD) :
    select
      (cmpi CmpIPredicate.slt
        (muli
          (addi
            (muli (id (Host.remui (Host.divui (constantI S_ 32 c.word) (constantI S_ 32 8#32)) (constantI S_ 32 2#32))) (constantI S_ 32 4#32))
            (id (Host.remui (Host.divui (constantI S_ 32 c.word) (constantI S_ 32 1#32)) (constantI S_ 32 4#32))))
          (constantI S_ 32 128#32))
        (constantI S_ 32 0#32))
      (addi
        (muli
          (addi
            (muli (id (Host.remui (Host.divui (constantI S_ 32 c.word) (constantI S_ 32 8#32)) (constantI S_ 32 2#32))) (constantI S_ 32 4#32))
            (id (Host.remui (Host.divui (constantI S_ 32 c.word) (constantI S_ 32 1#32)) (constantI S_ 32 4#32))))
          (constantI S_ 32 128#32))
        (constantI S_ 32 1024#32))
      (muli
          (addi
            (muli (id (Host.remui (Host.divui (constantI S_ 32 c.word) (constantI S_ 32 8#32)) (constantI S_ 32 2#32))) (constantI S_ 32 4#32))
            (id (Host.remui (Host.divui (constantI S_ 32 c.word) (constantI S_ 32 1#32)) (constantI S_ 32 4#32))))
          (constantI S_ 32 128#32))
      (Shape.Idx.first h_S_) = BitVec.ofNat 32 (128 * blk c) := by
  revert c; decide +kernel

/-- Where the device's ids start. -/
theorem start_eq : (StableHlo.upto (hostOps0 c) (V0 m c) 28 (Proc.tc.devRef main_v18) : Vec F S_ .i32) (Shape.Idx.first h_S_) = BitVec.ofNat 32 (128 * blk c) := by
  after_reads_simp
  exact start_words c

theorem start_at (st : Fin 1 → ℤ) (h : st = fun _ => (128 * blk c : ℤ)) (hr) :
    Host.clampedStart S1024 S128 hr st 0 = 128 * blk c := by
  subst h
  have := blk_lt c
  show (min (max ((128 * blk c : ℕ) : ℤ) 0) ((1024 - 128 : ℕ) : ℤ)).toNat = 128 * blk c
  omega

theorem half_eq : IntOp.muli (id (Host.remui (Host.divui (constantI S_ 32 c.word) (constantI S_ 32 4#32)) (constantI S_ 32 2#32)) (Idealize.ShloMosaic.ix0 : S_.Idx)) 8192#32
    = BitVec.ofNat 32 (8192 * (c.val / 4 % 2)) := by
  revert c; decide +kernel

theorem start_int (st : Fin 1 → ℤ)
    (h : ∀ k, st k = BitVec.toInt ((StableHlo.upto (hostOps0 c) (V0 m c) 28 (Proc.tc.devRef main_v18) : Vec F S_ .i32) (Shape.Idx.first h_S_))) :
    st = fun _ => (128 * blk c : ℤ) := by
  funext k
  rw [h k, start_eq]
  clear h
  revert c
  decide +kernel

theorem v22_at (i : S128.Idx) : (V3 m c main_v22 : Vec F S128 .i32) i = rel m c (i 0) := by
  unfold V3 V2 V1
  after_reads_at
  refine congrArg₂ IntOp.subi (congrArg (m ((c : Thread nD τ).loc main_arg0) : Vec F S1024 .i32) (congrArg ValueIdx.ix1 (Fin.ext
    (congrArg (· + (i 0).val) (start_at c _ (start_int m c _ fun k => ?_) _))))) (half_eq c)
  obtain rfl := Subsingleton.elim k 0
  rfl

theorem v28_at (i : S128.Idx) : (V3 m c main_v28 : Vec F S128 .i32) i = Scalar.select (hit (rel m c (i 0))) (rel m c (i 0)) 0#32 := by
  rw [← v22_at]
  unfold V3 V2 V1
  after_reads_at
  rfl
theorem v31_at (i : S4x32x128.Idx) : (V3 m c main_v31 : Vec F S4x32x128 .bf16) i
    = FloatOps.uitofp .bf16 (hit (rel m c ⟨(i 0).val * 32 + (i 1).val, by have h0 : (i 0).val < 4 := (i 0).isLt; have h1 : (i 1).val < 32 := (i 1).isLt; omega⟩)) := by
  rw [show rel m c ⟨(i 0).val * 32 + (i 1).val, _⟩ = _ from (v22_at m c (ValueIdx.ix1 ⟨(i 0).val * 32 + (i 1).val, by have h0 : (i 0).val < 4 := (i 0).isLt; have h1 : (i 1).val < 32 := (i 1).isLt; omega⟩)).symm]
  unfold V3 V2 V1
  after_reads_at
  rfl

theorem word_range (w : BitVec 32) : ((0#32).sle w && w.slt 8192#32) = decide (w.toNat < 8192) := by
  rw [Bool.eq_iff_iff, Bool.and_eq_true, decide_eq_true_iff, BitVec.sle_iff_toInt_le, BitVec.slt_iff_toInt_lt, BitVec.toInt_eq_toNat_cond w,
    show (8192#32).toInt = 8192 from rfl, show (0#32).toInt = 0 from rfl]
  have := w.isLt
  split <;> constructor <;> intro h <;> omega
theorem hit_eq (w : BitVec 32) : hit w = BitVec.ofBool (decide (w.toNat < 8192)) := by
  rw [← word_range]
  show BitVec.ofBool ((0#32).sle w) &&& BitVec.ofBool (w.slt 8192#32) = _
  generalize (0#32).sle w = a
  generalize w.slt 8192#32 = b
  revert a b
  decide

/-- What the kernel is handed. -/
def env : Env F where
  tab c := m ((c : Thread nD τ).loc main_arg1)
  ids c := V3 m c main_v28
  sel c := V3 m c main_v31
  ok c i := by
    have h := v28_at m c i
    rw [hit_eq] at h
    rw [h]
    by_cases hw : (rel m c (i 0)).toNat < 8192
    · rw [decide_eq_true hw]; exact hw
    · rw [decide_eq_false hw]; show (0#32 : BitVec 32).toNat < 8192; decide

end Cert.Emb
end
-- ==== Proof.Opening.lean ====
module

public import proofs.«01_k».proof.Proof.Enter
public import proofs.«01_k».proof.Proof.Host

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves
open Idealize.ShloMosaic.Pipeline (Dat Seg HostSeg RegionSeg BodyObligation)

variable {F : FTy → Type} [FloatOps F]

local notation "𝕄" => MT nD τ sig Unit (Elt F) ℕ UU ℕ
variable {E : Env F} {K : GSem nD τ sig → ℕ} {c : Dev nD}

/-! # What a device brings to the kernel, and its semaphores opened -/

/-- Opening a list of things one at a time. -/
theorem open_list {I : Type} (R : sProp 𝕄) [BI.Persistent R] {Φ Ψ : I → sProp 𝕄} (h : ∀ i, iprop(R ∗ Φ i) ⊢ |={Set.univ}=> Ψ i) :
    ∀ l : List I, iprop(R ∗ bigSepL l Φ) ⊢ |={Set.univ}=> bigSepL l Ψ
  | [] => by
    rw [bigSepL_nil, bigSepL_nil]
    iintro ⟨-, -⟩; imodintro; iempintro
  | i :: l => by
    have ih := open_list R h l
    rw [bigSepL_cons', bigSepL_cons']
    iintro ⟨#HR, Hi, Hl⟩
    imod (h i) $$ [Hi] with Hi
    · isplitr; · iexact HR
      iexact Hi
    imod ih $$ [Hl] with Hl
    · isplitr; · iexact HR
      iexact Hl
    imodintro
    isplitl [Hi] <;> iassumption

variable (E K) in
/-- Every cell's invariant, and every barrier cell in its first round. -/
def known : sProp 𝕄 :=
  iprop((bigSep Finset.univ fun p : Dev nD × Fin allCells.length =>
      cellInv ER (Rd E) (K (cell p.1 (allCells.get p.2))) (cell p.1 (allCells.get p.2)))
    ∗ (bigSep Finset.univ fun p : Dev nD => reached ER (cell p .bar) 0))
instance : BI.Persistent (known E K) := by unfold known; infer_instance

theorem known_inv (p : Dev nD) (x : Cell) : known E K ⊢ cellInv ER (Rd E) (K (cell p x)) (cell p x) := by
  obtain ⟨i, hi⟩ := List.get_of_mem (mem_allCells x)
  unfold known
  iintro ⟨H, -⟩
  ihave H := (show (bigSep Finset.univ fun p : Dev nD × Fin allCells.length =>
      cellInv ER (Rd E) (K (cell p.1 (allCells.get p.2))) (cell p.1 (allCells.get p.2)) : sProp 𝕄)
    ⊢ cellInv ER (Rd E) (K (cell p (allCells.get i))) (cell p (allCells.get i)) from bigSep_elim (Finset.mem_univ (p, i))) $$ H
  rw [hi]
  iexact H

variable (E K c) in
/-- What device `c` holds of the protocol before its own semaphores are opened. -/
def shut : sProp 𝕄 :=
  iprop(known E K ∗ atPos ER (cell c .bar) 0 ∅ 0
    ∗ (bigSepL order fun j => iprop(openTok ER (cell c (.send j)) ∗ openTok ER (cell c (.recv j)))) ∗ rights c)

variable (E c) in
def Tk : sProp 𝕄 := iprop((∃ K, shut E K c) ∗ credits c)
variable (E c) in
def Xk : sProp 𝕄 := iprop((∃ K, ctx E K c ∗ stands c) ∗ rights c ∗ credits c ∗ batches E c)
variable (F c) in
def Yk : sProp (MT nD τ sig Unit (Elt F) ℕ UU ℕ) := semVal (cell c .bar) 0

/-- The kernel's own semaphores. -/
abbrev osem : Fin 4 ⊕ (J ⊕ J) → SemLoc sig
  | .inl s => .dma (rowSem s)
  | .inr (.inl j) => .dma (sendSem j)
  | .inr (.inr j) => .dma (recvSem j)

theorem over_J (Φ : J → sProp 𝕄) : bigSep Finset.univ Φ = bigSepL order Φ :=
  bigSep_eq_bigSepL_of_eq order rfl order_nodup Φ

theorem own_sems (c : Dev nD) : (Pipeline.ownSems0 (Ix := Unit) (Name := ℕ) (U := UU) (Lvl := ℕ) (Val := Elt F) osem c : sProp 𝕄)
    = iprop((bigSepL l4 fun s => semVal ((c : Thread nD τ), .dma (rowSem s)) 0)
      ∗ (bigSepL order fun j => semVal (cell c (.send j)) 0) ∗ (bigSepL order fun j => semVal (cell c (.recv j)) 0)) := by
  unfold Pipeline.ownSems0
  rw [bigSep_univ_sum, bigSep_univ_sum, over_J, over_J, bigSep_eq_bigSepL_of_eq l4 (by decide) (by decide)]
  rfl

theorem open_pair (j : J) : iprop(known E K ∗ (openTok ER (cell c (.send j)) ∗ openTok ER (cell c (.recv j)))
      ∗ (semVal (cell c (.send j)) 0 ∗ semVal (cell c (.recv j)) 0))
    ⊢ |={Set.univ}=> iprop((atPos ER (cell c (.send j)) 0 ∅ 0 ∗ atPos ER (cell c (.recv j)) 0 ∅ 0)
      ∗ (reached ER (cell c (.send j)) 0 ∗ reached ER (cell c (.recv j)) 0)) := by
  iintro ⟨#HI, ⟨Ho, Ho'⟩, Hs, Hs'⟩
  imod (Rounds.cell_open ER (Rd E) (g := cell c (.send j)) (Set.mem_univ (K (cell c (.send j))))) $$ [Ho Hs] with ⟨Ha, Hr⟩
  · isplitr; · iapply (known_inv (E := E) (K := K) c (.send j)); iexact HI
    isplitl [Ho] <;> iassumption
  imod (Rounds.cell_open ER (Rd E) (g := cell c (.recv j)) (Set.mem_univ (K (cell c (.recv j))))) $$ [Ho' Hs'] with ⟨Ha', Hr'⟩
  · isplitr; · iapply (known_inv (E := E) (K := K) c (.recv j)); iexact HI
    isplitl [Ho'] <;> iassumption
  imodintro
  isplitl [Ha Ha']; · isplitl [Ha] <;> iassumption
  isplitl [Hr] <;> iassumption

theorem open_rows : (bigSepL l4 fun s => semVal ((c : Thread nD τ), .dma (rowSem s)) 0 : sProp 𝕄) ⊢ |={Set.univ}=> batches E c := by
  have h := open_list (F := F) iprop(emp) (Φ := fun s => semVal ((c : Thread nD τ), .dma (rowSem s)) 0)
    (Ψ := fun s => Batch EC (c : Thread nD τ) (.dma (rowSem s)) () NR (rowDone E c s) 0 0)
    (fun s => by
      show (iprop(emp ∗ semVal ((c : Thread nD τ), .dma (rowSem s)) 0) : sProp 𝕄) ⊢ _
      iintro ⟨-, H⟩
      iapply (Transfers.batch_alloc' EC (c : Thread nD τ) () NR (rowDone E c s))
      iexact H) l4
  unfold batches
  iintro H
  iapply h
  isplitr; · iempintro
  iexact H

theorem opening (c : Dev nD) : iprop(Tk E c ∗ Pipeline.ownSems0 osem c ∗ levAts L lv) ⊢ (|={Set.univ}=> Xk E c : sProp 𝕄) := by
  have hp : BI.Persistent (bigSepL order fun j => iprop(reached ER (cell c (.send j)) 0 ∗ reached ER (cell c (.recv j)) 0) : sProp 𝕄) :=
    persistent_list _ (fun _ => inferInstance) _
  rw [own_sems]
  unfold Tk Xk shut
  iintro ⟨⟨⟨%K, #HI, Hat, Ho, Hd⟩, Hcr⟩, ⟨Hr, Hs, Hv⟩, #Hlev⟩
  imod (open_rows (E := E) (c := c)) $$ Hr with Hb
  imod (open_list (known E K) (fun j => open_pair (E := E) (K := K) (c := c) j) order) $$ [Ho Hs Hv] with H
  · isplitr; · iexact HI
    iapply (show (iprop((bigSepL order fun j => iprop(openTok ER (cell c (.send j)) ∗ openTok ER (cell c (.recv j))))
        ∗ (bigSepL order fun j => semVal (cell c (.send j)) 0) ∗ (bigSepL order fun j => semVal (cell c (.recv j)) 0)) : sProp 𝕄)
      ⊢ bigSepL order fun j => iprop((openTok ER (cell c (.send j)) ∗ openTok ER (cell c (.recv j)))
        ∗ (semVal (cell c (.send j)) 0 ∗ semVal (cell c (.recv j)) 0)) from by
      rw [bigSepL_sep', bigSepL_sep', bigSepL_sep', bigSepL_sep'])
    isplitl [Ho]; · iexact Ho
    isplitl [Hs] <;> iassumption
  ihave H := (show (bigSepL order fun j => iprop((atPos ER (cell c (.send j)) 0 ∅ 0 ∗ atPos ER (cell c (.recv j)) 0 ∅ 0)
      ∗ (reached ER (cell c (.send j)) 0 ∗ reached ER (cell c (.recv j)) 0)) : sProp 𝕄)
    ⊢ iprop((bigSepL order fun j => iprop(atPos ER (cell c (.send j)) 0 ∅ 0 ∗ atPos ER (cell c (.recv j)) 0 ∅ 0))
      ∗ bigSepL order fun j => iprop(reached ER (cell c (.send j)) 0 ∗ reached ER (cell c (.recv j)) 0)) from by
      rw [bigSepL_sep']) $$ H
  icases H with ⟨Ha, #Hrc⟩
  imodintro
  isplitl [Hat Ha]
  · iexists K
    isplitr
    · unfold ctx known
      icases HI with ⟨#HI, #HB⟩
      isplitr; · iexact HI
      isplitr; · iexact HB
      isplitr; · iexact Hrc
      iexact Hlev
    · unfold stands
      isplitl [Hat] <;> iassumption
  isplitl [Hd]; · iexact Hd
  isplitl [Hcr] <;> iassumption

end Cert.Emb

end
-- ==== Proof.Region.lean ====
module

public import proofs.«01_k».proof.Proof.Opening

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves
open Idealize.ShloMosaic.Pipeline (Dat Seg HostSeg RegionSeg BodyObligation)

variable {F : FTy → Type} [FloatOps F]

local notation "𝕄" => MT nD τ sig Unit (Elt F) ℕ UU ℕ
variable (m : (ℓ : Loc nD τ sig) → Buf (Elt F) ℓ) (c : Dev nD)

/-! # The kernel's launch -/

/-- What every unscoped buffer holds after the kernel. -/
abbrev W₁ (c : Dev nD) : Valuation τ sig (Elt F) :=
  Function.update (V3 m c) (Proc.devRef .tc main_v32) (outC (env m) c)

/-- The table's half, on device `c`. -/
def tableAt : sProp 𝕄 := (c : Thread nD τ).loc main_arg1 ↦{fullShare} (env m).tab c
/-- Every semaphore of the kernel back at zero. -/
def quiet (F : FTy → Type) [FloatOps F] (c : Dev nD) : sProp (MT nD τ sig Unit (Elt F) ℕ UU ℕ) :=
  iprop((bigSepL l4 fun s => semVal ((c : Thread nD τ), .dma (rowSem s)) 0) ∗ bigSepL allCells fun x => semVal (cell c x) 0)

def Φ₀ : sProp 𝕄 := iprop(scratch c ∗ tableAt m c ∗ (∃ r, prngReg c r) ∗ Xk (env m) c)
def Φ₁ : sProp 𝕄 := iprop(scratch c ∗ tableAt m c ∗ (∃ r, prngReg c r) ∗ quiet F c)

/-- What device `c` owes at the start. -/
abbrev O₀ (c : Dev nD) : CellTallies nD τ sig Unit := owed c init

/-- The kernel's pipeline: the ids and the selector are read, the result is written. -/
def dat (c : Dev nD) : Dat τ (Elt F) Unit ℕ UU ℕ cfg0 c where
  A w := V3 m c (Proc.devRef .tc (Pipeline.arrRef spec0 w))
  after w _ := match w with
    | ⟨0, _⟩ => (env m).ids c
    | ⟨1, _⟩ => (env m).sel c
    | ⟨2, _⟩ => outC (env m) c
  Φ t := if t.val = 0 then Φ₀ m c else Φ₁ m c
  q _ := fullShare
  owed t := if t.val = 0 then O₀ c else 0
def pdats (p : Fin 1) (c : Dev nD) : Dat τ (Elt F) Unit ℕ UU ℕ (cfgs p) c := match p with | 0 => dat m c

theorem owed_zero : (dat m c).owed 0 = O₀ c := by
  show (if (0 : Fin (cfg0.N + 1)).val = 0 then O₀ c else 0) = O₀ c; exact if_pos rfl
theorem owed_first : (dat m c).owed t0_0.castSucc = O₀ c := by
  show (if (t0_0.castSucc : Fin (cfg0.N + 1)).val = 0 then O₀ c else 0) = O₀ c; exact if_pos rfl
theorem owed_last : (dat m c).owed (Fin.last _) = 0 := by
  show (if (Fin.last cfg0.N).val = 0 then O₀ c else 0) = 0
  rw [Fin.val_last, if_neg (by rw [show cfg0.N = 1 from N_0]; decide)]
theorem owed_succ : (dat m c).owed t0_0.succ = 0 := by
  show (if (t0_0.succ : Fin (cfg0.N + 1)).val = 0 then O₀ c else 0) = 0; exact if_neg (Nat.succ_ne_zero _)

theorem owes_put (t : Fin (cfg0.N + 1)) (h : (dat m c).owed t = 0) :
    owesR (F := F) c 0 ⊢ ((dat m c).owesAt () t : sProp 𝕄) := by
  unfold owesR Dat.owesAt Pipeline.owesWithin Dat.bound; rw [h, show (dat m c).recorded t = Set.univ from rfl]
  iintro ⟨%W, HO⟩; iexists W; isplitr; · ipureintro; exact fun _ _ => Or.inl trivial
  iexact HO
theorem owes_get (t : Fin (cfg0.N + 1)) (h : (dat m c).owed t = O₀ c) :
    ((dat m c).owesAt () t : sProp 𝕄) ⊢ owesR (F := F) c (O₀ c) := by
  unfold owesR Dat.owesAt Pipeline.owesWithin; rw [h]
  iintro ⟨%W, -, HO⟩; iexists W; iexact HO

/-- A staging buffer held whole. -/
def stg (b : Ref sig .tc) (X : b.ty.Contents (Elt F)) : sProp 𝕄 :=
  owns (c : Thread nD τ) (Memref.whole b) fullShare X
theorem stg_eq (b : Ref sig .tc) (X : b.ty.Contents (Elt F)) :
    stg c b X = iprop(∃ f : Buf (Elt F) ((c : Thread nD τ).loc b), ⌜f = X⌝ ∗ (((c : Thread nD τ).loc b) ↦{fullShare} f)) := by
  unfold stg owns; simp only [Memref.view_whole, View.read_whole, View.set_whole]

/-- A token that owes nothing. -/
def dueless : Tok → Bool
  | .sg _ => false
  | .snd _ => false
  | _ => true
theorem none_left (t : Tok) (h : t ∈ σ 612) : dueless t = true :=
  (by decide +kernel : ∀ t ∈ ([.ids, .sel] ++ (l4.map Tok.rows ++ (allCells.map Tok.closed ++ (outs.map Tok.outp ++ byBuf.flatMap ends))) : List Tok),
    dueless t = true) t (final_eq.mem_iff.mp h)
theorem owed_none (c : Dev nD) : ∀ l : List Tok, (∀ t ∈ l, dueless t = true) → owed c l = 0
  | [], _ => rfl
  | t :: l, h => by
    rw [owed_cons, owed_none c l fun t ht => h t (List.mem_cons_of_mem _ ht), add_zero]
    have := h t List.mem_cons_self
    cases t <;> first | rfl | exact absurd this Bool.false_ne_true

/-- The kernel at device `c`, from the launch's resources to the launch's. -/
theorem kernel_runs :
    iprop(Φ₀ m c ∗ owesR (F := F) c (O₀ c) ∗ ((c : Thread nD τ).loc cc0_stg0_0 ↦{fullShare} (env m).ids c)
        ∗ ((c : Thread nD τ).loc cc0_stg1_0 ↦{fullShare} (env m).sel c)
        ∗ (∃ f : Buf (Elt F) ((c : Thread nD τ).loc cc0_stg2_0), ((c : Thread nD τ).loc cc0_stg2_0) ↦{fullShare} f))
      ⊢ Runs c (onArgs (cc0_body (F := F))) fun _ => iprop(Φ₁ m c ∗ owesR (F := F) c 0 ∗ ((c : Thread nD τ).loc cc0_stg0_0 ↦{fullShare} (env m).ids c)
        ∗ ((c : Thread nD τ).loc cc0_stg1_0 ↦{fullShare} (env m).sel c) ∗ ((c : Thread nD τ).loc cc0_stg2_0 ↦{fullShare} outC (env m) c)) := by
  unfold Φ₀ Φ₁ Xk quiet
  have hl : iprop((owesR (F := F) c 0 ∗ bigSepL (σ 612) (res (env m) c)) ∗ (tabRest (env m) c ∗ ∃ r, prngReg c r))
      ⊢ iprop((scratch c ∗ tableAt m c ∗ (∃ r, prngReg c r)
          ∗ ((bigSepL l4 fun s => semVal ((c : Thread nD τ), .dma (rowSem s)) 0) ∗ bigSepL allCells fun x => semVal (cell c x) 0))
        ∗ owesR (F := F) c 0 ∗ ((c : Thread nD τ).loc cc0_stg0_0 ↦{fullShare} (env m).ids c)
        ∗ ((c : Thread nD τ).loc cc0_stg1_0 ↦{fullShare} (env m).sel c) ∗ ((c : Thread nD τ).loc cc0_stg2_0 ↦{fullShare} outC (env m) c)) := by
    iintro ⟨⟨HO, H⟩, Hr, Hp⟩
    ihave H := (leave (E := env m) c) $$ [H Hr]
    · isplitl [H] <;> iassumption
    icases H with ⟨Hs, Ht, Hi, Hse, Hou, Hq⟩
    unfold tableAt
    isplitl [Hs Ht Hp Hq]
    · isplitl [Hs]; · iexact Hs
      isplitl [Ht]; · iexact Ht
      isplitl [Hp] <;> iassumption
    isplitl [HO]; · iexact HO
    isplitl [Hi]; · iexact Hi
    isplitl [Hse] <;> iassumption
  have hf (Q : sProp 𝕄) (h : iprop((owesR (F := F) c 0 ∗ bigSepL (σ 612) (res (env m) c)) ∗ (tabRest (env m) c ∗ ∃ r, prngReg c r)) ⊢ Q) :
      iprop(Runs c (onArgs (cc0_body (F := F))) (fun _ => iprop(owesR (F := F) c 0 ∗ bigSepL (σ 612) (res (env m) c))) ∗ (tabRest (env m) c ∗ ∃ r, prngReg c r))
        ⊢ Runs c (onArgs (cc0_body (F := F))) fun _ => Q :=
    BI.Entails.trans (Idealize.SL.Sem.wp_frame_r _ _ _) (Idealize.SL.Sem.wp_mono _ _ _ fun _ => h)
  iintro ⟨⟨Hs, Ht, Hp, ⟨%K, Hctx, Hst⟩, Hri, Hcr, Hba⟩, HO, Hi, Hse, Hou⟩
  ihave H := (enter (E := env m) c) $$ [Hs Ht Hst Hri Hcr Hba Hi Hse Hou]
  · unfold tableAt
    isplitl [Hs]; · iexact Hs
    isplitl [Ht]; · iexact Ht
    isplitl [Hi]; · iexact Hi
    isplitl [Hse]; · iexact Hse
    isplitl [Hou]; · iexact Hou
    isplitl [Hri]; · iexact Hri
    isplitl [Hst]; · iexact Hst
    isplitl [Hcr] <;> iassumption
  icases H with ⟨H, Hr⟩
  have hb : St (env m) K c 0 ⊢ Runs c (onArgs (cc0_body (F := F))) fun _ => iprop(owesR (F := F) c 0 ∗ bigSepL (σ 612) (res (env m) c)) :=
    body_runs (E := env m) (K := K) (c := c) (by
      unfold St Have
      rw [owed_none c _ none_left]
      iintro ⟨-, HO, H⟩
      isplitl [HO] <;> iassumption)
  iapply (hf _ hl)
  isplitr [Hr Hp]
  · iapply hb
    unfold St Have
    isplitl [Hctx]; · iexact Hctx
    isplitl [HO]; · iexact HO
    iexact H
  · isplitl [Hr] <;> iassumption

end Cert.Emb

end
-- ==== Proof.Talk.lean ====
module

public import proofs.«01_k».proof.Proof.Region
public import proofs.«01_k».proof.Proof.Gen.KernelIdeal.Points

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves
open Idealize.ShloMosaic.Pipeline (Dat Seg HostSeg RegionSeg BodyObligation)

variable {F : FTy → Type} [FloatOps F]

local notation "𝕄" => MT nD τ sig Unit (Elt F) ℕ UU ℕ
variable (m : (ℓ : Loc nD τ sig) → Buf (Elt F) ℓ) (c : Dev nD)

/-! # The kernel as one item of the program -/

theorem windows (Φ : Fin cfg0.W → sProp 𝕄) : bigSep Finset.univ Φ = iprop(Φ (0 : Fin 3) ∗ Φ (1 : Fin 3) ∗ Φ (2 : Fin 3)) := bigSep_W0 Φ

/-- A window that is its whole array fetches the array. -/
theorem fetch_ids (dt : Dat τ (Elt F) Unit ℕ UU ℕ cfg0 c) (d) : dt.before (0 : Fin 3) t0_0 d = dt.A (0 : Fin 3) := by
  unfold Dat.before; rw [if_pos (fetch0_0 t0_0)]
  funext i
  show dt.A (0 : Fin 3) (((cfg0.win (0 : Fin 3)).blk t0_0).view.emb i) = dt.A (0 : Fin 3) i
  congr 1
  funext a; apply Fin.ext
  exact Pipeline.Window.rect_emb_val_of_index_zero (cfg0.win (0 : Fin 3)) t0_0 a (by fin_cases a; rfl) _
theorem fetch_sel (dt : Dat τ (Elt F) Unit ℕ UU ℕ cfg0 c) (d) : dt.before (1 : Fin 3) t0_0 d = dt.A (1 : Fin 3) := by
  unfold Dat.before; rw [if_pos (fetch0_1 t0_0)]
  funext i
  show dt.A (1 : Fin 3) (((cfg0.win (1 : Fin 3)).blk t0_0).view.emb i) = dt.A (1 : Fin 3) i
  congr 1
  funext a; apply Fin.ext
  exact Pipeline.Window.rect_emb_val_of_index_zero (cfg0.win (1 : Fin 3)) t0_0 a (by fin_cases a <;> rfl) _
theorem before_ids (d) : (dat m c).before (0 : Fin 3) t0_0 d = (env m).ids c := fetch_ids c (dat m c) d
theorem before_sel (d) : (dat m c).before (1 : Fin 3) t0_0 d = (env m).sel c := fetch_sel c (dat m c) d

theorem Φ_first : (dat m c).Φ t0_0.castSucc = Φ₀ m c := by
  show (if (t0_0.castSucc : Fin (cfg0.N + 1)).val = 0 then Φ₀ m c else Φ₁ m c) = _; exact if_pos rfl
theorem Φ_succ : (dat m c).Φ t0_0.succ = Φ₁ m c := by
  show (if (t0_0.succ : Fin (cfg0.N + 1)).val = 0 then Φ₀ m c else Φ₁ m c) = _; exact if_neg (Nat.succ_ne_zero _)
theorem Φ_zero : (dat m c).Φ 0 = Φ₀ m c := by
  show (if (0 : Fin (cfg0.N + 1)).val = 0 then Φ₀ m c else Φ₁ m c) = _; exact if_pos rfl
theorem Φ_last : (dat m c).Φ (Fin.last _) = Φ₁ m c := by
  show (if (Fin.last cfg0.N).val = 0 then Φ₀ m c else Φ₁ m c) = _
  rw [Fin.val_last, if_neg (by rw [show cfg0.N = 1 from N_0]; decide)]

theorem body_prog : defs₀ (F := F) Proc.tc cfg0.body (cfg0.bodyArgs t0_0 (cfg0.slots t0_0)) = onArgs (cc0_body (F := F)) := by
  unfold onArgs
  rfl

theorem after_ids : (dat m c).after (0 : Fin 3) t0_0 = (env m).ids c := rfl
theorem after_sel : (dat m c).after (1 : Fin 3) t0_0 = (env m).sel c := rfl
theorem after_out : (dat m c).after (2 : Fin 3) t0_0 = outC (env m) c := rfl
theorem owns_whole (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem kernel_then (p : Prog (TpuEff nD τ sig (Elt F) Λ₀ .tc) PUnit) (hp : p = onArgs (cc0_body (F := F))) (Q : PUnit → sProp 𝕄)
    (h : iprop(Φ₁ m c ∗ owesR (F := F) c 0 ∗ ((c : Thread nD τ).loc cc0_stg0_0 ↦{fullShare} (env m).ids c)
        ∗ ((c : Thread nD τ).loc cc0_stg1_0 ↦{fullShare} (env m).sel c) ∗ ((c : Thread nD τ).loc cc0_stg2_0 ↦{fullShare} outC (env m) c)) ⊢ Q ⟨⟩) :
    iprop(Φ₀ m c ∗ owesR (F := F) c (O₀ c) ∗ ((c : Thread nD τ).loc cc0_stg0_0 ↦{fullShare} (env m).ids c)
        ∗ ((c : Thread nD τ).loc cc0_stg1_0 ↦{fullShare} (env m).sel c)
        ∗ (∃ f : Buf (Elt F) ((c : Thread nD τ).loc cc0_stg2_0), ((c : Thread nD τ).loc cc0_stg2_0) ↦{fullShare} f))
      ⊢ wp frame (wpE (defs₀ (F := F)) 𝒱₀ (c : Thread nD τ) none) Set.univ p Q := by
  have hk := kernel_runs m c
  rw [← hp] at hk
  clear hp
  exact BI.Entails.trans hk (Idealize.SL.Sem.wp_mono _ _ _ fun _ => h)

/-- The kernel meets its pipeline's demand. -/
theorem body (c : Dev nD) : BodyObligation (dat m c) (defs₀ (F := F)) 𝒱₀ () Set.univ := fun t => by
  obtain rfl := fin_N0 t
  rw [windows, windows, Φ_first, Φ_succ]
  have hp := body_prog (F := F)
  generalize defs₀ (F := F) Proc.tc cfg0.body (cfg0.bodyArgs t0_0 (cfg0.slots t0_0)) = p at hp ⊢
  simp only [before_ids, before_sel]
  rw [after_ids, after_sel, after_out, show stage0_0 0 = Memref.whole cc0_stg0_0 from rfl,
    show stage0_1 0 = Memref.whole cc0_stg1_0 from rfl, show stage0_2 0 = Memref.whole cc0_stg2_0 from rfl]
  generalize (dat m c).before (2 : Fin 3) t0_0 = bf
  refine BI.Entails.trans ?_ (kernel_then m c p hp _ ?_)
  · simp only [owns_whole]
    show (_ : sProp 𝕄) ⊢ _
    iintro ⟨HΦ, HO, ⟨%d0, %f0, %h0, Hi⟩, ⟨%d1, %f1, %h1, Hs⟩, ⟨%d2, %f2, -, Ho⟩⟩
    subst h0; subst h1
    isplitl [HΦ]; · iexact HΦ
    isplitl [HO]; · iapply (owes_get m c _ (owed_first m c)); iexact HO
    isplitl [Hi]; · iexact Hi
    isplitl [Hs]; · iexact Hs
    iexists f2; iexact Ho
  · simp only [owns_whole]
    iintro ⟨HΦ, HO, Hi, Hs, Ho⟩
    isplitl [HΦ]; · iexact HΦ
    isplitl [HO]; · iapply (owes_put m c _ (owed_succ m c)); iexact HO
    isplitl [Hi]
    · iexists (env m).ids c; isplitr; · ipureintro; rfl
      iexact Hi
    isplitl [Hs]
    · iexists (env m).sel c; isplitr; · ipureintro; rfl
      iexact Hs
    iexists outC (env m) c; isplitr; · ipureintro; rfl
    iexact Ho

end Cert.Emb

end
-- ==== Proof.Item.lean ====
module

public import proofs.«01_k».proof.Proof.Talk
public import Idealize.ShloMosaic.Lib.Pipeline.ValueKit.Geometry

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves
open Idealize.ShloMosaic.Pipeline (Dat Seg HostSeg RegionSeg BodyObligation)

variable {F : FTy → Type} [FloatOps F]

local notation "𝕄" => MT nD τ sig Unit (Elt F) ℕ UU ℕ
variable (m : (ℓ : Loc nD τ sig) → Buf (Elt F) ℓ) (c : Dev nD)

/-! # The kernel's record: what it takes from the program and gives back -/

/-- The one buffer the kernel uses besides its windows: the table. -/
abbrev Hs : Finset (DevRef τ sig) := {Proc.devRef .tc main_arg1}
abbrev arrs : Finset (DevRef τ sig) := Pipeline.arrRefs (τ := τ) spec0
abbrev Sr : Finset (DevRef τ sig) := Pipeline.ucRefs τ sig \ arrs

theorem arrs_eq : arrs = {Proc.devRef .tc main_v28, Proc.devRef .tc main_v31, Proc.devRef .tc main_v32} := by decide
theorem uc_of (r : Ref sig .tc) (h : ¬(Proc.devRef (τ := τ) .tc r).isScoped = true) : Proc.devRef .tc r ∈ Pipeline.ucRefs τ sig :=
  Finset.mem_filter.mpr ⟨StableHlo.devRef_mem_tcRefs r, h⟩
theorem arrs_sub : arrs ⊆ Pipeline.ucRefs τ sig := by
  rw [arrs_eq]
  intro b hb
  rcases Finset.mem_insert.mp hb with rfl | hb
  · exact uc_of _ (by decide)
  rcases Finset.mem_insert.mp hb with rfl | hb
  · exact uc_of _ (by decide)
  · obtain rfl := Finset.mem_singleton.mp hb
    exact uc_of _ (by decide)
theorem Hs_sub : Hs ⊆ Sr := by
  intro b hb
  obtain rfl := Finset.mem_singleton.mp hb
  exact Finset.mem_sdiff.mpr ⟨uc_of _ (by decide), by rw [arrs_eq]; decide⟩

theorem W₁_of (b : DevRef τ sig) (h : b ≠ Proc.devRef .tc main_v32) : W₁ m c b = V3 m c b := Function.update_of_ne h _ _
theorem W₁_out : W₁ m c (Proc.devRef .tc main_v32) = outC (env m) c := Function.update_self _ _ _

theorem rest_same (b : DevRef τ sig) (h : b ∈ Sr \ Hs) : W₁ m c b = V3 m c b := W₁_of m c b (by
  rintro rfl
  have := (Finset.mem_sdiff.mp (Finset.mem_sdiff.mp h).1).2
  rw [arrs_eq] at this
  exact this (by decide))

theorem held_table (V : Valuation τ sig (Elt F)) :
    (StableHlo.held (c.tc : Thread nD τ) Hs V : sProp 𝕄) = iprop((c : Thread nD τ).loc main_arg1 ↦{fullShare} V (Proc.devRef .tc main_arg1)) :=
  bigSep_singleton

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut_owed (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · exact above_owed (b := 0) c (l := init) (by decide +kernel) g i h
  · exact absurd h (Nat.lt_irrefl 0)

theorem slots_all (E : Env F) (c : Dev nD) : (Pipeline.scopedRest (Ix := Unit) (Name := ℕ) (U := UU) (Lvl := ℕ) (Val := Elt F) spec0 c : sProp 𝕄) = scratch c := by
  rw [scopedRest0_eq]
  unfold scratch
  rw [← buf_slots E]

theorem Φ_in : iprop(Pipeline.scopedRest spec0 c ∗ (∃ r, prngReg c r) ∗ StableHlo.held (c.tc : Thread nD τ) Hs (V3 m c) ∗ Xk (env m) c)
    ⊢ ((dat m c).Φ 0 : sProp 𝕄) := by
  rw [Φ_zero, slots_all (env m), held_table]
  unfold Φ₀ tableAt
  rw [V3_of m c main_arg1 (by decide), V2_of m c main_arg1 (by decide), V1_of m c main_arg1 (by decide)]
  iintro ⟨Hs, Hp, Ht, HX⟩
  isplitl [Hs]; · iexact Hs
  isplitl [Ht]; · iexact Ht
  isplitl [Hp] <;> iassumption

theorem cells_split (c : Dev nD) : (bigSepL allCells fun x => semVal (cell c x) 0 : sProp 𝕄)
    = iprop(semVal (cell c .bar) 0 ∗ (bigSepL order fun j => semVal (cell c (.send j)) 0) ∗ (bigSepL order fun j => semVal (cell c (.recv j)) 0)) := by
  unfold allCells
  rw [bigSepL_cons', bigSepL_append, bigSepL_map', bigSepL_map']

theorem Φ_out : ((dat m c).Φ (Fin.last cfg0.N) : sProp 𝕄)
    ⊢ iprop(Pipeline.scopedRest spec0 c ∗ (∃ r, prngReg c r) ∗ StableHlo.held (c.tc : Thread nD τ) Hs (W₁ m c)
      ∗ Pipeline.ownSems0 osem c ∗ Yk F c) := by
  rw [Φ_last, slots_all (env m), held_table, own_sems]
  unfold Φ₁ tableAt quiet Yk
  rw [W₁_of m c _ (by decide), V3_of m c main_arg1 (by decide), V2_of m c main_arg1 (by decide), V1_of m c main_arg1 (by decide)]
  rw [cells_split]
  iintro ⟨Hs, Ht, Hp, Hr, Hb, Hse, Hrc⟩
  isplitl [Hs]; · iexact Hs
  isplitl [Hp]; · iexact Hp
  isplitl [Ht]; · iexact Ht
  isplitr [Hb]
  · isplitl [Hr]; · iexact Hr
    isplitl [Hse] <;> iassumption
  iexact Hb

theorem share_whole (w) : (dat m c).share w = fullShare := by unfold Dat.share; split <;> rfl

theorem arr_end (w : Fin 3) : (dat m c).arrAt w cfg0.N = W₁ m c (Proc.devRef .tc (Pipeline.arrRef spec0 w)) := by
  match w with
  | 0 => exact ((dat m c).arrAt_in (0 : Fin 3) rfl _).trans (W₁_of m c (Proc.devRef .tc main_v28) (by decide)).symm
  | 1 => exact ((dat m c).arrAt_in (1 : Fin 3) rfl _).trans (W₁_of m c (Proc.devRef .tc main_v31) (by decide)).symm
  | 2 =>
    refine (Pipeline.Dat.arrAt_eq_of_after_last (dat m c) (2 : Fin 3) t0_0 (by decide +kernel) (outC (env m) c) ?_).trans (W₁_out m c).symm
    intro j
    rw [after_out]
    rfl

abbrev E₀ (c : Dev nD) : sProp 𝕄 := iprop((∃ r, prngReg c r) ∗ Tk (env m) c ∗ owesR c (O₀ c))
abbrev E₁ (c : Dev nD) : sProp (MT nD τ sig Unit (Elt F) ℕ UU ℕ) := iprop(Yk F c ∗ owesR c 0)

theorem staging_low : ∀ (w : Fin 3) (s : Fin (spec0 w).nbuf), levelOf (classify (SemLoc.dma ((spec0 w).sem s))) ≤ 0 := by decide +kernel
theorem own_facts : Pipeline.OwnSemFacts spec0 osem := by decide +kernel

set_option backward.isDefEq.respectTransparency.types false in
/-- The kernel as an item of the program. -/
def item : RegionSeg (pcfgs (F := F)) adm (pdats m) () defs₀ 𝒱₀ L lv 0 :=
  Pipeline.RegionSeg.ofTalk (pcfgs (F := F)) adm (pdats m) () defs₀ 𝒱₀ L lv 0 osem own_facts Hs Sr Hs_sub kit rfl
    (fun c => (body m c).loose) (fun _ => 0) O₀ (fun c => (owed_zero m c).trans (zero_add _).symm) (owed_last m) (fun _ => rfl)
    (fun c w => share_whole m c w) (V3 m) (W₁ m) (rest_same m) (Tk (env m)) (Yk F) (Xk (env m)) (Yk F)
    (fun c => opening c) (Φ_in m) (Φ_out m) (fun c => by iintro H; imodintro; iexact H) (fun _ => 0)
    ⟨fun c w s => by rw [L_tc]; exact Finset.mem_singleton_self _, fun _ w s => staging_low w s, fun c t g i h => cut_owed m c t g i h⟩
    (fun _ => iprop(emp)) (fun _ _ => rfl) (fun c w => arr_end m c w)

theorem into : iprop(StableHlo.held (c : Thread nD τ) (Pipeline.ucRefs τ sig) (V3 m c) ∗ E₀ m c) ⊢ (item m).pre c := by
  show _ ⊢ iprop(StableHlo.held (c.tc : Thread nD τ) arrs (V3 m c) ∗ (∃ r, prngReg c r)
    ∗ (StableHlo.held (c.tc : Thread nD τ) Sr (V3 m c) ∗ emp) ∗ Tk (env m) c ∗ ∃ Wd, owes (c : Thread nD τ) (0 + O₀ c) Wd)
  rw [StableHlo.held_sub_split (c.tc : Thread nD τ) arrs_sub (V3 m c), zero_add]
  unfold E₀ owesR
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem outof : (item m).post c ⊢ iprop(StableHlo.held (c : Thread nD τ) (Pipeline.ucRefs τ sig) (W₁ m c) ∗ E₁ c) := by
  show iprop(StableHlo.held (c.tc : Thread nD τ) arrs (W₁ m c) ∗ (∃ r, prngReg c r)
    ∗ (StableHlo.held (c.tc : Thread nD τ) Sr (W₁ m c) ∗ emp) ∗ Yk F c ∗ ∃ Wd, owes (c : Thread nD τ) (0 : CellTallies nD τ sig Unit) Wd) ⊢ _
  rw [StableHlo.held_sub_split (c.tc : Thread nD τ) arrs_sub (W₁ m c)]
  unfold E₁ owesR
  iintro ⟨Ha, -, ⟨Hr, -⟩, HY, HO⟩
  isplitl [Ha Hr]; · isplitl [Ha] <;> iassumption
  isplitl [HY] <;> iassumption

end Cert.Emb

end
-- ==== Proof.Deal.lean ====
module

public import proofs.«01_k».proof.Proof.Item

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

local notation "𝕄" => MT nD τ sig Unit (Elt F) ℕ UU ℕ
variable (m : (ℓ : Loc nD τ sig) → Buf (Elt F) ℓ)

/-! # The protocol's state at the start, dealt to the devices -/

/-- The cell of a kernel semaphore. -/
def xfer : J ⊕ J → Cell
  | .inl j => .send j
  | .inr j => .recv j
theorem xfer_inj : Function.Injective xfer := by decide +kernel
/-- The cell a right is about, and the duty. -/
def dutyOf : Fin 3 ⊕ (J ⊕ J) → Cell × Fin 3
  | .inl k => (.bar, k)
  | .inr x => (xfer x, 0)
theorem dutyOf_inj : Function.Injective dutyOf := by decide +kernel

theorem cell_inj {c d : Dev nD} {x y : Cell} (h : cell c x = cell d y) : c = d ∧ x = y :=
  ⟨congrArg (fun g : GSem nD τ sig => g.1.1) h, semOf_inj (congrArg Prod.snd h)⟩

def barEmb : Dev nD ↪ GSem nD τ sig := ⟨fun c => cell c .bar, fun _ _ h => (cell_inj h).1⟩
def xferEmb : Dev nD × (J ⊕ J) ↪ GSem nD τ sig :=
  ⟨fun p => cell p.1 (xfer p.2), fun _ _ h => Prod.ext (cell_inj h).1 (xfer_inj (cell_inj h).2)⟩
def dutyEmb : Dev nD × (Fin 3 ⊕ (J ⊕ J)) ↪ GSem nD τ sig × ℕ × Fin 3 :=
  ⟨fun p => (cell p.1 (dutyOf p.2).1, 0, (dutyOf p.2).2), fun p q h => by
    have h1 := cell_inj (congrArg Prod.fst h)
    have h2 : (dutyOf p.2).2 = (dutyOf q.2).2 := congrArg (fun t : GSem nD τ sig × ℕ × Fin 3 => t.2.2) h
    exact Prod.ext h1.1 (dutyOf_inj (Prod.ext h1.2 h2))⟩

abbrev barCells : Finset (GSem nD τ sig) := Finset.univ.map barEmb
abbrev xferCells : Finset (GSem nD τ sig) := Finset.univ.map xferEmb
abbrev dutyToks : Finset (GSem nD τ sig × ℕ × Fin 3) := Finset.univ.map dutyEmb

theorem bar_ne_xfer : ∀ x, xfer x ≠ .bar := by decide +kernel
theorem cells_disjoint : Disjoint barCells xferCells := by
  rw [Finset.disjoint_left]
  rintro g h₁ h₂
  obtain ⟨c, -, rfl⟩ := Finset.mem_map.mp h₁
  obtain ⟨p, -, h⟩ := Finset.mem_map.mp h₂
  exact bar_ne_xfer p.2 (cell_inj h).2

theorem cell_mem (c : Dev nD) : ∀ x, cell c x ∈ barCells ∪ xferCells
  | .bar => Finset.mem_union_left _ (Finset.mem_map_of_mem barEmb (Finset.mem_univ c))
  | .send j => Finset.mem_union_right _ (Finset.mem_map_of_mem xferEmb (Finset.mem_univ ((c, Sum.inl j) : Dev nD × (J ⊕ J))))
  | .recv j => Finset.mem_union_right _ (Finset.mem_map_of_mem xferEmb (Finset.mem_univ ((c, Sum.inr j) : Dev nD × (J ⊕ J))))

variable (E : Env F) in
/-- What every device may consult. -/
def records (κ : GSem nD τ sig → ℕ) : sProp 𝕄 :=
  iprop((bigSep (barCells ∪ xferCells) fun g => cellInv ER (Rd E) (κ g) g) ∗ bigSep barCells fun g => reached ER g 0)
instance (E : Env F) (κ : GSem nD τ sig → ℕ) : BI.Persistent (records E κ) := by unfold records; infer_instance

theorem record_at (E : Env F) (κ : GSem nD τ sig → ℕ) (c : Dev nD) (x : Cell) :
    iprop((bigSep (barCells ∪ xferCells) fun g => (cellInv ER (Rd E) (κ g) g : sProp 𝕄)) ∗ emp) ⊢ cellInv ER (Rd E) (κ (cell c x)) (cell c x) := by
  iintro ⟨H, -⟩
  iapply (show (bigSep (barCells ∪ xferCells) fun g => (cellInv ER (Rd E) (κ g) g : sProp 𝕄)) ⊢ cellInv ER (Rd E) (κ (cell c x)) (cell c x)
    from bigSep_elim (cell_mem c x))
  iexact H

theorem records_known (E : Env F) (κ : GSem nD τ sig → ℕ) : records E κ ⊢ known E κ := by
  unfold records known
  iintro ⟨#HI, HR⟩
  isplitl []
  · iapply (bigSep_with_persistent (R := bigSep (barCells ∪ xferCells) fun g => (cellInv ER (Rd E) (κ g) g : sProp 𝕄)) (Φ := fun _ => iprop(emp))
      (S := (Finset.univ : Finset (Dev nD × Fin allCells.length)))
      (Ψ := fun p : Dev nD × Fin allCells.length => cellInv ER (Rd E) (κ (cell p.1 (allCells.get p.2))) (cell p.1 (allCells.get p.2)))
      fun p _ => record_at E κ p.1 (allCells.get p.2))
    isplitr; · iexact HI
    iapply (show (BI.emp : sProp 𝕄) ⊢ bigSep Finset.univ (fun _ : Dev nD × Fin allCells.length => iprop(emp)) from Entails.of_eq (BI.bigSep_emp_const _).symm)
    iempintro
  · iapply (Entails.of_eq (bigSep_map (s := Finset.univ) barEmb (Φ := fun g : GSem nD τ sig => (reached ER g 0 : sProp 𝕄))))
    iexact HR

/-- What stays with device `c`. -/
def mine (F : FTy → Type) [FloatOps F] (c : Dev nD) : sProp (MT nD τ sig Unit (Elt F) ℕ UU ℕ) :=
  iprop(atPos ER (cell c .bar) 0 ∅ 0 ∗ (bigSepL order fun j => iprop(openTok ER (cell c (.send j)) ∗ openTok ER (cell c (.recv j)))) ∗ rights c)

theorem shut_intro (E : Env F) (κ : GSem nD τ sig → ℕ) (c : Dev nD) : iprop(records E κ ∗ mine F c) ⊢ iprop(∃ K, shut E K c) := by
  unfold mine shut
  iintro ⟨HR, H⟩
  ihave HR := (records_known E κ) $$ HR
  iexists κ
  isplitl [HR] <;> iassumption

theorem deal_open : (bigSep xferCells (fun g => (openTok ER g : sProp 𝕄)))
    = bigSep Finset.univ fun c : Dev nD => bigSepL order fun j => iprop(openTok ER (cell c (.send j)) ∗ openTok ER (cell c (.recv j))) := by
  rw [BI.bigSep_map, bigSep_univ_prod]
  refine bigSep_congr fun c _ => ?_
  rw [bigSep_univ_sum, over_J, over_J, bigSepL_sep']
  rfl

/-- From the device that discharges a right to the cell the right is about. -/
def hand : Dev nD × (Fin 3 ⊕ (J ⊕ J)) ≃ Dev nD × (Fin 3 ⊕ (J ⊕ J)) where
  toFun
    | (c, .inl k) => (peer c k, .inl (opp k))
    | (c, .inr (.inl j)) => (c, .inr (.inl j))
    | (c, .inr (.inr j)) => (peer c (dir j), .inr (.inr j))
  invFun
    | (c, .inl k) => (peer c k, .inl (opp k))
    | (c, .inr (.inl j)) => (c, .inr (.inl j))
    | (c, .inr (.inr j)) => (peer c (opp (dir j)), .inr (.inr j))
  left_inv
    | (c, .inl k) => by show (peer (peer c k) (opp k), Sum.inl (opp (opp k))) = (c, Sum.inl k); rw [peer_opp, opp_opp]
    | (c, .inr (.inl j)) => rfl
    | (c, .inr (.inr j)) => by show (peer (peer c (dir j)) (opp (dir j)), _) = _; rw [peer_opp]
  right_inv
    | (c, .inl k) => by show (peer (peer c k) (opp k), Sum.inl (opp (opp k))) = (c, Sum.inl k); rw [peer_opp, opp_opp]
    | (c, .inr (.inl j)) => rfl
    | (c, .inr (.inr j)) => by show (peer (peer c (opp (dir j))) (dir j), _) = _; rw [peer_opp']

/-- Every right goes to the device that discharges it. -/
theorem deal_rights : (bigSep dutyToks (fun x => (dutyTok ER x.1 x.2.1 x.2.2 : sProp 𝕄)))
    = bigSep Finset.univ fun c : Dev nD => (rights c : sProp 𝕄) := by
  rw [BI.bigSep_map, bigSep_univ_equiv hand, bigSep_univ_prod]
  refine bigSep_congr fun c _ => ?_
  rw [bigSep_univ_sum, bigSep_univ_sum, over_J, over_J, bigSep_eq_bigSepL_of_eq ([0, 1, 2] : List (Fin 3)) (by decide) (by decide)]
  unfold rights
  rw [bigSepL_sep']
  rfl

end Cert.Emb

end
-- ==== Proof.Credit.lean ====
module

public import proofs.«01_k».proof.Proof.Deal

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves
open Idealize.ShloMosaic.Pipeline (Dat Seg HostSeg RegionSeg BodyObligation)

variable {F : FTy → Type} [FloatOps F]

local notation "𝕄" => MT nD τ sig Unit (Elt F) ℕ UU ℕ
/-! # What the launch lets each device wait for -/

theorem tally_around (k : Fin 3) (x y : Cell) (n : ℕ) (c : Dev nD) :
    (∑ d : Dev nD, (tallyAt (cell (peer d k) x) () n : CellTallies nD τ sig Unit) (cell c y) ()) = if x = y then n else 0 := by
  by_cases h : x = y
  · subst h
    rw [if_pos rfl, Fintype.sum_equiv (around k) (fun d => (tallyAt (cell (peer d k) x) () n : CellTallies nD τ sig Unit) (cell c x) ()) (fun d => (tallyAt (cell d x) () n : CellTallies nD τ sig Unit) (cell c x) ()) (fun d => rfl),
      Finset.sum_eq_single c, tallyAt_apply, if_pos ⟨rfl, rfl⟩]
    · intro d _ hd
      rw [tallyAt_apply, if_neg fun h => hd (cell_inj h.1).1.symm]
    · exact fun h => absurd (Finset.mem_univ c) h
  · rw [if_neg h]
    refine Finset.sum_eq_zero fun d _ => ?_
    rw [tallyAt_apply, if_neg fun e => h (cell_inj e.1).2.symm]

/-- What one token of every device puts on a cell of kind `x`. -/
def puts (x : Cell) : Tok → ℕ
  | .sg _ => if x = .bar then 1 else 0
  | .snd j => if x = .recv j then N else 0
  | _ => 0

theorem sum_owe (c : Dev nD) (x : Cell) (t : Tok) : (∑ d : Dev nD, owe d t (cell c x) ()) = puts x t := by
  cases t with
  | sg k => exact (tally_around k .bar x 1 c).trans (if_congr eq_comm rfl rfl)
  | snd j => exact (tally_around (dir j) (.recv j) x N c).trans (if_congr eq_comm rfl rfl)
  | _ => exact Finset.sum_eq_zero fun d _ => rfl

theorem sum_owed (c : Dev nD) (x : Cell) (l : List Tok) : (∑ d : Dev nD, owed d l (cell c x) ()) = (l.map (puts x)).sum := by
  induction l with
  | nil => exact Finset.sum_eq_zero fun d _ => rfl
  | cons t l ih =>
    rw [List.map_cons, List.sum_cons, ← ih, ← sum_owe c x t, ← Finset.sum_add_distrib]
    exact Finset.sum_congr rfl fun d _ => by rw [owed_cons]; rfl

theorem puts_bar : (init.map (puts .bar)).sum = 3 := by decide +kernel
theorem puts_recv (j : J) : (init.map (puts (.recv j))).sum = N := by
  revert j; decide +kernel

theorem launch_at (c : Dev nD) (x : Cell) (n : ℕ) (h : (init.map (puts x)).sum = n) :
    tallyOn (cell c x) (launchCredit (Pipeline.owing O₀) 0 (cell c x)) = (tallyAt (cell c x) () n : CellTallies nD τ sig Unit) := by
  unfold tallyAt; refine congrArg _ (Finsupp.ext fun u => ?_); cases u
  rw [Pipeline.launchCredit_owing, Finsupp.single_eq_same, ← h, ← sum_owed c x init]

/-- The cells a device is given credit for. -/
def paid : List (SemLoc sig) := semOf .bar :: order.map fun j => semOf (.recv j)
theorem paid_nodup : paid.Nodup := by
  have h : paid = (Cell.bar :: order.map Cell.recv).map semOf := by unfold paid; rw [List.map_cons, List.map_map]; rfl
  rw [h]
  exact List.Nodup.map (fun _ _ => semOf_inj) (by decide +kernel)

theorem creds (c : Dev nD) : (Pipeline.launchCred O₀ c : sProp 𝕄) ⊢ credits c := by
  unfold Pipeline.launchCred credits
  refine (bigSep_subset (Finset.subset_univ paid.toFinset)).trans ?_
  rw [bigSep_eq_bigSepL_of_eq paid rfl paid_nodup]
  unfold paid
  rw [bigSepL_cons', bigSepL_map']
  refine Entails.of_eq (PROP := sProp 𝕄) ?_
  refine congrArg₂ (fun a b : sProp 𝕄 => iprop(a ∗ b)) (congrArg cred (launch_at c .bar 3 puts_bar)) (bigSepL_congr' fun j _ => congrArg cred (launch_at c (.recv j) N (puts_recv j)))

end Cert.Emb

end
-- ==== Proof.Run.lean ====
module

public import proofs.«01_k».proof.Proof.Item
public import proofs.«01_k».proof.Proof.Credit

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves
open Idealize.ShloMosaic.Pipeline (Dat Seg HostSeg RegionSeg BodyObligation)

variable {F : FTy → Type} [FloatOps F]

local notation "𝕄" => MT nD τ sig Unit (Elt F) ℕ UU ℕ
/-! # The run -/

theorem unscopedSems0_eq (c : Dev nD) : (unscopedSems0 c : sProp 𝕄) = semVal (cell c .bar) 0 := by
  unfold unscopedSems0
  rw [show (Finset.univ.filter fun sm : SemLoc sig => ¬ sm.isScoped .tc) = {semOf .bar} from by decide, BI.bigSep_singleton]

theorem unscoped_eq : ∀ sm : SemLoc sig, sm.isScoped .tc = false → sm = semOf .bar := by decide

/-- The pipeline's state. -/
abbrev EP : Emb (UR sig nD τ) (MT nD τ sig Unit (Elt F) ℕ UU ℕ) := embL

/-- All the state the launch allocates. -/
def u₀ : UU :=
  (initOf (Pipeline.cells (Pipeline.pin (pcfgs (F := F)) adm) cellOf_inj) (Pipeline.launchToks (Pipeline.pin (pcfgs (F := F)) adm) cellOf_inj),
    (launchOf barCells xferCells dutyToks, 1))

theorem split_u (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The protocol's state, parked on the first device. -/
def G (c : Dev nD) : sProp (MT nD τ sig Unit (Elt F) ℕ UU ℕ) :=
  if c = 0 then BI.own (ER (launchOf barCells xferCells dutyToks)) else iprop(emp)
theorem all_G : bigSep Finset.univ (G (F := F)) = BI.own (ER (launchOf barCells xferCells dutyToks)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

section
variable (m : (ℓ : Loc nD τ sig) → Buf (Elt F) ℓ) (ρ : Dev nD → PrngReg)

/-- What a device carries beside its buffers before and after the kernel. -/
def EE : Fin 2 → Dev nD → sProp (MT nD τ sig Unit (Elt F) ℕ UU ℕ)
  | 0 => E₀ m
  | 1 => E₁

abbrev T₀ (c : Dev nD) : sProp (MT nD τ sig Unit (Elt F) ℕ UU ℕ) := iprop(StableHlo.held (c : Thread nD τ) (Pipeline.ucRefs τ sig) (V0 m c) ∗ EE m 0 c)
abbrev Tₙ (c : Dev nD) : sProp (MT nD τ sig Unit (Elt F) ℕ UU ℕ) := iprop(StableHlo.held (c : Thread nD τ) (Pipeline.ucRefs τ sig) (W₁ m c) ∗ semVal (cell c .bar) 0)

/-- What a device holds at launch that is not the protocol's. -/
def bundle (c : Dev nD) : sProp (MT nD τ sig Unit (Elt F) ℕ UU ℕ) :=
  iprop(StableHlo.held (c : Thread nD τ) (Pipeline.ucRefs τ sig) (V0 m c) ∗ credits c ∗ owes (c : Thread nD τ) (O₀ c) ∅ ∗ ∃ r, prngReg c r)

theorem T₀_intro (κ : GSem nD τ sig → ℕ) (c : Dev nD) : iprop(records (env m) κ ∗ (mine F c ∗ bundle m c)) ⊢ T₀ m c := by
  show _ ⊢ iprop(StableHlo.held (c : Thread nD τ) (Pipeline.ucRefs τ sig) (V0 m c) ∗ E₀ m c)
  unfold bundle E₀ Tk owesR
  iintro ⟨HR, Hl, Hh, Hc, HO, Hp⟩
  isplitl [Hh]; · iexact Hh
  isplitl [Hp]; · iexact Hp
  isplitr [HO]
  · isplitr [Hc]
    · iapply (shut_intro (env m) κ c)
      isplitl [HR] <;> iassumption
    · iexact Hc
  · iexists ∅; iexact HO

theorem at_launch (c : Dev nD) :
    iprop(unscopedBufs c (fun b => m ((c : Thread nD τ).loc b)) ∗ unscopedSems0 c ∗ owes (c : Thread nD τ) (O₀ c) ∅
        ∗ Pipeline.launchCred O₀ c ∗ prngReg c (ρ c) ∗ G c)
      ⊢ (iprop(bundle m c ∗ (semVal (cell c .bar) 0 ∗ G c)) : sProp 𝕄) := by
  rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscopedSems0_eq]
  unfold bundle
  iintro ⟨Hh, Hus, HO, Hcr, Hp, HG⟩
  ihave Hc := (creds (F := F) c) $$ Hcr
  isplitr [Hus HG]
  · isplitl [Hh]; · iexact Hh
    isplitl [Hc]; · iexact Hc
    isplitl [HO]; · iexact HO
    iexists (ρ c); iexact Hp
  isplitl [Hus] <;> iassumption

theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cell c .bar) 0 ∗ G c)) : sProp 𝕄) from bigSep_mono fun c _ => at_launch m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells xferCells dutyToks)) from Entails.of_eq all_G) $$ HG
  imod (Rounds.fund_launch ER (Rd (env m)) cells_disjoint (fun g _ h => h) dutyToks) $$ [Hv Hu] with ⟨%κ, -, #Hinv, #Hr, Hat, Hopen, Htok⟩
  · isplitl [Hv]
    · iapply hv $$ Hv
    · iexact Hu
  imodintro
  iapply (bigSep_with_persistent (R := records (env m) κ) (Φ := fun c => iprop(mine F c ∗ bundle m c)) fun c _ => T₀_intro m κ c)
  isplitr
  · unfold records
    isplitr; · iexact Hinv
    iexact Hr
  iapply (Entails.of_eq (bigSep_sep' _ _ _).symm)
  isplitr [HB]
  · unfold mine
    iapply (Entails.of_eq (bigSep_sep' _ _ _).symm); isplitl [Hat]; · iapply hat $$ Hat
    iapply (Entails.of_eq (bigSep_sep' _ _ _).symm); isplitl [Hopen]; · iapply (Entails.of_eq (deal_open (F := F))) $$ Hopen
    iapply (Entails.of_eq (deal_rights (F := F))) $$ Htok
  · iexact HB

theorem last_arg0 (c : Dev nD) : W₁ m c (Proc.devRef .tc main_arg0) = m ((c : Thread nD τ).loc main_arg0) := by
  rw [W₁_of m c _ (by decide), V3_of m c main_arg0 (by decide), V2_of m c main_arg0 (by decide), V1_of m c main_arg0 (by decide)]
theorem last_arg1 (c : Dev nD) : W₁ m c (Proc.devRef .tc main_arg1) = m ((c : Thread nD τ).loc main_arg1) := by
  rw [W₁_of m c _ (by decide), V3_of m c main_arg1 (by decide), V2_of m c main_arg1 (by decide), V1_of m c main_arg1 (by decide)]

/-- What device `c` leaves. -/
def Left (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v32) = outC (env m) c) ∧ s.sem (cell c .bar) = 0

theorem left_of (c : Dev nD) (s' : Phys nD τ sig (Elt F)) : (iprop(Tₙ m c ∗ SI s') : sProp 𝕄) ⊢ |={Set.univ}=> iprop(⌜Left m c s'.mem⌝ ∗ SI s') := by
  unfold Tₙ StableHlo.held
  iintro ⟨⟨Hh, Hb⟩, HSI⟩
  icombine HSI Hb gives %hb
  ihave Hr := (pointsTo_read_all (Pipeline.ucRefs τ sig) (fun b => ((c : Thread nD τ).1, b)) (W₁ m c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (last_arg0 m c),
      (h (Proc.devRef .tc main_arg1) (Finset.mem_filter.mpr ⟨StableHlo.devRef_mem_tcRefs main_arg1, by decide⟩)).trans (last_arg1 m c),
      (h (Proc.devRef .tc main_v32) (Finset.mem_filter.mpr ⟨StableHlo.devRef_mem_tcRefs main_v32, by decide⟩)).trans (W₁_out m c)⟩, by simpa using hb⟩
  · iexact HSI

theorem last_step (c : Dev nD) : (item m).post c ⊢ iprop(Tₙ m c ∗ ∃ W, owes (c : Thread nD τ) (0 : CellTallies nD τ sig Unit) W) := by
  refine (outof m c).trans ?_
  unfold E₁ Yk owesR
  iintro ⟨Hh, Hb, HO⟩
  isplitr [HO]
  · isplitl [Hh] <;> iassumption
  · iexact HO

set_option backward.isDefEq.respectTransparency.types false in
/-- The whole program, on any memory: it ends, its arguments as they were, every counter at zero, device `c`'s result `outC`. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v32) = outC (env m) c) ∧ r.2.sem = fun _ => 0) :=
  Pipeline.θ_run_regions_kit_dev_sems (pcfgs (F := F)) adm (pdats m) () cellOf_inj EP defs₀ 𝒱₀ L lv m ρ main
    (segs m 𝒱₀ L lv (EE m) () (pdats m) (item m))
    (fun c Q => by
      rewrite [main_chain c, Seg.run_eq_chain,
        show (segs m 𝒱₀ L lv (EE m) () (pdats m) (item m) c).map Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Seg.pipes_host, Seg.pipes_region, Seg.pipes_nil]; decide)
    O₀ L_of_ne G (u₀ (F := F))
    (by
      unfold u₀
      iintro Hu
      ihave H := (split_u _ _) $$ Hu
      icases H with ⟨HP, HX⟩
      imodintro
      isplitl [HP]; · iexact HP
      iapply (Entails.of_eq (all_G (F := F)).symm) $$ HX)
    (T₀ m) (Tₙ m)
    (fun c => ⟨.rfl, .rfl, .rfl, into m c, last_step m c⟩)
    (launch m ρ)
    (Left m) (left_of m)
    (fun s h hs => ⟨fun c => (h c).1,
      sem_eq_zero hs fun c sm hsm => by
        obtain rfl := unscoped_eq sm hsm
        exact (h c).2⟩)
end

end Cert.Emb

end
-- ==== Proof.Ref.lean ====
/-
  The reference's run: the row of the table that each id asks for, a negative id counted from the table's end.
-/
module

public import proofs.«01_k».proof.Proof.Gen.ReferenceIdeal
public import Idealize.ShloMosaic.Lib.StableHlo.ReadAt
public import Idealize.ShloMosaic.Lib.Routing.Ops
public import Idealize.ShloMosaic.PureOps.Ideal

@[expose] public section

noncomputable section

namespace Cert.EmbRef

open Cert.ReferenceIdeal Cert.ReferenceIdeal.Gen
open Idealize.ShloMosaic Idealize.ShloMosaic.TcCoe Idealize.ShloMosaic.StableHlo Idealize.SL.Sem
open Idealize.ShloMosaic.ValueIdx

variable {F : FTy → Type} [FloatOps F]

/-- The ids, a negative one moved up by the number of rows, as a column. -/
abbrev rows (ids : Vec F S1024 .i32) : Vec F S1024x1 .i32 :=
  broadcastInDim S1024x1 ![0] bcast_S1024_S1024x1_0
    (select (cmpi .slt ids (broadcastInDim S1024 ![] bcast_S_S1024 (constantI S_ 32 0#32)))
      (addi ids (broadcastInDim S1024 ![] bcast_S_S1024 (constantI S_ 32 16384#32))) ids)

/-- The reference's result. -/
abbrev refOut (ids : Vec F S1024 .i32) (tab : Vec F S16384x1024 .f32) : Vec F S1024x1024 .bf16 :=
  truncf .bf16 (Host.gather gather_S16384x1024_S1024x1_S1024x1024_1_0_n_n_0_1_11024 tab (rows (F := F) ids)) bitsLt_bf16_f32

/-- The reference's operations, in order. -/
abbrev ops : List (HloOp τ sig (Elt F)) :=
  [ nullary main_c (constantI S_ 32 0#32),
    unary main_c main_v0 (broadcastInDim S1024 ![] bcast_S_S1024 : (⟨S_, .i32⟩ : BufTy).Contents (Elt F) → (⟨S1024, .i32⟩ : BufTy).Contents (Elt F)),
    binary main_arg0 main_v0 main_v1 (cmpi .slt : (⟨S1024, .i32⟩ : BufTy).Contents (Elt F) → (⟨S1024, .i32⟩ : BufTy).Contents (Elt F) → (⟨S1024, .i1⟩ : BufTy).Contents (Elt F)),
    nullary main_c_0 (constantI S_ 32 16384#32),
    unary main_c_0 main_v2 (broadcastInDim S1024 ![] bcast_S_S1024 : (⟨S_, .i32⟩ : BufTy).Contents (Elt F) → (⟨S1024, .i32⟩ : BufTy).Contents (Elt F)),
    binary main_arg0 main_v2 main_v3 (addi : (⟨S1024, .i32⟩ : BufTy).Contents (Elt F) → (⟨S1024, .i32⟩ : BufTy).Contents (Elt F) → (⟨S1024, .i32⟩ : BufTy).Contents (Elt F)),
    ternary main_v1 main_v3 main_arg0 main_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v4 main_v5 (broadcastInDim S1024x1 ![0] bcast_S1024_S1024x1_0 : (⟨S1024, .i32⟩ : BufTy).Contents (Elt F) → (⟨S1024x1, .i32⟩ : BufTy).Contents (Elt F)),
    binary main_arg1 main_v5 main_v6 ((fun x i => Host.gather gather_S16384x1024_S1024x1_S1024x1024_1_0_n_n_0_1_11024 x i) : (⟨S16384x1024, .f32⟩ : BufTy).Contents (Elt F) → (⟨S1024x1, .i32⟩ : BufTy).Contents (Elt F) → (⟨S1024x1024, .f32⟩ : BufTy).Contents (Elt F)),
    unary main_v6 main_v7 ((truncf .bf16 · bitsLt_bf16_f32) : (⟨S1024x1024, .f32⟩ : BufTy).Contents (Elt F) → (⟨S1024x1024, .bf16⟩ : BufTy).Contents (Elt F)) ]

theorem main_eq (c : Dev nD) : main (F := F) c = seq ops := rfl

theorem out_eq (V : Valuation τ sig (Elt F)) :
    after ops V (main_v7 : DevRef τ sig) = refOut (V (main_arg0 : DevRef τ sig)) (V (main_arg1 : DevRef τ sig)) := by
  after_results
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., unary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v7)
            = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v7).trans (out_eq _), (h c main_arg0).trans (arg0_eq _), (h c main_arg1).trans (arg1_eq _)⟩)
    (run_seq no_scoped_refs no_scoped_sems defs main (fun _ => ops) main_eq (fun _ => ops_sub) m ρ)

theorem quiet (r : MemSt nD τ sig (Elt F)) : r.sem = fun _ => 0 := sem_eq_zero_of_no_sems (by decide) r

theorem column_at {α : Type} (x : S1024.Idx → α) (t : Fin 1024) :
    broadcastInDim S1024x1 ![0] bcast_S1024_S1024x1_0 x (ValueIdx.ix2 t (0 : Fin 1)) = x (ValueIdx.ix1 t) :=
  congrArg x (funext fun a => by match a with | ⟨0, _⟩ => rfl)

theorem not_negative (w : BitVec 32) (h : w.toNat < 16384) : IntOp.cmpi .slt w 0#32 = 0#1 := by
  have hs : w.slt 0#32 = false := by
    rw [Bool.eq_false_iff]; intro hc
    rw [BitVec.slt_iff_toInt_lt, BitVec.toInt_eq_toNat_cond w, show (0#32).toInt = 0 from rfl] at hc
    split at hc <;> omega
  show BitVec.ofBool (w.slt 0#32) = 0#1
  rw [hs]; rfl

/-- An id that is a row of the table asks for that row. -/
theorem rows_at (ids : IVec S1024 32) (t : Fin 1024) (h : (ids (ValueIdx.ix1 t)).toNat < 16384) :
    (rows (F := F) ids : IVec S1024x1 32) (ValueIdx.ix2 t (0 : Fin 1)) = BitVec.ofNat 32 (ids (ValueIdx.ix1 t)).toNat := by
  refine (column_at _ t).trans ?_
  show Scalar.select (IntOp.cmpi .slt (ids (ValueIdx.ix1 t)) 0#32) _ (ids (ValueIdx.ix1 t)) = _
  rw [not_negative _ h, BitVec.ofNat_toNat, BitVec.setWidth_eq]
  rfl

/-- Read at the ideal floats, the result's row `t` is the row of the table the id `t` names. -/
theorem refOut_at (ids : IVec S1024 32) (tab : FVec Ideal S16384x1024 .f32) (t y : Fin 1024) (h : (ids (ValueIdx.ix1 t)).toNat < 16384) :
    (refOut (F := Ideal) ids tab : FVec Ideal S1024x1024 .bf16) (ValueIdx.ix2 t y) = tab (ValueIdx.ix2 (⟨(ids (ValueIdx.ix1 t)).toNat, h⟩ : Fin 16384) y) :=
  Routing.gather_row gather_S16384x1024_S1024x1_S1024x1024_1_0_n_n_0_1_11024 rfl rfl rfl rfl rfl tab (rows (F := Ideal) ids) t y ⟨_, h⟩
    (rows_at (F := Ideal) ids t h) (by decide)

end Cert.EmbRef

end
-- ==== Proof.Values.lean ====
module

public import proofs.«01_k».proof.Proof.Host
public import Idealize.ShloMosaic.PureOps.Ideal
public import Idealize.ShloMosaic.Lib.Layout

@[expose] public section

noncomputable section

namespace Cert.Emb

open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.ValueIdx
open Idealize.ShloMosaic.Rounds
open Idealize.ShloMosaic.Transfers
open Idealize.ShloMosaic.ShareLeaves

variable {F : FTy → Type} [FloatOps F]

/-! # What the result is -/

theorem flag_at (v : Vec F S32x128 .bf16) (r : Fin 32) :
    extractStridedSlice S32x1 ![0, 0] v slices_S32x128_o0_0_S32x1 (ValueIdx.ix2 r (0 : Fin 1)) = v (ValueIdx.ix2 r (0 : Fin 128)) :=
  congrArg v (funext fun a => by
    match a with
    | ⟨0, _⟩ => exact Fin.ext (Nat.zero_add _)
    | ⟨1, _⟩ => rfl)
theorem spread_at {α : Type} (x : S32x1.Idx → α) (r : Fin 32) (y : Fin 1024) :
    broadcastTo S32x1024 x broadcasts_S32x1_S32x1024 (ValueIdx.ix2 r y) = x (ValueIdx.ix2 r (0 : Fin 1)) :=
  congrArg x (funext fun a => by
    match a with
    | ⟨0, _⟩ => rfl
    | ⟨1, _⟩ => rfl)

/-- A merged chunk takes each row from the device that has it. -/
theorem rdc_at (E : Env F) (d : Dev nD) (s : Fin 4) (r : Fin 32) (y : Fin 1024) :
    rdc E d s (ValueIdx.ix2 r y) = Scalar.select (FloatOps.cmpf .ogt (E.sel d (ValueIdx.ix3 s r (0 : Fin 128))) (Scalar.ofBits .bf16 0x0000#16))
      (pbc E d s (ValueIdx.ix2 r y)) (pbc E (ypeer d) s (ValueIdx.ix2 r y)) := by
  unfold rdc k0_pay9
  dsimp only
  rw [up3_cast, down_up3, down_up3, down_up3]
  refine congrArg (fun b => Scalar.select b (pbc E d s (ValueIdx.ix2 r y)) (pbc E (ypeer d) s (ValueIdx.ix2 r y))) ?_
  refine (spread_at _ r y).trans ?_
  refine (congrArg (cmpf .ogt _ _ : IVec S32x1 1) (Shape.reshapeEquiv_self _ _)).trans ?_
  refine congrArg (fun z => FloatOps.cmpf .ogt z (Scalar.ofBits .bf16 0x0000#16)) ((flag_at _ r).trans ?_)
  exact shapeCast_1ab_ab_apply _ _ _ _

/-- A row sent across is the row looked up, rounded. -/
theorem pbc_at (E : Env F) (d : Dev nD) (s : Fin 4) (r : Fin 32) (y : Fin 1024) :
    pbc E d s (ValueIdx.ix2 r y) = FloatOps.truncf .bf16 bitsLt_bf16_f32 (gbRows E d s (ValueIdx.ix2 r y)) := by
  unfold pbc k0_pay1
  dsimp only
  rw [up3_cast, down_up3]
  rfl

theorem zero_eq : Ideal.ofBits .bf16 0x0000#16 = 0 := by simp [Ideal.ofBits, Ideal.ieee]
/-- A flag turned into a number is above zero where it is set. -/
theorem flag_cmp (x : BitVec 1) : Ideal.cmp .ogt ((x.toNat : ℝ) : EReal) (Ideal.ofBits .bf16 0x0000#16) = x := by
  rw [zero_eq]
  obtain rfl | rfl := BitVec.eq_zero_or_eq_one x
  · show BitVec.ofBool (decide ((0 : EReal) < (((0 : ℕ) : ℝ) : EReal))) = 0#1
    simp
  · show BitVec.ofBool (decide ((0 : EReal) < (((1 : ℕ) : ℝ) : EReal))) = 1#1
    simp

/-! ## Which device of a pair has a row -/

theorem ypeer_val (d : Dev nD) : (ypeer d).val / 4 % 2 = 1 - d.val / 4 % 2 := by revert d; decide +kernel
theorem blk_ypeer (d : Dev nD) : blk (ypeer d) = blk d := by revert d; decide +kernel
theorem blk_owner (c : Dev nD) (g : Fin 8) : blk (owner c g.val) = g.val := by revert c g; decide +kernel

theorem less_half (w : BitVec 32) (b : ℕ) (hb : b < 2) :
    (w - BitVec.ofNat 32 (8192 * b)).toNat = (4294967296 - 8192 * b + w.toNat) % 4294967296 := by
  rw [BitVec.toNat_sub, BitVec.toNat_ofNat]
  have : 8192 * b % 2 ^ 32 = 8192 * b := Nat.mod_eq_of_lt (by omega)
  rw [this]

theorem in_half (w : BitVec 32) (b : ℕ) (hb : b < 2) (hw : w.toNat < 16384) (h : (w - BitVec.ofNat 32 (8192 * b)).toNat < 8192) :
    8192 * b + (w - BitVec.ofNat 32 (8192 * b)).toNat = w.toNat := by
  rw [less_half w b hb] at h ⊢
  obtain rfl | rfl : b = 0 ∨ b = 1 := by omega
  all_goals omega
theorem other_half (w : BitVec 32) (b : ℕ) (hb : b < 2) (hw : w.toNat < 16384) (h : ¬ (w - BitVec.ofNat 32 (8192 * b)).toNat < 8192) :
    (w - BitVec.ofNat 32 (8192 * (1 - b))).toNat < 8192 := by
  rw [less_half w b hb] at h
  rw [less_half w (1 - b) (by omega)]
  obtain rfl | rfl : b = 0 ∨ b = 1 := by omega
  all_goals omega

section
variable (m : (ℓ : Loc nD τ sig) → Buf (Elt Ideal) ℓ) (ids : IVec S1024 32) (tab : FVec Ideal ⟨2, ![16384, 1024]⟩ .f32)

/-- Every device has the same ids, each of them a row of the table, and its half of the table. -/
structure Agrees : Prop where
  ids_eq : ∀ c : Dev nD, m ((c : Thread nD τ).loc main_arg0) = ids
  tab_eq : ∀ c : Dev nD, m ((c : Thread nD τ).loc main_arg1)
    = Layout.blockN ⟨2, ![8192, 1024]⟩ ⟨2, ![16384, 1024]⟩ (Layout.meshBlock [2, 2, 4] ![[1], []] c) tab
  range : ∀ t : Fin 1024, (ids (ValueIdx.ix1 t)).toNat < 16384

variable {m ids tab} (H : Agrees m ids tab)
include H

theorem Agrees.gid_eq (d : Dev nD) (q : Fin 128) (t : Fin 1024) (h : t.val = 128 * blk d + q.val) : gid m d q = ids (ValueIdx.ix1 t) := by
  unfold gid
  rw [H.ids_eq d]
  exact congrArg ids (congrArg ValueIdx.ix1 (Fin.ext h.symm))

theorem Agrees.tab_at (d : Dev nD) (r : Fin 8192) (y : Fin 1024) (w : Fin 16384) (h : w.val = 8192 * (d.val / 4 % 2) + r.val) :
    (m ((d : Thread nD τ).loc main_arg1) : FVec Ideal S8192x1024 .f32) (ValueIdx.ix2 r y) = tab (ValueIdx.ix2 w y) := by
  rw [H.tab_eq d, Layout.blockN_apply]
  refine congrArg tab (funext fun a => Fin.ext ?_)
  rw [Layout.TilesN.idx_val]
  match a with
  | ⟨0, _⟩ =>
    have e : Layout.meshLin [2, 2, 4] d.val [1] = d.val / 4 % 2 := by
      show d.val / 4 % 2 * 1 + 0 = _
      omega
    show Layout.meshLin [2, 2, 4] d.val [1] * 8192 + r.val = w.val
    rw [e]; omega
  | ⟨1, _⟩ => show 0 * 1024 + y.val = y.val; omega

/-- A row a device has, as it looks it up. -/
theorem Agrees.gb_hit (d : Dev nD) (q : Fin 128) (y t : Fin 1024) (ht : t.val = 128 * blk d + q.val)
    (h : (ids (ValueIdx.ix1 t) - BitVec.ofNat 32 (8192 * (d.val / 4 % 2))).toNat < 8192) :
    gb (env m) d (ValueIdx.ix2 q y) = tab (ValueIdx.ix2 (⟨(ids (ValueIdx.ix1 t)).toNat, H.range t⟩ : Fin 16384) y) := by
  have hq : rel m d q = ids (ValueIdx.ix1 t) - BitVec.ofNat 32 (8192 * (d.val / 4 % 2)) := by unfold rel; rw [H.gid_eq d q t ht]
  have e : ((env m).ids d (ValueIdx.ix1 q) : BitVec 32) = rel m d q := by
    refine (v28_at m d (ValueIdx.ix1 q)).trans ?_
    show Scalar.select (hit (rel m d q)) (rel m d q) 0#32 = _
    rw [hit_eq, decide_eq_true (hq ▸ h)]
    rfl
  refine H.tab_at d _ y _ ?_
  show (ids (ValueIdx.ix1 t)).toNat = 8192 * (d.val / 4 % 2) + ((env m).ids d (ValueIdx.ix1 q) : BitVec 32).toNat
  rw [e, hq]
  exact (in_half _ _ (by omega) (H.range t) h).symm

/-- A merged row is the table's. -/
theorem Agrees.rdc_eq (d : Dev nD) (s : Fin 4) (r : Fin 32) (y t : Fin 1024) (ht : t.val = 128 * blk d + 32 * s.val + r.val) :
    rdc (env m) d s (ValueIdx.ix2 r y) = tab (ValueIdx.ix2 (⟨(ids (ValueIdx.ix1 t)).toNat, H.range t⟩ : Fin 16384) y) := by
  have hs := s.isLt
  have hr := r.isLt
  have hsel : (env m).sel d (ValueIdx.ix3 s r (0 : Fin 128))
      = FloatOps.uitofp (F := Ideal) .bf16 (hit (ids (ValueIdx.ix1 t) - BitVec.ofNat 32 (8192 * (d.val / 4 % 2)))) := by
    refine (v31_at m d (ValueIdx.ix3 s r (0 : Fin 128))).trans ?_
    refine congrArg (fun w => FloatOps.uitofp (F := Ideal) .bf16 (hit w)) ?_
    unfold rel
    rw [H.gid_eq d _ t (by show t.val = 128 * blk d + (s.val * 32 + r.val); omega)]
  rw [rdc_at, hsel, pbc_at, pbc_at]
  show Scalar.select (Ideal.cmp .ogt (((hit (ids (ValueIdx.ix1 t) - BitVec.ofNat 32 (8192 * (d.val / 4 % 2)))).toNat : ℝ) : EReal) (Ideal.ofBits .bf16 0x0000#16))
    (gbRows (env m) d s (ValueIdx.ix2 r y)) (gbRows (env m) (ypeer d) s (ValueIdx.ix2 r y)) = _
  rw [flag_cmp, hit_eq]
  by_cases h : (ids (ValueIdx.ix1 t) - BitVec.ofNat 32 (8192 * (d.val / 4 % 2))).toNat < 8192
  · rw [decide_eq_true h]
    exact H.gb_hit d ⟨32 * s.val + r.val, by omega⟩ y t (by show t.val = 128 * blk d + (32 * s.val + r.val); omega) h
  · rw [decide_eq_false h]
    exact H.gb_hit (ypeer d) ⟨32 * s.val + r.val, by omega⟩ y t (by show t.val = 128 * blk (ypeer d) + (32 * s.val + r.val); rw [blk_ypeer]; omega)
      (by rw [ypeer_val]; exact other_half _ _ (by omega) (H.range t) h)

/-- Row `t` of every device's result is the row of the table the id `t` names. -/
theorem Agrees.out_at (c : Dev nD) (t y : Fin 1024) :
    outC (env m) c (ValueIdx.ix2 t y) = tab (ValueIdx.ix2 (⟨(ids (ValueIdx.ix1 t)).toNat, H.range t⟩ : Fin 16384) y) := by
  have ht := t.isLt
  refine H.rdc_eq (owner c (t.val / 128)) ⟨t.val / 32 % 4, _⟩ ⟨t.val % 32, _⟩ y t ?_
  rw [blk_owner c ⟨t.val / 128, by omega⟩]
  show t.val = 128 * (t.val / 128) + 32 * (t.val / 32 % 4) + t.val % 32
  omega
end

end Cert.Emb

end
-- ==== Proof.lean ====
/-
  The claims: the two frames of the kernel are one run read at two instances (Proof/Run.lean), the reference's frame is its own
  run (Proof/Ref.lean), and the results agree row by row (Proof/Values.lean).
-/
module

public import proofs.«01_k».proof.Defs
public import proofs.«01_k».proof.Proof.Gen.Kernel
public import proofs.«01_k».proof.Proof.Run
public import proofs.«01_k».proof.Proof.Ref
public import proofs.«01_k».proof.Proof.Values
public import Idealize.ShloMosaic.Lib.ReduceAll

@[expose] public section

noncomputable section

namespace Cert.Proof

open Idealize.ShloMosaic Idealize.ShloMosaic.TcCoe Idealize.SL.Sem

theorem range_facts : Cert.Pre_ids_in_range_KernelIdeal.Facts := ⟨by decide, by decide, by decide⟩
theorem range_facts_ref : Cert.Pre_ids_in_range_ReferenceIdeal.Facts := ⟨by decide, by decide, by decide⟩

set_option maxHeartbeats 0 in
/-- The body tables of the two readings are the same: their one label runs the same text. -/
theorem same_table : Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

/-- So are the tables with the pipeline's own labels. -/
theorem same_defs : Cert.Kernel.defs (F := Bits) = Cert.KernelIdeal.defs (F := Bits) :=
  congrArg (Pipeline.defs (Cert.Kernel.pcfgs (F := Bits))) same_table

set_option maxHeartbeats 0 in
/-- And the two programs of the host. -/
theorem same_main : Cert.Kernel.main (F := Bits) = Cert.KernelIdeal.main (F := Bits) := rfl

theorem frame_kernel : Cert.quiescent_Kernel := by
  intro m ρ _
  rw [same_defs, same_main]
  exact (θ_run Cert.KernelIdeal.defs _ _).mono (fun _ h => ⟨fun c => ⟨(h.1 c).1, (h.1 c).2.1⟩, h.2⟩) (Cert.Emb.run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (Cert.Emb.run_main (F := Ideal) m ρ)
theorem frame_reference : Cert.quiescent_ReferenceIdeal := fun m ρ _ =>
  (θ_run Cert.ReferenceIdeal.defs _ _).mono (fun r h => ⟨fun c => (h c).2, Cert.EmbRef.quiet r.2⟩) (Cert.EmbRef.run_main (F := Ideal) m ρ)

/-- The precondition, read at one id. -/
theorem range_of [hf : Cert.Pre_ids_in_range_KernelIdeal.Facts] (ids : IVec ⟨1, ![1024]⟩ 32) (tab : FVec Ideal ⟨2, ![8192, 1024]⟩ .f32)
    (h : Cert.Pre_ids_in_range_KernelIdeal.fn (F := Ideal) ids tab = fun _ => 1#1) (t : Fin 1024) : (ids (ValueIdx.ix1 t)).toNat < 16384 := by
  have hs : Subsingleton Cert.Pre_ids_in_range_KernelIdeal.S_.Idx := ⟨fun a b => funext fun x => x.elim0⟩
  have h1 := Host.reduce_andi_all _ _ hf.reducesTo_S1024_S_d0 hf.h_S_ (fun x => x.elim0) (congrFun h _) (ValueIdx.ix1 t)
  have h2 : IntOp.andi (IntOp.cmpi .sge (ids (ValueIdx.ix1 t)) 0#32) (IntOp.cmpi .slt (ids (ValueIdx.ix1 t)) 16384#32) = 1#1 := h1
  generalize ids (ValueIdx.ix1 t) = w at h2
  have h3 : BitVec.ofBool ((0#32).sle w) &&& BitVec.ofBool (w.slt 16384#32) = 1#1 := h2
  have h4 : (0#32).sle w = true ∧ w.slt 16384#32 = true := by
    generalize (0#32).sle w = a at h3
    generalize w.slt 16384#32 = b at h3
    revert a b
    decide
  rw [BitVec.sle_iff_toInt_le, BitVec.slt_iff_toInt_lt, BitVec.toInt_eq_toNat_cond w, show (0#32).toInt = 0 from rfl,
    show (16384#32).toInt = 16384 from rfl] at h4
  have := w.isLt
  split at h4 <;> omega

theorem same_results [Cert.Pre_ids_in_range_KernelIdeal.Facts] :
    Cert.algebraic_KernelIdeal_ReferenceIdeal_pre_ids_in_range_KernelIdeal := by
  intro m ρ m' ρ' hpre hagree
  have H : Cert.Emb.Agrees m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (hagree c).1, fun c => (hagree c).2, range_of _ _ ((hagree 0).1 ▸ hpre 0)⟩
  refine ⟨Cert.EmbRef.refOut (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩) (Cert.Emb.run_main (F := Ideal) m ρ)
    funext i
    have hi : i = ValueIdx.ix2 (i 0 : Fin 1024) (i 1 : Fin 1024) := funext fun a => by match a with | ⟨0, _⟩ => rfl | ⟨1, _⟩ => rfl
    rw [hi]
    exact (H.out_at c _ _).trans (Cert.EmbRef.refOut_at _ _ _ _ (H.range _)).symm
  · exact (θ_run Cert.ReferenceIdeal.defs _ _).mono (fun _ h => h 0) (Cert.EmbRef.run_main (F := Ideal) m' ρ')

theorem claim : Cert.Claim :=
  ⟨Cert.Kernel.Gen.facts, Cert.KernelIdeal.Gen.facts, Cert.ReferenceIdeal.Gen.facts, range_facts, range_facts_ref,
    frame_kernel, frame_kernelIdeal, fun m ρ _ => frame_kernelIdeal m ρ trivial, frame_reference, fun m ρ _ => frame_reference m ρ trivial,
    trivial, @same_results range_facts⟩

end Cert.Proof

end
